-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_att_finite [hPre_att_finite : Cert.Pre_att_finite.Facts] (m : (ℓ : Loc Cert.AttnIdeal.nD Cert.AttnIdeal.τ Cert.AttnIdeal.sig) → Buf (Elt Ideal) ℓ) : Prop :=
  ∀ c : Dev Cert.AttnIdeal.nD,
    (Cert.Pre_att_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_att_finite [hPre_att_finite : Cert.Pre_att_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_att_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))) = (fun _ => 1#1)

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_Memkv (m : (ℓ : Loc Cert.Memkv.nD Cert.Memkv.τ Cert.Memkv.sig) → Buf (Elt Bits) ℓ) : Prop :=
  True

def Pre_MemkvIdeal (m : (ℓ : Loc Cert.MemkvIdeal.nD Cert.MemkvIdeal.τ Cert.MemkvIdeal.sig) → Buf (Elt Ideal) ℓ) : Prop :=
  True

def Pre_MemkvRefIdeal (m : (ℓ : Loc Cert.MemkvRefIdeal.nD Cert.MemkvRefIdeal.τ Cert.MemkvRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixIdeal_mix_finite [hPre_mix_finite : Cert.Pre_mix_finite.Facts] (m : (ℓ : Loc Cert.MixIdeal.nD Cert.MixIdeal.τ Cert.MixIdeal.sig) → Buf (Elt Ideal) ℓ) : Prop :=
  ∀ c : Dev Cert.MixIdeal.nD,
    (Cert.Pre_mix_finite.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11)) (m ((c.tc : Thread Cert.MixIdeal.nD Cert.MixIdeal.τ).loc Cert.MixIdeal.main_arg12)) (m ((c.tc : Thread Cert.MixIdeal.nD Cert.MixIdeal.τ).loc Cert.MixIdeal.main_arg13)) (m ((c.tc : Thread Cert.MixIdeal.nD Cert.MixIdeal.τ).loc Cert.MixIdeal.main_arg14)) (m ((c.tc : Thread Cert.MixIdeal.nD Cert.MixIdeal.τ).loc Cert.MixIdeal.main_arg15))) = (fun _ => 1#1)

def Pre_MixRefIdeal (m : (ℓ : Loc Cert.MixRefIdeal.nD Cert.MixRefIdeal.τ Cert.MixRefIdeal.sig) → Buf (Elt Ideal) ℓ) : Prop :=
  True

def Pre_MixRefIdeal_mix_finite [hPre_mix_finite : Cert.Pre_mix_finite.Facts] (m : (ℓ : Loc Cert.MixRefIdeal.nD Cert.MixRefIdeal.τ Cert.MixRefIdeal.sig) → Buf (Elt Ideal) ℓ) : Prop :=
  ∀ c : Dev Cert.MixRefIdeal.nD,
    (Cert.Pre_mix_finite.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9)) (m ((c.tc : Thread Cert.MixRefIdeal.nD Cert.MixRefIdeal.τ).loc Cert.MixRefIdeal.main_arg10)) (m ((c.tc : Thread Cert.MixRefIdeal.nD Cert.MixRefIdeal.τ).loc Cert.MixRefIdeal.main_arg11)) (m ((c.tc : Thread Cert.MixRefIdeal.nD Cert.MixRefIdeal.τ).loc Cert.MixRefIdeal.main_arg12)) (m ((c.tc : Thread Cert.MixRefIdeal.nD Cert.MixRefIdeal.τ).loc Cert.MixRefIdeal.main_arg13)) (m ((c.tc : Thread Cert.MixRefIdeal.nD Cert.MixRefIdeal.τ).loc Cert.MixRefIdeal.main_arg14)) (m ((c.tc : Thread Cert.MixRefIdeal.nD Cert.MixRefIdeal.τ).loc Cert.MixRefIdeal.main_arg15))) = (fun _ => 1#1)

def Pre_Ffn [hPre_idx_ok : Cert.Pre_idx_ok.Facts] (m : (ℓ : Loc Cert.Ffn.nD Cert.Ffn.τ Cert.Ffn.sig) → Buf (Elt Bits) ℓ) : Prop :=
  ∀ c : Dev Cert.Ffn.nD,
    (Cert.Pre_idx_ok.fn (F := Bits) (m ((c.tc : Thread Cert.Ffn.nD Cert.Ffn.τ).loc Cert.Ffn.main_arg0)) (m ((c.tc : Thread Cert.Ffn.nD Cert.Ffn.τ).loc Cert.Ffn.main_arg1)) (m ((c.tc : Thread Cert.Ffn.nD Cert.Ffn.τ).loc Cert.Ffn.main_arg2)) (m ((c.tc : Thread Cert.Ffn.nD Cert.Ffn.τ).loc Cert.Ffn.main_arg3)) (m ((c.tc : Thread Cert.Ffn.nD Cert.Ffn.τ).loc Cert.Ffn.main_arg4)) (m ((c.tc : Thread Cert.Ffn.nD Cert.Ffn.τ).loc Cert.Ffn.main_arg5))) = (fun _ => 1#1)

def Pre_FfnIdeal [hPre_idx_ok : Cert.Pre_idx_ok.Facts] (m : (ℓ : Loc Cert.FfnIdeal.nD Cert.FfnIdeal.τ Cert.FfnIdeal.sig) → Buf (Elt Ideal) ℓ) : Prop :=
  ∀ c : Dev Cert.FfnIdeal.nD,
    (Cert.Pre_idx_ok.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))) = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_idx_ok [hPre_idx_ok : Cert.Pre_idx_ok.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_idx_ok.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5))) = (fun _ => 1#1)

def Pre_Mlstm (m : (ℓ : Loc Cert.Mlstm.nD Cert.Mlstm.τ Cert.Mlstm.sig) → Buf (Elt Bits) ℓ) : Prop :=
  True

def Pre_MlstmIdeal (m : (ℓ : Loc Cert.MlstmIdeal.nD Cert.MlstmIdeal.τ Cert.MlstmIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnIdeal_pre_att_finite [hAttnIdeal : Cert.AttnIdeal.Facts] [hPre_att_finite : Cert.Pre_att_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_att_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnRefIdeal_pre_att_finite [hAttnRefIdeal : Cert.AttnRefIdeal.Facts] [hPre_att_finite : Cert.Pre_att_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_att_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4)
      ∧ r.2.mem ((c.tc : Thread Cert.Inproj.nD Cert.Inproj.τ).loc Cert.Inproj.main_arg5) = m ((c.tc : Thread Cert.Inproj.nD Cert.Inproj.τ).loc Cert.Inproj.main_arg5))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
      ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4)
      ∧ r.2.mem ((c.tc : Thread Cert.InprojRefIdeal.nD Cert.InprojRefIdeal.τ).loc Cert.InprojRefIdeal.main_arg5) = m ((c.tc : Thread Cert.InprojRefIdeal.nD Cert.InprojRefIdeal.τ).loc Cert.InprojRefIdeal.main_arg5))
      ∧ r.2.sem = fun _ => 0)

def quiescent_Memkv [hMemkv : Cert.Memkv.Facts] : Prop :=
  ∀ (m : (ℓ : Loc Cert.Memkv.nD Cert.Memkv.τ Cert.Memkv.sig) → Buf (Elt Bits) ℓ) (g : Dev Cert.Memkv.nD → PrngReg), Pre_Memkv m →
    θ_run (Cert.Memkv.defs (F := Bits)) (onTc (τ := Cert.Memkv.τ) (Cert.Memkv.main (F := Bits))) ⟨m, fun _ => 0, g⟩ (fun r => (∀ c : Dev Cert.Memkv.nD,
      r.2.mem ((c.tc : Thread Cert.Memkv.nD Cert.Memkv.τ).loc Cert.Memkv.main_arg0) = m ((c.tc : Thread Cert.Memkv.nD Cert.Memkv.τ).loc Cert.Memkv.main_arg0)
      ∧ r.2.mem ((c.tc : Thread Cert.Memkv.nD Cert.Memkv.τ).loc Cert.Memkv.main_arg1) = m ((c.tc : Thread Cert.Memkv.nD Cert.Memkv.τ).loc Cert.Memkv.main_arg1)
      ∧ r.2.mem ((c.tc : Thread Cert.Memkv.nD Cert.Memkv.τ).loc Cert.Memkv.main_arg2) = m ((c.tc : Thread Cert.Memkv.nD Cert.Memkv.τ).loc Cert.Memkv.main_arg2)
      ∧ r.2.mem ((c.tc : Thread Cert.Memkv.nD Cert.Memkv.τ).loc Cert.Memkv.main_arg3) = m ((c.tc : Thread Cert.Memkv.nD Cert.Memkv.τ).loc Cert.Memkv.main_arg3))
      ∧ r.2.sem = fun _ => 0)

def quiescent_MemkvIdeal [hMemkvIdeal : Cert.MemkvIdeal.Facts] : Prop :=
  ∀ (m : (ℓ : Loc Cert.MemkvIdeal.nD Cert.MemkvIdeal.τ Cert.MemkvIdeal.sig) → Buf (Elt Ideal) ℓ) (g : Dev Cert.MemkvIdeal.nD → PrngReg), Pre_MemkvIdeal m →
    θ_run (Cert.MemkvIdeal.defs (F := Ideal)) (onTc (τ := Cert.MemkvIdeal.τ) (Cert.MemkvIdeal.main (F := Ideal))) ⟨m, fun _ => 0, g⟩ (fun r => (∀ c : Dev Cert.MemkvIdeal.nD,
      r.2.mem ((c.tc : Thread Cert.MemkvIdeal.nD Cert.MemkvIdeal.τ).loc Cert.MemkvIdeal.main_arg0) = m ((c.tc : Thread Cert.MemkvIdeal.nD Cert.MemkvIdeal.τ).loc Cert.MemkvIdeal.main_arg0)
      ∧ r.2.mem ((c.tc : Thread Cert.MemkvIdeal.nD Cert.MemkvIdeal.τ).loc Cert.MemkvIdeal.main_arg1) = m ((c.tc : Thread Cert.MemkvIdeal.nD Cert.MemkvIdeal.τ).loc Cert.MemkvIdeal.main_arg1)
      ∧ r.2.mem ((c.tc : Thread Cert.MemkvIdeal.nD Cert.MemkvIdeal.τ).loc Cert.MemkvIdeal.main_arg2) = m ((c.tc : Thread Cert.MemkvIdeal.nD Cert.MemkvIdeal.τ).loc Cert.MemkvIdeal.main_arg2)
      ∧ r.2.mem ((c.tc : Thread Cert.MemkvIdeal.nD Cert.MemkvIdeal.τ).loc Cert.MemkvIdeal.main_arg3) = m ((c.tc : Thread Cert.MemkvIdeal.nD Cert.MemkvIdeal.τ).loc Cert.MemkvIdeal.main_arg3))
      ∧ r.2.sem = fun _ => 0)

def quiescent_MemkvRefIdeal [hMemkvRefIdeal : Cert.MemkvRefIdeal.Facts] : Prop :=
  ∀ (m : (ℓ : Loc Cert.MemkvRefIdeal.nD Cert.MemkvRefIdeal.τ Cert.MemkvRefIdeal.sig) → Buf (Elt Ideal) ℓ) (g : Dev Cert.MemkvRefIdeal.nD → PrngReg), Pre_MemkvRefIdeal m →
    θ_run (Cert.MemkvRefIdeal.defs (F := Ideal)) (onTc (τ := Cert.MemkvRefIdeal.τ) (Cert.MemkvRefIdeal.main (F := Ideal))) ⟨m, fun _ => 0, g⟩ (fun r => (∀ c : Dev Cert.MemkvRefIdeal.nD,
      r.2.mem ((c.tc : Thread Cert.MemkvRefIdeal.nD Cert.MemkvRefIdeal.τ).loc Cert.MemkvRefIdeal.main_arg0) = m ((c.tc : Thread Cert.MemkvRefIdeal.nD Cert.MemkvRefIdeal.τ).loc Cert.MemkvRefIdeal.main_arg0)
      ∧ r.2.mem ((c.tc : Thread Cert.MemkvRefIdeal.nD Cert.MemkvRefIdeal.τ).loc Cert.MemkvRefIdeal.main_arg1) = m ((c.tc : Thread Cert.MemkvRefIdeal.nD Cert.MemkvRefIdeal.τ).loc Cert.MemkvRefIdeal.main_arg1)
      ∧ r.2.mem ((c.tc : Thread Cert.MemkvRefIdeal.nD Cert.MemkvRefIdeal.τ).loc Cert.MemkvRefIdeal.main_arg2) = m ((c.tc : Thread Cert.MemkvRefIdeal.nD Cert.MemkvRefIdeal.τ).loc Cert.MemkvRefIdeal.main_arg2)
      ∧ r.2.mem ((c.tc : Thread Cert.MemkvRefIdeal.nD Cert.MemkvRefIdeal.τ).loc Cert.MemkvRefIdeal.main_arg3) = m ((c.tc : Thread Cert.MemkvRefIdeal.nD Cert.MemkvRefIdeal.τ).loc Cert.MemkvRefIdeal.main_arg3))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9)
      ∧ r.2.mem ((c.tc : Thread Cert.Mix.nD Cert.Mix.τ).loc Cert.Mix.main_arg10) = m ((c.tc : Thread Cert.Mix.nD Cert.Mix.τ).loc Cert.Mix.main_arg10)
      ∧ r.2.mem ((c.tc : Thread Cert.Mix.nD Cert.Mix.τ).loc Cert.Mix.main_arg11) = m ((c.tc : Thread Cert.Mix.nD Cert.Mix.τ).loc Cert.Mix.main_arg11)
      ∧ r.2.mem ((c.tc : Thread Cert.Mix.nD Cert.Mix.τ).loc Cert.Mix.main_arg12) = m ((c.tc : Thread Cert.Mix.nD Cert.Mix.τ).loc Cert.Mix.main_arg12)
      ∧ r.2.mem ((c.tc : Thread Cert.Mix.nD Cert.Mix.τ).loc Cert.Mix.main_arg13) = m ((c.tc : Thread Cert.Mix.nD Cert.Mix.τ).loc Cert.Mix.main_arg13)
      ∧ r.2.mem ((c.tc : Thread Cert.Mix.nD Cert.Mix.τ).loc Cert.Mix.main_arg14) = m ((c.tc : Thread Cert.Mix.nD Cert.Mix.τ).loc Cert.Mix.main_arg14)
      ∧ r.2.mem ((c.tc : Thread Cert.Mix.nD Cert.Mix.τ).loc Cert.Mix.main_arg15) = m ((c.tc : Thread Cert.Mix.nD Cert.Mix.τ).loc Cert.Mix.main_arg15))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
      ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
      ∧ r.2.mem ((c.tc : Thread Cert.MixIdeal.nD Cert.MixIdeal.τ).loc Cert.MixIdeal.main_arg12) = m ((c.tc : Thread Cert.MixIdeal.nD Cert.MixIdeal.τ).loc Cert.MixIdeal.main_arg12)
      ∧ r.2.mem ((c.tc : Thread Cert.MixIdeal.nD Cert.MixIdeal.τ).loc Cert.MixIdeal.main_arg13) = m ((c.tc : Thread Cert.MixIdeal.nD Cert.MixIdeal.τ).loc Cert.MixIdeal.main_arg13)
      ∧ r.2.mem ((c.tc : Thread Cert.MixIdeal.nD Cert.MixIdeal.τ).loc Cert.MixIdeal.main_arg14) = m ((c.tc : Thread Cert.MixIdeal.nD Cert.MixIdeal.τ).loc Cert.MixIdeal.main_arg14)
      ∧ r.2.mem ((c.tc : Thread Cert.MixIdeal.nD Cert.MixIdeal.τ).loc Cert.MixIdeal.main_arg15) = m ((c.tc : Thread Cert.MixIdeal.nD Cert.MixIdeal.τ).loc Cert.MixIdeal.main_arg15))
      ∧ r.2.sem = fun _ => 0)

def quiescent_MixIdeal_pre_mix_finite [hMixIdeal : Cert.MixIdeal.Facts] [hPre_mix_finite : Cert.Pre_mix_finite.Facts] : Prop :=
  ∀ (m : (ℓ : Loc Cert.MixIdeal.nD Cert.MixIdeal.τ Cert.MixIdeal.sig) → Buf (Elt Ideal) ℓ) (g : Dev Cert.MixIdeal.nD → PrngReg), Pre_MixIdeal_mix_finite m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
      ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
      ∧ r.2.mem ((c.tc : Thread Cert.MixIdeal.nD Cert.MixIdeal.τ).loc Cert.MixIdeal.main_arg12) = m ((c.tc : Thread Cert.MixIdeal.nD Cert.MixIdeal.τ).loc Cert.MixIdeal.main_arg12)
      ∧ r.2.mem ((c.tc : Thread Cert.MixIdeal.nD Cert.MixIdeal.τ).loc Cert.MixIdeal.main_arg13) = m ((c.tc : Thread Cert.MixIdeal.nD Cert.MixIdeal.τ).loc Cert.MixIdeal.main_arg13)
      ∧ r.2.mem ((c.tc : Thread Cert.MixIdeal.nD Cert.MixIdeal.τ).loc Cert.MixIdeal.main_arg14) = m ((c.tc : Thread Cert.MixIdeal.nD Cert.MixIdeal.τ).loc Cert.MixIdeal.main_arg14)
      ∧ r.2.mem ((c.tc : Thread Cert.MixIdeal.nD Cert.MixIdeal.τ).loc Cert.MixIdeal.main_arg15) = m ((c.tc : Thread Cert.MixIdeal.nD Cert.MixIdeal.τ).loc Cert.MixIdeal.main_arg15))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9)
      ∧ r.2.mem ((c.tc : Thread Cert.MixRefIdeal.nD Cert.MixRefIdeal.τ).loc Cert.MixRefIdeal.main_arg10) = m ((c.tc : Thread Cert.MixRefIdeal.nD Cert.MixRefIdeal.τ).loc Cert.MixRefIdeal.main_arg10)
      ∧ r.2.mem ((c.tc : Thread Cert.MixRefIdeal.nD Cert.MixRefIdeal.τ).loc Cert.MixRefIdeal.main_arg11) = m ((c.tc : Thread Cert.MixRefIdeal.nD Cert.MixRefIdeal.τ).loc Cert.MixRefIdeal.main_arg11)
      ∧ r.2.mem ((c.tc : Thread Cert.MixRefIdeal.nD Cert.MixRefIdeal.τ).loc Cert.MixRefIdeal.main_arg12) = m ((c.tc : Thread Cert.MixRefIdeal.nD Cert.MixRefIdeal.τ).loc Cert.MixRefIdeal.main_arg12)
      ∧ r.2.mem ((c.tc : Thread Cert.MixRefIdeal.nD Cert.MixRefIdeal.τ).loc Cert.MixRefIdeal.main_arg13) = m ((c.tc : Thread Cert.MixRefIdeal.nD Cert.MixRefIdeal.τ).loc Cert.MixRefIdeal.main_arg13)
      ∧ r.2.mem ((c.tc : Thread Cert.MixRefIdeal.nD Cert.MixRefIdeal.τ).loc Cert.MixRefIdeal.main_arg14) = m ((c.tc : Thread Cert.MixRefIdeal.nD Cert.MixRefIdeal.τ).loc Cert.MixRefIdeal.main_arg14)
      ∧ r.2.mem ((c.tc : Thread Cert.MixRefIdeal.nD Cert.MixRefIdeal.τ).loc Cert.MixRefIdeal.main_arg15) = m ((c.tc : Thread Cert.MixRefIdeal.nD Cert.MixRefIdeal.τ).loc Cert.MixRefIdeal.main_arg15))
      ∧ r.2.sem = fun _ => 0)

def quiescent_MixRefIdeal_pre_mix_finite [hMixRefIdeal : Cert.MixRefIdeal.Facts] [hPre_mix_finite : Cert.Pre_mix_finite.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal_mix_finite m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9)
      ∧ r.2.mem ((c.tc : Thread Cert.MixRefIdeal.nD Cert.MixRefIdeal.τ).loc Cert.MixRefIdeal.main_arg10) = m ((c.tc : Thread Cert.MixRefIdeal.nD Cert.MixRefIdeal.τ).loc Cert.MixRefIdeal.main_arg10)
      ∧ r.2.mem ((c.tc : Thread Cert.MixRefIdeal.nD Cert.MixRefIdeal.τ).loc Cert.MixRefIdeal.main_arg11) = m ((c.tc : Thread Cert.MixRefIdeal.nD Cert.MixRefIdeal.τ).loc Cert.MixRefIdeal.main_arg11)
      ∧ r.2.mem ((c.tc : Thread Cert.MixRefIdeal.nD Cert.MixRefIdeal.τ).loc Cert.MixRefIdeal.main_arg12) = m ((c.tc : Thread Cert.MixRefIdeal.nD Cert.MixRefIdeal.τ).loc Cert.MixRefIdeal.main_arg12)
      ∧ r.2.mem ((c.tc : Thread Cert.MixRefIdeal.nD Cert.MixRefIdeal.τ).loc Cert.MixRefIdeal.main_arg13) = m ((c.tc : Thread Cert.MixRefIdeal.nD Cert.MixRefIdeal.τ).loc Cert.MixRefIdeal.main_arg13)
      ∧ r.2.mem ((c.tc : Thread Cert.MixRefIdeal.nD Cert.MixRefIdeal.τ).loc Cert.MixRefIdeal.main_arg14) = m ((c.tc : Thread Cert.MixRefIdeal.nD Cert.MixRefIdeal.τ).loc Cert.MixRefIdeal.main_arg14)
      ∧ r.2.mem ((c.tc : Thread Cert.MixRefIdeal.nD Cert.MixRefIdeal.τ).loc Cert.MixRefIdeal.main_arg15) = m ((c.tc : Thread Cert.MixRefIdeal.nD Cert.MixRefIdeal.τ).loc Cert.MixRefIdeal.main_arg15))
      ∧ r.2.sem = fun _ => 0)

def quiescent_Ffn [hFfn : Cert.Ffn.Facts] [hPre_idx_ok : Cert.Pre_idx_ok.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] [hPre_idx_ok : Cert.Pre_idx_ok.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_FfnRefIdeal_pre_idx_ok [hFfnRefIdeal : Cert.FfnRefIdeal.Facts] [hPre_idx_ok : Cert.Pre_idx_ok.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_idx_ok m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_Mlstm [hMlstm : Cert.Mlstm.Facts] : Prop :=
  ∀ (m : (ℓ : Loc Cert.Mlstm.nD Cert.Mlstm.τ Cert.Mlstm.sig) → Buf (Elt Bits) ℓ) (g : Dev Cert.Mlstm.nD → PrngReg), Pre_Mlstm m →
    θ_run (Cert.Mlstm.defs (F := Bits)) (onTc (τ := Cert.Mlstm.τ) (Cert.Mlstm.main (F := Bits))) ⟨m, fun _ => 0, g⟩ (fun r => (∀ c : Dev Cert.Mlstm.nD,
      r.2.mem ((c.tc : Thread Cert.Mlstm.nD Cert.Mlstm.τ).loc Cert.Mlstm.main_arg0) = m ((c.tc : Thread Cert.Mlstm.nD Cert.Mlstm.τ).loc Cert.Mlstm.main_arg0)
      ∧ r.2.mem ((c.tc : Thread Cert.Mlstm.nD Cert.Mlstm.τ).loc Cert.Mlstm.main_arg1) = m ((c.tc : Thread Cert.Mlstm.nD Cert.Mlstm.τ).loc Cert.Mlstm.main_arg1)
      ∧ r.2.mem ((c.tc : Thread Cert.Mlstm.nD Cert.Mlstm.τ).loc Cert.Mlstm.main_arg2) = m ((c.tc : Thread Cert.Mlstm.nD Cert.Mlstm.τ).loc Cert.Mlstm.main_arg2)
      ∧ r.2.mem ((c.tc : Thread Cert.Mlstm.nD Cert.Mlstm.τ).loc Cert.Mlstm.main_arg3) = m ((c.tc : Thread Cert.Mlstm.nD Cert.Mlstm.τ).loc Cert.Mlstm.main_arg3)
      ∧ r.2.mem ((c.tc : Thread Cert.Mlstm.nD Cert.Mlstm.τ).loc Cert.Mlstm.main_arg4) = m ((c.tc : Thread Cert.Mlstm.nD Cert.Mlstm.τ).loc Cert.Mlstm.main_arg4))
      ∧ r.2.sem = fun _ => 0)

def quiescent_MlstmIdeal [hMlstmIdeal : Cert.MlstmIdeal.Facts] : Prop :=
  ∀ (m : (ℓ : Loc Cert.MlstmIdeal.nD Cert.MlstmIdeal.τ Cert.MlstmIdeal.sig) → Buf (Elt Ideal) ℓ) (g : Dev Cert.MlstmIdeal.nD → PrngReg), Pre_MlstmIdeal m →
    θ_run (Cert.MlstmIdeal.defs (F := Ideal)) (onTc (τ := Cert.MlstmIdeal.τ) (Cert.MlstmIdeal.main (F := Ideal))) ⟨m, fun _ => 0, g⟩ (fun r => (∀ c : Dev Cert.MlstmIdeal.nD,
      r.2.mem ((c.tc : Thread Cert.MlstmIdeal.nD Cert.MlstmIdeal.τ).loc Cert.MlstmIdeal.main_arg0) = m ((c.tc : Thread Cert.MlstmIdeal.nD Cert.MlstmIdeal.τ).loc Cert.MlstmIdeal.main_arg0)
      ∧ r.2.mem ((c.tc : Thread Cert.MlstmIdeal.nD Cert.MlstmIdeal.τ).loc Cert.MlstmIdeal.main_arg1) = m ((c.tc : Thread Cert.MlstmIdeal.nD Cert.MlstmIdeal.τ).loc Cert.MlstmIdeal.main_arg1)
      ∧ r.2.mem ((c.tc : Thread Cert.MlstmIdeal.nD Cert.MlstmIdeal.τ).loc Cert.MlstmIdeal.main_arg2) = m ((c.tc : Thread Cert.MlstmIdeal.nD Cert.MlstmIdeal.τ).loc Cert.MlstmIdeal.main_arg2)
      ∧ r.2.mem ((c.tc : Thread Cert.MlstmIdeal.nD Cert.MlstmIdeal.τ).loc Cert.MlstmIdeal.main_arg3) = m ((c.tc : Thread Cert.MlstmIdeal.nD Cert.MlstmIdeal.τ).loc Cert.MlstmIdeal.main_arg3)
      ∧ r.2.mem ((c.tc : Thread Cert.MlstmIdeal.nD Cert.MlstmIdeal.τ).loc Cert.MlstmIdeal.main_arg4) = m ((c.tc : Thread Cert.MlstmIdeal.nD Cert.MlstmIdeal.τ).loc Cert.MlstmIdeal.main_arg4))
      ∧ r.2.sem = fun _ => 0)

def preserves_Attn_AttnIdeal : Prop :=
  IdealRules.named_const.Statement Cert.AttnIdeal.κ "mask" .f32 0xF149F2CA#32 ⊥

def algebraic_AttnIdeal_AttnRefIdeal_pre_att_finite [hAttnIdeal : Cert.AttnIdeal.Facts] [hAttnRefIdeal : Cert.AttnRefIdeal.Facts] [hPre_att_finite : Cert.Pre_att_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_att_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v5)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v5) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v95) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)
      ∧ m' ((c.tc : Thread Cert.InprojRefIdeal.nD Cert.InprojRefIdeal.τ).loc Cert.InprojRefIdeal.main_arg4) = m ((c.tc : Thread Cert.InprojIdeal.nD Cert.InprojIdeal.τ).loc Cert.InprojIdeal.main_arg4)
      ∧ m' ((c.tc : Thread Cert.InprojRefIdeal.nD Cert.InprojRefIdeal.τ).loc Cert.InprojRefIdeal.main_arg5) = m ((c.tc : Thread Cert.InprojIdeal.nD Cert.InprojIdeal.τ).loc Cert.InprojIdeal.main_arg5)) →
    ∃ (v0 : (c : Dev Cert.InprojIdeal.nD) → Buf (Elt Ideal) ((c.tc : Thread Cert.InprojIdeal.nD Cert.InprojIdeal.τ).loc Cert.InprojIdeal.main_v28_0)) (v1 : (c : Dev Cert.InprojIdeal.nD) → Buf (Elt Ideal) ((c.tc : Thread Cert.InprojIdeal.nD Cert.InprojIdeal.τ).loc Cert.InprojIdeal.main_v28_1)) (v2 : (c : Dev Cert.InprojIdeal.nD) → Buf (Elt Ideal) ((c.tc : Thread Cert.InprojIdeal.nD Cert.InprojIdeal.τ).loc Cert.InprojIdeal.main_v28_2)) (v3 : (c : Dev Cert.InprojIdeal.nD) → Buf (Elt Ideal) ((c.tc : Thread Cert.InprojIdeal.nD Cert.InprojIdeal.τ).loc Cert.InprojIdeal.main_v28_3)) (v4 : (c : Dev Cert.InprojIdeal.nD) → Buf (Elt Ideal) ((c.tc : Thread Cert.InprojIdeal.nD Cert.InprojIdeal.τ).loc Cert.InprojIdeal.main_v28_4)) (v5 : (c : Dev Cert.InprojIdeal.nD) → Buf (Elt Ideal) ((c.tc : Thread Cert.InprojIdeal.nD Cert.InprojIdeal.τ).loc Cert.InprojIdeal.main_v28_5)) (v6 : (c : Dev Cert.InprojIdeal.nD) → Buf (Elt Ideal) ((c.tc : Thread Cert.InprojIdeal.nD Cert.InprojIdeal.τ).loc Cert.InprojIdeal.main_v28_6)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v28_0) = v0 c
          ∧ r.2.mem ((c.tc : Thread Cert.InprojIdeal.nD Cert.InprojIdeal.τ).loc Cert.InprojIdeal.main_v28_1) = v1 c
          ∧ r.2.mem ((c.tc : Thread Cert.InprojIdeal.nD Cert.InprojIdeal.τ).loc Cert.InprojIdeal.main_v28_2) = v2 c
          ∧ r.2.mem ((c.tc : Thread Cert.InprojIdeal.nD Cert.InprojIdeal.τ).loc Cert.InprojIdeal.main_v28_3) = v3 c
          ∧ r.2.mem ((c.tc : Thread Cert.InprojIdeal.nD Cert.InprojIdeal.τ).loc Cert.InprojIdeal.main_v28_4) = v4 c
          ∧ r.2.mem ((c.tc : Thread Cert.InprojIdeal.nD Cert.InprojIdeal.τ).loc Cert.InprojIdeal.main_v28_5) = v5 c
          ∧ r.2.mem ((c.tc : Thread Cert.InprojIdeal.nD Cert.InprojIdeal.τ).loc Cert.InprojIdeal.main_v28_6) = v6 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
          ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v63) = v0 c
          ∧ r.2.mem ((c.tc : Thread Cert.InprojRefIdeal.nD Cert.InprojRefIdeal.τ).loc Cert.InprojRefIdeal.main_v65) = v1 c
          ∧ r.2.mem ((c.tc : Thread Cert.InprojRefIdeal.nD Cert.InprojRefIdeal.τ).loc Cert.InprojRefIdeal.main_v66) = v2 c
          ∧ r.2.mem ((c.tc : Thread Cert.InprojRefIdeal.nD Cert.InprojRefIdeal.τ).loc Cert.InprojRefIdeal.main_v68) = v3 c
          ∧ r.2.mem ((c.tc : Thread Cert.InprojRefIdeal.nD Cert.InprojRefIdeal.τ).loc Cert.InprojRefIdeal.main_v69) = v4 c
          ∧ r.2.mem ((c.tc : Thread Cert.InprojRefIdeal.nD Cert.InprojRefIdeal.τ).loc Cert.InprojRefIdeal.main_v70) = v5 c
          ∧ r.2.mem ((c.tc : Thread Cert.InprojRefIdeal.nD Cert.InprojRefIdeal.τ).loc Cert.InprojRefIdeal.main_v71) = v6 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3)
          ∧ r.2.mem ((c.tc : Thread Cert.InprojRefIdeal.nD Cert.InprojRefIdeal.τ).loc Cert.InprojRefIdeal.main_arg4) = m' ((c.tc : Thread Cert.InprojRefIdeal.nD Cert.InprojRefIdeal.τ).loc Cert.InprojRefIdeal.main_arg4)
          ∧ r.2.mem ((c.tc : Thread Cert.InprojRefIdeal.nD Cert.InprojRefIdeal.τ).loc Cert.InprojRefIdeal.main_arg5) = m' ((c.tc : Thread Cert.InprojRefIdeal.nD Cert.InprojRefIdeal.τ).loc Cert.InprojRefIdeal.main_arg5))

def preserves_Memkv_MemkvIdeal : Prop :=
  True

def algebraic_MemkvIdeal_MemkvRefIdeal [hMemkvIdeal : Cert.MemkvIdeal.Facts] [hMemkvRefIdeal : Cert.MemkvRefIdeal.Facts] : Prop :=
  ∀ (m : (ℓ : Loc Cert.MemkvIdeal.nD Cert.MemkvIdeal.τ Cert.MemkvIdeal.sig) → Buf (Elt Ideal) ℓ) (g : Dev Cert.MemkvIdeal.nD → PrngReg)
    (m' : (ℓ : Loc Cert.MemkvRefIdeal.nD Cert.MemkvRefIdeal.τ Cert.MemkvRefIdeal.sig) → Buf (Elt Ideal) ℓ) (g' : Dev Cert.MemkvRefIdeal.nD → PrngReg), Pre_MemkvIdeal m →
    (∀ c : Dev Cert.MemkvIdeal.nD,
      m' ((c.tc : Thread Cert.MemkvRefIdeal.nD Cert.MemkvRefIdeal.τ).loc Cert.MemkvRefIdeal.main_arg0) = m ((c.tc : Thread Cert.MemkvIdeal.nD Cert.MemkvIdeal.τ).loc Cert.MemkvIdeal.main_arg0)
      ∧ m' ((c.tc : Thread Cert.MemkvRefIdeal.nD Cert.MemkvRefIdeal.τ).loc Cert.MemkvRefIdeal.main_arg1) = m ((c.tc : Thread Cert.MemkvIdeal.nD Cert.MemkvIdeal.τ).loc Cert.MemkvIdeal.main_arg1)
      ∧ m' ((c.tc : Thread Cert.MemkvRefIdeal.nD Cert.MemkvRefIdeal.τ).loc Cert.MemkvRefIdeal.main_arg2) = m ((c.tc : Thread Cert.MemkvIdeal.nD Cert.MemkvIdeal.τ).loc Cert.MemkvIdeal.main_arg2)
      ∧ m' ((c.tc : Thread Cert.MemkvRefIdeal.nD Cert.MemkvRefIdeal.τ).loc Cert.MemkvRefIdeal.main_arg3) = m ((c.tc : Thread Cert.MemkvIdeal.nD Cert.MemkvIdeal.τ).loc Cert.MemkvIdeal.main_arg3)) →
    ∃ (v0 : (c : Dev Cert.MemkvIdeal.nD) → Buf (Elt Ideal) ((c.tc : Thread Cert.MemkvIdeal.nD Cert.MemkvIdeal.τ).loc Cert.MemkvIdeal.main_v3_0)) (v1 : (c : Dev Cert.MemkvIdeal.nD) → Buf (Elt Ideal) ((c.tc : Thread Cert.MemkvIdeal.nD Cert.MemkvIdeal.τ).loc Cert.MemkvIdeal.main_v3_1)),
      θ_run (Cert.MemkvIdeal.defs (F := Ideal)) (onTc (τ := Cert.MemkvIdeal.τ) (Cert.MemkvIdeal.main (F := Ideal))) ⟨m, fun _ => 0, g⟩ (fun r => ∀ c : Dev Cert.MemkvIdeal.nD,
          r.2.mem ((c.tc : Thread Cert.MemkvIdeal.nD Cert.MemkvIdeal.τ).loc Cert.MemkvIdeal.main_v3_0) = v0 c
          ∧ r.2.mem ((c.tc : Thread Cert.MemkvIdeal.nD Cert.MemkvIdeal.τ).loc Cert.MemkvIdeal.main_v3_1) = v1 c
          ∧ r.2.mem ((c.tc : Thread Cert.MemkvIdeal.nD Cert.MemkvIdeal.τ).loc Cert.MemkvIdeal.main_arg0) = m ((c.tc : Thread Cert.MemkvIdeal.nD Cert.MemkvIdeal.τ).loc Cert.MemkvIdeal.main_arg0)
          ∧ r.2.mem ((c.tc : Thread Cert.MemkvIdeal.nD Cert.MemkvIdeal.τ).loc Cert.MemkvIdeal.main_arg1) = m ((c.tc : Thread Cert.MemkvIdeal.nD Cert.MemkvIdeal.τ).loc Cert.MemkvIdeal.main_arg1)
          ∧ r.2.mem ((c.tc : Thread Cert.MemkvIdeal.nD Cert.MemkvIdeal.τ).loc Cert.MemkvIdeal.main_arg2) = m ((c.tc : Thread Cert.MemkvIdeal.nD Cert.MemkvIdeal.τ).loc Cert.MemkvIdeal.main_arg2)
          ∧ r.2.mem ((c.tc : Thread Cert.MemkvIdeal.nD Cert.MemkvIdeal.τ).loc Cert.MemkvIdeal.main_arg3) = m ((c.tc : Thread Cert.MemkvIdeal.nD Cert.MemkvIdeal.τ).loc Cert.MemkvIdeal.main_arg3))
      ∧ θ_run (Cert.MemkvRefIdeal.defs (F := Ideal)) (onTc (τ := Cert.MemkvRefIdeal.τ) (Cert.MemkvRefIdeal.main (F := Ideal))) ⟨m', fun _ => 0, g'⟩ (fun r => ∀ c : Dev Cert.MemkvRefIdeal.nD,
          r.2.mem ((c.tc : Thread Cert.MemkvRefIdeal.nD Cert.MemkvRefIdeal.τ).loc Cert.MemkvRefIdeal.main_v31) = v0 c
          ∧ r.2.mem ((c.tc : Thread Cert.MemkvRefIdeal.nD Cert.MemkvRefIdeal.τ).loc Cert.MemkvRefIdeal.main_v32) = v1 c
          ∧ r.2.mem ((c.tc : Thread Cert.MemkvRefIdeal.nD Cert.MemkvRefIdeal.τ).loc Cert.MemkvRefIdeal.main_arg0) = m' ((c.tc : Thread Cert.MemkvRefIdeal.nD Cert.MemkvRefIdeal.τ).loc Cert.MemkvRefIdeal.main_arg0)
          ∧ r.2.mem ((c.tc : Thread Cert.MemkvRefIdeal.nD Cert.MemkvRefIdeal.τ).loc Cert.MemkvRefIdeal.main_arg1) = m' ((c.tc : Thread Cert.MemkvRefIdeal.nD Cert.MemkvRefIdeal.τ).loc Cert.MemkvRefIdeal.main_arg1)
          ∧ r.2.mem ((c.tc : Thread Cert.MemkvRefIdeal.nD Cert.MemkvRefIdeal.τ).loc Cert.MemkvRefIdeal.main_arg2) = m' ((c.tc : Thread Cert.MemkvRefIdeal.nD Cert.MemkvRefIdeal.τ).loc Cert.MemkvRefIdeal.main_arg2)
          ∧ r.2.mem ((c.tc : Thread Cert.MemkvRefIdeal.nD Cert.MemkvRefIdeal.τ).loc Cert.MemkvRefIdeal.main_arg3) = m' ((c.tc : Thread Cert.MemkvRefIdeal.nD Cert.MemkvRefIdeal.τ).loc Cert.MemkvRefIdeal.main_arg3))

def preserves_Mix_MixIdeal : Prop :=
  True

def algebraic_MixIdeal_MixRefIdeal_pre_mix_finite [hMixIdeal : Cert.MixIdeal.Facts] [hMixRefIdeal : Cert.MixRefIdeal.Facts] [hPre_mix_finite : Cert.Pre_mix_finite.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal_mix_finite m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
      ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)
      ∧ m' ((c.tc : Thread Cert.MixRefIdeal.nD Cert.MixRefIdeal.τ).loc Cert.MixRefIdeal.main_arg9) = m ((c.tc : Thread Cert.MixIdeal.nD Cert.MixIdeal.τ).loc Cert.MixIdeal.main_arg9)
      ∧ m' ((c.tc : Thread Cert.MixRefIdeal.nD Cert.MixRefIdeal.τ).loc Cert.MixRefIdeal.main_arg10) = m ((c.tc : Thread Cert.MixIdeal.nD Cert.MixIdeal.τ).loc Cert.MixIdeal.main_arg10)
      ∧ m' ((c.tc : Thread Cert.MixRefIdeal.nD Cert.MixRefIdeal.τ).loc Cert.MixRefIdeal.main_arg11) = m ((c.tc : Thread Cert.MixIdeal.nD Cert.MixIdeal.τ).loc Cert.MixIdeal.main_arg11)
      ∧ m' ((c.tc : Thread Cert.MixRefIdeal.nD Cert.MixRefIdeal.τ).loc Cert.MixRefIdeal.main_arg12) = m ((c.tc : Thread Cert.MixIdeal.nD Cert.MixIdeal.τ).loc Cert.MixIdeal.main_arg12)
      ∧ m' ((c.tc : Thread Cert.MixRefIdeal.nD Cert.MixRefIdeal.τ).loc Cert.MixRefIdeal.main_arg13) = m ((c.tc : Thread Cert.MixIdeal.nD Cert.MixIdeal.τ).loc Cert.MixIdeal.main_arg13)
      ∧ m' ((c.tc : Thread Cert.MixRefIdeal.nD Cert.MixRefIdeal.τ).loc Cert.MixRefIdeal.main_arg14) = m ((c.tc : Thread Cert.MixIdeal.nD Cert.MixIdeal.τ).loc Cert.MixIdeal.main_arg14)
      ∧ m' ((c.tc : Thread Cert.MixRefIdeal.nD Cert.MixRefIdeal.τ).loc Cert.MixRefIdeal.main_arg15) = m ((c.tc : Thread Cert.MixIdeal.nD Cert.MixIdeal.τ).loc Cert.MixIdeal.main_arg15)) →
    ∃ (v0 : (c : Dev Cert.MixIdeal.nD) → Buf (Elt Ideal) ((c.tc : Thread Cert.MixIdeal.nD Cert.MixIdeal.τ).loc Cert.MixIdeal.main_v14_0)) (v1 : (c : Dev Cert.MixIdeal.nD) → Buf (Elt Ideal) ((c.tc : Thread Cert.MixIdeal.nD Cert.MixIdeal.τ).loc Cert.MixIdeal.main_v14_1)) (v2 : (c : Dev Cert.MixIdeal.nD) → Buf (Elt Ideal) ((c.tc : Thread Cert.MixIdeal.nD Cert.MixIdeal.τ).loc Cert.MixIdeal.main_v14_2)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v14_0) = v0 c
          ∧ r.2.mem ((c.tc : Thread Cert.MixIdeal.nD Cert.MixIdeal.τ).loc Cert.MixIdeal.main_v14_1) = v1 c
          ∧ r.2.mem ((c.tc : Thread Cert.MixIdeal.nD Cert.MixIdeal.τ).loc Cert.MixIdeal.main_v14_2) = v2 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
          ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
          ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
          ∧ r.2.mem ((c.tc : Thread Cert.MixIdeal.nD Cert.MixIdeal.τ).loc Cert.MixIdeal.main_arg12) = m ((c.tc : Thread Cert.MixIdeal.nD Cert.MixIdeal.τ).loc Cert.MixIdeal.main_arg12)
          ∧ r.2.mem ((c.tc : Thread Cert.MixIdeal.nD Cert.MixIdeal.τ).loc Cert.MixIdeal.main_arg13) = m ((c.tc : Thread Cert.MixIdeal.nD Cert.MixIdeal.τ).loc Cert.MixIdeal.main_arg13)
          ∧ r.2.mem ((c.tc : Thread Cert.MixIdeal.nD Cert.MixIdeal.τ).loc Cert.MixIdeal.main_arg14) = m ((c.tc : Thread Cert.MixIdeal.nD Cert.MixIdeal.τ).loc Cert.MixIdeal.main_arg14)
          ∧ r.2.mem ((c.tc : Thread Cert.MixIdeal.nD Cert.MixIdeal.τ).loc Cert.MixIdeal.main_arg15) = m ((c.tc : Thread Cert.MixIdeal.nD Cert.MixIdeal.τ).loc Cert.MixIdeal.main_arg15))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v75) = v0 c
          ∧ r.2.mem ((c.tc : Thread Cert.MixRefIdeal.nD Cert.MixRefIdeal.τ).loc Cert.MixRefIdeal.main_v105) = v1 c
          ∧ r.2.mem ((c.tc : Thread Cert.MixRefIdeal.nD Cert.MixRefIdeal.τ).loc Cert.MixRefIdeal.main_v106) = v2 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8)
          ∧ r.2.mem ((c.tc : Thread Cert.MixRefIdeal.nD Cert.MixRefIdeal.τ).loc Cert.MixRefIdeal.main_arg9) = m' ((c.tc : Thread Cert.MixRefIdeal.nD Cert.MixRefIdeal.τ).loc Cert.MixRefIdeal.main_arg9)
          ∧ r.2.mem ((c.tc : Thread Cert.MixRefIdeal.nD Cert.MixRefIdeal.τ).loc Cert.MixRefIdeal.main_arg10) = m' ((c.tc : Thread Cert.MixRefIdeal.nD Cert.MixRefIdeal.τ).loc Cert.MixRefIdeal.main_arg10)
          ∧ r.2.mem ((c.tc : Thread Cert.MixRefIdeal.nD Cert.MixRefIdeal.τ).loc Cert.MixRefIdeal.main_arg11) = m' ((c.tc : Thread Cert.MixRefIdeal.nD Cert.MixRefIdeal.τ).loc Cert.MixRefIdeal.main_arg11)
          ∧ r.2.mem ((c.tc : Thread Cert.MixRefIdeal.nD Cert.MixRefIdeal.τ).loc Cert.MixRefIdeal.main_arg12) = m' ((c.tc : Thread Cert.MixRefIdeal.nD Cert.MixRefIdeal.τ).loc Cert.MixRefIdeal.main_arg12)
          ∧ r.2.mem ((c.tc : Thread Cert.MixRefIdeal.nD Cert.MixRefIdeal.τ).loc Cert.MixRefIdeal.main_arg13) = m' ((c.tc : Thread Cert.MixRefIdeal.nD Cert.MixRefIdeal.τ).loc Cert.MixRefIdeal.main_arg13)
          ∧ r.2.mem ((c.tc : Thread Cert.MixRefIdeal.nD Cert.MixRefIdeal.τ).loc Cert.MixRefIdeal.main_arg14) = m' ((c.tc : Thread Cert.MixRefIdeal.nD Cert.MixRefIdeal.τ).loc Cert.MixRefIdeal.main_arg14)
          ∧ r.2.mem ((c.tc : Thread Cert.MixRefIdeal.nD Cert.MixRefIdeal.τ).loc Cert.MixRefIdeal.main_arg15) = m' ((c.tc : Thread Cert.MixRefIdeal.nD Cert.MixRefIdeal.τ).loc Cert.MixRefIdeal.main_arg15))

def preserves_Ffn_FfnIdeal : Prop :=
  True

def algebraic_FfnIdeal_FfnRefIdeal [hFfnIdeal : Cert.FfnIdeal.Facts] [hFfnRefIdeal : Cert.FfnRefIdeal.Facts] [hPre_idx_ok : Cert.Pre_idx_ok.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v6)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v6) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v71) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_Mlstm_MlstmIdeal : Prop :=
  True

def Claim : Prop :=
  ∃ (hAttn : Cert.Attn.Facts) (hAttnIdeal : Cert.AttnIdeal.Facts) (hAttnRefIdeal : Cert.AttnRefIdeal.Facts) (hInproj : Cert.Inproj.Facts) (hInprojIdeal : Cert.InprojIdeal.Facts) (hInprojRefIdeal : Cert.InprojRefIdeal.Facts) (hMemkv : Cert.Memkv.Facts) (hMemkvIdeal : Cert.MemkvIdeal.Facts) (hMemkvRefIdeal : Cert.MemkvRefIdeal.Facts) (hMix : Cert.Mix.Facts) (hMixIdeal : Cert.MixIdeal.Facts) (hMixRefIdeal : Cert.MixRefIdeal.Facts) (hFfn : Cert.Ffn.Facts) (hFfnIdeal : Cert.FfnIdeal.Facts) (hFfnRefIdeal : Cert.FfnRefIdeal.Facts) (hMlstm : Cert.Mlstm.Facts) (hMlstmIdeal : Cert.MlstmIdeal.Facts) (hPre_att_finite : Cert.Pre_att_finite.Facts) (hPre_mix_finite : Cert.Pre_mix_finite.Facts) (hPre_idx_ok : Cert.Pre_idx_ok.Facts),
    quiescent_Attn (hAttn := hAttn)
    ∧ quiescent_AttnIdeal (hAttnIdeal := hAttnIdeal)
    ∧ quiescent_AttnIdeal_pre_att_finite (hAttnIdeal := hAttnIdeal) (hPre_att_finite := hPre_att_finite)
    ∧ quiescent_AttnRefIdeal (hAttnRefIdeal := hAttnRefIdeal)
    ∧ quiescent_AttnRefIdeal_pre_att_finite (hAttnRefIdeal := hAttnRefIdeal) (hPre_att_finite := hPre_att_finite)
    ∧ quiescent_Inproj (hInproj := hInproj)
    ∧ quiescent_InprojIdeal (hInprojIdeal := hInprojIdeal)
    ∧ quiescent_InprojRefIdeal (hInprojRefIdeal := hInprojRefIdeal)
    ∧ quiescent_Memkv (hMemkv := hMemkv)
    ∧ quiescent_MemkvIdeal (hMemkvIdeal := hMemkvIdeal)
    ∧ quiescent_MemkvRefIdeal (hMemkvRefIdeal := hMemkvRefIdeal)
    ∧ quiescent_Mix (hMix := hMix)
    ∧ quiescent_MixIdeal (hMixIdeal := hMixIdeal)
    ∧ quiescent_MixIdeal_pre_mix_finite (hMixIdeal := hMixIdeal) (hPre_mix_finite := hPre_mix_finite)
    ∧ quiescent_MixRefIdeal (hMixRefIdeal := hMixRefIdeal)
    ∧ quiescent_MixRefIdeal_pre_mix_finite (hMixRefIdeal := hMixRefIdeal) (hPre_mix_finite := hPre_mix_finite)
    ∧ quiescent_Ffn (hFfn := hFfn) (hPre_idx_ok := hPre_idx_ok)
    ∧ quiescent_FfnIdeal (hFfnIdeal := hFfnIdeal) (hPre_idx_ok := hPre_idx_ok)
    ∧ quiescent_FfnRefIdeal (hFfnRefIdeal := hFfnRefIdeal)
    ∧ quiescent_FfnRefIdeal_pre_idx_ok (hFfnRefIdeal := hFfnRefIdeal) (hPre_idx_ok := hPre_idx_ok)
    ∧ quiescent_Mlstm (hMlstm := hMlstm)
    ∧ quiescent_MlstmIdeal (hMlstmIdeal := hMlstmIdeal)
    ∧ preserves_Attn_AttnIdeal
    ∧ algebraic_AttnIdeal_AttnRefIdeal_pre_att_finite (hAttnIdeal := hAttnIdeal) (hAttnRefIdeal := hAttnRefIdeal) (hPre_att_finite := hPre_att_finite)
    ∧ preserves_Inproj_InprojIdeal
    ∧ algebraic_InprojIdeal_InprojRefIdeal (hInprojIdeal := hInprojIdeal) (hInprojRefIdeal := hInprojRefIdeal)
    ∧ preserves_Memkv_MemkvIdeal
    ∧ algebraic_MemkvIdeal_MemkvRefIdeal (hMemkvIdeal := hMemkvIdeal) (hMemkvRefIdeal := hMemkvRefIdeal)
    ∧ preserves_Mix_MixIdeal
    ∧ algebraic_MixIdeal_MixRefIdeal_pre_mix_finite (hMixIdeal := hMixIdeal) (hMixRefIdeal := hMixRefIdeal) (hPre_mix_finite := hPre_mix_finite)
    ∧ preserves_Ffn_FfnIdeal
    ∧ algebraic_FfnIdeal_FfnRefIdeal (hFfnIdeal := hFfnIdeal) (hFfnRefIdeal := hFfnRefIdeal) (hPre_idx_ok := hPre_idx_ok)
    ∧ preserves_Mlstm_MlstmIdeal
-- ==== Pre_att_finite.lean ====
abbrev S8x8192x512 : Shape := ⟨3, ![8, 8192, 512]⟩
abbrev S8x8192x128 : Shape := ⟨3, ![8, 8192, 128]⟩
abbrev S8 : Shape := ⟨1, ![8]⟩
abbrev S_ : Shape := ⟨0, ![]⟩

class Facts : Prop where
  bcast_S_S8x8192x512 : S_.BroadcastsInDim S8x8192x512 (![] : Fin 0 → Fin S8x8192x512.rank)
  reducesTo_S8x8192x512_S_d0_1_2 : S8x8192x512.ReducesTo [0, 1, 2] S_
  h_S_ : 0 < S_.numel
  bcast_S_S8x8192x128 : S_.BroadcastsInDim S8x8192x128 (![] : Fin 0 → Fin S8x8192x128.rank)
  reducesTo_S8x8192x128_S_d0_1_2 : S8x8192x128.ReducesTo [0, 1, 2] S_
  bcast_S_S8 : S_.BroadcastsInDim S8 (![] : Fin 0 → Fin S8.rank)
  reducesTo_S8_S_d0 : S8.ReducesTo [0] S_

variable [Facts]

def fn {F : FTy → Type} [FloatOps F] (main_arg0 : FVec F S8x8192x512 .f32) (main_arg1 : FVec F S8x8192x128 .f32) (main_arg2 : FVec F S8x8192x128 .f32) (main_arg3 : FVec F S8 .f32) : IVec S_ 1 :=
  let main_v0 : FVec F S8x8192x512 .f32 := Host.absf main_arg0
  let main_cst : FVec F S_ .f32 := constant S_ .f32 0x7F800000#32
  let main_v1 : FVec F S8x8192x512 .f32 := broadcastInDim S8x8192x512 ![] bcast_S_S8x8192x512 main_cst
  let main_v2 : IVec S8x8192x512 1 := cmpf .olt main_v0 main_v1
  let main_c : IVec S_ 1 := constantI S_ 1 1#1
  let main_v3 : IVec S_ 1 := (fun x v => Host.reduce IntOp.andi x v reducesTo_S8x8192x512_S_d0_1_2 h_S_) main_v2 main_c
  let main_v4 : FVec F S8x8192x128 .f32 := Host.absf main_arg1
  let main_cst_0 : FVec F S_ .f32 := constant S_ .f32 0x7F800000#32
  let main_v5 : FVec F S8x8192x128 .f32 := broadcastInDim S8x8192x128 ![] bcast_S_S8x8192x128 main_cst_0
  let main_v6 : IVec S8x8192x128 1 := cmpf .olt main_v4 main_v5
  let main_c_1 : IVec S_ 1 := constantI S_ 1 1#1
  let main_v7 : IVec S_ 1 := (fun x v => Host.reduce IntOp.andi x v reducesTo_S8x8192x128_S_d0_1_2 h_S_) main_v6 main_c_1
  let main_v8 : IVec S_ 1 := andi main_v3 main_v7
  let main_v9 : FVec F S8 .f32 := Host.absf main_arg3
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  main_v13
-- ==== Pre_idx_ok.lean ====
abbrev S8x16x1024 : Shape := ⟨3, ![8, 16, 1024]⟩
abbrev S8x8192x1152 : Shape := ⟨3, ![8, 8192, 1152]⟩
abbrev S8x8192x1024 : Shape := ⟨3, ![8, 8192, 1024]⟩
abbrev S16x1024x1024 : Shape := ⟨3, ![16, 1024, 1024]⟩
abbrev S1024 : Shape := ⟨1, ![1024]⟩
abbrev S8x16x1024x1 : Shape := ⟨4, ![8, 16, 1024, 1]⟩
abbrev S8x16x1x1024 : Shape := ⟨4, ![8, 16, 1, 1024]⟩
abbrev S8x16x1024x1024 : Shape := ⟨4, ![8, 16, 1024, 1024]⟩
abbrev S1024x1 : Shape := ⟨2, ![1024, 1]⟩
abbrev S1x1024 : Shape := ⟨2, ![1, 1024]⟩
abbrev S1024x1024 : Shape := ⟨2, ![1024, 1024]⟩
abbrev S1x1x1024x1024 : Shape := ⟨4, ![1, 1, 1024, 1024]⟩
abbrev S_ : Shape := ⟨0, ![]⟩

class Facts : Prop where
  bcast_S8x16x1024_S8x16x1024x1_0_1_2 : S8x16x1024.BroadcastsInDim S8x16x1024x1 (![0, 1, 2] : Fin 3 → Fin S8x16x1024x1.rank)
  bcast_S8x16x1024_S8x16x1x1024_0_1_3 : S8x16x1024.BroadcastsInDim S8x16x1x1024 (![0, 1, 3] : Fin 3 → Fin S8x16x1x1024.rank)
  bcast_S8x16x1024x1_S8x16x1024x1024_0_1_2_3 : S8x16x1024x1.BroadcastsInDim S8x16x1024x1024 (![0, 1, 2, 3] : Fin 4 → Fin S8x16x1024x1024.rank)
  bcast_S8x16x1x1024_S8x16x1024x1024_0_1_2_3 : S8x16x1x1024.BroadcastsInDim S8x16x1024x1024 (![0, 1, 2, 3] : Fin 4 → Fin S8x16x1024x1024.rank)
  bcast_S1024_S1024x1_0 : S1024.BroadcastsInDim S1024x1 (![0] : Fin 1 → Fin S1024x1.rank)
  bcast_S1024_S1x1024_1 : S1024.BroadcastsInDim S1x1024 (![1] : Fin 1 → Fin S1x1024.rank)
  bcast_S1024x1_S1024x1024_0_1 : S1024x1.BroadcastsInDim S1024x1024 (![0, 1] : Fin 2 → Fin S1024x1024.rank)
  bcast_S1x1024_S1024x1024_0_1 : S1x1024.BroadcastsInDim S1024x1024 (![0, 1] : Fin 2 → Fin S1024x1024.rank)
  bcast_S1024x1024_S1x1x1024x1024_2_3 : S1024x1024.BroadcastsInDim S1x1x1024x1024 (![2, 3] : Fin 2 → Fin S1x1x1024x1024.rank)
  bcast_S1x1x1024x1024_S8x16x1024x1024_0_1_2_3 : S1x1x1024x1024.BroadcastsInDim S8x16x1024x1024 (![0, 1, 2, 3] : Fin 4 → Fin S8x16x1024x1024.rank)
  bcast_S_S8x16x1024 : S_.BroadcastsInDim S8x16x1024 (![] : Fin 0 → Fin S8x16x1024.rank)
  reducesTo_S8x16x1024_S_d0_1_2 : S8x16x1024.ReducesTo [0, 1, 2] S_
  h_S_ : 0 < S_.numel
  reducesTo_S8x16x1024x1024_S_d0_1_2_3 : S8x16x1024x1024.ReducesTo [0, 1, 2, 3] S_

variable [Facts]

def fn_part1 {F : FTy → Type} [FloatOps F] (main_v13 : IVec S8x16x1024x1024 1) (main_v16 : IVec S_ 1) (main_v19 : IVec S_ 1) : IVec S_ 1 :=
  let main_v20 : IVec S_ 1 := andi main_v16 main_v19
  let main_c_3 : IVec S_ 1 := constantI S_ 1 1#1
  let main_v21 : IVec S_ 1 := (fun x v => Host.reduce IntOp.andi x v reducesTo_S8x16x1024x1024_S_d0_1_2_3 h_S_) main_v13 main_c_3
  let main_v22 : IVec S_ 1 := andi main_v20 main_v21
  main_v22

def fn {F : FTy → Type} [FloatOps F] (main_arg0 : IVec S8x16x1024 32) (main_arg1 : FVec F S8x8192x1152 .f32) (main_arg2 : FVec F S8x8192x1024 .f32) (main_arg3 : FVec F S16x1024x1024 .f32) (main_arg4 : FVec F S16x1024x1024 .f32) (main_arg5 : FVec F S16x1024x1024 .f32) : IVec S_ 1 :=
  let main_v0 : IVec S1024 32 := iotaInDim S1024 32 0
  let main_v1 : IVec S8x16x1024x1 32 := broadcastInDim S8x16x1024x1 ![0, 1, 2] bcast_S8x16x1024_S8x16x1024x1_0_1_2 main_arg0
  let main_v2 : IVec S8x16x1x1024 32 := broadcastInDim S8x16x1x1024 ![0, 1, 3] bcast_S8x16x1024_S8x16x1x1024_0_1_3 main_arg0
  let main_v3 : IVec S8x16x1024x1024 32 := broadcastInDim S8x16x1024x1024 ![0, 1, 2, 3] bcast_S8x16x1024x1_S8x16x1024x1024_0_1_2_3 main_v1
  let main_v4 : IVec S8x16x1024x1024 32 := broadcastInDim S8x16x1024x1024 ![0, 1, 2, 3] bcast_S8x16x1x1024_S8x16x1024x1024_0_1_2_3 main_v2
  let main_v5 : IVec S8x16x1024x1024 1 := cmpi .ne main_v3 main_v4
  let main_v6 : IVec S1024x1 32 := broadcastInDim S1024x1 ![0] bcast_S1024_S1024x1_0 main_v0
  let main_v7 : IVec S1x1024 32 := broadcastInDim S1x1024 ![1] bcast_S1024_S1x1024_1 main_v0
  let main_v8 : IVec S1024x1024 32 := broadcastInDim S1024x1024 ![0, 1] bcast_S1024x1_S1024x1024_0_1 main_v6
  let main_v9 : IVec S1024x1024 32 := broadcastInDim S1024x1024 ![0, 1] bcast_S1x1024_S1024x1024_0_1 main_v7
  let main_v10 : IVec S1024x1024 1 := cmpi .eq main_v8 main_v9
  let main_v11 : IVec S1x1x1024x1024 1 := broadcastInDim S1x1x1024x1024 ![2, 3] bcast_S1024x1024_S1x1x1024x1024_2_3 main_v10
  let main_v12 : IVec S8x16x1024x1024 1 := broadcastInDim S8x16x1024x1024 ![0, 1, 2, 3] bcast_S1x1x1024x1024_S8x16x1024x1024_0_1_2_3 main_v11
  let main_v13 : IVec S8x16x1024x1024 1 := ori main_v5 main_v12
  let main_c : IVec S_ 32 := constantI S_ 32 0#32
  let main_v14 : IVec S8x16x1024 32 := broadcastInDim S8x16x1024 ![] bcast_S_S8x16x1024 main_c
  let main_v15 : IVec S8x16x1024 1 := cmpi .sge main_arg0 main_v14
  let main_c_0 : IVec S_ 1 := constantI S_ 1 1#1
  let main_v16 : IVec S_ 1 := (fun x v => Host.reduce IntOp.andi x v reducesTo_S8x16x1024_S_d0_1_2 h_S_) main_v15 main_c_0
  let main_c_1 : IVec S_ 32 := constantI S_ 32 8192#32
  let main_v17 : IVec S8x16x1024 32 := broadcastInDim S8x16x1024 ![] bcast_S_S8x16x1024 main_c_1
  let main_v18 : IVec S8x16x1024 1 := cmpi .slt main_arg0 main_v17
  let main_c_2 : IVec S_ 1 := constantI S_ 1 1#1
  let main_v19 : IVec S_ 1 := (fun x v => Host.reduce IntOp.andi x v reducesTo_S8x16x1024_S_d0_1_2 h_S_) main_v18 main_c_2
  fn_part1 (F := F) main_v13 main_v16 main_v19
-- ==== Pre_mix_finite.lean ====
abbrev S8x8192x1024 : Shape := ⟨3, ![8, 8192, 1024]⟩
abbrev S8x8192x512 : Shape := ⟨3, ![8, 8192, 512]⟩
abbrev S512 : Shape := ⟨1, ![512]⟩
abbrev S1024x1024 : Shape := ⟨2, ![1024, 1024]⟩
abbrev S1024 : Shape := ⟨1, ![1024]⟩
abbrev S1024x512 : Shape := ⟨2, ![1024, 512]⟩
abbrev S128 : Shape := ⟨1, ![128]⟩
abbrev S8x256x512 : Shape := ⟨3, ![8, 256, 512]⟩
abbrev S512x1024 : Shape := ⟨2, ![512, 1024]⟩
abbrev S1024x16 : Shape := ⟨2, ![1024, 16]⟩
abbrev S16 : Shape := ⟨1, ![16]⟩
abbrev S_ : Shape := ⟨0, ![]⟩

class Facts : Prop where
  bcast_S_S128 : S_.BroadcastsInDim S128 (![] : Fin 0 → Fin S128.rank)
  reducesTo_S128_S_d0 : S128.ReducesTo [0] S_
  h_S_ : 0 < S_.numel
  bcast_S_S8x256x512 : S_.BroadcastsInDim S8x256x512 (![] : Fin 0 → Fin S8x256x512.rank)
  reducesTo_S8x256x512_S_d0_1_2 : S8x256x512.ReducesTo [0, 1, 2] S_
  bcast_S_S1024 : S_.BroadcastsInDim S1024 (![] : Fin 0 → Fin S1024.rank)
  reducesTo_S1024_S_d0 : S1024.ReducesTo [0] S_
  bcast_S_S1024x16 : S_.BroadcastsInDim S1024x16 (![] : Fin 0 → Fin S1024x16.rank)
  reducesTo_S1024x16_S_d0_1 : S1024x16.ReducesTo [0, 1] S_

variable [Facts]

def fn_part1 {F : FTy → Type} [FloatOps F] (main_v13 : IVec S_ 1) (main_v16 : IVec S1024x16 1) : IVec S_ 1 :=
  let main_c_5 : IVec S_ 1 := constantI S_ 1 1#1
  let main_v17 : IVec S_ 1 := (fun x v => Host.reduce IntOp.andi x v reducesTo_S1024x16_S_d0_1 h_S_) main_v16 main_c_5
  let main_v18 : IVec S_ 1 := andi main_v13 main_v17
  main_v18

def fn {F : FTy → Type} [FloatOps F] (main_arg0 : FVec F S8x8192x1024 .f32) (main_arg1 : FVec F S8x8192x512 .f32) (main_arg2 : FVec F S8x8192x512 .f32) (main_arg3 : FVec F S8x8192x512 .f32) (main_arg4 : FVec F S8x8192x512 .f32) (main_arg5 : FVec F S512 .f32) (main_arg6 : FVec F S1024x1024 .f32) (main_arg7 : FVec F S1024 .f32) (main_arg8 : FVec F S1024x512 .f32) (main_arg9 : FVec F S128 .f32) (main_arg10 : FVec F S8x256x512 .f32) (main_arg11 : FVec F S8x256x512 .f32) (main_arg12 : FVec F S512x1024 .f32) (main_arg13 : FVec F S1024 .f32) (main_arg14 : FVec F S1024x16 .f32) (main_arg15 : FVec F S16 .f32) : IVec S_ 1 :=
  let main_v0 : FVec F S128 .f32 := Host.absf main_arg9
  let main_cst : FVec F S_ .f32 := constant S_ .f32 0x7F800000#32
  let main_v1 : FVec F S128 .f32 := broadcastInDim S128 ![] bcast_S_S128 main_cst
  let main_v2 : IVec S128 1 := cmpf .olt main_v0 main_v1
  let main_c : IVec S_ 1 := constantI S_ 1 1#1
  let main_v3 : IVec S_ 1 := (fun x v => Host.reduce IntOp.andi x v reducesTo_S128_S_d0 h_S_) main_v2 main_c
  let main_v4 : FVec F S8x256x512 .f32 := Host.absf main_arg10
  let main_cst_0 : FVec F S_ .f32 := constant S_ .f32 0x7F800000#32
  let main_v5 : FVec F S8x256x512 .f32 := broadcastInDim S8x256x512 ![] bcast_S_S8x256x512 main_cst_0
  let main_v6 : IVec S8x256x512 1 := cmpf .olt main_v4 main_v5
  let main_c_1 : IVec S_ 1 := constantI S_ 1 1#1
  let main_v7 : IVec S_ 1 := (fun x v => Host.reduce IntOp.andi x v reducesTo_S8x256x512_S_d0_1_2 h_S_) main_v6 main_c_1
  let main_v8 : IVec S_ 1 := andi main_v3 main_v7
  let main_v9 : FVec F S1024 .f32 := Host.absf main_arg13
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x16 .f32 := Host.absf main_arg14
  let main_cst_4 : FVec F S_ .f32 := constant S_ .f32 0x7F800000#32
  let main_v15 : FVec F S1024x16 .f32 := broadcastInDim S1024x16 ![] bcast_S_S1024x16 main_cst_4
  let main_v16 : IVec S1024x16 1 := cmpf .olt main_v14 main_v15
  fn_part1 (F := F) main_v13 main_v16
-- ==== Attn.lean ====
abbrev S8x8192x512 : Shape := ⟨3, ![8, 8192, 512]⟩
abbrev S8x8192x128 : Shape := ⟨3, ![8, 8192, 128]⟩
abbrev S8 : Shape := ⟨1, ![8]⟩
abbrev S_ : Shape := ⟨0, ![]⟩
abbrev S1x128x512 : Shape := ⟨3, ![1, 128, 512]⟩
abbrev S1x128x128 : Shape := ⟨3, ![1, 128, 128]⟩
abbrev S128x384 : Shape := ⟨2, ![128, 384]⟩
abbrev S128x512 : Shape := ⟨2, ![128, 512]⟩
abbrev S128x128 : Shape := ⟨2, ![128, 128]⟩
abbrev S128x64 : Shape := ⟨2, ![128, 64]⟩
abbrev S384x64 : Shape := ⟨2, ![384, 64]⟩
abbrev S1 : Shape := ⟨1, ![1]⟩
abbrev S128 : Shape := ⟨1, ![128]⟩
abbrev S128x1 : Shape := ⟨2, ![128, 1]⟩

abbrev nBuf : Space → Nat
  | .hbm => 11
  | .vmem => 16
  | .smem => 1
  | _ => 0

abbrev bufTy : (tb : Table) → Fin (tcTables nBuf tb) → BufTy
  | .hbm, ⟨0, _⟩ => ⟨S8x8192x512, .f32⟩
  | .hbm, ⟨1, _⟩ => ⟨S8x8192x128, .f32⟩
  | .hbm, ⟨2, _⟩ => ⟨S8x8192x128, .f32⟩
  | .hbm, ⟨3, _⟩ => ⟨S8, .f32⟩
  | .hbm, ⟨4, _⟩ => ⟨S_, .f32⟩
  | .hbm, ⟨5, _⟩ => ⟨S8x8192x512, .f32⟩
  | .hbm, ⟨6, _⟩ => ⟨S8x8192x512, .f32⟩
  | .hbm, ⟨7, _⟩ => ⟨S8x8192x512, .bf16⟩
  | .hbm, ⟨8, _⟩ => ⟨S8x8192x128, .bf16⟩
  | .hbm, ⟨9, _⟩ => ⟨S8x8192x128, .bf16⟩
  | .hbm, ⟨10, _⟩ => ⟨S8x8192x512, .bf16⟩
  | .local _ .vmem, ⟨0, _⟩ => ⟨S1x128x512, .bf16⟩
  | .local _ .vmem, ⟨1, _⟩ => ⟨S1x128x512, .bf16⟩
  | .local _ .vmem, ⟨2, _⟩ => ⟨S1x128x128, .bf16⟩
  | .local _ .vmem, ⟨3, _⟩ => ⟨S1x128x128, .bf16⟩
  | .local _ .vmem, ⟨4, _⟩ => ⟨S1x128x128, .bf16⟩
  | .local _ .vmem, ⟨5, _⟩ => ⟨S1x128x128, .bf16⟩
  | .local _ .vmem, ⟨6, _⟩ => ⟨S1x128x128, .bf16⟩
  | .local _ .vmem, ⟨7, _⟩ => ⟨S1x128x128, .bf16⟩
  | .local _ .vmem, ⟨8, _⟩ => ⟨S1x128x128, .bf16⟩
  | .local _ .vmem, ⟨9, _⟩ => ⟨S1x128x128, .bf16⟩
  | .local _ .vmem, ⟨10, _⟩ => ⟨S1x128x128, .bf16⟩
  | .local _ .vmem, ⟨11, _⟩ => ⟨S1x128x128, .bf16⟩
  | .local _ .vmem, ⟨12, _⟩ => ⟨S1x128x128, .bf16⟩
  | .local _ .vmem, ⟨13, _⟩ => ⟨S1x128x128, .bf16⟩
  | .local _ .vmem, ⟨14, _⟩ => ⟨S1x128x512, .bf16⟩
  | .local _ .vmem, ⟨15, _⟩ => ⟨S1x128x512, .bf16⟩
  | .local _ .smem, ⟨0, _⟩ => ⟨S8, .f32⟩
  | _, _ => ⟨S8x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![8, 64], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c63_i32 : BitVec 32 := 63#32
  let v1 : BitVec 32 := Scalar.minsi v0 c63_i32
  let c0_i32 : BitVec 32 := 0#32
  let c0_i32_0 : BitVec 32 := 0#32
  ![arg0.toNat, v1.toNat, c0_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c63_i32 : BitVec 32 := 63#32
  let v1 : BitVec 32 := Scalar.minsi v0 c63_i32
  let c0_i32 : BitVec 32 := 0#32
  let c0_i32_0 : BitVec 32 := 0#32
  ![arg0.toNat, v1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AttnIdeal.lean ====
variable {F : FTy → Type} [FloatOps F] [Named F]
def κ : String → Option EReal := fun
  | "mask" => some ⊥
  | _ => none
-- ==== AttnRefIdeal.lean ====
abbrev S8x8192x512 : Shape := ⟨3, ![8, 8192, 512]⟩
abbrev S8x8192x128 : Shape := ⟨3, ![8, 8192, 128]⟩
abbrev S8 : Shape := ⟨1, ![8]⟩
abbrev S8x8192x8x64 : Shape := ⟨4, ![8, 8192, 8, 64]⟩
abbrev S8x8192x2x64 : Shape := ⟨4, ![8, 8192, 2, 64]⟩
abbrev S8x64x128x2x4x64 : Shape := ⟨6, ![8, 64, 128, 2, 4, 64]⟩
abbrev S_ : Shape := ⟨0, ![]⟩
abbrev S8x8448x2x64 : Shape := ⟨4, ![8, 8448, 2, 64]⟩
abbrev S8x66x128x2x64 : Shape := ⟨5, ![8, 66, 128, 2, 64]⟩
abbrev S8x64x128x2x64 : Shape := ⟨5, ![8, 64, 128, 2, 64]⟩
abbrev S8x64x384x2x64 : Shape := ⟨5, ![8, 64, 384, 2, 64]⟩
abbrev S8x64x2x384x128x4 : Shape := ⟨6, ![8, 64, 2, 384, 128, 4]⟩
abbrev S8x64x2x4x128x384 : Shape := ⟨6, ![8, 64, 2, 4, 128, 384]⟩
abbrev S128 : Shape := ⟨1, ![128]⟩
abbrev S128x1 : Shape := ⟨2, ![128, 1]⟩
abbrev S384 : Shape := ⟨1, ![384]⟩
abbrev S1x384 : Shape := ⟨2, ![1, 384]⟩
abbrev S128x384 : Shape := ⟨2, ![128, 384]⟩
abbrev S64 : Shape := ⟨1, ![64]⟩
abbrev S64x1x1 : Shape := ⟨3, ![64, 1, 1]⟩
abbrev S1x1x384 : Shape := ⟨3, ![1, 1, 384]⟩
abbrev S64x1x384 : Shape := ⟨3, ![64, 1, 384]⟩
abbrev S1x128x384 : Shape := ⟨3, ![1, 128, 384]⟩
abbrev S64x128x384 : Shape := ⟨3, ![64, 128, 384]⟩
abbrev S2x4 : Shape := ⟨2, ![2, 4]⟩
abbrev S2x4x1x1 : Shape := ⟨4, ![2, 4, 1, 1]⟩
abbrev S1x1x128x384 : Shape := ⟨4, ![1, 1, 128, 384]⟩
abbrev S2x4x128x384 : Shape := ⟨4, ![2, 4, 128, 384]⟩
abbrev S1x64x1x1x128x384 : Shape := ⟨6, ![1, 64, 1, 1, 128, 384]⟩
abbrev S1x1x2x4x128x384 : Shape := ⟨6, ![1, 1, 2, 4, 128, 384]⟩
abbrev S1x1x2x4x1x1 : Shape := ⟨6, ![1, 1, 2, 4, 1, 1]⟩
abbrev S8x64x2x4x128 : Shape := ⟨5, ![8, 64, 2, 4, 128]⟩
abbrev S8x64x2x4x128x1 : Shape := ⟨6, ![8, 64, 2, 4, 128, 1]⟩
abbrev S8x64x2x64x4x128 : Shape := ⟨6, ![8, 64, 2, 64, 4, 128]⟩

abbrev nBuf : Space → Nat
  | .hbm => 121
  | .vmem => 0
  | .smem => 0
  | _ => 0

abbrev bufTy : (tb : Table) → Fin (tcTables nBuf tb) → BufTy
  | .hbm, ⟨0, _⟩ => ⟨S8x8192x512, .f32⟩
  | .hbm, ⟨1, _⟩ => ⟨S8x8192x128, .f32⟩
  | .hbm, ⟨2, _⟩ => ⟨S8x8192x128, .f32⟩
  | .hbm, ⟨3, _⟩ => ⟨S8, .f32⟩
  | .hbm, ⟨4, _⟩ => ⟨S8x8192x8x64, .f32⟩
  | .hbm, ⟨5, _⟩ => ⟨S8x8192x2x64, .f32⟩
  | .hbm, ⟨6, _⟩ => ⟨S8x8192x2x64, .f32⟩
  | .hbm, ⟨7, _⟩ => ⟨S8x64x128x2x4x64, .f32⟩
  | .hbm, ⟨8, _⟩ => ⟨S_, .i32⟩
  | .hbm, ⟨9, _⟩ => ⟨S_, .f32⟩
  | .hbm, ⟨10, _⟩ => ⟨S8x8448x2x64, .f32⟩
  | .hbm, ⟨11, _⟩ => ⟨S8x66x128x2x64, .f32⟩
  | .hbm, ⟨12, _⟩ => ⟨S8x64x128x2x64, .f32⟩
  | .hbm, ⟨13, _⟩ => ⟨S8x64x128x2x64, .f32⟩
  | .hbm, ⟨14, _⟩ => ⟨S8x64x128x2x64, .f32⟩
  | .hbm, ⟨15, _⟩ => ⟨S8x64x384x2x64, .f32⟩
  | .hbm, ⟨16, _⟩ => ⟨S_, .i32⟩
  | .hbm, ⟨17, _⟩ => ⟨S_, .f32⟩
  | .hbm, ⟨18, _⟩ => ⟨S8x8448x2x64, .f32⟩
  | .hbm, ⟨19, _⟩ => ⟨S8x66x128x2x64, .f32⟩
  | .hbm, ⟨20, _⟩ => ⟨S8x64x128x2x64, .f32⟩
  | .hbm, ⟨21, _⟩ => ⟨S8x64x128x2x64, .f32⟩
  | .hbm, ⟨22, _⟩ => ⟨S8x64x128x2x64, .f32⟩
  | .hbm, ⟨23, _⟩ => ⟨S8x64x384x2x64, .f32⟩
  | .hbm, ⟨24, _⟩ => ⟨S8x64x2x384x128x4, .f32⟩
  | .hbm, ⟨25, _⟩ => ⟨S8x64x2x4x128x384, .f32⟩
  | .hbm, ⟨26, _⟩ => ⟨S_, .f32⟩
  | .hbm, ⟨27, _⟩ => ⟨S8x64x2x4x128x384, .f32⟩
  | .hbm, ⟨28, _⟩ => ⟨S8x64x2x4x128x384, .f32⟩
  | .hbm, ⟨29, _⟩ => ⟨S128, .i32⟩
  | .hbm, ⟨30, _⟩ => ⟨S128x1, .i32⟩
  | .hbm, ⟨31, _⟩ => ⟨S384, .i32⟩
  | .hbm, ⟨32, _⟩ => ⟨S1x384, .i32⟩
  | .hbm, ⟨33, _⟩ => ⟨S_, .i32⟩
  | .hbm, ⟨34, _⟩ => ⟨S128x1, .i32⟩
  | .hbm, ⟨35, _⟩ => ⟨S128x1, .i32⟩
  | .hbm, ⟨36, _⟩ => ⟨S128x384, .i32⟩
  | .hbm, ⟨37, _⟩ => ⟨S128x384, .i32⟩
  | .hbm, ⟨38, _⟩ => ⟨S128x384, .i32⟩
  | .hbm, ⟨39, _⟩ => ⟨S64, .i32⟩
  | .hbm, ⟨40, _⟩ => ⟨S64x1x1, .i32⟩
  | .hbm, ⟨41, _⟩ => ⟨S_, .i32⟩
  | .hbm, ⟨42, _⟩ => ⟨S64x1x1, .i32⟩
  | .hbm, ⟨43, _⟩ => ⟨S64x1x1, .i32⟩
  | .hbm, ⟨44, _⟩ => ⟨S_, .i32⟩
  | .hbm, ⟨45, _⟩ => ⟨S64x1x1, .i32⟩
  | .hbm, ⟨46, _⟩ => ⟨S64x1x1, .i32⟩
  | .hbm, ⟨47, _⟩ => ⟨S1x1x384, .i32⟩
  | .hbm, ⟨48, _⟩ => ⟨S64x1x384, .i32⟩
  | .hbm, ⟨49, _⟩ => ⟨S64x1x384, .i32⟩
  | .hbm, ⟨50, _⟩ => ⟨S64x1x384, .i32⟩
  | .hbm, ⟨51, _⟩ => ⟨S128x384, .i32⟩
  | .hbm, ⟨52, _⟩ => ⟨S_, .i32⟩
  | .hbm, ⟨53, _⟩ => ⟨S128x384, .i32⟩
  | .hbm, ⟨54, _⟩ => ⟨S128x384, .i1⟩
  | .hbm, ⟨55, _⟩ => ⟨S1x128x384, .i1⟩
  | .hbm, ⟨56, _⟩ => ⟨S_, .i32⟩
  | .hbm, ⟨57, _⟩ => ⟨S64x1x384, .i32⟩
  | .hbm, ⟨58, _⟩ => ⟨S64x1x384, .i1⟩
  | .hbm, ⟨59, _⟩ => ⟨S64x128x384, .i1⟩
  | .hbm, ⟨60, _⟩ => ⟨S64x128x384, .i1⟩
  | .hbm, ⟨61, _⟩ => ⟨S64x128x384, .i1⟩
  | .hbm, ⟨62, _⟩ => ⟨S_, .i32⟩
  | .hbm, ⟨63, _⟩ => ⟨S64x1x384, .i32⟩
  | .hbm, ⟨64, _⟩ => ⟨S64x1x384, .i1⟩
  | .hbm, ⟨65, _⟩ => ⟨S64x128x384, .i1⟩
  | .hbm, ⟨66, _⟩ => ⟨S64x128x384, .i1⟩
  | .hbm, ⟨67, _⟩ => ⟨S8, .f32⟩
  | .hbm, ⟨68, _⟩ => ⟨S_, .f32⟩
  | .hbm, ⟨69, _⟩ => ⟨S8, .f32⟩
  | .hbm, ⟨70, _⟩ => ⟨S8, .f32⟩
  | .hbm, ⟨71, _⟩ => ⟨S_, .f32⟩
  | .hbm, ⟨72, _⟩ => ⟨S8, .f32⟩
  | .hbm, ⟨73, _⟩ => ⟨S8, .f32⟩
  | .hbm, ⟨74, _⟩ => ⟨S_, .f32⟩
  | .hbm, ⟨75, _⟩ => ⟨S8, .f32⟩
  | .hbm, ⟨76, _⟩ => ⟨S8, .f32⟩
  | .hbm, ⟨77, _⟩ => ⟨S_, .f32⟩
  | .hbm, ⟨78, _⟩ => ⟨S8, .f32⟩
  | .hbm, ⟨79, _⟩ => ⟨S8, .f32⟩
  | .hbm, ⟨80, _⟩ => ⟨S2x4, .f32⟩
  | .hbm, ⟨81, _⟩ => ⟨S2x4x1x1, .f32⟩
  | .hbm, ⟨82, _⟩ => ⟨S2x4x1x1, .f32⟩
  | .hbm, ⟨83, _⟩ => ⟨S128x384, .i32⟩
  | .hbm, ⟨84, _⟩ => ⟨S128x384, .f32⟩
  | .hbm, ⟨85, _⟩ => ⟨S1x1x128x384, .f32⟩
  | .hbm, ⟨86, _⟩ => ⟨S2x4x128x384, .f32⟩
  | .hbm, ⟨87, _⟩ => ⟨S2x4x128x384, .f32⟩
  | .hbm, ⟨88, _⟩ => ⟨S2x4x128x384, .f32⟩
  | .hbm, ⟨89, _⟩ => ⟨S1x64x1x1x128x384, .i1⟩
  | .hbm, ⟨90, _⟩ => ⟨S1x1x2x4x128x384, .f32⟩
  | .hbm, ⟨91, _⟩ => ⟨S8x64x2x4x128x384, .f32⟩
  | .hbm, ⟨92, _⟩ => ⟨S8x64x2x4x128x384, .f32⟩
  | .hbm, ⟨93, _⟩ => ⟨S_, .f32⟩
  | .hbm, ⟨94, _⟩ => ⟨S_, .f32⟩
  | .hbm, ⟨95, _⟩ => ⟨S8x64x2x4x128x384, .i1⟩
  | .hbm, ⟨96, _⟩ => ⟨S8x64x2x4x128x384, .f32⟩
  | .hbm, ⟨97, _⟩ => ⟨S8x64x2x4x128x384, .f32⟩
  | .hbm, ⟨98, _⟩ => ⟨S2x4, .f32⟩
  | .hbm, ⟨99, _⟩ => ⟨S1x1x2x4x1x1, .f32⟩
  | .hbm, ⟨100, _⟩ => ⟨S_, .f32⟩
  | .hbm, ⟨101, _⟩ => ⟨S8x64x2x4x128, .f32⟩
  | .hbm, ⟨102, _⟩ => ⟨S8x64x2x4x128x1, .f32⟩
  | .hbm, ⟨103, _⟩ => ⟨S8x64x2x4x128x1, .f32⟩
  | .hbm, ⟨104, _⟩ => ⟨S8x64x2x4x128x1, .f32⟩
  | .hbm, ⟨105, _⟩ => ⟨S8x64x2x4x128x384, .f32⟩
  | .hbm, ⟨106, _⟩ => ⟨S8x64x2x4x128x384, .f32⟩
  | .hbm, ⟨107, _⟩ => ⟨S8x64x2x4x128x384, .f32⟩
  | .hbm, ⟨108, _⟩ => ⟨S_, .f32⟩
  | .hbm, ⟨109, _⟩ => ⟨S8x64x2x4x128, .f32⟩
  | .hbm, ⟨110, _⟩ => ⟨S8x64x2x4x128x1, .f32⟩
  | .hbm, ⟨111, _⟩ => ⟨S8x64x2x4x128x1, .f32⟩
  | .hbm, ⟨112, _⟩ => ⟨S8x64x2x4x128x1, .f32⟩
  | .hbm, ⟨113, _⟩ => ⟨S8x64x2x4x128x1, .f32⟩
  | .hbm, ⟨114, _⟩ => ⟨S8x64x2x4x128x1, .f32⟩
  | .hbm, ⟨115, _⟩ => ⟨S8x64x2x4x128x384, .f32⟩
  | .hbm, ⟨116, _⟩ => ⟨S8x64x2x4x128x384, .f32⟩
  | .hbm, ⟨117, _⟩ => ⟨S8x64x2x64x4x128, .f32⟩
  | .hbm, ⟨118, _⟩ => ⟨S8x64x128x2x4x64, .f32⟩
  | .hbm, ⟨119, _⟩ => ⟨S8x8192x512, .f32⟩
  | .hbm, ⟨120, _⟩ => ⟨S8x8192x512, .bf16⟩
  | _, _ => ⟨S8x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_0 : Ref sig .tc := ⟨.hbm, 16, rfl⟩
abbrev main_call1_v0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_c_1 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_c_2 : Ref sig .tc := ⟨.hbm, 41, rfl⟩
abbrev main_v31 : Ref sig .tc := ⟨.hbm, 42, rfl⟩
abbrev main_v32 : Ref sig .tc := ⟨.hbm, 43, rfl⟩
abbrev main_c_3 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_c_4 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_c_5 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_c_6 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_7 : Ref sig .tc := ⟨.hbm, 68, rfl⟩
abbrev main_v53 : Ref sig .tc := ⟨.hbm, 69, rfl⟩
abbrev main_v54 : Ref sig .tc := ⟨.hbm, 70, rfl⟩
abbrev main_cst_8 : Ref sig .tc := ⟨.hbm, 71, rfl⟩
abbrev main_v55 : Ref sig .tc := ⟨.hbm, 72, rfl⟩
abbrev main_v56 : Ref sig .tc := ⟨.hbm, 73, rfl⟩
abbrev main_cst_9 : Ref sig .tc := ⟨.hbm, 74, rfl⟩
abbrev main_v57 : Ref sig .tc := ⟨.hbm, 75, rfl⟩
abbrev main_v58 : Ref sig .tc := ⟨.hbm, 76, rfl⟩
abbrev main_cst_10 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_cst_11 : Ref sig .tc := ⟨.hbm, 93, rfl⟩
abbrev main_call2_v0 : Ref sig .tc := ⟨.hbm, 94, rfl⟩
abbrev main_call2_v1 : Ref sig .tc := ⟨.hbm, 95, rfl⟩
abbrev main_call2_v2 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_cst_12 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_cst_13 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩

abbrev nD : Nat := 1
abbrev τ : Topo := Topo.v7x

variable {F : FTy → Type} [FloatOps F]
-- ==== Inproj.lean ====
abbrev S8x8192x1024 : Shape := ⟨3, ![8, 8192, 1024]⟩
abbrev S1024 : Shape := ⟨1, ![1024]⟩
abbrev S1024x2832 : Shape := ⟨2, ![1024, 2832]⟩
abbrev S64 : Shape := ⟨1, ![64]⟩
abbrev S16 : Shape := ⟨1, ![16]⟩
abbrev S1024x2816 : Shape := ⟨2, ![1024, 2816]⟩
abbrev S1024x16 : Shape := ⟨2, ![1024, 16]⟩
abbrev S16x1024 : Shape := ⟨2, ![16, 1024]⟩
abbrev S1x64 : Shape := ⟨2, ![1, 64]⟩
abbrev S1x1x1x64 : Shape := ⟨4, ![1, 1, 1, 64]⟩
abbrev S1x1x8x64 : Shape := ⟨4, ![1, 1, 8, 64]⟩
abbrev S1x512 : Shape := ⟨2, ![1, 512]⟩
abbrev S_ : Shape := ⟨0, ![]⟩
abbrev S1x1x2x64 : Shape := ⟨4, ![1, 1, 2, 64]⟩
abbrev S1x128 : Shape := ⟨2, ![1, 128]⟩
abbrev S1x1024 : Shape := ⟨2, ![1, 1024]⟩
abbrev S16x1 : Shape := ⟨2, ![16, 1]⟩
abbrev S512 : Shape := ⟨1, ![512]⟩
abbrev S512x1 : Shape := ⟨2, ![512, 1]⟩
abbrev S512x512 : Shape := ⟨2, ![512, 512]⟩
abbrev S128x128 : Shape := ⟨2, ![128, 128]⟩
abbrev S8x8192x512 : Shape := ⟨3, ![8, 8192, 512]⟩
abbrev S8x8192x128 : Shape := ⟨3, ![8, 8192, 128]⟩
abbrev S8x16x8192 : Shape := ⟨3, ![8, 16, 8192]⟩
abbrev S1x512x1024 : Shape := ⟨3, ![1, 512, 1024]⟩
abbrev S1x512x512 : Shape := ⟨3, ![1, 512, 512]⟩
abbrev S1x512x128 : Shape := ⟨3, ![1, 512, 128]⟩
abbrev S1x16x512 : Shape := ⟨3, ![1, 16, 512]⟩
abbrev S512x1024 : Shape := ⟨2, ![512, 1024]⟩
abbrev S1024x512 : Shape := ⟨2, ![1024, 512]⟩
abbrev S1024x128 : Shape := ⟨2, ![1024, 128]⟩
abbrev S512x128 : Shape := ⟨2, ![512, 128]⟩
abbrev S1024x1024 : Shape := ⟨2, ![1024, 1024]⟩
abbrev S16x512 : Shape := ⟨2, ![16, 512]⟩

abbrev nBuf : Space → Nat
  | .hbm => 76
  | .vmem => 24
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S1024x2832, .f32⟩
  | .hbm, ⟨3, _⟩ => ⟨S64, .f32⟩
  | .hbm, ⟨4, _⟩ => ⟨S64, .f32⟩
  | .hbm, ⟨5, _⟩ => ⟨S16, .f32⟩
  | .hbm, ⟨6, _⟩ => ⟨S1024x2816, .f32⟩
  | .hbm, ⟨7, _⟩ => ⟨S1024x2816, .bf16⟩
  | .hbm, ⟨8, _⟩ => ⟨S1024x16, .f32⟩
  | .hbm, ⟨9, _⟩ => ⟨S16x1024, .f32⟩
  | .hbm, ⟨10, _⟩ => ⟨S16x1024, .bf16⟩
  | .hbm, ⟨11, _⟩ => ⟨S1x64, .f32⟩
  | .hbm, ⟨12, _⟩ => ⟨S1x1x1x64, .f32⟩
  | .hbm, ⟨13, _⟩ => ⟨S1x1x8x64, .f32⟩
  | .hbm, ⟨14, _⟩ => ⟨S1x512, .f32⟩
  | .hbm, ⟨15, _⟩ => ⟨S_, .f32⟩
  | .hbm, ⟨16, _⟩ => ⟨S1x512, .f32⟩
  | .hbm, ⟨17, _⟩ => ⟨S1x512, .f32⟩
  | .hbm, ⟨18, _⟩ => ⟨S1x64, .f32⟩
  | .hbm, ⟨19, _⟩ => ⟨S1x1x1x64, .f32⟩
  | .hbm, ⟨20, _⟩ => ⟨S1x1x2x64, .f32⟩
  | .hbm, ⟨21, _⟩ => ⟨S1x128, .f32⟩
  | .hbm, ⟨22, _⟩ => ⟨S1x1024, .f32⟩
  | .hbm, ⟨23, _⟩ => ⟨S16x1, .f32⟩
  | .hbm, ⟨24, _⟩ => ⟨S512, .i32⟩
  | .hbm, ⟨25, _⟩ => ⟨S512x1, .i32⟩
  | .hbm, ⟨26, _⟩ => ⟨S_, .i32⟩
  | .hbm, ⟨27, _⟩ => ⟨S_, .i32⟩
  | .hbm, ⟨28, _⟩ => ⟨S512x1, .i32⟩
  | .hbm, ⟨29, _⟩ => ⟨S512x1, .i32⟩
  | .hbm, ⟨30, _⟩ => ⟨S512x1, .i32⟩
  | .hbm, ⟨31, _⟩ => ⟨S_, .i32⟩
  | .hbm, ⟨32, _⟩ => ⟨S512x1, .i32⟩
  | .hbm, ⟨33, _⟩ => ⟨S512x1, .i1⟩
  | .hbm, ⟨34, _⟩ => ⟨S512x1, .i32⟩
  | .hbm, ⟨35, _⟩ => ⟨S512x1, .i32⟩
  | .hbm, ⟨36, _⟩ => ⟨S_, .i32⟩
  | .hbm, ⟨37, _⟩ => ⟨S512x1, .i32⟩
  | .hbm, ⟨38, _⟩ => ⟨S512x1, .i1⟩
  | .hbm, ⟨39, _⟩ => ⟨S512x1, .i1⟩
  | .hbm, ⟨40, _⟩ => ⟨S_, .i32⟩
  | .hbm, ⟨41, _⟩ => ⟨S512x1, .i32⟩
  | .hbm, ⟨42, _⟩ => ⟨S512x1, .i32⟩
  | .hbm, ⟨43, _⟩ => ⟨S512x1, .i32⟩
  | .hbm, ⟨44, _⟩ => ⟨S512, .i32⟩
  | .hbm, ⟨45, _⟩ => ⟨S1x512, .i32⟩
  | .hbm, ⟨46, _⟩ => ⟨S_, .i32⟩
  | .hbm, ⟨47, _⟩ => ⟨S_, .i32⟩
  | .hbm, ⟨48, _⟩ => ⟨S1x512, .i32⟩
  | .hbm, ⟨49, _⟩ => ⟨S1x512, .i32⟩
  | .hbm, ⟨50, _⟩ => ⟨S1x512, .i32⟩
  | .hbm, ⟨51, _⟩ => ⟨S_, .i32⟩
  | .hbm, ⟨52, _⟩ => ⟨S1x512, .i32⟩
  | .hbm, ⟨53, _⟩ => ⟨S1x512, .i1⟩
  | .hbm, ⟨54, _⟩ => ⟨S1x512, .i32⟩
  | .hbm, ⟨55, _⟩ => ⟨S1x512, .i32⟩
  | .hbm, ⟨56, _⟩ => ⟨S_, .i32⟩
  | .hbm, ⟨57, _⟩ => ⟨S1x512, .i32⟩
  | .hbm, ⟨58, _⟩ => ⟨S1x512, .i1⟩
  | .hbm, ⟨59, _⟩ => ⟨S1x512, .i1⟩
  | .hbm, ⟨60, _⟩ => ⟨S_, .i32⟩
  | .hbm, ⟨61, _⟩ => ⟨S1x512, .i32⟩
  | .hbm, ⟨62, _⟩ => ⟨S1x512, .i32⟩
  | .hbm, ⟨63, _⟩ => ⟨S1x512, .i32⟩
  | .hbm, ⟨64, _⟩ => ⟨S512x512, .i32⟩
  | .hbm, ⟨65, _⟩ => ⟨S512x512, .i32⟩
  | .hbm, ⟨66, _⟩ => ⟨S512x512, .i1⟩
  | .hbm, ⟨67, _⟩ => ⟨S512x512, .bf16⟩
  | .hbm, ⟨68, _⟩ => ⟨S128x128, .bf16⟩
  | .hbm, ⟨69, _⟩ => ⟨S8x8192x512, .bf16⟩
  | .hbm, ⟨70, _⟩ => ⟨S8x8192x128, .bf16⟩
  | .hbm, ⟨71, _⟩ => ⟨S8x8192x128, .bf16⟩
  | .hbm, ⟨72, _⟩ => ⟨S8x8192x1024, .bf16⟩
  | .hbm, ⟨73, _⟩ => ⟨S8x8192x512, .bf16⟩
  | .hbm, ⟨74, _⟩ => ⟨S8x8192x512, .bf16⟩
  | .hbm, ⟨75, _⟩ => ⟨S8x16x8192, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x2816, .bf16⟩
  | .local _ .vmem, ⟨4, _⟩ => ⟨S16x1024, .bf16⟩
  | .local _ .vmem, ⟨5, _⟩ => ⟨S16x1, .f32⟩
  | .local _ .vmem, ⟨6, _⟩ => ⟨S1x512, .f32⟩
  | .local _ .vmem, ⟨7, _⟩ => ⟨S1x128, .f32⟩
  | .local _ .vmem, ⟨8, _⟩ => ⟨S512x512, .bf16⟩
  | .local _ .vmem, ⟨9, _⟩ => ⟨S128x128, .bf16⟩
  | .local _ .vmem, ⟨10, _⟩ => ⟨S1x512x512, .bf16⟩
  | .local _ .vmem, ⟨11, _⟩ => ⟨S1x512x512, .bf16⟩
  | .local _ .vmem, ⟨12, _⟩ => ⟨S1x512x128, .bf16⟩
  | .local _ .vmem, ⟨13, _⟩ => ⟨S1x512x128, .bf16⟩
  | .local _ .vmem, ⟨14, _⟩ => ⟨S1x512x128, .bf16⟩
  | .local _ .vmem, ⟨15, _⟩ => ⟨S1x512x128, .bf16⟩
  | .local _ .vmem, ⟨16, _⟩ => ⟨S1x512x1024, .bf16⟩
  | .local _ .vmem, ⟨17, _⟩ => ⟨S1x512x1024, .bf16⟩
  | .local _ .vmem, ⟨18, _⟩ => ⟨S1x512x512, .bf16⟩
  | .local _ .vmem, ⟨19, _⟩ => ⟨S1x512x512, .bf16⟩
  | .local _ .vmem, ⟨20, _⟩ => ⟨S1x512x512, .bf16⟩
  | .local _ .vmem, ⟨21, _⟩ => ⟨S1x512x512, .bf16⟩
  | .local _ .vmem, ⟨22, _⟩ => ⟨S1x16x512, .f32⟩
  | .local _ .vmem, ⟨23, _⟩ => ⟨S1x16x512, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_c : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_c_0 : Ref sig .tc := ⟨.hbm, 40, rfl⟩
abbrev main_call0_v12 : Ref sig .tc := ⟨.hbm, 41, rfl⟩
abbrev main_call0_v13 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_c_0 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_call1_v5 : Ref sig .tc := ⟨.hbm, 52, rfl⟩
abbrev main_call1_v6 : Ref sig .tc := ⟨.hbm, 53, rfl⟩
abbrev main_call1_v7 : Ref sig .tc := ⟨.hbm, 54, rfl⟩
abbrev main_call1_v8 : Ref sig .tc := ⟨.hbm, 55, rfl⟩
abbrev main_call1_c : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_call1_c_0 : Ref sig .tc := ⟨.hbm, 60, rfl⟩
abbrev main_call1_v12 : Ref sig .tc := ⟨.hbm, 61, rfl⟩
abbrev main_call1_v13 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_v28_0 : Ref sig .tc := ⟨.hbm, 69, rfl⟩
abbrev main_v28_1 : Ref sig .tc := ⟨.hbm, 70, rfl⟩
abbrev main_v28_2 : Ref sig .tc := ⟨.hbm, 71, rfl⟩
abbrev main_v28_3 : Ref sig .tc := ⟨.hbm, 72, rfl⟩
abbrev main_v28_4 : Ref sig .tc := ⟨.hbm, 73, rfl⟩
abbrev main_v28_5 : Ref sig .tc := ⟨.hbm, 74, rfl⟩
abbrev main_v28_6 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S16x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S16x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x16x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== InprojRefIdeal.lean ====
abbrev S8x8192x1024 : Shape := ⟨3, ![8, 8192, 1024]⟩
abbrev S1024 : Shape := ⟨1, ![1024]⟩
abbrev S1024x2832 : Shape := ⟨2, ![1024, 2832]⟩
abbrev S64 : Shape := ⟨1, ![64]⟩
abbrev S16 : Shape := ⟨1, ![16]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x8192x2832 : Shape := ⟨3, ![8, 8192, 2832]⟩
abbrev S8x8192x512 : Shape := ⟨3, ![8, 8192, 512]⟩
abbrev S8x8192x128 : Shape := ⟨3, ![8, 8192, 128]⟩
abbrev S8x8192x16 : Shape := ⟨3, ![8, 8192, 16]⟩
abbrev S8x8192x8x64 : Shape := ⟨4, ![8, 8192, 8, 64]⟩
abbrev S8x8192x8 : Shape := ⟨3, ![8, 8192, 8]⟩
abbrev S8x8192x8x1 : Shape := ⟨4, ![8, 8192, 8, 1]⟩
abbrev S1x1x1x64 : Shape := ⟨4, ![1, 1, 1, 64]⟩
abbrev S8x8192x2x64 : Shape := ⟨4, ![8, 8192, 2, 64]⟩
abbrev S8x8192x2 : Shape := ⟨3, ![8, 8192, 2]⟩
abbrev S8x8192x2x1 : Shape := ⟨4, ![8, 8192, 2, 1]⟩
abbrev S1x1x16 : Shape := ⟨3, ![1, 1, 16]⟩
abbrev S8x8192x4 : Shape := ⟨3, ![8, 8192, 4]⟩
abbrev S8x16x8192 : Shape := ⟨3, ![8, 16, 8192]⟩

abbrev nBuf : Space → Nat
  | .hbm => 118
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S1024x2832, .f32⟩
  | .hbm, ⟨3, _⟩ => ⟨S64, .f32⟩
  | .hbm, ⟨4, _⟩ => ⟨S64, .f32⟩
  | .hbm, ⟨5, _⟩ => ⟨S16, .f32⟩
  | .hbm, ⟨6, _⟩ => ⟨S8x8192x1024, .f32⟩
  | .hbm, ⟨7, _⟩ => ⟨S_, .f32⟩
  | .hbm, ⟨8, _⟩ => ⟨S8x8192, .f32⟩
  | .hbm, ⟨9, _⟩ => ⟨S8x8192x1, .f32⟩
  | .hbm, ⟨10, _⟩ => ⟨S_, .f32⟩
  | .hbm, ⟨11, _⟩ => ⟨S8x8192x1, .f32⟩
  | .hbm, ⟨12, _⟩ => ⟨S8x8192x1, .f32⟩
  | .hbm, ⟨13, _⟩ => ⟨S_, .f32⟩
  | .hbm, ⟨14, _⟩ => ⟨S8x8192x1, .f32⟩
  | .hbm, ⟨15, _⟩ => ⟨S8x8192x1, .f32⟩
  | .hbm, ⟨16, _⟩ => ⟨S8x8192x1, .f32⟩
  | .hbm, ⟨17, _⟩ => ⟨S8x8192x1024, .f32⟩
  | .hbm, ⟨18, _⟩ => ⟨S8x8192x1024, .f32⟩
  | .hbm, ⟨19, _⟩ => ⟨S1x1x1024, .f32⟩
  | .hbm, ⟨20, _⟩ => ⟨S8x8192x1024, .f32⟩
  | .hbm, ⟨21, _⟩ => ⟨S8x8192x1024, .f32⟩
  | .hbm, ⟨22, _⟩ => ⟨S8x8192x2832, .f32⟩
  | .hbm, ⟨23, _⟩ => ⟨S8x8192x512, .f32⟩
  | .hbm, ⟨24, _⟩ => ⟨S8x8192x128, .f32⟩
  | .hbm, ⟨25, _⟩ => ⟨S8x8192x128, .f32⟩
  | .hbm, ⟨26, _⟩ => ⟨S8x8192x512, .f32⟩
  | .hbm, ⟨27, _⟩ => ⟨S8x8192x512, .f32⟩
  | .hbm, ⟨28, _⟩ => ⟨S8x8192x512, .f32⟩
  | .hbm, ⟨29, _⟩ => ⟨S8x8192x512, .f32⟩
  | .hbm, ⟨30, _⟩ => ⟨S8x8192x16, .f32⟩
  | .hbm, ⟨31, _⟩ => ⟨S8x8192x8x64, .f32⟩
  | .hbm, ⟨32, _⟩ => ⟨S8x8192x8x64, .f32⟩
  | .hbm, ⟨33, _⟩ => ⟨S_, .f32⟩
  | .hbm, ⟨34, _⟩ => ⟨S8x8192x8, .f32⟩
  | .hbm, ⟨35, _⟩ => ⟨S8x8192x8x1, .f32⟩
  | .hbm, ⟨36, _⟩ => ⟨S_, .f32⟩
  | .hbm, ⟨37, _⟩ => ⟨S8x8192x8x1, .f32⟩
  | .hbm, ⟨38, _⟩ => ⟨S8x8192x8x1, .f32⟩
  | .hbm, ⟨39, _⟩ => ⟨S_, .f32⟩
  | .hbm, ⟨40, _⟩ => ⟨S8x8192x8x1, .f32⟩
  | .hbm, ⟨41, _⟩ => ⟨S8x8192x8x1, .f32⟩
  | .hbm, ⟨42, _⟩ => ⟨S8x8192x8x1, .f32⟩
  | .hbm, ⟨43, _⟩ => ⟨S8x8192x8x64, .f32⟩
  | .hbm, ⟨44, _⟩ => ⟨S8x8192x8x64, .f32⟩
  | .hbm, ⟨45, _⟩ => ⟨S1x1x1x64, .f32⟩
  | .hbm, ⟨46, _⟩ => ⟨S8x8192x8x64, .f32⟩
  | .hbm, ⟨47, _⟩ => ⟨S8x8192x8x64, .f32⟩
  | .hbm, ⟨48, _⟩ => ⟨S8x8192x2x64, .f32⟩
  | .hbm, ⟨49, _⟩ => ⟨S8x8192x2x64, .f32⟩
  | .hbm, ⟨50, _⟩ => ⟨S_, .f32⟩
  | .hbm, ⟨51, _⟩ => ⟨S8x8192x2, .f32⟩
  | .hbm, ⟨52, _⟩ => ⟨S8x8192x2x1, .f32⟩
  | .hbm, ⟨53, _⟩ => ⟨S_, .f32⟩
  | .hbm, ⟨54, _⟩ => ⟨S8x8192x2x1, .f32⟩
  | .hbm, ⟨55, _⟩ => ⟨S8x8192x2x1, .f32⟩
  | .hbm, ⟨56, _⟩ => ⟨S_, .f32⟩
  | .hbm, ⟨57, _⟩ => ⟨S8x8192x2x1, .f32⟩
  | .hbm, ⟨58, _⟩ => ⟨S8x8192x2x1, .f32⟩
  | .hbm, ⟨59, _⟩ => ⟨S8x8192x2x1, .f32⟩
  | .hbm, ⟨60, _⟩ => ⟨S8x8192x2x64, .f32⟩
  | .hbm, ⟨61, _⟩ => ⟨S8x8192x2x64, .f32⟩
  | .hbm, ⟨62, _⟩ => ⟨S1x1x1x64, .f32⟩
  | .hbm, ⟨63, _⟩ => ⟨S8x8192x2x64, .f32⟩
  | .hbm, ⟨64, _⟩ => ⟨S8x8192x2x64, .f32⟩
  | .hbm, ⟨65, _⟩ => ⟨S1x1x16, .f32⟩
  | .hbm, ⟨66, _⟩ => ⟨S8x8192x16, .f32⟩
  | .hbm, ⟨67, _⟩ => ⟨S8x8192x16, .f32⟩
  | .hbm, ⟨68, _⟩ => ⟨S8x8192x4, .f32⟩
  | .hbm, ⟨69, _⟩ => ⟨S8x8192x4, .f32⟩
  | .hbm, ⟨70, _⟩ => ⟨S8x8192x4, .f32⟩
  | .hbm, ⟨71, _⟩ => ⟨S8x8192x4, .f32⟩
  | .hbm, ⟨72, _⟩ => ⟨S8x8192x4, .f32⟩
  | .hbm, ⟨73, _⟩ => ⟨S_, .f32⟩
  | .hbm, ⟨74, _⟩ => ⟨S8x8192x4, .f32⟩
  | .hbm, ⟨75, _⟩ => ⟨S8x8192x4, .f32⟩
  | .hbm, ⟨76, _⟩ => ⟨S8x8192x4, .f32⟩
  | .hbm, ⟨77, _⟩ => ⟨S8x8192x4, .f32⟩
  | .hbm, ⟨78, _⟩ => ⟨S8x8192x4, .i1⟩
  | .hbm, ⟨79, _⟩ => ⟨S8x8192x4, .f32⟩
  | .hbm, ⟨80, _⟩ => ⟨S8x8192x4, .f32⟩
  | .hbm, ⟨81, _⟩ => ⟨S8x8192x4, .f32⟩
  | .hbm, ⟨82, _⟩ => ⟨S8x8192x4, .f32⟩
  | .hbm, ⟨83, _⟩ => ⟨S8x8192x4, .f32⟩
  | .hbm, ⟨84, _⟩ => ⟨S8x8192x4, .f32⟩
  | .hbm, ⟨85, _⟩ => ⟨S8x8192x4, .f32⟩
  | .hbm, ⟨86, _⟩ => ⟨S8x8192x4, .f32⟩
  | .hbm, ⟨87, _⟩ => ⟨S8x8192x4, .f32⟩
  | .hbm, ⟨88, _⟩ => ⟨S8x8192x4, .f32⟩
  | .hbm, ⟨89, _⟩ => ⟨S_, .f32⟩
  | .hbm, ⟨90, _⟩ => ⟨S8x8192x4, .f32⟩
  | .hbm, ⟨91, _⟩ => ⟨S8x8192x4, .f32⟩
  | .hbm, ⟨92, _⟩ => ⟨S8x8192x4, .f32⟩
  | .hbm, ⟨93, _⟩ => ⟨S8x8192x4, .f32⟩
  | .hbm, ⟨94, _⟩ => ⟨S8x8192x4, .i1⟩
  | .hbm, ⟨95, _⟩ => ⟨S8x8192x4, .f32⟩
  | .hbm, ⟨96, _⟩ => ⟨S8x8192x4, .f32⟩
  | .hbm, ⟨97, _⟩ => ⟨S8x8192x4, .f32⟩
  | .hbm, ⟨98, _⟩ => ⟨S8x8192x4, .f32⟩
  | .hbm, ⟨99, _⟩ => ⟨S8x8192x4, .f32⟩
  | .hbm, ⟨100, _⟩ => ⟨S8x8192x4, .f32⟩
  | .hbm, ⟨101, _⟩ => ⟨S8x8192x4, .f32⟩
  | .hbm, ⟨102, _⟩ => ⟨S8x8192x4, .f32⟩
  | .hbm, ⟨103, _⟩ => ⟨S8x8192x4, .f32⟩
  | .hbm, ⟨104, _⟩ => ⟨S8x8192x16, .f32⟩
  | .hbm, ⟨105, _⟩ => ⟨S8x8192x512, .f32⟩
  | .hbm, ⟨106, _⟩ => ⟨S_, .f32⟩
  | .hbm, ⟨107, _⟩ => ⟨S8x8192x512, .f32⟩
  | .hbm, ⟨108, _⟩ => ⟨S8x8192x512, .f32⟩
  | .hbm, ⟨109, _⟩ => ⟨S8x8192x512, .bf16⟩
  | .hbm, ⟨110, _⟩ => ⟨S8x8192x128, .f32⟩
  | .hbm, ⟨111, _⟩ => ⟨S8x8192x128, .bf16⟩
  | .hbm, ⟨112, _⟩ => ⟨S8x8192x128, .bf16⟩
  | .hbm, ⟨113, _⟩ => ⟨S8x8192x1024, .f32⟩
  | .hbm, ⟨114, _⟩ => ⟨S8x8192x1024, .bf16⟩
  | .hbm, ⟨115, _⟩ => ⟨S8x8192x512, .bf16⟩
  | .hbm, ⟨116, _⟩ => ⟨S8x8192x512, .bf16⟩
  | .hbm, ⟨117, _⟩ => ⟨S8x16x8192, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_5 : Ref sig .tc := ⟨.hbm, 50, rfl⟩
abbrev main_v38 : Ref sig .tc := ⟨.hbm, 51, rfl⟩
abbrev main_v39 : Ref sig .tc := ⟨.hbm, 52, rfl⟩
abbrev main_cst_6 : Ref sig .tc := ⟨.hbm, 53, rfl⟩
abbrev main_v40 : Ref sig .tc := ⟨.hbm, 54, rfl⟩
abbrev main_v41 : Ref sig .tc := ⟨.hbm, 55, rfl⟩
abbrev main_cst_7 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_call0_v0 : Ref sig .tc := ⟨.hbm, 72, rfl⟩
abbrev main_call0_call0_cst : Ref sig .tc := ⟨.hbm, 73, rfl⟩
abbrev main_call0_call0_v0 : Ref sig .tc := ⟨.hbm, 74, rfl⟩
abbrev main_call0_call0_v1 : Ref sig .tc := ⟨.hbm, 75, rfl⟩
abbrev main_call0_call0_v2 : Ref sig .tc := ⟨.hbm, 76, rfl⟩
abbrev main_call0_call0_v3 : Ref sig .tc := ⟨.hbm, 77, rfl⟩
abbrev main_call0_call0_v4 : Ref sig .tc := ⟨.hbm, 78, rfl⟩
abbrev main_call0_call0_v5 : Ref sig .tc := ⟨.hbm, 79, rfl⟩
abbrev main_call0_call0_v6 : Ref sig .tc := ⟨.hbm, 80, rfl⟩
abbrev main_call0_call0_v7 : Ref sig .tc := ⟨.hbm, 81, rfl⟩
abbrev main_call0_call0_v8 : Ref sig .tc := ⟨.hbm, 82, rfl⟩
abbrev main_call0_call0_v9 : Ref sig .tc := ⟨.hbm, 83, rfl⟩
abbrev main_call0_call0_v10 : Ref sig .tc := ⟨.hbm, 84, rfl⟩
abbrev main_call0_call0_v11 : Ref sig .tc := ⟨.hbm, 85, rfl⟩
abbrev main_call0_v1 : Ref sig .tc := ⟨.hbm, 86, rfl⟩
abbrev main_v57 : Ref sig .tc := ⟨.hbm, 87, rfl⟩
abbrev main_call1_v0 : Ref sig .tc := ⟨.hbm, 88, rfl⟩
abbrev main_call1_call0_cst : Ref sig .tc := ⟨.hbm, 89, rfl⟩
abbrev main_call1_call0_v0 : Ref sig .tc := ⟨.hbm, 90, rfl⟩
abbrev main_call1_call0_v1 : Ref sig .tc := ⟨.hbm, 91, rfl⟩
abbrev main_call1_call0_v2 : Ref sig .tc := ⟨.hbm, 92, rfl⟩
abbrev main_call1_call0_v3 : Ref sig .tc := ⟨.hbm, 93, rfl⟩
abbrev main_call1_call0_v4 : Ref sig .tc := ⟨.hbm, 94, rfl⟩
abbrev main_call1_call0_v5 : Ref sig .tc := ⟨.hbm, 95, rfl⟩
abbrev main_call1_call0_v6 : Ref sig .tc := ⟨.hbm, 96, rfl⟩
abbrev main_call1_call0_v7 : Ref sig .tc := ⟨.hbm, 97, rfl⟩
abbrev main_call1_call0_v8 : Ref sig .tc := ⟨.hbm, 98, rfl⟩
abbrev main_call1_call0_v9 : Ref sig .tc := ⟨.hbm, 99, rfl⟩
abbrev main_call1_call0_v10 : Ref sig .tc := ⟨.hbm, 100, rfl⟩
abbrev main_call1_call0_v11 : Ref sig .tc := ⟨.hbm, 101, rfl⟩
abbrev main_call1_v1 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_cst_8 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩

abbrev nD : Nat := 1
abbrev τ : Topo := Topo.v7x

variable {F : FTy → Type} [FloatOps F]
-- ==== Memkv.lean ====
abbrev S8x256x1024 : Shape := ⟨3, ![8, 256, 1024]⟩
abbrev S1024 : Shape := ⟨1, ![1024]⟩
abbrev S1024x1024 : Shape := ⟨2, ![1024, 1024]⟩
abbrev S128 : Shape := ⟨1, ![128]⟩
abbrev S1x1024 : Shape := ⟨2, ![1, 1024]⟩
abbrev S1x128 : Shape := ⟨2, ![1, 128]⟩
abbrev S8x256x512 : Shape := ⟨3, ![8, 256, 512]⟩
abbrev S1x256x1024 : Shape := ⟨3, ![1, 256, 1024]⟩
abbrev S1x256x512 : Shape := ⟨3, ![1, 256, 512]⟩
abbrev S256x1024 : Shape := ⟨2, ![256, 1024]⟩
abbrev S256 : Shape := ⟨1, ![256]⟩
abbrev S256x1 : Shape := ⟨2, ![256, 1]⟩
abbrev S256x128 : Shape := ⟨2, ![256, 128]⟩
abbrev S1x256x128 : Shape := ⟨3, ![1, 256, 128]⟩
abbrev S256x512 : Shape := ⟨2, ![256, 512]⟩

abbrev nBuf : Space → Nat
  | .hbm => 9
  | .vmem => 9
  | .smem => 0
  | _ => 0

abbrev bufTy : (tb : Table) → Fin (tcTables nBuf tb) → BufTy
  | .hbm, ⟨0, _⟩ => ⟨S8x256x1024, .f32⟩
  | .hbm, ⟨1, _⟩ => ⟨S1024, .f32⟩
  | .hbm, ⟨2, _⟩ => ⟨S1024x1024, .f32⟩
  | .hbm, ⟨3, _⟩ => ⟨S128, .f32⟩
  | .hbm, ⟨4, _⟩ => ⟨S1x1024, .f32⟩
  | .hbm, ⟨5, _⟩ => ⟨S1024x1024, .bf16⟩
  | .hbm, ⟨6, _⟩ => ⟨S1x128, .f32⟩
  | .hbm, ⟨7, _⟩ => ⟨S8x256x512, .bf16⟩
  | .hbm, ⟨8, _⟩ => ⟨S8x256x512, .bf16⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1024x1024, .bf16⟩
  | .local _ .vmem, ⟨4, _⟩ => ⟨S1x128, .f32⟩
  | .local _ .vmem, ⟨5, _⟩ => ⟨S1x256x512, .bf16⟩
  | .local _ .vmem, ⟨6, _⟩ => ⟨S1x256x512, .bf16⟩
  | .local _ .vmem, ⟨7, _⟩ => ⟨S1x256x512, .bf16⟩
  | .local _ .vmem, ⟨8, _⟩ => ⟨S1x256x512, .bf16⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MemkvRefIdeal.lean ====
abbrev S8x256x1024 : Shape := ⟨3, ![8, 256, 1024]⟩
abbrev S1024 : Shape := ⟨1, ![1024]⟩
abbrev S1024x1024 : Shape := ⟨2, ![1024, 1024]⟩
abbrev S128 : Shape := ⟨1, ![128]⟩
abbrev S_ : Shape := ⟨0, ![]⟩
abbrev S8x256 : Shape := ⟨2, ![8, 256]⟩
abbrev S8x256x1 : Shape := ⟨3, ![8, 256, 1]⟩
abbrev S1x1x1024 : Shape := ⟨3, ![1, 1, 1024]⟩
abbrev S8x256x512 : Shape := ⟨3, ![8, 256, 512]⟩
abbrev S8x256x4x128 : Shape := ⟨4, ![8, 256, 4, 128]⟩
abbrev S8x256x4 : Shape := ⟨3, ![8, 256, 4]⟩
abbrev S8x256x4x1 : Shape := ⟨4, ![8, 256, 4, 1]⟩
abbrev S1x1x1x128 : Shape := ⟨4, ![1, 1, 1, 128]⟩

abbrev nBuf : Space → Nat
  | .hbm => 43
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S1024, .f32⟩
  | .hbm, ⟨2, _⟩ => ⟨S1024x1024, .f32⟩
  | .hbm, ⟨3, _⟩ => ⟨S128, .f32⟩
  | .hbm, ⟨4, _⟩ => ⟨S8x256x1024, .f32⟩
  | .hbm, ⟨5, _⟩ => ⟨S_, .f32⟩
  | .hbm, ⟨6, _⟩ => ⟨S8x256, .f32⟩
  | .hbm, ⟨7, _⟩ => ⟨S8x256x1, .f32⟩
  | .hbm, ⟨8, _⟩ => ⟨S_, .f32⟩
  | .hbm, ⟨9, _⟩ => ⟨S8x256x1, .f32⟩
  | .hbm, ⟨10, _⟩ => ⟨S8x256x1, .f32⟩
  | .hbm, ⟨11, _⟩ => ⟨S_, .f32⟩
  | .hbm, ⟨12, _⟩ => ⟨S8x256x1, .f32⟩
  | .hbm, ⟨13, _⟩ => ⟨S8x256x1, .f32⟩
  | .hbm, ⟨14, _⟩ => ⟨S8x256x1, .f32⟩
  | .hbm, ⟨15, _⟩ => ⟨S8x256x1024, .f32⟩
  | .hbm, ⟨16, _⟩ => ⟨S8x256x1024, .f32⟩
  | .hbm, ⟨17, _⟩ => ⟨S1x1x1024, .f32⟩
  | .hbm, ⟨18, _⟩ => ⟨S8x256x1024, .f32⟩
  | .hbm, ⟨19, _⟩ => ⟨S8x256x1024, .f32⟩
  | .hbm, ⟨20, _⟩ => ⟨S8x256x1024, .f32⟩
  | .hbm, ⟨21, _⟩ => ⟨S8x256x512, .f32⟩
  | .hbm, ⟨22, _⟩ => ⟨S8x256x512, .f32⟩
  | .hbm, ⟨23, _⟩ => ⟨S8x256x4x128, .f32⟩
  | .hbm, ⟨24, _⟩ => ⟨S8x256x4x128, .f32⟩
  | .hbm, ⟨25, _⟩ => ⟨S_, .f32⟩
  | .hbm, ⟨26, _⟩ => ⟨S8x256x4, .f32⟩
  | .hbm, ⟨27, _⟩ => ⟨S8x256x4x1, .f32⟩
  | .hbm, ⟨28, _⟩ => ⟨S_, .f32⟩
  | .hbm, ⟨29, _⟩ => ⟨S8x256x4x1, .f32⟩
  | .hbm, ⟨30, _⟩ => ⟨S8x256x4x1, .f32⟩
  | .hbm, ⟨31, _⟩ => ⟨S_, .f32⟩
  | .hbm, ⟨32, _⟩ => ⟨S8x256x4x1, .f32⟩
  | .hbm, ⟨33, _⟩ => ⟨S8x256x4x1, .f32⟩
  | .hbm, ⟨34, _⟩ => ⟨S8x256x4x1, .f32⟩
  | .hbm, ⟨35, _⟩ => ⟨S8x256x4x128, .f32⟩
  | .hbm, ⟨36, _⟩ => ⟨S8x256x4x128, .f32⟩
  | .hbm, ⟨37, _⟩ => ⟨S1x1x1x128, .f32⟩
  | .hbm, ⟨38, _⟩ => ⟨S8x256x4x128, .f32⟩
  | .hbm, ⟨39, _⟩ => ⟨S8x256x4x128, .f32⟩
  | .hbm, ⟨40, _⟩ => ⟨S8x256x512, .f32⟩
  | .hbm, ⟨41, _⟩ => ⟨S8x256x512, .bf16⟩
  | .hbm, ⟨42, _⟩ => ⟨S8x256x512, .bf16⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩

abbrev nD : Nat := 1
abbrev τ : Topo := Topo.v7x

variable {F : FTy → Type} [FloatOps F]
-- ==== Mix.lean ====
abbrev S8x8192x1024 : Shape := ⟨3, ![8, 8192, 1024]⟩
abbrev S8x8192x512 : Shape := ⟨3, ![8, 8192, 512]⟩
abbrev S512 : Shape := ⟨1, ![512]⟩
abbrev S1024x1024 : Shape := ⟨2, ![1024, 1024]⟩
abbrev S1024 : Shape := ⟨1, ![1024]⟩
abbrev S1024x512 : Shape := ⟨2, ![1024, 512]⟩
abbrev S128 : Shape := ⟨1, ![128]⟩
abbrev S8x256x512 : Shape := ⟨3, ![8, 256, 512]⟩
abbrev S512x1024 : Shape := ⟨2, ![512, 1024]⟩
abbrev S1024x16 : Shape := ⟨2, ![1024, 16]⟩
abbrev S16 : Shape := ⟨1, ![16]⟩
abbrev S1x512 : Shape := ⟨2, ![1, 512]⟩
abbrev S1x1024 : Shape := ⟨2, ![1, 1024]⟩
abbrev S1x128 : Shape := ⟨2, ![1, 128]⟩
abbrev S1x16 : Shape := ⟨2, ![1, 16]⟩
abbrev S16x1024 : Shape := ⟨2, ![16, 1024]⟩
abbrev S16x1 : Shape := ⟨2, ![16, 1]⟩
abbrev S8x8192x1152 : Shape := ⟨3, ![8, 8192, 1152]⟩
abbrev S8x16x8192 : Shape := ⟨3, ![8, 16, 8192]⟩
abbrev S1x256x1024 : Shape := ⟨3, ![1, 256, 1024]⟩
abbrev S1x256x512 : Shape := ⟨3, ![1, 256, 512]⟩
abbrev S1x256x1152 : Shape := ⟨3, ![1, 256, 1152]⟩
abbrev S1x16x256 : Shape := ⟨3, ![1, 16, 256]⟩
abbrev S256x1024 : Shape := ⟨2, ![256, 1024]⟩
abbrev S256x512 : Shape := ⟨2, ![256, 512]⟩
abbrev S256x128 : Shape := ⟨2, ![256, 128]⟩
abbrev S256 : Shape := ⟨1, ![256]⟩
abbrev S256x1 : Shape := ⟨2, ![256, 1]⟩
abbrev S256x256 : Shape := ⟨2, ![256, 256]⟩
abbrev S256x16 : Shape := ⟨2, ![256, 16]⟩
abbrev S16x256 : Shape := ⟨2, ![16, 256]⟩
abbrev S1x256 : Shape := ⟨2, ![1, 256]⟩
abbrev S256x112 : Shape := ⟨2, ![256, 112]⟩
abbrev S1x256x128 : Shape := ⟨3, ![1, 256, 128]⟩

abbrev nBuf : Space → Nat
  | .hbm => 33
  | .vmem => 31
  | .smem => 0
  | _ => 0

abbrev bufTy : (tb : Table) → Fin (tcTables nBuf tb) → BufTy
  | .hbm, ⟨0, _⟩ => ⟨S8x8192x1024, .f32⟩
  | .hbm, ⟨1, _⟩ => ⟨S8x8192x512, .f32⟩
  | .hbm, ⟨2, _⟩ => ⟨S8x8192x512, .f32⟩
  | .hbm, ⟨3, _⟩ => ⟨S8x8192x512, .f32⟩
  | .hbm, ⟨4, _⟩ => ⟨S8x8192x512, .f32⟩
  | .hbm, ⟨5, _⟩ => ⟨S512, .f32⟩
  | .hbm, ⟨6, _⟩ => ⟨S1024x1024, .f32⟩
  | .hbm, ⟨7, _⟩ => ⟨S1024, .f32⟩
  | .hbm, ⟨8, _⟩ => ⟨S1024x512, .f32⟩
  | .hbm, ⟨9, _⟩ => ⟨S128, .f32⟩
  | .hbm, ⟨10, _⟩ => ⟨S8x256x512, .f32⟩
  | .hbm, ⟨11, _⟩ => ⟨S8x256x512, .f32⟩
  | .hbm, ⟨12, _⟩ => ⟨S512x1024, .f32⟩
  | .hbm, ⟨13, _⟩ => ⟨S1024, .f32⟩
  | .hbm, ⟨14, _⟩ => ⟨S1024x16, .f32⟩
  | .hbm, ⟨15, _⟩ => ⟨S16, .f32⟩
  | .hbm, ⟨16, _⟩ => ⟨S8x8192x512, .bf16⟩
  | .hbm, ⟨17, _⟩ => ⟨S8x8192x512, .bf16⟩
  | .hbm, ⟨18, _⟩ => ⟨S1x512, .f32⟩
  | .hbm, ⟨19, _⟩ => ⟨S1024x1024, .bf16⟩
  | .hbm, ⟨20, _⟩ => ⟨S1x1024, .f32⟩
  | .hbm, ⟨21, _⟩ => ⟨S1024x512, .bf16⟩
  | .hbm, ⟨22, _⟩ => ⟨S1x128, .f32⟩
  | .hbm, ⟨23, _⟩ => ⟨S8x256x512, .bf16⟩
  | .hbm, ⟨24, _⟩ => ⟨S8x256x512, .bf16⟩
  | .hbm, ⟨25, _⟩ => ⟨S512x1024, .bf16⟩
  | .hbm, ⟨26, _⟩ => ⟨S1x1024, .f32⟩
  | .hbm, ⟨27, _⟩ => ⟨S1x16, .f32⟩
  | .hbm, ⟨28, _⟩ => ⟨S16x1024, .f32⟩
  | .hbm, ⟨29, _⟩ => ⟨S16x1, .f32⟩
  | .hbm, ⟨30, _⟩ => ⟨S8x8192x1024, .f32⟩
  | .hbm, ⟨31, _⟩ => ⟨S8x8192x1152, .f32⟩
  | .hbm, ⟨32, _⟩ => ⟨S8x16x8192, .f32⟩
  | .local _ .vmem, ⟨0, _⟩ => ⟨S1x256x1024, .f32⟩
  | .local _ .vmem, ⟨1, _⟩ => ⟨S1x256x1024, .f32⟩
  | .local _ .vmem, ⟨2, _⟩ => ⟨S1x256x512, .bf16⟩
  | .local _ .vmem, ⟨3, _⟩ => ⟨S1x256x512, .bf16⟩
  | .local _ .vmem, ⟨4, _⟩ => ⟨S1x256x512, .f32⟩
  | .local _ .vmem, ⟨5, _⟩ => ⟨S1x256x512, .f32⟩
  | .local _ .vmem, ⟨6, _⟩ => ⟨S1x256x512, .f32⟩
  | .local _ .vmem, ⟨7, _⟩ => ⟨S1x256x512, .f32⟩
  | .local _ .vmem, ⟨8, _⟩ => ⟨S1x256x512, .bf16⟩
  | .local _ .vmem, ⟨9, _⟩ => ⟨S1x256x512, .bf16⟩
  | .local _ .vmem, ⟨10, _⟩ => ⟨S1x512, .f32⟩
  | .local _ .vmem, ⟨11, _⟩ => ⟨S1024x1024, .bf16⟩
  | .local _ .vmem, ⟨12, _⟩ => ⟨S1x1024, .f32⟩
  | .local _ .vmem, ⟨13, _⟩ => ⟨S1024x512, .bf16⟩
  | .local _ .vmem, ⟨14, _⟩ => ⟨S1x128, .f32⟩
  | .local _ .vmem, ⟨15, _⟩ => ⟨S1x256x512, .bf16⟩
  | .local _ .vmem, ⟨16, _⟩ => ⟨S1x256x512, .bf16⟩
  | .local _ .vmem, ⟨17, _⟩ => ⟨S1x256x512, .bf16⟩
  | .local _ .vmem, ⟨18, _⟩ => ⟨S1x256x512, .bf16⟩
  | .local _ .vmem, ⟨19, _⟩ => ⟨S512x1024, .bf16⟩
  | .local _ .vmem, ⟨20, _⟩ => ⟨S1x1024, .f32⟩
  | .local _ .vmem, ⟨21, _⟩ => ⟨S1024x16, .f32⟩
  | .local _ .vmem, ⟨22, _⟩ => ⟨S16x1024, .f32⟩
  | .local _ .vmem, ⟨23, _⟩ => ⟨S1x16, .f32⟩
  | .local _ .vmem, ⟨24, _⟩ => ⟨S16x1, .f32⟩
  | .local _ .vmem, ⟨25, _⟩ => ⟨S1x256x1024, .f32⟩
  | .local _ .vmem, ⟨26, _⟩ => ⟨S1x256x1024, .f32⟩
  | .local _ .vmem, ⟨27, _⟩ => ⟨S1x256x1152, .f32⟩
  | .local _ .vmem, ⟨28, _⟩ => ⟨S1x256x1152, .f32⟩
  | .local _ .vmem, ⟨29, _⟩ => ⟨S1x16x256, .f32⟩
  | .local _ .vmem, ⟨30, _⟩ => ⟨S1x16x256, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14_0 : Ref sig .tc := ⟨.hbm, 30, rfl⟩
abbrev main_v14_1 : Ref sig .tc := ⟨.hbm, 31, rfl⟩
abbrev main_v14_2 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg16_0 : Ref sig .tc := ⟨.vmem, 23, rfl⟩
abbrev cc0_stg17_0 : Ref sig .tc := ⟨.vmem, 24, rfl⟩
abbrev cc0_stg18_0 : Ref sig .tc := ⟨.vmem, 25, rfl⟩
abbrev cc0_stg18_1 : Ref sig .tc := ⟨.vmem, 26, rfl⟩
abbrev cc0_stg19_0 : Ref sig .tc := ⟨.vmem, 27, rfl⟩
abbrev cc0_stg19_1 : Ref sig .tc := ⟨.vmem, 28, rfl⟩
abbrev cc0_stg20_0 : Ref sig .tc := ⟨.vmem, 29, rfl⟩
abbrev cc0_stg20_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem16_0 : DmaSem sig := 23
abbrev cc0_sem17_0 : DmaSem sig := 24
abbrev cc0_sem18_0 : DmaSem sig := 25
abbrev cc0_sem18_1 : DmaSem sig := 26
abbrev cc0_sem19_0 : DmaSem sig := 27
abbrev cc0_sem19_1 : DmaSem sig := 28
abbrev cc0_sem20_0 : DmaSem sig := 29
abbrev cc0_sem20_1 : DmaSem sig := 30

abbrev nD : Nat := 1
abbrev τ : Topo := Topo.v7x

variable {F : FTy → Type} [FloatOps F]

abbrev grid0 : Pipeline.Grid := ⟨2, ![8, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 1 → Memref sig .tc .vmem S512x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1024x16 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S16x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x16 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S16x1 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 2 → Memref sig .tc .vmem S1x256x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x256x1152 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x16x256 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]
-- ==== MixRefIdeal.lean ====
abbrev S8x8192x1024 : Shape := ⟨3, ![8, 8192, 1024]⟩
abbrev S8x8192x512 : Shape := ⟨3, ![8, 8192, 512]⟩
abbrev S512 : Shape := ⟨1, ![512]⟩
abbrev S1024x1024 : Shape := ⟨2, ![1024, 1024]⟩
abbrev S1024 : Shape := ⟨1, ![1024]⟩
abbrev S1024x512 : Shape := ⟨2, ![1024, 512]⟩
abbrev S128 : Shape := ⟨1, ![128]⟩
abbrev S8x256x512 : Shape := ⟨3, ![8, 256, 512]⟩
abbrev S512x1024 : Shape := ⟨2, ![512, 1024]⟩
abbrev S1024x16 : Shape := ⟨2, ![1024, 16]⟩
abbrev S16 : Shape := ⟨1, ![16]⟩
abbrev S8x8192x4x128 : Shape := ⟨4, ![8, 8192, 4, 128]⟩
abbrev S4x128 : Shape := ⟨2, ![4, 128]⟩
abbrev S_ : Shape := ⟨0, ![]⟩
abbrev S8x8192x4 : Shape := ⟨3, ![8, 8192, 4]⟩
abbrev S8x8192x4x1 : Shape := ⟨4, ![8, 8192, 4, 1]⟩
abbrev S1x1x4x128 : Shape := ⟨4, ![1, 1, 4, 128]⟩
abbrev S8x8192 : Shape := ⟨2, ![8, 8192]⟩
abbrev S8x8192x1 : Shape := ⟨3, ![8, 8192, 1]⟩
abbrev S1x1x1024 : Shape := ⟨3, ![1, 1, 1024]⟩
abbrev S1x1x1x128 : Shape := ⟨4, ![1, 1, 1, 128]⟩
abbrev S8x256x4x128 : Shape := ⟨4, ![8, 256, 4, 128]⟩
abbrev S8x4x8192x256 : Shape := ⟨4, ![8, 4, 8192, 256]⟩
abbrev S8x4x8192 : Shape := ⟨3, ![8, 4, 8192]⟩
abbrev S8x4x8192x1 : Shape := ⟨4, ![8, 4, 8192, 1]⟩
abbrev S8x4x128x8192 : Shape := ⟨4, ![8, 4, 128, 8192]⟩
abbrev S8x8192x16 : Shape := ⟨3, ![8, 8192, 16]⟩
abbrev S1x1x16 : Shape := ⟨3, ![1, 1, 16]⟩
abbrev S8x8192x112 : Shape := ⟨3, ![8, 8192, 112]⟩
abbrev S8x8192x1152 : Shape := ⟨3, ![8, 8192, 1152]⟩
abbrev S8x16x8192 : Shape := ⟨3, ![8, 16, 8192]⟩

abbrev nBuf : Space → Nat
  | .hbm => 145
  | .vmem => 0
  | .smem => 0
  | _ => 0

abbrev hbmTy0_0 (i : Nat) : BufTy := match i % 128 with
  | 0 => ⟨S8x8192x1024, .f32⟩
  | 1 => ⟨S8x8192x512, .f32⟩
  | 2 => ⟨S8x8192x512, .f32⟩
  | 3 => ⟨S8x8192x512, .f32⟩
  | 4 => ⟨S8x8192x512, .f32⟩
  | 5 => ⟨S512, .f32⟩
  | 6 => ⟨S1024x1024, .f32⟩
  | 7 => ⟨S1024, .f32⟩
  | 8 => ⟨S1024x512, .f32⟩
  | 9 => ⟨S128, .f32⟩
  | 10 => ⟨S8x256x512, .f32⟩
  | 11 => ⟨S8x256x512, .f32⟩
  | 12 => ⟨S512x1024, .f32⟩
  | 13 => ⟨S1024, .f32⟩
  | 14 => ⟨S1024x16, .f32⟩
  | 15 => ⟨S16, .f32⟩
  | 16 => ⟨S8x8192x512, .f32⟩
  | 17 => ⟨S8x8192x4x128, .f32⟩
  | 18 => ⟨S4x128, .f32⟩
  | 19 => ⟨S8x8192x4x128, .f32⟩
  | 20 => ⟨S_, .f32⟩
  | 21 => ⟨S8x8192x4, .f32⟩
  | 22 => ⟨S8x8192x4x1, .f32⟩
  | 23 => ⟨S_, .f32⟩
  | 24 => ⟨S8x8192x4x1, .f32⟩
  | 25 => ⟨S8x8192x4x1, .f32⟩
  | 26 => ⟨S_, .f32⟩
  | 27 => ⟨S8x8192x4x1, .f32⟩
  | 28 => ⟨S8x8192x4x1, .f32⟩
  | 29 => ⟨S8x8192x4x1, .f32⟩
  | 30 => ⟨S8x8192x4x128, .f32⟩
  | 31 => ⟨S8x8192x4x128, .f32⟩
  | 32 => ⟨S1x1x4x128, .f32⟩
  | 33 => ⟨S8x8192x4x128, .f32⟩
  | 34 => ⟨S8x8192x4x128, .f32⟩
  | 35 => ⟨S8x8192x512, .f32⟩
  | 36 => ⟨S8x8192x512, .f32⟩
  | 37 => ⟨S8x8192x512, .f32⟩
  | 38 => ⟨S_, .f32⟩
  | 39 => ⟨S8x8192x512, .f32⟩
  | 40 => ⟨S8x8192x512, .f32⟩
  | 41 => ⟨S_, .f32⟩
  | 42 => ⟨S8x8192x512, .f32⟩
  | 43 => ⟨S8x8192x512, .f32⟩
  | 44 => ⟨S8x8192x512, .f32⟩
  | 45 => ⟨S8x8192x1024, .f32⟩
  | 46 => ⟨S8x8192x1024, .f32⟩
  | 47 => ⟨S8x8192x1024, .f32⟩
  | 48 => ⟨S8x8192x1024, .f32⟩
  | 49 => ⟨S_, .f32⟩
  | 50 => ⟨S8x8192, .f32⟩
  | 51 => ⟨S8x8192x1, .f32⟩
  | 52 => ⟨S_, .f32⟩
  | 53 => ⟨S8x8192x1, .f32⟩
  | 54 => ⟨S8x8192x1, .f32⟩
  | 55 => ⟨S_, .f32⟩
  | 56 => ⟨S8x8192x1, .f32⟩
  | 57 => ⟨S8x8192x1, .f32⟩
  | 58 => ⟨S8x8192x1, .f32⟩
  | 59 => ⟨S8x8192x1024, .f32⟩
  | 60 => ⟨S8x8192x1024, .f32⟩
  | 61 => ⟨S1x1x1024, .f32⟩
  | 62 => ⟨S8x8192x1024, .f32⟩
  | 63 => ⟨S8x8192x1024, .f32⟩
  | 64 => ⟨S8x8192x512, .f32⟩
  | 65 => ⟨S8x8192x4x128, .f32⟩
  | 66 => ⟨S8x8192x4x128, .f32⟩
  | 67 => ⟨S_, .f32⟩
  | 68 => ⟨S8x8192x4, .f32⟩
  | 69 => ⟨S8x8192x4x1, .f32⟩
  | 70 => ⟨S_, .f32⟩
  | 71 => ⟨S8x8192x4x1, .f32⟩
  | 72 => ⟨S8x8192x4x1, .f32⟩
  | 73 => ⟨S_, .f32⟩
  | 74 => ⟨S8x8192x4x1, .f32⟩
  | 75 => ⟨S8x8192x4x1, .f32⟩
  | 76 => ⟨S8x8192x4x1, .f32⟩
  | 77 => ⟨S8x8192x4x128, .f32⟩
  | 78 => ⟨S8x8192x4x128, .f32⟩
  | 79 => ⟨S1x1x1x128, .f32⟩
  | 80 => ⟨S8x8192x4x128, .f32⟩
  | 81 => ⟨S8x8192x4x128, .f32⟩
  | 82 => ⟨S8x256x4x128, .f32⟩
  | 83 => ⟨S8x256x4x128, .f32⟩
  | 84 => ⟨S8x4x8192x256, .f32⟩
  | 85 => ⟨S_, .f32⟩
  | 86 => ⟨S8x4x8192x256, .f32⟩
  | 87 => ⟨S8x4x8192x256, .f32⟩
  | 88 => ⟨S_, .f32⟩
  | 89 => ⟨S8x4x8192, .f32⟩
  | 90 => ⟨S_, .f32⟩
  | 91 => ⟨S8x4x8192, .f32⟩
  | 92 => ⟨S8x4x8192, .f32⟩
  | 93 => ⟨S8x4x8192x1, .f32⟩
  | 94 => ⟨S8x4x8192x256, .f32⟩
  | 95 => ⟨S8x4x8192x256, .f32⟩
  | 96 => ⟨S8x4x8192x256, .f32⟩
  | 97 => ⟨S_, .f32⟩
  | 98 => ⟨S8x4x8192, .f32⟩
  | 99 => ⟨S8x4x8192x1, .f32⟩
  | 100 => ⟨S8x4x8192x256, .f32⟩
  | 101 => ⟨S8x4x8192x256, .f32⟩
  | 102 => ⟨S8x4x128x8192, .f32⟩
  | 103 => ⟨S8x8192x4x128, .f32⟩
  | 104 => ⟨S8x8192x512, .f32⟩
  | 105 => ⟨S8x8192x1024, .f32⟩
  | 106 => ⟨S8x8192x1024, .f32⟩
  | 107 => ⟨S8x8192x1024, .f32⟩
  | 108 => ⟨S_, .f32⟩
  | 109 => ⟨S8x8192, .f32⟩
  | 110 => ⟨S8x8192x1, .f32⟩
  | 111 => ⟨S_, .f32⟩
  | 112 => ⟨S8x8192x1, .f32⟩
  | 113 => ⟨S8x8192x1, .f32⟩
  | 114 => ⟨S_, .f32⟩
  | 115 => ⟨S8x8192x1, .f32⟩
  | 116 => ⟨S8x8192x1, .f32⟩
  | 117 => ⟨S8x8192x1, .f32⟩
  | 118 => ⟨S8x8192x1024, .f32⟩
  | 119 => ⟨S8x8192x1024, .f32⟩
  | 120 => ⟨S1x1x1024, .f32⟩
  | 121 => ⟨S8x8192x1024, .f32⟩
  | 122 => ⟨S8x8192x1024, .f32⟩
  | 123 => ⟨S8x8192x16, .f32⟩
  | 124 => ⟨S1x1x16, .f32⟩
  | 125 => ⟨S8x8192x16, .f32⟩
  | 126 => ⟨S8x8192x16, .f32⟩
  | 127 => ⟨S_, .f32⟩
  | _ => ⟨S8x8192x1024, .f32⟩

abbrev hbmTy0_1 (i : Nat) : BufTy := match i % 128 with
  | 0 => ⟨S8x8192, .f32⟩
  | 1 => ⟨S_, .f32⟩
  | 2 => ⟨S8x8192, .f32⟩
  | 3 => ⟨S8x8192, .f32⟩
  | 4 => ⟨S8x8192x1, .f32⟩
  | 5 => ⟨S8x8192x16, .f32⟩
  | 6 => ⟨S8x8192x16, .f32⟩
  | 7 => ⟨S8x8192x16, .f32⟩
  | 8 => ⟨S_, .f32⟩
  | 9 => ⟨S8x8192, .f32⟩
  | 10 => ⟨S8x8192x1, .f32⟩
  | 11 => ⟨S8x8192x16, .f32⟩
  | 12 => ⟨S8x8192x16, .f32⟩
  | 13 => ⟨S_, .f32⟩
  | 14 => ⟨S8x8192x112, .f32⟩
  | 15 => ⟨S8x8192x1152, .f32⟩
  | 16 => ⟨S8x16x8192, .f32⟩
  | _ => ⟨S8x8192x1024, .f32⟩

abbrev hbmTy (i : Nat) : BufTy := match i / 128 with
  | 0 => hbmTy0_0 i
  | 1 => hbmTy0_1 i
  | _ => ⟨S8x8192x1024, .f32⟩

abbrev bufTy : (tb : Table) → Fin (tcTables nBuf tb) → BufTy
  | .hbm, ⟨i, _⟩ => hbmTy i
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_v5 : Ref sig .tc := ⟨.hbm, 22, rfl⟩
abbrev main_cst_0 : Ref sig .tc := ⟨.hbm, 23, rfl⟩
abbrev main_v6 : Ref sig .tc := ⟨.hbm, 24, rfl⟩
abbrev main_v7 : Ref sig .tc := ⟨.hbm, 25, rfl⟩
abbrev main_cst_1 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_2 : Ref sig .tc := ⟨.hbm, 38, rfl⟩
abbrev main_v19 : Ref sig .tc := ⟨.hbm, 39, rfl⟩
abbrev main_v20 : Ref sig .tc := ⟨.hbm, 40, rfl⟩
abbrev main_cst_3 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_4 : Ref sig .tc := ⟨.hbm, 49, rfl⟩
abbrev main_v28 : Ref sig .tc := ⟨.hbm, 50, rfl⟩
abbrev main_v29 : Ref sig .tc := ⟨.hbm, 51, rfl⟩
abbrev main_cst_5 : Ref sig .tc := ⟨.hbm, 52, rfl⟩
abbrev main_v30 : Ref sig .tc := ⟨.hbm, 53, rfl⟩
abbrev main_v31 : Ref sig .tc := ⟨.hbm, 54, rfl⟩
abbrev main_cst_6 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_7 : Ref sig .tc := ⟨.hbm, 67, rfl⟩
abbrev main_v43 : Ref sig .tc := ⟨.hbm, 68, rfl⟩
abbrev main_v44 : Ref sig .tc := ⟨.hbm, 69, rfl⟩
abbrev main_cst_8 : Ref sig .tc := ⟨.hbm, 70, rfl⟩
abbrev main_v45 : Ref sig .tc := ⟨.hbm, 71, rfl⟩
abbrev main_v46 : Ref sig .tc := ⟨.hbm, 72, rfl⟩
abbrev main_cst_9 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_10 : Ref sig .tc := ⟨.hbm, 85, rfl⟩
abbrev main_v58 : Ref sig .tc := ⟨.hbm, 86, rfl⟩
abbrev main_v59 : Ref sig .tc := ⟨.hbm, 87, rfl⟩
abbrev main_cst_11 : Ref sig .tc := ⟨.hbm, 88, rfl⟩
abbrev main_v60 : Ref sig .tc := ⟨.hbm, 89, rfl⟩
abbrev main_cst_12 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_cst_13 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_cst_14 : Ref sig .tc := ⟨.hbm, 108, rfl⟩
abbrev main_v77 : Ref sig .tc := ⟨.hbm, 109, rfl⟩
abbrev main_v78 : Ref sig .tc := ⟨.hbm, 110, rfl⟩
abbrev main_cst_15 : Ref sig .tc := ⟨.hbm, 111, rfl⟩
abbrev main_v79 : Ref sig .tc := ⟨.hbm, 112, rfl⟩
abbrev main_v80 : Ref sig .tc := ⟨.hbm, 113, rfl⟩
abbrev main_cst_16 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_cst_17 : Ref sig .tc := ⟨.hbm, 127, rfl⟩
abbrev main_v93 : Ref sig .tc := ⟨.hbm, 128, rfl⟩
abbrev main_cst_18 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_cst_19 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_cst_20 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩

abbrev nD : Nat := 1
abbrev τ : Topo := Topo.v7x

variable {F : FTy → Type} [FloatOps F]
-- ==== Ffn.lean ====
abbrev S8x16x1024 : Shape := ⟨3, ![8, 16, 1024]⟩
abbrev S8x8192x1152 : Shape := ⟨3, ![8, 8192, 1152]⟩
abbrev S8x8192x1024 : Shape := ⟨3, ![8, 8192, 1024]⟩
abbrev S16x1024x1024 : Shape := ⟨3, ![16, 1024, 1024]⟩
abbrev S65536x1152 : Shape := ⟨2, ![65536, 1152]⟩
abbrev S65536x1024 : Shape := ⟨2, ![65536, 1024]⟩
abbrev S128x1x1024 : Shape := ⟨3, ![128, 1, 1024]⟩
abbrev S1x1x1024 : Shape := ⟨3, ![1, 1, 1024]⟩
abbrev S1x1024x1024 : Shape := ⟨3, ![1, 1024, 1024]⟩
abbrev S1024x1152 : Shape := ⟨2, ![1024, 1152]⟩
abbrev S1024x1024 : Shape := ⟨2, ![1024, 1024]⟩
abbrev S3 : Shape := ⟨1, ![3]⟩
abbrev S1x1x1 : Shape := ⟨3, ![1, 1, 1]⟩
abbrev S1 : Shape := ⟨1, ![1]⟩
abbrev S_ : Shape := ⟨0, ![]⟩
abbrev S1x1152 : Shape := ⟨2, ![1, 1152]⟩
abbrev S1x1024 : Shape := ⟨2, ![1, 1024]⟩
abbrev S1x128 : Shape := ⟨2, ![1, 128]⟩
abbrev S256x1024 : Shape := ⟨2, ![256, 1024]⟩
abbrev S256x128 : Shape := ⟨2, ![256, 128]⟩
abbrev S256 : Shape := ⟨1, ![256]⟩
abbrev S256x1 : Shape := ⟨2, ![256, 1]⟩

abbrev nBuf : Space → Nat
  | .hbm => 13
  | .vmem => 8
  | .smem => 2
  | _ => 0

abbrev bufTy : (tb : Table) → Fin (tcTables nBuf tb) → BufTy
  | .hbm, ⟨0, _⟩ => ⟨S8x16x1024, .i32⟩
  | .hbm, ⟨1, _⟩ => ⟨S8x8192x1152, .f32⟩
  | .hbm, ⟨2, _⟩ => ⟨S8x8192x1024, .f32⟩
  | .hbm, ⟨3, _⟩ => ⟨S16x1024x1024, .f32⟩
  | .hbm, ⟨4, _⟩ => ⟨S16x1024x1024, .f32⟩
  | .hbm, ⟨5, _⟩ => ⟨S16x1024x1024, .f32⟩
  | .hbm, ⟨6, _⟩ => ⟨S65536x1152, .f32⟩
  | .hbm, ⟨7, _⟩ => ⟨S65536x1024, .f32⟩
  | .hbm, ⟨8, _⟩ => ⟨S16x1024x1024, .bf16⟩
  | .hbm, ⟨9, _⟩ => ⟨S16x1024x1024, .bf16⟩
  | .hbm, ⟨10, _⟩ => ⟨S16x1024x1024, .bf16⟩
  | .hbm, ⟨11, _⟩ => ⟨S128x1x1024, .i32⟩
  | .hbm, ⟨12, _⟩ => ⟨S65536x1024, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1152, .f32⟩
  | .local _ .vmem, ⟨7, _⟩ => ⟨S1024x1024, .f32⟩
  | .local _ .smem, ⟨0, _⟩ => ⟨S1x1x1024, .i32⟩
  | .local _ .smem, ⟨1, _⟩ => ⟨S1x1x1024, .i32⟩
  | _, _ => ⟨S8x16x1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_stg0_0 : Ref sig .tc := ⟨.smem, 0, rfl⟩
abbrev cc0_stg0_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 8], ![false, false]⟩

@[reducible] def k0_t1_loop : Scf.Loop 32 :=
  let c0_i32 : BitVec 32 := 0#32
  let c1024_i32 : BitVec 32 := 1024#32
  let v1 : BitVec 32 := Scalar.addi c0_i32 c1024_i32
  let c1_i32 : BitVec 32 := 1#32
  ⟨c0_i32, v1, c1_i32⟩
def k0_off1 (k0_t1 : Fin k0_t1_loop.trips) : Fin 3 → Nat :=
  let c0 : Index := 0#32
  let c0_18 : Index := 0#32
  let c0_i32_17 : BitVec 32 := 0#32
  let c0_i32 : BitVec 32 := 0#32
  let c1_i32 : BitVec 32 := 1#32
  let arg12 : BitVec 32 := Scf.iv c0_i32 c1_i32 k0_t1
  let c1_i32_16 : BitVec 32 := 1#32
  let v11 : BitVec 32 := Scalar.muli arg12 c1_i32_16
  let v12 : BitVec 32 := Scalar.addi c0_i32_17 v11
  let v13 : Index := Scalar.indexCast v12
  ![0, 0, v13.toNat]
def k0_off2 (k0_t1 : Fin k0_t1_loop.trips) : Fin 2 → Nat :=
  let c0_i32_17 : BitVec 32 := 0#32
  let c0_i32 : BitVec 32 := 0#32
  let c1_i32 : BitVec 32 := 1#32
  let arg12 : BitVec 32 := Scf.iv c0_i32 c1_i32 k0_t1
  let c1_i32_16 : BitVec 32 := 1#32
  let v11 : BitVec 32 := Scalar.muli arg12 c1_i32_16
  let v12 : BitVec 32 := Scalar.addi c0_i32_17 v11
  let c0_i32_20 : BitVec 32 := 0#32
  ![v12.toNat, 0]
def k0_off3 (i : grid0.Coords) (v14 : BitVec 32) : Fin 2 → Nat :=
  let arg1 : BitVec 32 := BitVec.ofNat 32 (i 1).val
  let c8192_i32 : BitVec 32 := 8192#32
  let v0 : BitVec 32 := Scalar.muli arg1 c8192_i32
  let v15 : BitVec 32 := Scalar.addi v0 v14
  let c0_i32_21 : BitVec 32 := 0#32
  ![v15.toNat, 0]

def k0_chk1 (i : grid0.Coords) (v14 : BitVec 32) : Prop :=
  (∀ a, (k0_off3 i v14) a + S1x1152.size a ≤ S65536x1152.size a)
theorem k0_off3_inb : ∀ (i : grid0.Coords) (v14 : BitVec 32) (k0_hw1 : k0_chk1 i v14), ∀ a, (k0_off3 i v14) a + S1x1152.size a ≤ S65536x1152.size a := fun i v14 k0_hw1 => k0_hw1

def k0_off4 (k0_t1 : Fin k0_t1_loop.trips) : Fin 3 → Nat :=
  let c0_22 : Index := 0#32
  let c0_23 : Index := 0#32
  let c0_i32_17 : BitVec 32 := 0#32
  let c0_i32 : BitVec 32 := 0#32
  let c1_i32 : BitVec 32 := 1#32
  let arg12 : BitVec 32 := Scf.iv c0_i32 c1_i32 k0_t1
  let c1_i32_16 : BitVec 32 := 1#32
  let v11 : BitVec 32 := Scalar.muli arg12 c1_i32_16
  let v12 : BitVec 32 := Scalar.addi c0_i32_17 v11
  let v20 : Index := Scalar.indexCast v12
  ![0, 0, v20.toNat]
def k0_off5 (k0_t1 : Fin k0_t1_loop.trips) : Fin 2 → Nat :=
  let c0_i32_17 : BitVec 32 := 0#32
  let c0_i32 : BitVec 32 := 0#32
  let c1_i32 : BitVec 32 := 1#32
  let arg12 : BitVec 32 := Scf.iv c0_i32 c1_i32 k0_t1
  let c1_i32_16 : BitVec 32 := 1#32
  let v11 : BitVec 32 := Scalar.muli arg12 c1_i32_16
  let v12 : BitVec 32 := Scalar.addi c0_i32_17 v11
  let c0_i32_25 : BitVec 32 := 0#32
  ![v12.toNat, 0]
def k0_off6 (i : grid0.Coords) (v21 : BitVec 32) : Fin 2 → Nat :=
  let arg1 : BitVec 32 := BitVec.ofNat 32 (i 1).val
  let c8192_i32 : BitVec 32 := 8192#32
  let v0 : BitVec 32 := Scalar.muli arg1 c8192_i32
  let v22 : BitVec 32 := Scalar.addi v0 v21
  let c0_i32_26 : BitVec 32 := 0#32
  ![v22.toNat, 0]

def k0_chk2 (i : grid0.Coords) (v21 : BitVec 32) : Prop :=
  (∀ a, (k0_off6 i v21) a + S1x1024.size a ≤ S65536x1024.size a)
theorem k0_off6_inb : ∀ (i : grid0.Coords) (v21 : BitVec 32) (k0_hw2 : k0_chk2 i v21), ∀ a, (k0_off6 i v21) a + S1x1024.size a ≤ S65536x1024.size a := fun i v21 k0_hw2 => k0_hw2

@[reducible] def k0_t2_loop : Scf.Loop 32 :=
  let c0_i32_1 : BitVec 32 := 0#32
  let c1024_i32_2 : BitVec 32 := 1024#32
  let v2 : BitVec 32 := Scalar.addi c0_i32_1 c1024_i32_2
  let c1_i32_3 : BitVec 32 := 1#32
  ⟨c0_i32_1, v2, c1_i32_3⟩
def k0_off7 (k0_t2 : Fin k0_t2_loop.trips) : Fin 3 → Nat :=
  let c0 : Index := 0#32
  let c0_18 : Index := 0#32
  let c0_i32_17 : BitVec 32 := 0#32
  let c0_i32_1 : BitVec 32 := 0#32
  let c1_i32_3 : BitVec 32 := 1#32
  let arg12 : BitVec 32 := Scf.iv c0_i32_1 c1_i32_3 k0_t2
  let c1_i32_16 : BitVec 32 := 1#32
  let v11 : BitVec 32 := Scalar.muli arg12 c1_i32_16
  let v12 : BitVec 32 := Scalar.addi c0_i32_17 v11
  let v13 : Index := Scalar.indexCast v12
  ![0, 0, v13.toNat]
def k0_off8 (k0_t2 : Fin k0_t2_loop.trips) : Fin 2 → Nat :=
  let c0_i32_17 : BitVec 32 := 0#32
  let c0_i32_1 : BitVec 32 := 0#32
  let c1_i32_3 : BitVec 32 := 1#32
  let arg12 : BitVec 32 := Scf.iv c0_i32_1 c1_i32_3 k0_t2
  let c1_i32_16 : BitVec 32 := 1#32
  let v11 : BitVec 32 := Scalar.muli arg12 c1_i32_16
  let v12 : BitVec 32 := Scalar.addi c0_i32_17 v11
  let c0_i32_20 : BitVec 32 := 0#32
  ![v12.toNat, 0]
def k0_off9 (i : grid0.Coords) (v14 : BitVec 32) : Fin 2 → Nat :=
  let arg1 : BitVec 32 := BitVec.ofNat 32 (i 1).val
  let c8192_i32 : BitVec 32 := 8192#32
  let v0 : BitVec 32 := Scalar.muli arg1 c8192_i32
  let v15 : BitVec 32 := Scalar.addi v0 v14
  let c0_i32_21 : BitVec 32 := 0#32
  ![v15.toNat, 0]

def k0_chk3 (i : grid0.Coords) (v14 : BitVec 32) : Prop :=
  (∀ a, (k0_off9 i v14) a + S1x1152.size a ≤ S65536x1152.size a)
theorem k0_off9_inb : ∀ (i : grid0.Coords) (v14 : BitVec 32) (k0_hw3 : k0_chk3 i v14), ∀ a, (k0_off9 i v14) a + S1x1152.size a ≤ S65536x1152.size a := fun i v14 k0_hw3 => k0_hw3

def k0_off10 (k0_t2 : Fin k0_t2_loop.trips) : Fin 3 → Nat :=
  let c0_22 : Index := 0#32
  let c0_23 : Index := 0#32
  let c0_i32_17 : BitVec 32 := 0#32
  let c0_i32_1 : BitVec 32 := 0#32
  let c1_i32_3 : BitVec 32 := 1#32
  let arg12 : BitVec 32 := Scf.iv c0_i32_1 c1_i32_3 k0_t2
  let c1_i32_16 : BitVec 32 := 1#32
  let v11 : BitVec 32 := Scalar.muli arg12 c1_i32_16
  let v12 : BitVec 32 := Scalar.addi c0_i32_17 v11
  let v20 : Index := Scalar.indexCast v12
  ![0, 0, v20.toNat]
def k0_off11 (k0_t2 : Fin k0_t2_loop.trips) : Fin 2 → Nat :=
  let c0_i32_17 : BitVec 32 := 0#32
  let c0_i32_1 : BitVec 32 := 0#32
  let c1_i32_3 : BitVec 32 := 1#32
  let arg12 : BitVec 32 := Scf.iv c0_i32_1 c1_i32_3 k0_t2
  let c1_i32_16 : BitVec 32 := 1#32
  let v11 : BitVec 32 := Scalar.muli arg12 c1_i32_16
  let v12 : BitVec 32 := Scalar.addi c0_i32_17 v11
  let c0_i32_25 : BitVec 32 := 0#32
  ![v12.toNat, 0]
def k0_off12 (i : grid0.Coords) (v21 : BitVec 32) : Fin 2 → Nat :=
  let arg1 : BitVec 32 := BitVec.ofNat 32 (i 1).val
  let c8192_i32 : BitVec 32 := 8192#32
  let v0 : BitVec 32 := Scalar.muli arg1 c8192_i32
  let v22 : BitVec 32 := Scalar.addi v0 v21
  let c0_i32_26 : BitVec 32 := 0#32
  ![v22.toNat, 0]

def k0_chk4 (i : grid0.Coords) (v21 : BitVec 32) : Prop :=
  (∀ a, (k0_off12 i v21) a + S1x1024.size a ≤ S65536x1024.size a)
theorem k0_off12_inb : ∀ (i : grid0.Coords) (v21 : BitVec 32) (k0_hw4 : k0_chk4 i v21), ∀ a, (k0_off12 i v21) a + S1x1024.size a ≤ S65536x1024.size a := fun i v21 k0_hw4 => k0_hw4

@[reducible] def k0_t3_loop : Scf.Loop 32 :=
  let c0_i32_5 : BitVec 32 := 0#32
  let c4_i32 : BitVec 32 := 4#32
  let v8 : BitVec 32 := Scalar.addi c0_i32_5 c4_i32
  let c1_i32_6 : BitVec 32 := 1#32
  ⟨c0_i32_5, v8, c1_i32_6⟩
def k0_mult1 (k0_t3 : Fin k0_t3_loop.trips) : BitVec 32 :=
  let c0_i32_17 : BitVec 32 := 0#32
  let c0_i32_5 : BitVec 32 := 0#32
  let c1_i32_6 : BitVec 32 := 1#32
  let arg12 : BitVec 32 := Scf.iv c0_i32_5 c1_i32_6 k0_t3
  let c1_i32_16 : BitVec 32 := 1#32
  let v11 : BitVec 32 := Scalar.muli arg12 c1_i32_16
  let v12 : BitVec 32 := Scalar.addi c0_i32_17 v11
  let c256_i32 : BitVec 32 := 256#32
  let v13 : BitVec 32 := Scalar.muli v12 c256_i32
  v13
def k0_off13 (k0_t3 : Fin k0_t3_loop.trips) : Fin 2 → Nat :=
  let c0_i32_17 : BitVec 32 := 0#32
  let c0_i32_5 : BitVec 32 := 0#32
  let c1_i32_6 : BitVec 32 := 1#32
  let arg12 : BitVec 32 := Scf.iv c0_i32_5 c1_i32_6 k0_t3
  let c1_i32_16 : BitVec 32 := 1#32
  let v11 : BitVec 32 := Scalar.muli arg12 c1_i32_16
  let v12 : BitVec 32 := Scalar.addi c0_i32_17 v11
  let c256_i32 : BitVec 32 := 256#32
  let v13 : BitVec 32 := Scalar.muli v12 c256_i32
  let v14 : BitVec 32 := v13
  let v15 : Index := Scalar.indexCast v14
  let c0 : Index := 0#32
  ![v15.toNat, 0]
def k0_off14 (k0_t3 : Fin k0_t3_loop.trips) : Fin 2 → Nat :=
  let c0_i32_17 : BitVec 32 := 0#32
  let c0_i32_5 : BitVec 32 := 0#32
  let c1_i32_6 : BitVec 32 := 1#32
  let arg12 : BitVec 32 := Scf.iv c0_i32_5 c1_i32_6 k0_t3
  let c1_i32_16 : BitVec 32 := 1#32
  let v11 : BitVec 32 := Scalar.muli arg12 c1_i32_16
  let v12 : BitVec 32 := Scalar.addi c0_i32_17 v11
  let c256_i32 : BitVec 32 := 256#32
  let v13 : BitVec 32 := Scalar.muli v12 c256_i32
  let v14 : BitVec 32 := v13
  let v18 : Index := Scalar.indexCast v14
  let c1024 : Index := 1024#32
  ![v18.toNat, 1024]
def k0_off15 (k0_t3 : Fin k0_t3_loop.trips) : Fin 2 → Nat :=
  let c0_i32_17 : BitVec 32 := 0#32
  let c0_i32_5 : BitVec 32 := 0#32
  let c1_i32_6 : BitVec 32 := 1#32
  let arg12 : BitVec 32 := Scf.iv c0_i32_5 c1_i32_6 k0_t3
  let c1_i32_16 : BitVec 32 := 1#32
  let v11 : BitVec 32 := Scalar.muli arg12 c1_i32_16
  let v12 : BitVec 32 := Scalar.addi c0_i32_17 v11
  let c256_i32 : BitVec 32 := 256#32
  let v13 : BitVec 32 := Scalar.muli v12 c256_i32
  let v14 : BitVec 32 := v13
  let v40 : Index := Scalar.indexCast v14
  let c0_29 : Index := 0#32
  ![v40.toNat, 0]
@[reducible] def k0_t4_loop : Scf.Loop 32 :=
  let c0_i32_8 : BitVec 32 := 0#32
  let c1024_i32_9 : BitVec 32 := 1024#32
  let v9 : BitVec 32 := Scalar.addi c0_i32_8 c1024_i32_9
  let c1_i32_10 : BitVec 32 := 1#32
  ⟨c0_i32_8, v9, c1_i32_10⟩
def k0_off16 (k0_t4 : Fin k0_t4_loop.trips) : Fin 3 → Nat :=
  let c0 : Index := 0#32
  let c0_18 : Index := 0#32
  let c0_i32_17 : BitVec 32 := 0#32
  let c0_i32_8 : BitVec 32 := 0#32
  let c1_i32_10 : BitVec 32 := 1#32
  let arg12 : BitVec 32 := Scf.iv c0_i32_8 c1_i32_10 k0_t4
  let c1_i32_16 : BitVec 32 := 1#32
  let v11 : BitVec 32 := Scalar.muli arg12 c1_i32_16
  let v12 : BitVec 32 := Scalar.addi c0_i32_17 v11
  let v13 : Index := Scalar.indexCast v12
  ![0, 0, v13.toNat]
def k0_off17 (i : grid0.Coords) (v14 : BitVec 32) : Fin 2 → Nat :=
  let arg1 : BitVec 32 := BitVec.ofNat 32 (i 1).val
  let c8192_i32 : BitVec 32 := 8192#32
  let v0 : BitVec 32 := Scalar.muli arg1 c8192_i32
  let v15 : BitVec 32 := Scalar.addi v0 v14
  let c0_i32_19 : BitVec 32 := 0#32
  ![v15.toNat, 0]

def k0_chk5 (i : grid0.Coords) (v14 : BitVec 32) : Prop :=
  (∀ a, (k0_off17 i v14) a + S1x1024.size a ≤ S65536x1024.size a)
theorem k0_off17_inb : ∀ (i : grid0.Coords) (v14 : BitVec 32) (k0_hw5 : k0_chk5 i v14), ∀ a, (k0_off17 i v14) a + S1x1024.size a ≤ S65536x1024.size a := fun i v14 k0_hw5 => k0_hw5

def k0_off18 (k0_t4 : Fin k0_t4_loop.trips) : Fin 2 → Nat :=
  let c0_i32_17 : BitVec 32 := 0#32
  let c0_i32_8 : BitVec 32 := 0#32
  let c1_i32_10 : BitVec 32 := 1#32
  let arg12 : BitVec 32 := Scf.iv c0_i32_8 c1_i32_10 k0_t4
  let c1_i32_16 : BitVec 32 := 1#32
  let v11 : BitVec 32 := Scalar.muli arg12 c1_i32_16
  let v12 : BitVec 32 := Scalar.addi c0_i32_17 v11
  let c0_i32_20 : BitVec 32 := 0#32
  ![v12.toNat, 0]
@[reducible] def k0_t5_loop : Scf.Loop 32 :=
  let c0_i32_12 : BitVec 32 := 0#32
  let c1024_i32_13 : BitVec 32 := 1024#32
  let v10 : BitVec 32 := Scalar.addi c0_i32_12 c1024_i32_13
  let c1_i32_14 : BitVec 32 := 1#32
  ⟨c0_i32_12, v10, c1_i32_14⟩
def k0_off19 (k0_t5 : Fin k0_t5_loop.trips) : Fin 3 → Nat :=
  let c0 : Index := 0#32
  let c0_18 : Index := 0#32
  let c0_i32_17 : BitVec 32 := 0#32
  let c0_i32_12 : BitVec 32 := 0#32
  let c1_i32_14 : BitVec 32 := 1#32
  let arg12 : BitVec 32 := Scf.iv c0_i32_12 c1_i32_14 k0_t5
  let c1_i32_16 : BitVec 32 := 1#32
  let v11 : BitVec 32 := Scalar.muli arg12 c1_i32_16
  let v12 : BitVec 32 := Scalar.addi c0_i32_17 v11
  let v13 : Index := Scalar.indexCast v12
  ![0, 0, v13.toNat]
def k0_off20 (i : grid0.Coords) (v14 : BitVec 32) : Fin 2 → Nat :=
  let arg1 : BitVec 32 := BitVec.ofNat 32 (i 1).val
  let c8192_i32 : BitVec 32 := 8192#32
  let v0 : BitVec 32 := Scalar.muli arg1 c8192_i32
  let v15 : BitVec 32 := Scalar.addi v0 v14
  let c0_i32_19 : BitVec 32 := 0#32
  ![v15.toNat, 0]

def k0_chk6 (i : grid0.Coords) (v14 : BitVec 32) : Prop :=
  (∀ a, (k0_off20 i v14) a + S1x1024.size a ≤ S65536x1024.size a)
theorem k0_off20_inb : ∀ (i : grid0.Coords) (v14 : BitVec 32) (k0_hw6 : k0_chk6 i v14), ∀ a, (k0_off20 i v14) a + S1x1024.size a ≤ S65536x1024.size a := fun i v14 k0_hw6 => k0_hw6

def k0_off21 (k0_t5 : Fin k0_t5_loop.trips) : Fin 2 → Nat :=
  let c0_i32_17 : BitVec 32 := 0#32
  let c0_i32_12 : BitVec 32 := 0#32
  let c1_i32_14 : BitVec 32 := 1#32
  let arg12 : BitVec 32 := Scf.iv c0_i32_12 c1_i32_14 k0_t5
  let c1_i32_16 : BitVec 32 := 1#32
  let v11 : BitVec 32 := Scalar.muli arg12 c1_i32_16
  let v12 : BitVec 32 := Scalar.addi c0_i32_17 v11
  let c0_i32_20 : BitVec 32 := 0#32
  ![v12.toNat, 0]
def cc0_transform_0 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let v1 : BitVec 32 := Scalar.addi v0 arg0
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .smem S1x1x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== FfnRefIdeal.lean ====
abbrev S8x16x1024 : Shape := ⟨3, ![8, 16, 1024]⟩
abbrev S8x8192x1152 : Shape := ⟨3, ![8, 8192, 1152]⟩
abbrev S8x8192x1024 : Shape := ⟨3, ![8, 8192, 1024]⟩
abbrev S16x1024x1024 : Shape := ⟨3, ![16, 1024, 1024]⟩
abbrev S8x8192x16 : Shape := ⟨3, ![8, 8192, 16]⟩
abbrev S8 : Shape := ⟨1, ![8]⟩
abbrev S8x1x1 : Shape := ⟨3, ![8, 1, 1]⟩
abbrev S16 : Shape := ⟨1, ![16]⟩
abbrev S1x16x1 : Shape := ⟨3, ![1, 16, 1]⟩
abbrev S_ : Shape := ⟨0, ![]⟩
abbrev S8x16x1024x1 : Shape := ⟨4, ![8, 16, 1024, 1]⟩
abbrev S8x16x1024x3 : Shape := ⟨4, ![8, 16, 1024, 3]⟩
abbrev S8x16x1024x2 : Shape := ⟨4, ![8, 16, 1024, 2]⟩
abbrev S8x16x1024x1024 : Shape := ⟨4, ![8, 16, 1024, 1024]⟩
abbrev S16x1024x8x1024 : Shape := ⟨4, ![16, 1024, 8, 1024]⟩
abbrev S65536x1024 : Shape := ⟨2, ![65536, 1024]⟩

abbrev nBuf : Space → Nat
  | .hbm => 101
  | .vmem => 0
  | .smem => 0
  | _ => 0

abbrev bufTy : (tb : Table) → Fin (tcTables nBuf tb) → BufTy
  | .hbm, ⟨0, _⟩ => ⟨S8x16x1024, .i32⟩
  | .hbm, ⟨1, _⟩ => ⟨S8x8192x1152, .f32⟩
  | .hbm, ⟨2, _⟩ => ⟨S8x8192x1024, .f32⟩
  | .hbm, ⟨3, _⟩ => ⟨S16x1024x1024, .f32⟩
  | .hbm, ⟨4, _⟩ => ⟨S16x1024x1024, .f32⟩
  | .hbm, ⟨5, _⟩ => ⟨S16x1024x1024, .f32⟩
  | .hbm, ⟨6, _⟩ => ⟨S8x8192x1024, .f32⟩
  | .hbm, ⟨7, _⟩ => ⟨S8x8192x16, .f32⟩
  | .hbm, ⟨8, _⟩ => ⟨S8, .i32⟩
  | .hbm, ⟨9, _⟩ => ⟨S8x1x1, .i32⟩
  | .hbm, ⟨10, _⟩ => ⟨S16, .i32⟩
  | .hbm, ⟨11, _⟩ => ⟨S1x16x1, .i32⟩
  | .hbm, ⟨12, _⟩ => ⟨S_, .i32⟩
  | .hbm, ⟨13, _⟩ => ⟨S8x1x1, .i32⟩
  | .hbm, ⟨14, _⟩ => ⟨S8x1x1, .i1⟩
  | .hbm, ⟨15, _⟩ => ⟨S_, .i32⟩
  | .hbm, ⟨16, _⟩ => ⟨S8x1x1, .i32⟩
  | .hbm, ⟨17, _⟩ => ⟨S8x1x1, .i32⟩
  | .hbm, ⟨18, _⟩ => ⟨S8x1x1, .i32⟩
  | .hbm, ⟨19, _⟩ => ⟨S_, .i32⟩
  | .hbm, ⟨20, _⟩ => ⟨S8x16x1024, .i32⟩
  | .hbm, ⟨21, _⟩ => ⟨S8x16x1024, .i1⟩
  | .hbm, ⟨22, _⟩ => ⟨S_, .i32⟩
  | .hbm, ⟨23, _⟩ => ⟨S8x16x1024, .i32⟩
  | .hbm, ⟨24, _⟩ => ⟨S8x16x1024, .i32⟩
  | .hbm, ⟨25, _⟩ => ⟨S8x16x1024, .i32⟩
  | .hbm, ⟨26, _⟩ => ⟨S_, .i32⟩
  | .hbm, ⟨27, _⟩ => ⟨S1x16x1, .i32⟩
  | .hbm, ⟨28, _⟩ => ⟨S1x16x1, .i1⟩
  | .hbm, ⟨29, _⟩ => ⟨S_, .i32⟩
  | .hbm, ⟨30, _⟩ => ⟨S1x16x1, .i32⟩
  | .hbm, ⟨31, _⟩ => ⟨S1x16x1, .i32⟩
  | .hbm, ⟨32, _⟩ => ⟨S1x16x1, .i32⟩
  | .hbm, ⟨33, _⟩ => ⟨S8x16x1024, .i32⟩
  | .hbm, ⟨34, _⟩ => ⟨S8x16x1024, .i32⟩
  | .hbm, ⟨35, _⟩ => ⟨S8x16x1024x1, .i32⟩
  | .hbm, ⟨36, _⟩ => ⟨S8x16x1024x1, .i32⟩
  | .hbm, ⟨37, _⟩ => ⟨S8x16x1024x1, .i32⟩
  | .hbm, ⟨38, _⟩ => ⟨S8x16x1024x3, .i32⟩
  | .hbm, ⟨39, _⟩ => ⟨S8x16x1024, .f32⟩
  | .hbm, ⟨40, _⟩ => ⟨S_, .i32⟩
  | .hbm, ⟨41, _⟩ => ⟨S8x1x1, .i32⟩
  | .hbm, ⟨42, _⟩ => ⟨S8x1x1, .i1⟩
  | .hbm, ⟨43, _⟩ => ⟨S_, .i32⟩
  | .hbm, ⟨44, _⟩ => ⟨S8x1x1, .i32⟩
  | .hbm, ⟨45, _⟩ => ⟨S8x1x1, .i32⟩
  | .hbm, ⟨46, _⟩ => ⟨S8x1x1, .i32⟩
  | .hbm, ⟨47, _⟩ => ⟨S_, .i32⟩
  | .hbm, ⟨48, _⟩ => ⟨S8x16x1024, .i32⟩
  | .hbm, ⟨49, _⟩ => ⟨S8x16x1024, .i1⟩
  | .hbm, ⟨50, _⟩ => ⟨S_, .i32⟩
  | .hbm, ⟨51, _⟩ => ⟨S8x16x1024, .i32⟩
  | .hbm, ⟨52, _⟩ => ⟨S8x16x1024, .i32⟩
  | .hbm, ⟨53, _⟩ => ⟨S8x16x1024, .i32⟩
  | .hbm, ⟨54, _⟩ => ⟨S8x16x1024, .i32⟩
  | .hbm, ⟨55, _⟩ => ⟨S8x16x1024x1, .i32⟩
  | .hbm, ⟨56, _⟩ => ⟨S8x16x1024x1, .i32⟩
  | .hbm, ⟨57, _⟩ => ⟨S8x16x1024x2, .i32⟩
  | .hbm, ⟨58, _⟩ => ⟨S8x16x1024x1024, .f32⟩
  | .hbm, ⟨59, _⟩ => ⟨S16x1024x8x1024, .f32⟩
  | .hbm, ⟨60, _⟩ => ⟨S8x16x1024x1024, .f32⟩
  | .hbm, ⟨61, _⟩ => ⟨S8x16x1024x1024, .f32⟩
  | .hbm, ⟨62, _⟩ => ⟨S8x16x1024x1024, .f32⟩
  | .hbm, ⟨63, _⟩ => ⟨S_, .f32⟩
  | .hbm, ⟨64, _⟩ => ⟨S8x16x1024x1024, .f32⟩
  | .hbm, ⟨65, _⟩ => ⟨S8x16x1024x1024, .f32⟩
  | .hbm, ⟨66, _⟩ => ⟨S_, .f32⟩
  | .hbm, ⟨67, _⟩ => ⟨S8x16x1024x1024, .f32⟩
  | .hbm, ⟨68, _⟩ => ⟨S8x16x1024x1024, .f32⟩
  | .hbm, ⟨69, _⟩ => ⟨S8x16x1024x1024, .f32⟩
  | .hbm, ⟨70, _⟩ => ⟨S16x1024x8x1024, .f32⟩
  | .hbm, ⟨71, _⟩ => ⟨S8x16x1024x1024, .f32⟩
  | .hbm, ⟨72, _⟩ => ⟨S8x16x1024x1024, .f32⟩
  | .hbm, ⟨73, _⟩ => ⟨S16x1024x8x1024, .f32⟩
  | .hbm, ⟨74, _⟩ => ⟨S8x16x1024x1024, .f32⟩
  | .hbm, ⟨75, _⟩ => ⟨S8x16x1024x1, .f32⟩
  | .hbm, ⟨76, _⟩ => ⟨S8x16x1024x1024, .f32⟩
  | .hbm, ⟨77, _⟩ => ⟨S8x16x1024x1024, .f32⟩
  | .hbm, ⟨78, _⟩ => ⟨S_, .f32⟩
  | .hbm, ⟨79, _⟩ => ⟨S8x8192x1024, .f32⟩
  | .hbm, ⟨80, _⟩ => ⟨S_, .i32⟩
  | .hbm, ⟨81, _⟩ => ⟨S8x1x1, .i32⟩
  | .hbm, ⟨82, _⟩ => ⟨S8x1x1, .i1⟩
  | .hbm, ⟨83, _⟩ => ⟨S_, .i32⟩
  | .hbm, ⟨84, _⟩ => ⟨S8x1x1, .i32⟩
  | .hbm, ⟨85, _⟩ => ⟨S8x1x1, .i32⟩
  | .hbm, ⟨86, _⟩ => ⟨S8x1x1, .i32⟩
  | .hbm, ⟨87, _⟩ => ⟨S_, .i32⟩
  | .hbm, ⟨88, _⟩ => ⟨S8x16x1024, .i32⟩
  | .hbm, ⟨89, _⟩ => ⟨S8x16x1024, .i1⟩
  | .hbm, ⟨90, _⟩ => ⟨S_, .i32⟩
  | .hbm, ⟨91, _⟩ => ⟨S8x16x1024, .i32⟩
  | .hbm, ⟨92, _⟩ => ⟨S8x16x1024, .i32⟩
  | .hbm, ⟨93, _⟩ => ⟨S8x16x1024, .i32⟩
  | .hbm, ⟨94, _⟩ => ⟨S8x16x1024, .i32⟩
  | .hbm, ⟨95, _⟩ => ⟨S8x16x1024x1, .i32⟩
  | .hbm, ⟨96, _⟩ => ⟨S8x16x1024x1, .i32⟩
  | .hbm, ⟨97, _⟩ => ⟨S8x16x1024x2, .i32⟩
  | .hbm, ⟨98, _⟩ => ⟨S8x8192x1024, .f32⟩
  | .hbm, ⟨99, _⟩ => ⟨S8x8192x1024, .f32⟩
  | .hbm, ⟨100, _⟩ => ⟨S65536x1024, .f32⟩
  | _, _ => ⟨S8x16x1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c_3 : Ref sig .tc := ⟨.hbm, 26, rfl⟩
abbrev main_v16 : Ref sig .tc := ⟨.hbm, 27, rfl⟩
abbrev main_v17 : Ref sig .tc := ⟨.hbm, 28, rfl⟩
abbrev main_c_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_5 : Ref sig .tc := ⟨.hbm, 40, rfl⟩
abbrev main_v28 : Ref sig .tc := ⟨.hbm, 41, rfl⟩
abbrev main_v29 : Ref sig .tc := ⟨.hbm, 42, rfl⟩
abbrev main_c_6 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c_7 : Ref sig .tc := ⟨.hbm, 47, rfl⟩
abbrev main_v33 : Ref sig .tc := ⟨.hbm, 48, rfl⟩
abbrev main_v34 : Ref sig .tc := ⟨.hbm, 49, rfl⟩
abbrev main_c_8 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_call0_v0 : Ref sig .tc := ⟨.hbm, 61, rfl⟩
abbrev main_call0_v1 : Ref sig .tc := ⟨.hbm, 62, rfl⟩
abbrev main_call0_cst : Ref sig .tc := ⟨.hbm, 63, rfl⟩
abbrev main_call0_v2 : Ref sig .tc := ⟨.hbm, 64, rfl⟩
abbrev main_call0_v3 : Ref sig .tc := ⟨.hbm, 65, rfl⟩
abbrev main_call0_cst_0 : Ref sig .tc := ⟨.hbm, 66, rfl⟩
abbrev main_call0_v4 : Ref sig .tc := ⟨.hbm, 67, rfl⟩
abbrev main_call0_v5 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst : Ref sig .tc := ⟨.hbm, 78, rfl⟩
abbrev main_v54 : Ref sig .tc := ⟨.hbm, 79, rfl⟩
abbrev main_c_9 : Ref sig .tc := ⟨.hbm, 80, rfl⟩
abbrev main_v55 : Ref sig .tc := ⟨.hbm, 81, rfl⟩
abbrev main_v56 : Ref sig .tc := ⟨.hbm, 82, rfl⟩
abbrev main_c_10 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_c_11 : Ref sig .tc := ⟨.hbm, 87, rfl⟩
abbrev main_v60 : Ref sig .tc := ⟨.hbm, 88, rfl⟩
abbrev main_v61 : Ref sig .tc := ⟨.hbm, 89, rfl⟩
abbrev main_c_12 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩

abbrev nD : Nat := 1
abbrev τ : Topo := Topo.v7x

variable {F : FTy → Type} [FloatOps F]
-- ==== Mlstm.lean ====
abbrev S8x8192x1024 : Shape := ⟨3, ![8, 8192, 1024]⟩
abbrev S8x8192x512 : Shape := ⟨3, ![8, 8192, 512]⟩
abbrev S8x16x8192 : Shape := ⟨3, ![8, 16, 8192]⟩
abbrev S3x1024 : Shape := ⟨2, ![3, 1024]⟩
abbrev S1024 : Shape := ⟨1, ![1024]⟩
abbrev S1x1024 : Shape := ⟨2, ![1, 1024]⟩
abbrev S1x128x1024 : Shape := ⟨3, ![1, 128, 1024]⟩
abbrev S1x16x1024 : Shape := ⟨3, ![1, 16, 1024]⟩
abbrev S1x128x512 : Shape := ⟨3, ![1, 128, 512]⟩
abbrev S1x16x128 : Shape := ⟨3, ![1, 16, 128]⟩
abbrev S8x128x128 : Shape := ⟨3, ![8, 128, 128]⟩
abbrev S8x1x128 : Shape := ⟨3, ![8, 1, 128]⟩
abbrev S128x1 : Shape := ⟨2, ![128, 1]⟩
abbrev S128x128 : Shape := ⟨2, ![128, 128]⟩
abbrev S128x1024 : Shape := ⟨2, ![128, 1024]⟩
abbrev S1x1x1024 : Shape := ⟨3, ![1, 1, 1024]⟩
abbrev S16x128 : Shape := ⟨2, ![16, 128]⟩
abbrev S4x128 : Shape := ⟨2, ![4, 128]⟩
abbrev S128x4 : Shape := ⟨2, ![128, 4]⟩
abbrev S1x4 : Shape := ⟨2, ![1, 4]⟩
abbrev S4 : Shape := ⟨1, ![4]⟩
abbrev S128x512 : Shape := ⟨2, ![128, 512]⟩
abbrev S1x1x128 : Shape := ⟨3, ![1, 1, 128]⟩
abbrev S1x128 : Shape := ⟨2, ![1, 128]⟩
abbrev S1x1 : Shape := ⟨2, ![1, 1]⟩
abbrev S1x128x128 : Shape := ⟨3, ![1, 128, 128]⟩
abbrev S128 : Shape := ⟨1, ![128]⟩

abbrev nBuf : Space → Nat
  | .hbm => 10
  | .vmem => 29
  | .smem => 0
  | _ => 0

abbrev bufTy : (tb : Table) → Fin (tcTables nBuf tb) → BufTy
  | .hbm, ⟨0, _⟩ => ⟨S8x8192x1024, .f32⟩
  | .hbm, ⟨1, _⟩ => ⟨S8x8192x512, .f32⟩
  | .hbm, ⟨2, _⟩ => ⟨S8x16x8192, .f32⟩
  | .hbm, ⟨3, _⟩ => ⟨S3x1024, .f32⟩
  | .hbm, ⟨4, _⟩ => ⟨S1024, .f32⟩
  | .hbm, ⟨5, _⟩ => ⟨S8x8192x1024, .bf16⟩
  | .hbm, ⟨6, _⟩ => ⟨S8x8192x512, .bf16⟩
  | .hbm, ⟨7, _⟩ => ⟨S1x1024, .f32⟩
  | .hbm, ⟨8, _⟩ => ⟨S8x8192x512, .f32⟩
  | .hbm, ⟨9, _⟩ => ⟨S8x8192x512, .f32⟩
  | .local _ .vmem, ⟨0, _⟩ => ⟨S1x128x1024, .bf16⟩
  | .local _ .vmem, ⟨1, _⟩ => ⟨S1x128x1024, .bf16⟩
  | .local _ .vmem, ⟨2, _⟩ => ⟨S1x16x1024, .bf16⟩
  | .local _ .vmem, ⟨3, _⟩ => ⟨S1x16x1024, .bf16⟩
  | .local _ .vmem, ⟨4, _⟩ => ⟨S1x16x1024, .bf16⟩
  | .local _ .vmem, ⟨5, _⟩ => ⟨S1x16x1024, .bf16⟩
  | .local _ .vmem, ⟨6, _⟩ => ⟨S1x128x1024, .bf16⟩
  | .local _ .vmem, ⟨7, _⟩ => ⟨S1x128x1024, .bf16⟩
  | .local _ .vmem, ⟨8, _⟩ => ⟨S1x16x1024, .bf16⟩
  | .local _ .vmem, ⟨9, _⟩ => ⟨S1x16x1024, .bf16⟩
  | .local _ .vmem, ⟨10, _⟩ => ⟨S1x16x1024, .bf16⟩
  | .local _ .vmem, ⟨11, _⟩ => ⟨S1x16x1024, .bf16⟩
  | .local _ .vmem, ⟨12, _⟩ => ⟨S1x128x512, .bf16⟩
  | .local _ .vmem, ⟨13, _⟩ => ⟨S1x128x512, .bf16⟩
  | .local _ .vmem, ⟨14, _⟩ => ⟨S1x128x512, .bf16⟩
  | .local _ .vmem, ⟨15, _⟩ => ⟨S1x128x512, .bf16⟩
  | .local _ .vmem, ⟨16, _⟩ => ⟨S1x16x128, .f32⟩
  | .local _ .vmem, ⟨17, _⟩ => ⟨S1x16x128, .f32⟩
  | .local _ .vmem, ⟨18, _⟩ => ⟨S1x16x128, .f32⟩
  | .local _ .vmem, ⟨19, _⟩ => ⟨S1x16x128, .f32⟩
  | .local _ .vmem, ⟨20, _⟩ => ⟨S3x1024, .f32⟩
  | .local _ .vmem, ⟨21, _⟩ => ⟨S1x1024, .f32⟩
  | .local _ .vmem, ⟨22, _⟩ => ⟨S1x128x512, .f32⟩
  | .local _ .vmem, ⟨23, _⟩ => ⟨S1x128x512, .f32⟩
  | .local _ .vmem, ⟨24, _⟩ => ⟨S1x128x512, .f32⟩
  | .local _ .vmem, ⟨25, _⟩ => ⟨S1x128x512, .f32⟩
  | .local _ .vmem, ⟨26, _⟩ => ⟨S8x128x128, .f32⟩
  | .local _ .vmem, ⟨27, _⟩ => ⟨S8x1x128, .f32⟩
  | .local _ .vmem, ⟨28, _⟩ => ⟨S8x1x128, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem12_1 : DmaSem sig := 23
abbrev cc0_sem13_0 : DmaSem sig := 24
abbrev cc0_sem13_1 : DmaSem sig := 25

abbrev nD : Nat := 1
abbrev τ : Topo := Topo.v7x

variable {F : FTy → Type} [FloatOps F]

abbrev grid0 : Pipeline.Grid := ⟨2, ![8, 64], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli v0 c8_i32
  let c511_i32 : BitVec 32 := 511#32
  let v2 : BitVec 32 := Scalar.minsi v1 c511_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  let c0_i32_0 : BitVec 32 := 0#32
  ![arg0.toNat, v0.toNat, c0_i32.toNat]

def cc0_transform_4 (i : grid0.Coords) : Fin 3 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c8_i32 : BitVec 32 := 8#32
  let v1 : BitVec 32 := Scalar.muli v0 c8_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![arg0.toNat, v3.toNat, c0_i32_0.toNat]

def cc0_transform_5 (i : grid0.Coords) : Fin 3 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c1_i32 : BitVec 32 := 1#32
  let v1 : BitVec 32 := Scalar.addi v0 c1_i32
  let c8_i32 : BitVec 32 := 8#32
  let v2 : BitVec 32 := Scalar.muli v1 c8_i32
  let c511_i32 : BitVec 32 := 511#32
  let v3 : BitVec 32 := Scalar.minsi v2 c511_i32
  let c0_i32 : BitVec 32 := 0#32
  let c0_i32_0 : BitVec 32 := 0#32
  ![arg0.toNat, v3.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  let c0_i32_0 : BitVec 32 := 0#32
  ![arg0.toNat, v0.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  let c0_i32_0 : BitVec 32 := 0#32
  ![arg0.toNat, c0_i32.toNat, v0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  let c0_i32_0 : BitVec 32 := 0#32
  ![arg0.toNat, v0.toNat, c0_i32.toNat]

abbrev stage0_0 : Fin 2 → Memref sig .tc .vmem S1x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x16x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x16x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S3x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x128x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x128x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Proof.Softmax.lean ====
/- One row of a softmax with a sink, over the extended reals: dividing the weighted sum by the denominator is weighting
   by the divided exponentials. Pure mathematics; no program is named here. -/
module

public import Idealize.ShloMosaic.PureOps.Ideal
public import Idealize.ShloMosaic.Lib.Pointwise

@[expose] public section

noncomputable section

namespace Cert.Softmax

open Idealize.ShloMosaic

/-- A nonnegative finite factor goes into a finite sum of extended reals. -/
theorem sum_mul_const {ι : Type} (S : Finset ι) (f : ι → EReal) (c : ℝ) (hc : 0 ≤ c) :
    (∑ i ∈ S, f i) * (c : EReal) = ∑ i ∈ S, f i * (c : EReal) := by
  classical
  induction S using Finset.induction_on with
  | empty => simp
  | insert a S ha ih =>
    rw [Finset.sum_insert ha, Finset.sum_insert ha, mul_comm,
      EReal.left_distrib_of_nonneg_of_ne_top (EReal.coe_nonneg.2 hc) (EReal.coe_ne_top c), mul_comm (c : EReal) (f a),
      mul_comm (c : EReal), ih]

/-- An extended real that is a real number. -/
def Fin' (x : EReal) : Prop := ∃ r : ℝ, x = (r : EReal)

theorem Fin'.coe (r : ℝ) : Fin' (r : EReal) := ⟨r, rfl⟩
theorem Fin'.mul {x y : EReal} (hx : Fin' x) (hy : Fin' y) : Fin' (x * y) := by
  obtain ⟨a, rfl⟩ := hx; obtain ⟨b, rfl⟩ := hy; exact ⟨a * b, (EReal.coe_mul a b).symm⟩
theorem Fin'.add {x y : EReal} (hx : Fin' x) (hy : Fin' y) : Fin' (x + y) := by
  obtain ⟨a, rfl⟩ := hx; obtain ⟨b, rfl⟩ := hy; exact ⟨a + b, (EReal.coe_add a b).symm⟩
theorem Fin'.sub {x y : EReal} (hx : Fin' x) (hy : Fin' y) : Fin' (x - y) := by
  obtain ⟨a, rfl⟩ := hx; obtain ⟨b, rfl⟩ := hy; exact ⟨a - b, (EReal.coe_sub a b).symm⟩
theorem Fin'.sum {ι : Type} (S : Finset ι) {f : ι → EReal} (h : ∀ i, Fin' (f i)) : Fin' (∑ i ∈ S, f i) := by
  classical
  induction S using Finset.induction_on with
  | empty => exact ⟨0, by simp⟩
  | insert a S ha ih => rw [Finset.sum_insert ha]; exact (h a).add ih
theorem Fin'.ne_top {x : EReal} (h : Fin' x) : x ≠ ⊤ := by obtain ⟨a, rfl⟩ := h; exact EReal.coe_ne_top a

/-- An extended real of absolute value below `⊤` is a real number. -/
theorem fin_of_abs_lt_top {x : EReal} (h : max x (-x) < ⊤) : Fin' x := by
  induction x using EReal.rec with
  | bot => simp at h
  | top => simp at h
  | coe r => exact ⟨r, rfl⟩

/-- The maximum of the scores and the sink. -/
def rowMax {n : ℕ} (s : Fin n → EReal) (sink : EReal) : EReal := max (Finset.univ.fold max ⊥ s) sink

/-- The denominator: the sum of the exponentials and the sink's exponential. -/
def den {n : ℕ} (s : Fin n → EReal) (sink : EReal) : EReal :=
  (∑ j, Ideal.exp (s j - rowMax s sink)) + Ideal.exp (sink - rowMax s sink)

/-- No score `⊤`, the sink a real number: the row maximum is a real number. -/
theorem rowMax_fin {n : ℕ} (s : Fin n → EReal) (sink : EReal) (hs : ∀ j, s j ≠ ⊤) (hk : Fin' sink) :
    Fin' (rowMax s sink) := by
  obtain ⟨k, rfl⟩ := hk
  have h1 : rowMax s (k : EReal) < ⊤ :=
    max_lt ((Finset.fold_max_lt _).2 ⟨bot_lt_top, fun j _ => lt_top_iff_ne_top.2 (hs j)⟩) (EReal.coe_lt_top k)
  have h2 : ⊥ < rowMax s (k : EReal) := lt_of_lt_of_le (EReal.bot_lt_coe k) (le_max_right _ _)
  exact ⟨_, (EReal.coe_toReal h1.ne h2.ne').symm⟩

/-- The exponential of a score that is not `⊤`, less a real number, is a nonnegative real number. -/
theorem exp_fin {x : EReal} (hx : x ≠ ⊤) (r : ℝ) : ∃ p : ℝ, 0 ≤ p ∧ Ideal.exp (x - (r : EReal)) = (p : EReal) := by
  induction x using EReal.rec with
  | bot => exact ⟨0, le_refl _, by simp⟩
  | top => exact absurd rfl hx
  | coe a => exact ⟨Real.exp (a - r), (Real.exp_pos _).le, by rw [← EReal.coe_sub, Ideal.exp_coe]⟩

/-- THE ROW: the weighted sum divided by the denominator is the sum weighted by the divided exponentials. Where a score is
    `⊥` the exponential is zero and the value there plays no part. -/
theorem row {n : ℕ} (s : Fin n → EReal) (sink : EReal) (v w : Fin n → EReal) (hs : ∀ j, s j ≠ ⊤) (hk : Fin' sink)
    (hv : ∀ j, s j ≠ ⊥ → v j = w j) :
    Ideal.div (∑ j, Ideal.exp (s j - rowMax s sink) * v j) (den s sink)
      = ∑ j, w j * Ideal.div (Ideal.exp (s j - rowMax s sink)) (den s sink) := by
  obtain ⟨r, hr⟩ := rowMax_fin s sink hs hk
  obtain ⟨k, rfl⟩ := hk
  unfold den
  rw [hr]
  choose p hp0 hp using fun j => exp_fin (hs j) r
  simp only [hp]
  have hd : ∃ d : ℝ, 0 < d ∧ (∑ j, (p j : EReal)) + Ideal.exp ((k : EReal) - (r : EReal)) = (d : EReal) := by
    refine ⟨(∑ j, p j) + Real.exp (k - r), add_pos_of_nonneg_of_pos (Finset.sum_nonneg fun j _ => hp0 j) (Real.exp_pos _), ?_⟩
    rw [← EReal.coe_sub, Ideal.exp_coe, EReal.coe_add]
    congr 1
    induction (Finset.univ : Finset (Fin n)) using Finset.induction_on with
    | empty => simp
    | insert a S ha ih => rw [Finset.sum_insert ha, Finset.sum_insert ha, EReal.coe_add, ih]
  obtain ⟨d, hd0, hd⟩ := hd
  rw [hd, Ideal.div_coe hd0.ne', sum_mul_const _ _ _ (by positivity)]
  refine Finset.sum_congr rfl fun j _ => ?_
  rw [Ideal.div_coe hd0.ne']
  by_cases hb : s j = ⊥
  · have : p j = 0 := by
      have := hp j; rw [hb] at this
      simpa using this.symm
    simp [this]
  · rw [hv j hb]; ac_nf

/-- A score: scaling the query entries by a nonnegative real, or the product; subtracting the distance's penalty, or adding
    the negated slope's multiple. -/
theorem score {n : ℕ} (q k : Fin n → EReal) (c : ℝ) (hc : 0 ≤ c) (sl a : EReal) :
    (∑ e, q e * (c : EReal) * k e) - sl * a = (∑ e, k e * q e) * (c : EReal) + -sl * a := by
  rw [sum_mul_const _ _ _ hc, sub_eq_add_neg, EReal.neg_mul]
  congr 1
  exact Finset.sum_congr rfl fun e _ => by ac_nf

end Cert.Softmax

end
-- ==== Proof.Consts.lean ====
/- The float constants the attention programs spell, as the extended reals their patterns denote. -/
module

public import Idealize.ShloMosaic.PureOps.Ideal

@[expose] public section

noncomputable section

namespace Cert.Consts

open Idealize.ShloMosaic

theorem negInf : Ideal.ofBits .f32 0xFF800000#32 = ⊥ := by simp [Ideal.ofBits, Ideal.ieee]
theorem posInf : Ideal.ofBits .f32 0x7F800000#32 = ⊤ := by simp [Ideal.ofBits, Ideal.ieee]
theorem eighth : Ideal.ofBits .f32 0x3E000000#32 = ((1 / 8 : ℝ) : EReal) := by
  simp [Ideal.ofBits, Ideal.ieee, -EReal.coe_mul]; norm_num
theorem neg_eight : Ideal.ofBits .f32 0xC1000000#32 = ((-8 : ℝ) : EReal) := by
  simp [Ideal.ofBits, Ideal.ieee, -EReal.coe_mul]; norm_num
theorem eight : Ideal.ofBits .f32 0x41000000#32 = ((8 : ℝ) : EReal) := by
  simp [Ideal.ofBits, Ideal.ieee, -EReal.coe_mul]; norm_num
theorem two : Ideal.ofBits .f32 0x40000000#32 = ((2 : ℝ) : EReal) := by
  simp [Ideal.ofBits, Ideal.ieee, -EReal.coe_mul]; norm_num
theorem one : Ideal.ofBits .f32 0x3F800000#32 = ((1 : ℝ) : EReal) := by
  simp [Ideal.ofBits, Ideal.ieee, -EReal.coe_mul]; norm_num

/-- The slope of head `h`: two to the power `-(h + 1)`. -/
def slope (h : Fin 8) : EReal := ((((1 : ℝ) / 2) ^ (h.val + 1) : ℝ) : EReal)

theorem slope0 : Ideal.ofBits .f32 0x3F000000#32 = slope 0 := by
  simp [slope, Ideal.ofBits, Ideal.ieee, -EReal.coe_mul]; norm_num
theorem slope1 : Ideal.ofBits .f32 0x3E800000#32 = slope 1 := by
  simp [slope, Ideal.ofBits, Ideal.ieee, -EReal.coe_mul]; norm_num
theorem slope2 : Ideal.ofBits .f32 0x3E000000#32 = slope 2 := by
  simp [slope, Ideal.ofBits, Ideal.ieee, -EReal.coe_mul]; norm_num
theorem slope3 : Ideal.ofBits .f32 0x3D800000#32 = slope 3 := by
  simp [slope, Ideal.ofBits, Ideal.ieee, -EReal.coe_mul]; norm_num
theorem slope4 : Ideal.ofBits .f32 0x3D000000#32 = slope 4 := by
  simp [slope, Ideal.ofBits, Ideal.ieee, -EReal.coe_mul]; norm_num
theorem slope5 : Ideal.ofBits .f32 0x3C800000#32 = slope 5 := by
  simp [slope, Ideal.ofBits, Ideal.ieee, -EReal.coe_mul]; norm_num
theorem slope6 : Ideal.ofBits .f32 0x3C000000#32 = slope 6 := by
  simp [slope, Ideal.ofBits, Ideal.ieee, -EReal.coe_mul]; norm_num
theorem slope7 : Ideal.ofBits .f32 0x3B800000#32 = slope 7 := by
  simp [slope, Ideal.ofBits, Ideal.ieee, -EReal.coe_mul]; norm_num

end Cert.Consts

end
-- ==== Proof.Head.lean ====
/- One head of the attention kernel's body: the payloads the body is printed in are, head after head, one function of the
   query slice, the key and value bands, the slope and the sink; read at a row and a column it is the softmax row of
   Proof/Softmax.lean. -/
module

public import proofs.«01_k».proof.Proof.Gen.AttnIdeal.Skeleton
public import proofs.«01_k».proof.Proof.Softmax
public import proofs.«01_k».proof.Proof.Consts
public import Idealize.ShloMosaic.Lib.Pointwise

@[expose] public section

set_option maxRecDepth 16384

noncomputable section

open Idealize.ShloMosaic Idealize.ShloMosaic.TcCoe Idealize.SL.Sem

namespace Cert.AttnIdeal.Head

open Cert.AttnIdeal Cert.AttnIdeal.Gen

/-- The masked scores of one head. -/
def scoreV (valid : IVec S128x384 1) (ad : FVec Ideal S128x384 .f32) (qh : FVec Ideal S128x64 .bf16)
    (kb : FVec Ideal S384x64 .bf16) (b : BitVec 32) : FVec Ideal S128x384 .f32 :=
  select valid
    (subf (matmul dot_S128x64_S384x64_S128x384_1_1_0_0_n_n none qh kb (constant S128x384 .f32 0x00000000#32))
      (mulf (broadcast S128x384 (Scalar.ofBits .f32 b : Ideal .f32)) ad))
    (broadcast S128x384 (Named.named κ "mask" 0xF149F2CA#32 : Ideal .f32))

/-- The row maximum, the sink among its arguments. -/
def maxV (s : FVec Ideal S128x384 .f32) (sk : Elt Ideal .f32) : FVec Ideal S128x1 .f32 :=
  maximumf (shapeCast S128x1 (multiReduction .maximumf [1] S128 s 0xFF800000#32 reduces_S128x384_S128 (.inl rfl) rfl) shapeCasts_S128_S128x1)
    (broadcast S128x1 sk)

/-- The exponentials of the scores less the row maximum. -/
def expV (s : FVec Ideal S128x384 .f32) (sk : Elt Ideal .f32) : FVec Ideal S128x384 .f32 :=
  exp (subf s (broadcastTo S128x384 (maxV s sk) broadcasts_S128x1_S128x384))

/-- The denominator: the exponentials' row sum and the sink's exponential. -/
def denV (s : FVec Ideal S128x384 .f32) (sk : Elt Ideal .f32) : FVec Ideal S128x1 .f32 :=
  addf (shapeCast S128x1 (multiReduction .add [1] S128 (expV s sk) 0x00000000#32 reduces_S128x384_S128 (.inl rfl) rfl) shapeCasts_S128_S128x1)
    (exp (subf (broadcast S128x1 sk) (maxV s sk)))

/-- The head's output. -/
def headV (s : FVec Ideal S128x384 .f32) (sk : Elt Ideal .f32) (vb : FVec Ideal S384x64 .bf16) : FVec Ideal S128x64 .f32 :=
  divf (matmul dot_S128x384_S384x64_S128x64_1_0_0_1_n_n none (truncf .bf16 (expV s sk) bitsLt_bf16_f32) vb (constant S128x64 .f32 0x00000000#32))
    (broadcastTo S128x64 (denV s sk) broadcasts_S128x1_S128x64)

variable (vd : IVec S128x384 1) (ad : FVec Ideal S128x384 .f32) (q : FVec Ideal S128x512 .bf16)
  (kb vb : FVec Ideal S384x64 .bf16) (sk : Elt Ideal .f32)

/-! The eight heads of the body are this function, each at its own slice of the queries and its own slope. -/

theorem head0 (v35 : FVec Ideal S128x64 .bf16) (v36 v39 : Vec Ideal S1x128x128 .bf16) :
    k0_pay9 vd ad q kb v35 v36 v39 sk
      = headV (scoreV vd ad (extractStridedSlice S128x64 ![0, 0] q slices_S128x512_o0_0_S128x64) kb 0x3F000000#32) sk (k0_pay8 v35 v36 v39) := rfl
theorem head1 :
    k0_pay13 vb (k0_pay10 vd ad q kb) sk (k0_pay11 vd ad q kb) (k0_pay12 sk)
      = headV (scoreV vd ad (extractStridedSlice S128x64 ![0, 64] q slices_S128x512_o0_64_S128x64) kb 0x3E800000#32) sk vb := rfl
theorem head2 : k0_pay14 vd ad q kb vb sk
      = headV (scoreV vd ad (extractStridedSlice S128x64 ![0, 128] q slices_S128x512_o0_128_S128x64) kb 0x3E000000#32) sk vb := rfl
theorem head3 : k0_pay16 vb (k0_pay15 vd ad q kb) sk
      = headV (scoreV vd ad (extractStridedSlice S128x64 ![0, 192] q slices_S128x512_o0_192_S128x64) kb 0x3D800000#32) sk vb := rfl
theorem head4 : k0_pay20 vd ad kb vb (k0_pay19 q) (constant S128x384 .f32 0x00000000#32) sk
      = headV (scoreV vd ad (extractStridedSlice S128x64 ![0, 256] q slices_S128x512_o0_256_S128x64) kb 0x3D000000#32) sk vb := rfl
theorem head5 : k0_pay26 (k0_pay24 vd ad q kb sk) (k0_pay25 vd ad q kb vb sk)
      = headV (scoreV vd ad (extractStridedSlice S128x64 ![0, 320] q slices_S128x512_o0_320_S128x64) kb 0x3C800000#32) sk vb := rfl
theorem head6 : k0_pay27 vd ad q kb vb sk
      = headV (scoreV vd ad (extractStridedSlice S128x64 ![0, 384] q slices_S128x512_o0_384_S128x64) kb 0x3C000000#32) sk vb := rfl

/-- The block the body stores: the eight heads side by side (the eighth is finished in the stored payload itself). -/
theorem stored (h0 h1 h2 h3 h4 h5 h6 : FVec Ideal S128x64 .f32) :
    k0_pay1 h0 h1 h2 h3 vb h4 h5 h6 (k0_pay30 vd ad q kb sk) (k0_pay31 vd ad q kb sk) (k0_pay32 vd ad q kb sk)
      = shapeCast S1x128x512 (truncf .bf16 (concatenate S128x512 1 [⟨S128x64, h0⟩, ⟨S128x64, h1⟩, ⟨S128x64, h2⟩, ⟨S128x64, h3⟩,
          ⟨S128x64, h4⟩, ⟨S128x64, h5⟩, ⟨S128x64, h6⟩,
          ⟨S128x64, headV (scoreV vd ad (extractStridedSlice S128x64 ![0, 448] q slices_S128x512_o0_448_S128x64) kb 0x3B800000#32) sk vb⟩]
          concatenates_S128x64_S128x64_S128x64_S128x64_S128x64_S128x64_S128x64_S128x64_S128x512_d1) bitsLt_bf16_f32) shapeCasts_S128x512_S1x128x512 := rfl

/-- A masked score read at a row and a band position. -/
theorem scoreV_at (qh : FVec Ideal S128x64 .bf16) (b : BitVec 32) (r : Fin 128) (j : Fin 384) :
    scoreV vd ad qh kb b (ix2 r j)
      = Scalar.select (vd (ix2 r j)) ((∑ e : Fin 64, qh (ix2 r e) * kb (ix2 j e)) - Ideal.ofBits .f32 b * ad (ix2 r j)) (⊥ : EReal) := by
  have hm : (Named.named κ "mask" 0xF149F2CA#32 : Ideal .f32) = (⊥ : EReal) :=
    IdealRules.named_const.ideal_named_scalar _ _ _ _ rfl
  pointwise [scoreV, hm]

/-- The head's output read at a row and a column: the softmax row over the band, weighted by the values' column. -/
theorem headV_at (s : FVec Ideal S128x384 .f32) (r : Fin 128) (d : Fin 64) :
    headV s sk vb (ix2 r d)
      = Ideal.div (∑ j : Fin 384, Ideal.exp (s (ix2 r j) - Softmax.rowMax (fun j : Fin 384 => s (ix2 r j)) sk) * vb (ix2 j d))
          (Softmax.den (fun j : Fin 384 => s (ix2 r j)) sk) := by
  pointwise [headV, denV, expV, maxV, Softmax.den, Softmax.rowMax]
  rw [Consts.negInf]

end Cert.AttnIdeal.Head

end
-- ==== Proof.Block.lean ====
/- The block the attention kernel's body stores, read at a row, a head and a column: a softmax row over the band of keys. -/
module

public import proofs.«01_k».proof.Proof.Head

@[expose] public section

set_option maxRecDepth 16384

noncomputable section

open Idealize.ShloMosaic Idealize.ShloMosaic.TcCoe Idealize.SL.Sem

namespace Cert.AttnIdeal.Block

open Cert.AttnIdeal Cert.AttnIdeal.Gen Cert.AttnIdeal.Head

/-- Row `j` of the band of three blocks, at column `c`. -/
def band (a b d : FVec Ideal S1x128x128 .bf16) (j : Fin 384) (c : Fin 128) : EReal :=
  if h : (j : ℕ) < 128 then a (ix3 0 ⟨j, h⟩ c)
  else if h2 : (j : ℕ) - 128 < 128 then b (ix3 0 ⟨j - 128, h2⟩ c)
  else d (ix3 0 ⟨j - 128 - 128, by omega⟩ c)

theorem band0 (a b d : FVec Ideal S1x128x128 .bf16) (j : Fin 384) (e : Fin 64) :
    k0_pay6 (F := Ideal) a b d (ix2 j e) = band a b d j ⟨e, by omega⟩ := by
  pointwise [k0_pay6, band]

theorem band0' (a b d : FVec Ideal S1x128x128 .bf16) : k0_pay8 (F := Ideal) (k0_pay7 a) b d = k0_pay6 (F := Ideal) a b d := rfl
theorem band1' (a b d : FVec Ideal S1x128x128 .bf16) : k0_pay18 (F := Ideal) a b d = k0_pay17 (F := Ideal) a b d := rfl

theorem band1 (a b d : FVec Ideal S1x128x128 .bf16) (j : Fin 384) (e : Fin 64) :
    k0_pay17 (F := Ideal) a b d (ix2 j e) = band a b d j ⟨64 + e, by omega⟩ := by
  pointwise [k0_pay17, band]

/-- The masked score of head `h` at row `r` and band position `j`. -/
def scoreAt (i : grid0.Coords) (x1 : FVec Ideal S1x128x512 .bf16) (x2 x3 x4 : FVec Ideal S1x128x128 .bf16)
    (r : Fin 128) (h : Fin 8) (j : Fin 384) : EReal :=
  Scalar.select (k0_pay3 i (ix2 r j))
    ((∑ e : Fin 64, x1 (ix3 0 r ⟨64 * h + e, by omega⟩) * band x2 x3 x4 j ⟨64 * (h / 4) + e, by omega⟩)
      - Consts.slope h * k0_pay4 (F := Ideal) (ix2 r j)) (⊥ : EReal)

/-- The stored value at row `r`, head `h`, column `d`. -/
def outAt (i : grid0.Coords) (sk : Fin 8 → EReal) (x1 : FVec Ideal S1x128x512 .bf16) (x2 x3 x4 x5 x6 x7 : FVec Ideal S1x128x128 .bf16)
    (r : Fin 128) (h : Fin 8) (d : Fin 64) : EReal :=
  Ideal.div (∑ j : Fin 384, Ideal.exp (scoreAt i x1 x2 x3 x4 r h j - Softmax.rowMax (scoreAt i x1 x2 x3 x4 r h) (sk h))
      * band x5 x6 x7 j ⟨64 * (h / 4) + d, by omega⟩)
    (Softmax.den (scoreAt i x1 x2 x3 x4 r h) (sk h))

/-- One head of the body, its scores and its values known at every index, is `outAt`. -/
theorem head_out (i : grid0.Coords) (sk : Fin 8 → EReal) (x1 : FVec Ideal S1x128x512 .bf16) (x2 x3 x4 x5 x6 x7 : FVec Ideal S1x128x128 .bf16)
    (r : Fin 128) (h : Fin 8) (d : Fin 64) (qh : FVec Ideal S128x64 .bf16) (kb vb : FVec Ideal S384x64 .bf16) (b : BitVec 32)
    (hb : Ideal.ofBits .f32 b = Consts.slope h)
    (hq : ∀ e : Fin 64, qh (ix2 r e) = x1 (ix3 0 r ⟨64 * h + e, by omega⟩))
    (hk : ∀ (j : Fin 384) (e : Fin 64), kb (ix2 j e) = band x2 x3 x4 j ⟨64 * (h / 4) + e, by omega⟩)
    (hv : ∀ (j : Fin 384) (e : Fin 64), vb (ix2 j e) = band x5 x6 x7 j ⟨64 * (h / 4) + e, by omega⟩) :
    headV (scoreV (k0_pay3 i) (k0_pay4 (F := Ideal)) qh kb b) (sk h) vb (ix2 r d) = outAt i sk x1 x2 x3 x4 x5 x6 x7 r h d := by
  rw [headV_at]
  simp only [scoreV_at, hb, hq, hk, hv]
  rfl

/-- The eight heads side by side, read at head `h`. -/
theorem concat_at (H : Fin 8 → FVec Ideal S128x64 .f32) (r : Fin 128) (h : Fin 8) (d : Fin 64) :
    shapeCast S1x128x512 (truncf .bf16 (concatenate S128x512 1 [⟨S128x64, H 0⟩, ⟨S128x64, H 1⟩, ⟨S128x64, H 2⟩, ⟨S128x64, H 3⟩,
          ⟨S128x64, H 4⟩, ⟨S128x64, H 5⟩, ⟨S128x64, H 6⟩, ⟨S128x64, H 7⟩]
          concatenates_S128x64_S128x64_S128x64_S128x64_S128x64_S128x64_S128x64_S128x64_S128x512_d1) bitsLt_bf16_f32) shapeCasts_S128x512_S1x128x512
        (ix3 0 r ⟨64 * h + d, by omega⟩) = H h (ix2 r d) := by
  pointwise
  have hd := d.isLt
  have key : ∀ (n : Fin 8) (hn : (h : ℕ) = n) (x : ℕ) (hx : x < 64), x = d → H n (ix2 r ⟨x, hx⟩) = H h (ix2 r d) := by
    intro n hn x hx hxd
    obtain rfl : h = n := Fin.ext hn
    subst hxd; rfl
  fin_vals h with hh
  all_goals
    repeat' first
      | rw [dif_pos (by omega)]
      | rw [dif_neg (by omega)]
    exact key _ hh _ _ (by omega)

/-- The block the body stores, from the blocks it loads and the eight sinks. -/
def bodyV (i : grid0.Coords) (sk : Fin 8 → EReal) (x1 : FVec Ideal S1x128x512 .bf16) (x2 x3 x4 x5 x6 x7 : FVec Ideal S1x128x128 .bf16) :
    FVec Ideal S1x128x512 .bf16 :=
  k0_pay1 (F := Ideal) (k0_pay9 (k0_pay3 i) k0_pay4 (k0_pay5 x1) (k0_pay6 x2 x3 x4) (k0_pay7 x5) x6 x7 (sk 0))
    (k0_pay13 (k0_pay8 (k0_pay7 x5) x6 x7) (k0_pay10 (k0_pay3 i) k0_pay4 (k0_pay5 x1) (k0_pay6 x2 x3 x4)) (sk 1)
      (k0_pay11 (k0_pay3 i) k0_pay4 (k0_pay5 x1) (k0_pay6 x2 x3 x4)) (k0_pay12 (F := Ideal) (sk 1)))
    (k0_pay14 (k0_pay3 i) k0_pay4 (k0_pay5 x1) (k0_pay6 x2 x3 x4) (k0_pay8 (k0_pay7 x5) x6 x7) (sk 2))
    (k0_pay16 (k0_pay8 (k0_pay7 x5) x6 x7) (k0_pay15 (k0_pay3 i) k0_pay4 (k0_pay5 x1) (k0_pay6 x2 x3 x4)) (sk 3))
    (k0_pay18 x5 x6 x7)
    (k0_pay20 (k0_pay3 i) k0_pay4 (k0_pay17 x2 x3 x4) (k0_pay18 x5 x6 x7) (k0_pay19 (k0_pay5 x1)) (constant S128x384 .f32 0x00000000#32) (sk 4))
    (k0_pay26 (k0_pay24 (k0_pay3 i) k0_pay4 (k0_pay5 x1) (k0_pay17 x2 x3 x4) (sk 5))
      (k0_pay25 (k0_pay3 i) k0_pay4 (k0_pay5 x1) (k0_pay17 x2 x3 x4) (k0_pay18 x5 x6 x7) (sk 5)))
    (k0_pay27 (k0_pay3 i) k0_pay4 (k0_pay5 x1) (k0_pay17 x2 x3 x4) (k0_pay18 x5 x6 x7) (sk 6))
    (k0_pay30 (k0_pay3 i) k0_pay4 (k0_pay5 x1) (k0_pay17 x2 x3 x4) (sk 7))
    (k0_pay31 (k0_pay3 i) k0_pay4 (k0_pay5 x1) (k0_pay17 x2 x3 x4) (sk 7))
    (k0_pay32 (k0_pay3 i) k0_pay4 (k0_pay5 x1) (k0_pay17 x2 x3 x4) (sk 7))

/-- The eight heads of the body. -/
def heads (i : grid0.Coords) (sk : Fin 8 → EReal) (x1 : FVec Ideal S1x128x512 .bf16) (x2 x3 x4 x5 x6 x7 : FVec Ideal S1x128x128 .bf16) :
    Fin 8 → FVec Ideal S128x64 .f32
  | 0 => headV (scoreV (k0_pay3 i) k0_pay4 (extractStridedSlice S128x64 ![0, 0] (k0_pay5 x1) slices_S128x512_o0_0_S128x64) (k0_pay6 x2 x3 x4) 0x3F000000#32) (sk 0) (k0_pay8 (k0_pay7 x5) x6 x7)
  | 1 => headV (scoreV (k0_pay3 i) k0_pay4 (extractStridedSlice S128x64 ![0, 64] (k0_pay5 x1) slices_S128x512_o0_64_S128x64) (k0_pay6 x2 x3 x4) 0x3E800000#32) (sk 1) (k0_pay8 (k0_pay7 x5) x6 x7)
  | 2 => headV (scoreV (k0_pay3 i) k0_pay4 (extractStridedSlice S128x64 ![0, 128] (k0_pay5 x1) slices_S128x512_o0_128_S128x64) (k0_pay6 x2 x3 x4) 0x3E000000#32) (sk 2) (k0_pay8 (k0_pay7 x5) x6 x7)
  | 3 => headV (scoreV (k0_pay3 i) k0_pay4 (extractStridedSlice S128x64 ![0, 192] (k0_pay5 x1) slices_S128x512_o0_192_S128x64) (k0_pay6 x2 x3 x4) 0x3D800000#32) (sk 3) (k0_pay8 (k0_pay7 x5) x6 x7)
  | 4 => headV (scoreV (k0_pay3 i) k0_pay4 (extractStridedSlice S128x64 ![0, 256] (k0_pay5 x1) slices_S128x512_o0_256_S128x64) (k0_pay17 x2 x3 x4) 0x3D000000#32) (sk 4) (k0_pay18 x5 x6 x7)
  | 5 => headV (scoreV (k0_pay3 i) k0_pay4 (extractStridedSlice S128x64 ![0, 320] (k0_pay5 x1) slices_S128x512_o0_320_S128x64) (k0_pay17 x2 x3 x4) 0x3C800000#32) (sk 5) (k0_pay18 x5 x6 x7)
  | 6 => headV (scoreV (k0_pay3 i) k0_pay4 (extractStridedSlice S128x64 ![0, 384] (k0_pay5 x1) slices_S128x512_o0_384_S128x64) (k0_pay17 x2 x3 x4) 0x3C000000#32) (sk 6) (k0_pay18 x5 x6 x7)
  | 7 => headV (scoreV (k0_pay3 i) k0_pay4 (extractStridedSlice S128x64 ![0, 448] (k0_pay5 x1) slices_S128x512_o0_448_S128x64) (k0_pay17 x2 x3 x4) 0x3B800000#32) (sk 7) (k0_pay18 x5 x6 x7)

variable (i : grid0.Coords) (sk : Fin 8 → EReal) (x1 : FVec Ideal S1x128x512 .bf16) (x2 x3 x4 x5 x6 x7 : FVec Ideal S1x128x128 .bf16)

/-- Every head is `outAt`. -/
theorem heads_at (h : Fin 8) (r : Fin 128) (d : Fin 64) :
    heads i sk x1 x2 x3 x4 x5 x6 x7 h (ix2 r d) = outAt i sk x1 x2 x3 x4 x5 x6 x7 r h d := by
  have hv0 : ∀ (j : Fin 384) (e : Fin 64), k0_pay8 (F := Ideal) (k0_pay7 x5) x6 x7 (ix2 j e) = band x5 x6 x7 j ⟨e, by omega⟩ := band0 x5 x6 x7
  have hv1 : ∀ (j : Fin 384) (e : Fin 64), k0_pay18 (F := Ideal) x5 x6 x7 (ix2 j e) = band x5 x6 x7 j ⟨64 + e, by omega⟩ := band1 x5 x6 x7
  match h with
  | 0 => exact head_out i sk x1 x2 x3 x4 x5 x6 x7 r 0 d _ _ _ _ Consts.slope0 (fun e => by pointwise [k0_pay5]) (fun j e => (band0 x2 x3 x4 j e).trans (by congr 1; ext; simp)) (fun j e => (hv0 j e).trans (by congr 1; ext; simp))
  | 1 => exact head_out i sk x1 x2 x3 x4 x5 x6 x7 r 1 d _ _ _ _ Consts.slope1 (fun e => by pointwise [k0_pay5]) (fun j e => (band0 x2 x3 x4 j e).trans (by congr 1; ext; simp)) (fun j e => (hv0 j e).trans (by congr 1; ext; simp))
  | 2 => exact head_out i sk x1 x2 x3 x4 x5 x6 x7 r 2 d _ _ _ _ Consts.slope2 (fun e => by pointwise [k0_pay5]) (fun j e => (band0 x2 x3 x4 j e).trans (by congr 1; ext; simp)) (fun j e => (hv0 j e).trans (by congr 1; ext; simp))
  | 3 => exact head_out i sk x1 x2 x3 x4 x5 x6 x7 r 3 d _ _ _ _ Consts.slope3 (fun e => by pointwise [k0_pay5]) (fun j e => (band0 x2 x3 x4 j e).trans (by congr 1; ext; simp)) (fun j e => (hv0 j e).trans (by congr 1; ext; simp))
  | 4 => exact head_out i sk x1 x2 x3 x4 x5 x6 x7 r 4 d _ _ _ _ Consts.slope4 (fun e => by pointwise [k0_pay5]) (fun j e => (band1 x2 x3 x4 j e).trans (by congr 1)) (fun j e => (hv1 j e).trans (by congr 1))
  | 5 => exact head_out i sk x1 x2 x3 x4 x5 x6 x7 r 5 d _ _ _ _ Consts.slope5 (fun e => by pointwise [k0_pay5]) (fun j e => (band1 x2 x3 x4 j e).trans (by congr 1)) (fun j e => (hv1 j e).trans (by congr 1))
  | 6 => exact head_out i sk x1 x2 x3 x4 x5 x6 x7 r 6 d _ _ _ _ Consts.slope6 (fun e => by pointwise [k0_pay5]) (fun j e => (band1 x2 x3 x4 j e).trans (by congr 1)) (fun j e => (hv1 j e).trans (by congr 1))
  | 7 => exact head_out i sk x1 x2 x3 x4 x5 x6 x7 r 7 d _ _ _ _ Consts.slope7 (fun e => by pointwise [k0_pay5]) (fun j e => (band1 x2 x3 x4 j e).trans (by congr 1)) (fun j e => (hv1 j e).trans (by congr 1))

/-- THE BLOCK: what the body stores, at every row, head and column. -/
theorem body_at (r : Fin 128) (h : Fin 8) (d : Fin 64) :
    bodyV i sk x1 x2 x3 x4 x5 x6 x7 (ix3 0 r ⟨64 * h + d, by omega⟩) = outAt i sk x1 x2 x3 x4 x5 x6 x7 r h d := by
  refine Eq.trans ?_ ((concat_at (heads i sk x1 x2 x3 x4 x5 x6 x7) r h d).trans (heads_at i sk x1 x2 x3 x4 x5 x6 x7 h r d))
  unfold bodyV
  rw [head0, head1, head2, head3, head4, head5, head6, stored]
  rfl

end Cert.AttnIdeal.Block

end
-- ==== Proof.Value.lean ====
/- The attention kernel's result, at every index of the array, as a function of its arguments. -/
module

public import proofs.«01_k».proof.Proof.Gen.AttnIdeal.Value
public import proofs.«01_k».proof.Proof.Block
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.AttnIdeal.Value

open Cert.AttnIdeal Cert.AttnIdeal.Gen

variable (m : (ℓ : Loc nD τ sig) → Buf (Elt Ideal) ℓ)

/-- The windows' index maps, at every grid point. -/
theorem idx : ∀ t : Fin cfg0.N, win0_0.index t = ![0] ∧ win0_1.index t = ![t.val / 64, t.val % 64, 0]
    ∧ win0_2.index t = ![t.val / 64, t.val % 64 - 1, 0] ∧ win0_3.index t = ![t.val / 64, t.val % 64, 0]
    ∧ win0_4.index t = ![t.val / 64, min (t.val % 64 + 1) 63, 0]
    ∧ win0_5.index t = ![t.val / 64, t.val % 64 - 1, 0] ∧ win0_6.index t = ![t.val / 64, t.val % 64, 0]
    ∧ win0_7.index t = ![t.val / 64, min (t.val % 64 + 1) 63, 0]
    ∧ win0_8.index t = ![t.val / 64, t.val % 64, 0] ∧ (grid0.coords t 1).val = t.val % 64 :=
  (by decide +kernel : ∀ t : Fin grid0.N, _)

/-- The array row of band position `j` at block `n` of the sequence: the previous, the current and the next block, clamped at the ends. -/
def krow (n : ℕ) (j : Fin 384) : ℕ :=
  if (j : ℕ) < 128 then 128 * (n - 1) + j else if (j : ℕ) - 128 < 128 then 128 * n + (j - 128) else 128 * min (n + 1) 63 + (j - 128 - 128)

theorem krow_lt {n : ℕ} (hn : n < 64) (j : Fin 384) : krow n j < 8192 := by
  have := j.isLt
  unfold krow; split_ifs <;> omega

/-- The kernel's validity of band position `j` for row `r` of block `n`. -/
def validAt (n : ℕ) (r : Fin 128) (j : Fin 384) : BitVec 1 :=
  IntOp.andi
    (IntOp.andi (IntOp.cmpi .sle (k0_pay2 (ix2 r j)) 128#32)
      (IntOp.ori (IntOp.cmpi .sge (BitVec.ofNat 32 j) 128#32) (Scalar.cmpi .sgt (BitVec.ofNat 32 n) 0#32)))
    (IntOp.ori (IntOp.cmpi .slt (BitVec.ofNat 32 j) 256#32) (Scalar.cmpi .slt (BitVec.ofNat 32 n) 63#32))

theorem t_n : ∀ t : Fin cfg0.N, t.val % 64 < 64 := fun t => Nat.mod_lt _ (by decide)
theorem t_b (t : Fin cfg0.N) : t.val / 64 < 8 := by
  have : t.val < 512 := t.isLt
  omega

/-- The queries' block. -/
theorem blkQ (c : Dev nD) (t : Fin cfg0.N) (r : Fin 128) (d : Fin 512) :
    iblk m c 1 t (ix3 0 r d) = mulf (m ((c.tc : Thread nD τ).loc main_arg0)) (broadcast S8x8192x512 (Scalar.ofBits .f32 0x3E000000#32 : Ideal .f32)) (ix3 ⟨t.val / 64, t_b t⟩ ⟨128 * (t.val % 64) + r, by have := t_n t; omega⟩ d) := by
  blk_ext! [iblk, V, idx t]

theorem blkK2 (c : Dev nD) (t : Fin cfg0.N) (r : Fin 128) (d : Fin 128) :
    iblk m c 2 t (ix3 0 r d) = (m ((c.tc : Thread nD τ).loc main_arg1)) (ix3 ⟨t.val / 64, t_b t⟩ ⟨128 * (t.val % 64 - 1) + r, by have := t_n t; omega⟩ d) := by
  blk_ext! [iblk, V, idx t]
theorem blkK3 (c : Dev nD) (t : Fin cfg0.N) (r : Fin 128) (d : Fin 128) :
    iblk m c 3 t (ix3 0 r d) = (m ((c.tc : Thread nD τ).loc main_arg1)) (ix3 ⟨t.val / 64, t_b t⟩ ⟨128 * (t.val % 64) + r, by have := t_n t; omega⟩ d) := by
  blk_ext! [iblk, V, idx t]
theorem blkK4 (c : Dev nD) (t : Fin cfg0.N) (r : Fin 128) (d : Fin 128) :
    iblk m c 4 t (ix3 0 r d) = (m ((c.tc : Thread nD τ).loc main_arg1)) (ix3 ⟨t.val / 64, t_b t⟩ ⟨128 * min (t.val % 64 + 1) 63 + r, by omega⟩ d) := by
  blk_ext! [iblk, V, idx t]
theorem blkV2 (c : Dev nD) (t : Fin cfg0.N) (r : Fin 128) (d : Fin 128) :
    iblk m c 5 t (ix3 0 r d) = (m ((c.tc : Thread nD τ).loc main_arg2)) (ix3 ⟨t.val / 64, t_b t⟩ ⟨128 * (t.val % 64 - 1) + r, by have := t_n t; omega⟩ d) := by
  blk_ext! [iblk, V, idx t]
theorem blkV3 (c : Dev nD) (t : Fin cfg0.N) (r : Fin 128) (d : Fin 128) :
    iblk m c 6 t (ix3 0 r d) = (m ((c.tc : Thread nD τ).loc main_arg2)) (ix3 ⟨t.val / 64, t_b t⟩ ⟨128 * (t.val % 64) + r, by have := t_n t; omega⟩ d) := by
  blk_ext! [iblk, V, idx t]
theorem blkV4 (c : Dev nD) (t : Fin cfg0.N) (r : Fin 128) (d : Fin 128) :
    iblk m c 7 t (ix3 0 r d) = (m ((c.tc : Thread nD τ).loc main_arg2)) (ix3 ⟨t.val / 64, t_b t⟩ ⟨128 * min (t.val % 64 + 1) 63 + r, by omega⟩ d) := by
  blk_ext! [iblk, V, idx t]
theorem blkS (c : Dev nD) (t : Fin cfg0.N) (h : Fin 8) :
    iblk m c 0 t (ix1 h) = (m ((c.tc : Thread nD τ).loc main_arg3)) (ix1 h) := by
  blk_ext! [iblk, V, idx t]

theorem band_eq (X : FVec Ideal S8x8192x128 .f32) (a b d : FVec Ideal S1x128x128 .bf16) (bb : Fin 8) (n : ℕ) (hn : n < 64)
    (ha : ∀ (r : Fin 128) (e : Fin 128), a (ix3 0 r e) = X (ix3 bb ⟨128 * (n - 1) + r, by omega⟩ e))
    (hb : ∀ (r : Fin 128) (e : Fin 128), b (ix3 0 r e) = X (ix3 bb ⟨128 * n + r, by omega⟩ e))
    (hd : ∀ (r : Fin 128) (e : Fin 128), d (ix3 0 r e) = X (ix3 bb ⟨128 * min (n + 1) 63 + r, by omega⟩ e)) (j : Fin 384) (e : Fin 128) :
    Block.band a b d j e = X (ix3 bb ⟨krow n j, krow_lt hn j⟩ e) := by
  unfold Block.band
  split_ifs with h1 h2
  · rw [ha]; congr 2; exact Fin.ext (by show _ = krow n j; unfold krow; rw [if_pos h1])
  · rw [hb]; congr 2; exact Fin.ext (by show _ = krow n j; unfold krow; rw [if_neg h1, if_pos h2])
  · rw [hd]; congr 2; exact Fin.ext (by show _ = krow n j; unfold krow; rw [if_neg h1, if_neg h2])

/-- The masked score of head `h`, row `r` of block `n`, batch `b`, at band position `j`, from the arguments. -/
def score (Q : FVec Ideal S8x8192x512 .f32) (K : FVec Ideal S8x8192x128 .f32) (b : Fin 8) (n : Fin 64) (r : Fin 128) (h : Fin 8) (j : Fin 384) : EReal :=
  Scalar.select (validAt n r j)
    ((∑ e : Fin 64, (Q (ix3 b ⟨128 * n + r, by omega⟩ ⟨64 * h + e, by omega⟩) * ((1 / 8 : ℝ) : EReal)) * K (ix3 b ⟨krow n j, krow_lt n.isLt j⟩ ⟨64 * (h / 4) + e, by omega⟩))
      - Consts.slope h * k0_pay4 (F := Ideal) (ix2 r j)) (⊥ : EReal)

/-- The attention kernel's output at batch `b`, block `n`, row `r`, head `h`, column `d`, from the arguments. -/
def out (Q : FVec Ideal S8x8192x512 .f32) (K V : FVec Ideal S8x8192x128 .f32) (S : FVec Ideal S8 .f32) (b : Fin 8) (n : Fin 64) (r : Fin 128) (h : Fin 8) (d : Fin 64) : EReal :=
  Ideal.div (∑ j : Fin 384, Ideal.exp (score Q K b n r h j - Softmax.rowMax (score Q K b n r h) (S (ix1 h)))
      * V (ix3 b ⟨krow n j, krow_lt n.isLt j⟩ ⟨64 * (h / 4) + d, by omega⟩))
    (Softmax.den (score Q K b n r h) (S (ix1 h)))

/-- The whole result array. -/
def outArr (Q : FVec Ideal S8x8192x512 .f32) (K V : FVec Ideal S8x8192x128 .f32) (S : FVec Ideal S8 .f32) : FVec Ideal S8x8192x512 .bf16 := fun i =>
  out Q K V S ⟨i 0, (i 0).isLt⟩ ⟨(i 1).val / 128, by have : (i 1).val < 8192 := (i 1).isLt; omega⟩ ⟨(i 1).val % 128, by omega⟩
    ⟨(i 2).val / 64, by have : (i 2).val < 512 := (i 2).isLt; omega⟩ ⟨(i 2).val % 64, by omega⟩

theorem outAt_eq (c : Dev nD) (t : Fin cfg0.N) (r : Fin 128) (h : Fin 8) (d : Fin 64) :
    Block.outAt (grid0.coords t) (fun h => iblk m c 0 t (ix1 h)) (iblk m c 1 t) (iblk m c 2 t) (iblk m c 3 t) (iblk m c 4 t) (iblk m c 5 t) (iblk m c 6 t) (iblk m c 7 t) r h d
      = out (m ((c.tc : Thread nD τ).loc main_arg0)) (m ((c.tc : Thread nD τ).loc main_arg1)) (m ((c.tc : Thread nD τ).loc main_arg2)) (m ((c.tc : Thread nD τ).loc main_arg3)) ⟨t.val / 64, t_b t⟩ ⟨t.val % 64, t_n t⟩ r h d := by
  have hK := band_eq (m ((c.tc : Thread nD τ).loc main_arg1)) _ _ _ _ _ (t_n t) (blkK2 m c t) (blkK3 m c t) (blkK4 m c t)
  have hV := band_eq (m ((c.tc : Thread nD τ).loc main_arg2)) _ _ _ _ _ (t_n t) (blkV2 m c t) (blkV3 m c t) (blkV4 m c t)
  have hs : Block.scoreAt (grid0.coords t) (iblk m c 1 t) (iblk m c 2 t) (iblk m c 3 t) (iblk m c 4 t) r h
      = score (m ((c.tc : Thread nD τ).loc main_arg0)) (m ((c.tc : Thread nD τ).loc main_arg1)) ⟨t.val / 64, t_b t⟩ ⟨t.val % 64, t_n t⟩ r h := by
    funext j
    unfold Block.scoreAt score
    have hval : k0_pay3 (grid0.coords t) (ix2 r j) = validAt (t.val % 64) r j := by
      have h1 := (idx t).2.2.2.2.2.2.2.2.2
      unfold validAt
      pointwise [k0_pay3]
      rw [h1]
    rw [hval]
    congr 2
    refine Finset.sum_congr rfl fun e _ => ?_
    rw [hK, blkQ]
    congr 1
    show _ * Ideal.ofBits .f32 0x3E000000#32 = _
    rw [Consts.eighth]
  unfold Block.outAt out
  beta_reduce
  rw [hs, blkS]
  congr 1
  refine Finset.sum_congr rfl fun j _ => ?_
  rw [hV]

theorem outArr_at (Q : FVec Ideal S8x8192x512 .f32) (K V : FVec Ideal S8x8192x128 .f32) (S : FVec Ideal S8 .f32) (b : Fin 8) (n : Fin 64) (r : Fin 128) (h : Fin 8) (d : Fin 64) :
    outArr Q K V S (ix3 b ⟨128 * n + r, by omega⟩ ⟨64 * h + d, by omega⟩) = out Q K V S b n r h d := by
  show out Q K V S ⟨b, _⟩ ⟨(128 * n + r : ℕ) / 128, _⟩ ⟨(128 * n + r : ℕ) % 128, _⟩ ⟨(64 * h + d : ℕ) / 64, _⟩ ⟨(64 * h + d : ℕ) % 64, _⟩ = _
  congr 1 <;> apply Fin.ext <;> simp only [] <;> omega

/-- THE KERNEL'S RESULT: the array its pipeline leaves is `outArr` of the arguments. -/
theorem final (c : Dev nD) : (dats m 0 c).arrAt 8 cfg0.N = outArr (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 8 _ (by decide +kernel) fun t _ y => ?_
  blk_simp
  rw [after0_8]
  unfold outsAt0
  frame_out
  refine Eq.trans (b := Block.bodyV (grid0.coords t) (fun h => iblk m c 0 t (ix1 h)) (iblk m c 1 t) (iblk m c 2 t) (iblk m c 3 t) (iblk m c 4 t) (iblk m c 5 t) (iblk m c 6 t) (iblk m c 7 t) y) ?_ ?_
  · have e0 : ∀ hf, View.ld (iblk m c 0 t) (Rect.unit ![0] ![1] inb_S8_S1_0) (Shape.Idx.first hf) = iblk m c 0 t (ix1 0) := fun hf => by pointwise
    have e1 : ∀ hf, View.ld (iblk m c 0 t) (Rect.unit ![1] ![1] inb_S8_S1_1) (Shape.Idx.first hf) = iblk m c 0 t (ix1 1) := fun hf => by pointwise
    have e2 : ∀ hf, View.ld (iblk m c 0 t) (Rect.unit ![2] ![1] inb_S8_S1_2) (Shape.Idx.first hf) = iblk m c 0 t (ix1 2) := fun hf => by pointwise
    have e3 : ∀ hf, View.ld (iblk m c 0 t) (Rect.unit ![3] ![1] inb_S8_S1_3) (Shape.Idx.first hf) = iblk m c 0 t (ix1 3) := fun hf => by pointwise
    have e4 : ∀ hf, View.ld (iblk m c 0 t) (Rect.unit ![4] ![1] inb_S8_S1_4) (Shape.Idx.first hf) = iblk m c 0 t (ix1 4) := fun hf => by pointwise
    have e5 : ∀ hf, View.ld (iblk m c 0 t) (Rect.unit ![5] ![1] inb_S8_S1_5) (Shape.Idx.first hf) = iblk m c 0 t (ix1 5) := fun hf => by pointwise
    have e6 : ∀ hf, View.ld (iblk m c 0 t) (Rect.unit ![6] ![1] inb_S8_S1_6) (Shape.Idx.first hf) = iblk m c 0 t (ix1 6) := fun hf => by pointwise
    have e7 : ∀ hf, View.ld (iblk m c 0 t) (Rect.unit ![7] ![1] inb_S8_S1_7) (Shape.Idx.first hf) = iblk m c 0 t (ix1 7) := fun hf => by pointwise
    unfold Block.bodyV
    rw [e0, e1, e2, e3, e4, e5, e6, e7]
  · have b1 : (y 1).val < 128 := (y 1).isLt
    have b2 : (y 2).val < 512 := (y 2).isLt
    have hy : y = ix3 0 ⟨(y 1).val, b1⟩ ⟨64 * ((y 2).val / 64) + (y 2).val % 64, by omega⟩ := by idx_ext
    have hz : ((View.whole main_v5).slice (win0_8.rect t)).emb y
        = ix3 ⟨t.val / 64, t_b t⟩ ⟨128 * (t.val % 64) + (y 1).val, by have := t_n t; omega⟩ ⟨64 * ((y 2).val / 64) + (y 2).val % 64, by omega⟩ := by
      blk_ext [idx t]
    rw [hz]
    refine Eq.trans ?_ (outArr_at _ _ _ _ ⟨t.val / 64, t_b t⟩ ⟨t.val % 64, t_n t⟩ ⟨(y 1).val, b1⟩ ⟨(y 2).val / 64, by omega⟩ ⟨(y 2).val % 64, by omega⟩).symm
    rw [← outAt_eq m c t]
    refine Eq.trans ?_ (Block.body_at _ _ _ _ _ _ _ _ _ _ _ _)
    exact congrArg _ hy

end Cert.AttnIdeal.Value

end
-- ==== Proof.Mask.lean ====
/- The attention's mask: the kernel's test of a band position, the reference's, and the rows of the arrays they admit. -/
module

public import proofs.«01_k».proof.Proof.Softmax
public import Idealize.ShloMosaic.Lib.Pointwise
public import Idealize.ShloMosaic.Lib.WordCmp

@[expose] public section

set_option maxRecDepth 16384

noncomputable section

open Idealize.ShloMosaic Idealize.ShloMosaic.TcCoe

namespace Mask

/-- The key's position, as the reference computes it: block `n` of the sequence, position `j` of its band. -/
abbrev pos (n j : ℕ) : BitVec 32 := IntOp.addi (IntOp.subi (IntOp.muli (BitVec.ofNat 32 n) 128#32) 128#32) (BitVec.ofNat 32 j)

/-- The position is not before the sequence. -/
theorem low : ∀ (n : Fin 64) (j : Fin 384), IntOp.cmpi .sge (pos n j) 0#32
      = IntOp.ori (IntOp.cmpi .sge (BitVec.ofNat 32 j) 128#32) (Scalar.cmpi .sgt (BitVec.ofNat 32 n) 0#32)
    ∧ (IntOp.cmpi .sge (pos n j) 0#32 = 1#1 ↔ 128 ≤ 128 * (n : ℕ) + j) := by
  decide +kernel

/-- The position is not after the sequence. -/
theorem high : ∀ (n : Fin 64) (j : Fin 384), IntOp.cmpi .slt (pos n j) 8192#32
      = IntOp.ori (IntOp.cmpi .slt (BitVec.ofNat 32 j) 256#32) (Scalar.cmpi .slt (BitVec.ofNat 32 n) 63#32)
    ∧ (IntOp.cmpi .slt (pos n j) 8192#32 = 1#1 ↔ 128 * (n : ℕ) + j - 128 < 8192) := by
  decide +kernel

end Mask

end
-- ==== Proof.RefRead.lean ====
/- The attention reference, read at a batch, a block of the sequence, a row, a head and a column. -/
module

public import proofs.«01_k».proof.Proof.Gen.AttnRefIdeal.Read
public import proofs.«01_k».proof.Proof.Softmax
public import proofs.«01_k».proof.Proof.Consts
public import proofs.«01_k».proof.Proof.Mask
public import Idealize.ShloMosaic.Lib.Pointwise
public import Idealize.ShloMosaic.Lib.ValueIdxRank6

@[expose] public section

set_option maxRecDepth 16384

noncomputable section

open Idealize.ShloMosaic Idealize.ShloMosaic.TcCoe Idealize.SL.Sem

namespace Cert.AttnRefIdeal.At

open Cert.AttnRefIdeal Cert.AttnRefIdeal.Gen Cert.AttnRefIdeal.Read

/-- Row `j` of block `n`'s band of the zero-padded array: row `128 n + j - 128` of the array, zero outside of it. -/
def padAt (X : FVec Ideal S8x8192x128 .f32) (b : Fin 8) (n : Fin 64) (j : Fin 384) (c : Fin 128) : EReal :=
  if h : 128 ≤ 128 * (n : ℕ) + j ∧ 128 * (n : ℕ) + j - 128 < 8192 then X (ix3 b ⟨128 * (n : ℕ) + j - 128, h.2⟩ c) else 0

/-- The three pieces of the band, each a slice of the padded array, are the padded array's row. -/
theorem ladder (X : FVec Ideal S8x8192x128 .f32) (b : Fin 8) (n : Fin 64) (j : Fin 384) (g : Fin 2) (e : Fin 64) (z : EReal) (hz : z = 0) :
    (if h : (j : ℕ) < 128 then
      if h1 : 128 ≤ (n : ℕ) * 128 + j ∧ (n : ℕ) * 128 + j - 128 < 8192 then
        X (ix3 b ⟨(n : ℕ) * 128 + j - 128, h1.2⟩ ⟨(g : ℕ) * 64 + e, by omega⟩)
      else z
    else
      if h : (j : ℕ) - 128 < 128 then
        if h1 : 128 ≤ (1 + (n : ℕ)) * 128 + (j - 128) ∧ (1 + (n : ℕ)) * 128 + (j - 128) - 128 < 8192 then
          X (ix3 b ⟨(1 + (n : ℕ)) * 128 + (j - 128) - 128, h1.2⟩ ⟨(g : ℕ) * 64 + e, by omega⟩)
        else z
      else
        if h1 : 128 ≤ (2 + (n : ℕ)) * 128 + (j - 128 - 128) ∧ (2 + (n : ℕ)) * 128 + (j - 128 - 128) - 128 < 8192 then
          X (ix3 b ⟨(2 + (n : ℕ)) * 128 + (j - 128 - 128) - 128, h1.2⟩ ⟨(g : ℕ) * 64 + e, by omega⟩)
        else z) = padAt X b n j ⟨64 * g + e, by omega⟩ := by
  subst hz
  unfold padAt
  have hj := j.isLt
  have key : ∀ (A C : ℕ) (hA : A < 8192) (hC : C < 128) (hA' : 128 * (n : ℕ) + j - 128 < 8192), A = 128 * (n : ℕ) + j - 128 → C = 64 * (g : ℕ) + e →
      X (ix3 b ⟨A, hA⟩ ⟨C, hC⟩) = X (ix3 b ⟨128 * (n : ℕ) + j - 128, hA'⟩ ⟨64 * g + e, by omega⟩) := by
    intro A C hA hC hA' h1 h2
    subst h1; subst h2; rfl
  by_cases h0 : 128 ≤ 128 * (n : ℕ) + j ∧ 128 * (n : ℕ) + j - 128 < 8192
  · rw [dif_pos h0]
    by_cases h1 : (j : ℕ) < 128
    · rw [dif_pos h1, dif_pos (by omega)]; exact key _ _ _ _ _ (by omega) (by omega)
    · rw [dif_neg h1]
      by_cases h2 : (j : ℕ) - 128 < 128
      · rw [dif_pos h2, dif_pos (by omega)]; exact key _ _ _ _ _ (by omega) (by omega)
      · rw [dif_neg h2, dif_pos (by omega)]; exact key _ _ _ _ _ (by omega) (by omega)
  · rw [dif_neg h0]
    by_cases h1 : (j : ℕ) < 128
    · rw [dif_pos h1, dif_neg (by omega)]
    · rw [dif_neg h1]
      by_cases h2 : (j : ℕ) - 128 < 128
      · rw [dif_pos h2, dif_neg (by omega)]
      · rw [dif_neg h2, dif_neg (by omega)]

theorem pad_k (X : FVec Ideal S8x8192x128 .f32) (b : Fin 8) (n : Fin 64) (j : Fin 384) (g : Fin 2) (e : Fin 64) :
    val_main_v9 (F := Ideal) X (ix5 b n j g e) = padAt X b n j ⟨64 * g + e, by omega⟩ := by
  rw [← ladder X b n j g e (FloatOps.sitofp (F := Ideal) FTy.f32 0#32) (by simp [FloatOps.sitofp])]
  pointwise [val_main_v9, val_main_v8, val_main_v7, val_main_v6, val_main_v5, val_main_v4, val_main_v1, val_main_call0_v0, val_main_c]

theorem pad_v (X : FVec Ideal S8x8192x128 .f32) (b : Fin 8) (n : Fin 64) (j : Fin 384) (g : Fin 2) (e : Fin 64) :
    val_main_v15 (F := Ideal) X (ix5 b n j g e) = padAt X b n j ⟨64 * g + e, by omega⟩ :=
  pad_k X b n j g e

theorem q_at (X : FVec Ideal S8x8192x512 .f32) (b : Fin 8) (n : Fin 64) (r : Fin 128) (g : Fin 2) (u : Fin 4) (e : Fin 64) :
    val_main_v3 (F := Ideal) X (ix6 b n r g u e) = X (ix3 b ⟨128 * n + r, by omega⟩ ⟨64 * (4 * g + u) + e, by omega⟩) := by
  pointwise [val_main_v3, val_main_v0]
  congr 1; idx_ext <;> omega

/-- The reference's mask at row `r` of block `n` and band position `j`. -/
def valid (n : Fin 64) (r : Fin 128) (j : Fin 384) : BitVec 1 :=
  IntOp.andi (IntOp.andi (IntOp.cmpi .sle (IntOp.absi (IntOp.subi (IntOp.addi (BitVec.ofNat 32 r) 128#32) (BitVec.ofNat 32 j))) 128#32)
    (IntOp.cmpi .sge (Mask.pos n j) 0#32)) (IntOp.cmpi .slt (Mask.pos n j) 8192#32)

/-- The distance of row `r` and band position `j`. -/
def dist (r : Fin 128) (j : Fin 384) : EReal :=
  (((IntOp.absi (IntOp.subi (IntOp.addi (BitVec.ofNat 32 r) 128#32) (BitVec.ofNat 32 j))).toInt : ℝ) : EReal)

theorem valid_at (n : Fin 64) (r : Fin 128) (j : Fin 384) : val_main_v51 (F := Ideal) (ix3 n r j) = valid n r j := by
  pointwise [val_main_v51, val_main_v50, val_main_v49, val_main_v48, val_main_v47, val_main_v46, val_main_v45, val_main_v44, val_main_v43, val_main_v42, val_main_v41, val_main_v40, val_main_v38, val_main_v37, val_main_v36, val_main_v35, val_main_v34, val_main_v33, val_main_v32, val_main_v31, val_main_v30, val_main_v29,
    val_main_v39, val_main_v28, val_main_v27, val_main_v26, val_main_v25, val_main_v24, val_main_v23, val_main_v22, val_main_v21, val_main_v20, val_main_c_1, val_main_c_2, val_main_c_3, val_main_c_4, val_main_c_5, val_main_c_6]
  rfl

/-- The slope of head `h`, from the reference's power. -/
theorem pow_slope (h : Fin 8) :
    Ideal.pow (Ideal.ofBits .f32 0x40000000#32) (Ideal.div (Ideal.ofBits .f32 0xC1000000#32 * (1 + FloatOps.sitofp (F := Ideal) .f32 (BitVec.ofNat 32 h))) (Ideal.ofBits .f32 0x41000000#32))
      = Consts.slope h := by
  have h1 : (FloatOps.sitofp (F := Ideal) .f32 (BitVec.ofNat 32 h)) = ((h : ℝ) : EReal) := by
    have : (BitVec.ofNat 32 (h : ℕ)).toInt = ((h : ℕ) : ℤ) := by revert h; decide
    show (((BitVec.ofNat 32 (h : ℕ)).toInt : ℝ) : EReal) = _
    rw [this]; simp
  rw [h1, Consts.two, Consts.neg_eight, Consts.eight, Ideal.div_coe (by norm_num)]
  unfold Consts.slope
  rw [show ((1 : EReal) + ((h : ℝ) : EReal)) = ((1 + (h : ℝ) : ℝ) : EReal) by norm_cast, ← EReal.coe_mul, ← EReal.coe_mul]
  show ((Real.rpow 2 (-8 * (1 + (h : ℝ)) * (1 / 8)) : ℝ) : EReal) = _
  congr 1
  show (2 : ℝ) ^ (-8 * (1 + (h : ℝ)) * (1 / 8)) = _
  rw [show (-8 * (1 + (h : ℝ)) * (1 / 8) : ℝ) = -(((h : ℕ) + 1 : ℕ) : ℝ) by push_cast; ring, Real.rpow_neg (by norm_num), Real.rpow_natCast, one_div, inv_pow]

theorem bias_at (g : Fin 2) (u : Fin 4) (r : Fin 128) (j : Fin 384) :
    val_main_v69 (F := Ideal) (ix4 g u r j) = -Consts.slope ⟨4 * g + u, by omega⟩ * dist r j := by
  rw [← pow_slope]
  pointwise [val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_cst_10, val_main_cst_9, val_main_cst_8, val_main_cst_7,
    val_main_v28, val_main_v27, val_main_v26, val_main_v25, val_main_v24, val_main_v23, val_main_v22, val_main_v21, val_main_v20, val_main_c_1]
  rw [Nat.mul_comm 4]
  rfl

theorem dot_at (Q : FVec Ideal S8x8192x512 .f32) (K : FVec Ideal S8x8192x128 .f32) (b : Fin 8) (n : Fin 64) (g : Fin 2) (u : Fin 4) (r : Fin 128) (j : Fin 384) :
    val_main_v17 (F := Ideal) Q K (ix6 b n g u r j) = ∑ e : Fin 64, padAt K b n j ⟨64 * g + e, by omega⟩ * Q (ix3 b ⟨128 * n + r, by omega⟩ ⟨64 * (4 * g + u) + e, by omega⟩) := by
  rw [val_main_v17_apply, val_main_v16_apply]
  refine Finset.sum_congr rfl fun e _ => ?_
  rw [← pad_k, ← q_at Q]
  congr 2 <;> idx_ext

/-- The reference's masked score. -/
def score (Q : FVec Ideal S8x8192x512 .f32) (K : FVec Ideal S8x8192x128 .f32) (b : Fin 8) (n : Fin 64) (g : Fin 2) (u : Fin 4) (r : Fin 128) (j : Fin 384) : EReal :=
  Scalar.select (valid n r j) ((∑ e : Fin 64, padAt K b n j ⟨64 * g + e, by omega⟩ * Q (ix3 b ⟨128 * n + r, by omega⟩ ⟨64 * (4 * g + u) + e, by omega⟩)) * ((1 / 8 : ℝ) : EReal)
    + -Consts.slope ⟨4 * g + u, by omega⟩ * dist r j) (⊥ : EReal)

theorem score_at (Q : FVec Ideal S8x8192x512 .f32) (K : FVec Ideal S8x8192x128 .f32) (b : Fin 8) (n : Fin 64) (g : Fin 2) (u : Fin 4) (r : Fin 128) (j : Fin 384) :
    val_main_v74 (F := Ideal) Q K (ix6 b n g u r j) = score Q K b n g u r j := by
  unfold score
  rw [← dot_at, ← bias_at, ← valid_at, ← Consts.eighth, ← Consts.negInf]
  pointwise [val_main_v74, val_main_call2_v0, val_main_call2_v1, val_main_call2_v2, val_main_v73, val_main_v72, val_main_v71, val_main_v70, val_main_v19, val_main_v18, val_main_cst, val_main_cst_11]
  rfl

theorem sink_at (S : FVec Ideal S8 .f32) (g : Fin 2) (u : Fin 4) : val_main_v76 (F := Ideal) S (ix6 0 0 g u 0 0) = S (ix1 ⟨4 * g + u, by omega⟩) := by
  pointwise [val_main_v76, val_main_v75]
  congr 1; idx_ext <;> omega

theorem foldmax_at (Q : FVec Ideal S8x8192x512 .f32) (K : FVec Ideal S8x8192x128 .f32) (b : Fin 8) (n : Fin 64) (g : Fin 2) (u : Fin 4) (r : Fin 128) :
    val_main_v77 (F := Ideal) Q K (ix5 b n g u r) = Finset.univ.fold max ⊥ (score Q K b n g u r) := by
  unfold val_main_v77
  have e : ∀ j : Fin 384, val_main_v74 (F := Ideal) Q K (ix6 b n g u r j) = score Q K b n g u r j := score_at Q K b n g u r
  generalize val_main_v74 (F := Ideal) Q K = y at e
  refine (Host.reduce_eq_fold_single (fun a b : EReal => max a b) y (val_main_cst_12 (F := Ideal)) reducesTo_S8x64x2x4x128x384_S8x64x2x4x128_d5 (by decide) h_S_ (ix5 b n g u r)).trans ?_
  have hi : (val_main_cst_12 (F := Ideal)) (Shape.Idx.first h_S_) = (⊥ : EReal) := Consts.negInf
  rw [hi]
  refine congrArg (Finset.univ.fold max ⊥) (funext fun j => ?_)
  refine Eq.trans ?_ (e j)
  exact congrArg y (funext fun a => Fin.ext (by match a with | ⟨0, _⟩ => rfl | ⟨1, _⟩ => rfl | ⟨2, _⟩ => rfl | ⟨3, _⟩ => rfl | ⟨4, _⟩ => rfl | ⟨5, _⟩ => rfl))

theorem max_at (Q : FVec Ideal S8x8192x512 .f32) (K : FVec Ideal S8x8192x128 .f32) (S : FVec Ideal S8 .f32) (b : Fin 8) (n : Fin 64) (g : Fin 2) (u : Fin 4) (r : Fin 128) :
    val_main_v80 (F := Ideal) Q K S (ix6 b n g u r 0) = Softmax.rowMax (score Q K b n g u r) (S (ix1 ⟨4 * g + u, by omega⟩)) := by
  unfold Softmax.rowMax
  rw [← foldmax_at, ← sink_at S]
  exact (val_main_v80_apply ..).trans (congrArg₂ max ((val_main_v78_apply ..).trans (congrArg _ (by idx_ext))) ((val_main_v79_apply ..).trans (congrArg _ (by idx_ext))))

theorem exp_at (Q : FVec Ideal S8x8192x512 .f32) (K : FVec Ideal S8x8192x128 .f32) (S : FVec Ideal S8 .f32) (b : Fin 8) (n : Fin 64) (g : Fin 2) (u : Fin 4) (r : Fin 128) (j : Fin 384) :
    val_main_v83 (F := Ideal) Q K S (ix6 b n g u r j) = Ideal.exp (score Q K b n g u r j - Softmax.rowMax (score Q K b n g u r) (S (ix1 ⟨4 * g + u, by omega⟩))) := by
  rw [← max_at, ← score_at]
  pointwise [val_main_v83, val_main_v82, val_main_v81]

theorem den_at (Q : FVec Ideal S8x8192x512 .f32) (K : FVec Ideal S8x8192x128 .f32) (S : FVec Ideal S8 .f32) (b : Fin 8) (n : Fin 64) (g : Fin 2) (u : Fin 4) (r : Fin 128) :
    val_main_v89 (F := Ideal) Q K S (ix6 b n g u r 0) = Softmax.den (score Q K b n g u r) (S (ix1 ⟨4 * g + u, by omega⟩)) := by
  have h84 : val_main_v84 (F := Ideal) Q K S (ix5 b n g u r) = ∑ j : Fin 384, Ideal.exp (score Q K b n g u r j - Softmax.rowMax (score Q K b n g u r) (S (ix1 ⟨4 * g + u, by omega⟩))) := by
    rw [val_main_v84_apply]
    have hi : (val_main_cst_13 (F := Ideal)) (Shape.Idx.first h_S_) = (0 : EReal) := Ideal.ofBits_zero_f32
    rw [hi, zero_add]
    refine Finset.sum_congr rfl fun j _ => ?_
    rw [← exp_at]
    congr 1; idx_ext
  unfold Softmax.den
  rw [← h84, ← max_at, ← sink_at S]
  pointwise [val_main_v89, val_main_v88, val_main_v87, val_main_v86, val_main_v85]

/-- THE REFERENCE'S RESULT at batch `b`, block `n`, row `r`, group `g`, head `u` of the group, column `d`. -/
theorem out_at (Q : FVec Ideal S8x8192x512 .f32) (K V : FVec Ideal S8x8192x128 .f32) (S : FVec Ideal S8 .f32) (b : Fin 8) (n : Fin 64) (r : Fin 128) (g : Fin 2) (u : Fin 4) (d : Fin 64) :
    val_main_v95 (F := Ideal) Q K V S (ix3 b ⟨128 * n + r, by omega⟩ ⟨64 * (4 * g + u) + d, by omega⟩)
      = ∑ j : Fin 384, padAt V b n j ⟨64 * g + d, by omega⟩
          * Ideal.div (Ideal.exp (score Q K b n g u r j - Softmax.rowMax (score Q K b n g u r) (S (ix1 ⟨4 * g + u, by omega⟩))))
              (Softmax.den (score Q K b n g u r) (S (ix1 ⟨4 * g + u, by omega⟩))) := by
  have h93 : val_main_v95 (F := Ideal) Q K V S (ix3 b ⟨128 * n + r, by omega⟩ ⟨64 * (4 * g + u) + d, by omega⟩)
      = val_main_v92 (F := Ideal) Q K V S (ix6 b n g d u r) := by
    pointwise [val_main_v95, val_main_v94, val_main_v93]
  rw [h93, val_main_v92_apply]
  refine Finset.sum_congr rfl fun j _ => ?_
  rw [← pad_v, ← exp_at, ← den_at]
  refine congrArg₂ (· * ·) (congrArg _ (by idx_ext)) ?_
  refine Eq.trans (congrArg (val_main_v91 (F := Ideal) Q K S) (a₂ := ix6 b n g u r j) (by idx_ext)) ?_
  pointwise [val_main_v91, val_main_v90]

end Cert.AttnRefIdeal.At

end
-- ==== Proof.Equal.lean ====
/- The attention kernel's result is the reference's, at finite queries, keys and sinks. -/
module

public import proofs.«01_k».proof.Proof.Value
public import proofs.«01_k».proof.Proof.RefRead

@[expose] public section

set_option maxRecDepth 16384

noncomputable section

open Idealize.ShloMosaic Idealize.ShloMosaic.TcCoe

namespace Cert.Equal

open Cert.AttnIdeal Cert.AttnIdeal.Gen

/-- The kernel's mask is the reference's. -/
theorem valid_eq (n : Fin 64) (r : Fin 128) (j : Fin 384) : AttnIdeal.Value.validAt n r j = AttnRefIdeal.At.valid n r j := by
  have h2 : k0_pay2 (ix2 r j) = IntOp.absi (IntOp.subi (IntOp.addi (BitVec.ofNat 32 r) 128#32) (BitVec.ofNat 32 j)) := by
    pointwise [k0_pay2]
  unfold AttnIdeal.Value.validAt AttnRefIdeal.At.valid
  rw [h2, (Mask.low n j).1, (Mask.high n j).1]

/-- At a position the mask admits, the kernel's clamped row of the band is the padded row of the reference. -/
theorem row_eq (X : FVec Ideal S8x8192x128 .f32) (b : Fin 8) (n : Fin 64) (r : Fin 128) (j : Fin 384) (c : Fin 128) (h : AttnRefIdeal.At.valid n r j = 1#1) :
    X (ix3 b ⟨AttnIdeal.Value.krow n j, AttnIdeal.Value.krow_lt n.isLt j⟩ c) = AttnRefIdeal.At.padAt X b n j c := by
  unfold AttnRefIdeal.At.valid at h
  obtain ⟨h1, h3⟩ := IntOp.andi_eq_one.1 h
  obtain ⟨_, h2⟩ := IntOp.andi_eq_one.1 h1
  have l := (Mask.low n j).2.1 h2
  have u := (Mask.high n j).2.1 h3
  unfold AttnRefIdeal.At.padAt
  rw [dif_pos ⟨l, u⟩]
  have e : AttnIdeal.Value.krow n j = 128 * (n : ℕ) + j - 128 := by
    have hj := j.isLt
    have hn := n.isLt
    unfold AttnIdeal.Value.krow
    split_ifs <;> omega
  exact congrArg (fun x => X (ix3 b x c)) (Fin.ext e)

theorem dist_eq (r : Fin 128) (j : Fin 384) : k0_pay4 (F := Ideal) (ix2 r j) = AttnRefIdeal.At.dist r j := by
  unfold AttnRefIdeal.At.dist
  pointwise [k0_pay4, k0_pay2]
  rfl

variable (Q : FVec Ideal S8x8192x512 .f32) (K V : FVec Ideal S8x8192x128 .f32) (S : FVec Ideal S8 .f32)
  (b : Fin 8) (n : Fin 64) (r : Fin 128) (g : Fin 2) (u : Fin 4)

/-- The masked scores are the same. -/
theorem score_eq : AttnIdeal.Value.score Q K b n r ⟨4 * g + u, by omega⟩ = AttnRefIdeal.At.score Q K b n g u r := by
  funext j
  unfold AttnIdeal.Value.score AttnRefIdeal.At.score
  rw [valid_eq, dist_eq]
  by_cases h : AttnRefIdeal.At.valid n r j = 1#1
  · rw [h]
    show _ = _
    rw [← Softmax.score _ _ _ (by norm_num)]
    simp only [row_eq K b n r j _ h]
    have hg : (4 * (g : ℕ) + u) / 4 = g := by omega
    simp only [hg]
  · have h0 : AttnRefIdeal.At.valid n r j = 0#1 := by
      generalize AttnRefIdeal.At.valid n r j = x at h
      revert h; revert x; decide
    rw [h0]; rfl

/-- A score is a real number or `⊥`, at finite queries and keys. -/
theorem score_ne_top (hQ : ∀ i, Softmax.Fin' (Q i)) (hK : ∀ i, Softmax.Fin' (K i)) (j : Fin 384) : AttnRefIdeal.At.score Q K b n g u r j ≠ ⊤ := by
  unfold AttnRefIdeal.At.score
  have hpad : ∀ c, Softmax.Fin' (AttnRefIdeal.At.padAt K b n j c) := by
    intro c
    unfold AttnRefIdeal.At.padAt
    split_ifs with h
    · exact hK _
    · exact ⟨0, rfl⟩
  have hfin : Softmax.Fin' ((∑ e : Fin 64, AttnRefIdeal.At.padAt K b n j ⟨64 * g + e, by omega⟩ * Q (ix3 b ⟨128 * n + r, by omega⟩ ⟨64 * (4 * g + u) + e, by omega⟩)) * ((1 / 8 : ℝ) : EReal)
      + -Consts.slope ⟨4 * g + u, by omega⟩ * AttnRefIdeal.At.dist r j) := by
    refine Softmax.Fin'.add (Softmax.Fin'.mul (Softmax.Fin'.sum _ fun e => Softmax.Fin'.mul (hpad _) (hQ _)) ⟨_, rfl⟩) (Softmax.Fin'.mul ?_ ⟨_, rfl⟩)
    exact ⟨-((1 / 2 : ℝ) ^ ((4 * (g : ℕ) + u) + 1)), by unfold Consts.slope; push_cast; rfl⟩
  unfold Scalar.select
  split_ifs
  · exact hfin.ne_top
  · exact bot_ne_top

/-- THE EQUATION: the kernel's array is the reference's. -/
theorem attn (hQ : ∀ i, Softmax.Fin' (Q i)) (hK : ∀ i, Softmax.Fin' (K i)) (hS : ∀ i, Softmax.Fin' (S i)) :
    AttnIdeal.Value.outArr Q K V S = AttnRefIdeal.Read.val_main_v95 (F := Ideal) Q K V S := by
  funext i
  have b0 : (i 0).val < 8 := (i 0).isLt
  have b1 : (i 1).val < 8192 := (i 1).isLt
  have b2 : (i 2).val < 512 := (i 2).isLt
  have hi : i = ix3 ⟨(i 0).val, b0⟩ ⟨128 * ((i 1).val / 128) + (i 1).val % 128, by omega⟩ ⟨64 * (4 * ((i 2).val / 256) + (i 2).val / 64 % 4) + (i 2).val % 64, by omega⟩ := by
    idx_ext
  have key : ∀ (b : Fin 8) (n : Fin 64) (r : Fin 128) (g : Fin 2) (u : Fin 4) (d : Fin 64),
      AttnIdeal.Value.outArr Q K V S (ix3 b ⟨128 * n + r, by omega⟩ ⟨64 * (4 * g + u) + d, by omega⟩)
        = AttnRefIdeal.Read.val_main_v95 (F := Ideal) Q K V S (ix3 b ⟨128 * n + r, by omega⟩ ⟨64 * (4 * g + u) + d, by omega⟩) := by
    intro b n r g u d
    refine (AttnIdeal.Value.outArr_at Q K V S b n r ⟨4 * g + u, by omega⟩ d).trans ?_
    rw [AttnRefIdeal.At.out_at]
    unfold AttnIdeal.Value.out
    rw [score_eq]
    refine Softmax.row _ _ _ _ (score_ne_top Q K b n r g u hQ hK) (hS _) fun j hj => ?_
    have hv : AttnRefIdeal.At.valid n r j = 1#1 := by
      by_contra h
      have h0 : AttnRefIdeal.At.valid n r j = 0#1 := by
        generalize AttnRefIdeal.At.valid n r j = x at h
        revert h; revert x; decide
      apply hj
      unfold AttnRefIdeal.At.score
      rw [h0]; rfl
    rw [row_eq V b n r j _ hv]
    congr 2
    show 64 * ((4 * (g : ℕ) + u) / 4) + (d : ℕ) = _
    omega
  have := key ⟨(i 0).val, b0⟩ ⟨(i 1).val / 128, by omega⟩ ⟨(i 1).val % 128, by omega⟩ ⟨(i 2).val / 256, by omega⟩ ⟨(i 2).val / 64 % 4, by omega⟩ ⟨(i 2).val % 64, by omega⟩
  rw [hi]
  exact this

end Cert.Equal

end
-- ==== Proof.AttnPre.lean ====
/- What the precondition `att_finite` says: every query, key and sink is a real number. -/
module

public import proofs.«01_k».proof.Defs
public import proofs.«01_k».proof.Proof.Softmax
public import proofs.«01_k».proof.Proof.Consts
public import Idealize.ShloMosaic.Lib.ReduceAll
public import Idealize.ShloMosaic.Lib.Affine
public import Idealize.ShloMosaic.Lib.Pointwise

@[expose] public section

noncomputable section

open Idealize.ShloMosaic

namespace Cert.AttnPre

/-- The shape relations the precondition's operations take. -/
theorem facts : Cert.Pre_att_finite.Facts where
  bcast_S_S8x8192x512 := by decide
  reducesTo_S8x8192x512_S_d0_1_2 := by decide
  h_S_ := by decide
  bcast_S_S8x8192x128 := by decide
  reducesTo_S8x8192x128_S_d0_1_2 := by decide
  bcast_S_S8 := by decide
  reducesTo_S8_S_d0 := by decide

/-- A comparison `|x| < ∞` that holds says that `x` is a real number. -/
theorem fin_of_olt (x : EReal) (h : FloatOps.cmpf (F := Ideal) (φ := .f32) .olt (max x (-x)) (Ideal.ofBits .f32 0x7F800000#32) = 1#1) : Softmax.Fin' x := by
  rw [Consts.posInf] at h
  refine Softmax.fin_of_abs_lt_top ?_
  by_contra hn
  revert h
  show ¬ (BitVec.ofBool (decide (max x (-x) < ⊤)) = 1#1)
  rw [decide_eq_false hn]
  decide

instance : Subsingleton (Shape.Idx Cert.Pre_att_finite.S_) := ⟨fun a b => funext fun d => d.elim0⟩

attribute [local instance] facts in
/-- The precondition's three parts. -/
theorem fin (Q : FVec Ideal Cert.Pre_att_finite.S8x8192x512 .f32) (K V : FVec Ideal Cert.Pre_att_finite.S8x8192x128 .f32) (S : FVec Ideal Cert.Pre_att_finite.S8 .f32)
    (h : Cert.Pre_att_finite.fn (F := Ideal) Q K V S = fun _ => 1#1) :
    (∀ i, Softmax.Fin' (Q i)) ∧ (∀ i, Softmax.Fin' (K i)) ∧ (∀ i, Softmax.Fin' (S i)) := by
  dsimp only [Cert.Pre_att_finite.fn] at h
  have h0 := congrFun h (fun d => d.elim0)
  obtain ⟨h1, hS⟩ := IntOp.andi_eq_one.1 h0
  obtain ⟨hQ, hK⟩ := IntOp.andi_eq_one.1 h1
  exact ⟨fun i => fin_of_olt _ (Host.reduce_andi_all _ _ _ _ _ hQ i), fun i => fin_of_olt _ (Host.reduce_andi_all _ _ _ _ _ hK i),
    fun i => fin_of_olt _ (Host.reduce_andi_all _ _ _ _ _ hS i)⟩

end Cert.AttnPre

end
-- ==== Proof.AttnClaims.lean ====
/- The attention's claims. -/
module

public import proofs.«01_k».proof.Defs
public import proofs.«01_k».proof.Proof.Equal
public import proofs.«01_k».proof.Proof.AttnPre
public import proofs.«01_k».proof.Proof.Gen.Attn.Frame
public import proofs.«01_k».proof.Proof.Gen.AttnIdeal.Frame
public import proofs.«01_k».proof.Proof.Gen.AttnIdeal.Value
public import proofs.«01_k».proof.Proof.Gen.AttnRefIdeal.Run
public import Idealize.ShloMosaic.Lib.Quiescent

@[expose] public section

noncomputable section

open Idealize.ShloMosaic Idealize.SL.Sem

namespace Cert.AttnClaims

attribute [local instance] Cert.Attn.Gen.facts Cert.AttnIdeal.Gen.facts Cert.AttnRefIdeal.Gen.facts Cert.AttnPre.facts

/-- The attention kernel runs, leaves its arguments and ends quiet. -/
theorem frame_p : quiescent_Attn := fun m ρ _ => Cert.Attn.Gen.frame m ρ
theorem frame_pi : quiescent_AttnIdeal := fun m ρ _ => Cert.AttnIdeal.Gen.frame m ρ
theorem frame_pi' : quiescent_AttnIdeal_pre_att_finite := fun m ρ _ => Cert.AttnIdeal.Gen.frame m ρ

/-- The reference runs, leaves its arguments and ends quiet. -/
theorem frame_ri : quiescent_AttnRefIdeal := fun m ρ _ =>
  (θ_run Cert.AttnRefIdeal.defs _ _).mono (fun r h => ⟨fun c => (h c).2, Idealize.ShloMosaic.sem_eq_zero_of_no_sems (by decide) r.2⟩)
    (Cert.AttnRefIdeal.Value.run (F := Ideal) m ρ)
theorem frame_ri' : quiescent_AttnRefIdeal_pre_att_finite := fun m ρ _ => frame_ri m ρ trivial

/-- The one named constant, the mask: `-1e30` read as `⊥`. -/
theorem preserves : preserves_Attn_AttnIdeal := IdealRules.named_const.statement Cert.AttnIdeal.κ "mask" .f32 0xF149F2CA#32 ⊥ rfl

/-- THE VALUE: kernel and reference end with equal results. -/
theorem algebraic : algebraic_AttnIdeal_AttnRefIdeal_pre_att_finite := by
  intro m ρ m' ρ' hpre hagree
  refine ⟨_, Cert.AttnIdeal.Value.run_blocks m ρ, ?_⟩
  refine (θ_run Cert.AttnRefIdeal.defs _ _).mono (fun _ h c => ⟨(h c).1.trans ?_, (h c).2⟩) (Cert.AttnRefIdeal.Value.run (F := Ideal) m' ρ')
  obtain ⟨e0, e1, e2, e3⟩ := hagree c
  obtain ⟨hQ, hK, hS⟩ := Cert.AttnPre.fin _ _ _ _ (hpre c)
  rw [Cert.AttnRefIdeal.Read.val_main_v95_eq, e0, e1, e2, e3, Cert.AttnIdeal.Value.final]
  exact (Cert.Equal.attn _ _ _ _ hQ hK hS).symm

end Cert.AttnClaims

end
-- ==== Proof.InBlock.lean ====
/- What the input projection's body stores, read at an index of the block. -/
module

public import proofs.«01_k».proof.Proof.Gen.InprojIdeal.Value
public import proofs.«01_k».proof.Proof.Consts
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.InprojIdeal.Block

open Cert.InprojIdeal Cert.InprojIdeal.Gen

/-- The small constant added to a mean of squares. -/
def eps : EReal := Ideal.ofBits .f32 0x358637BD#32

/-- A row divided by its root mean square, times a gain, at column `k`. -/
def nrmRow (x g : Fin 1024 → EReal) (k : Fin 1024) : EReal :=
  x k * Ideal.rsqrt (Ideal.div (∑ j : Fin 1024, x j * x j) (Ideal.ofBits .f32 0x44800000#32) + eps) * g k

theorem pay2_at (x : FVec Ideal S1x512x1024 .f32) (g : FVec Ideal S1x1024 .f32) (r : Fin 512) (k : Fin 1024) :
    k0_pay2 (F := Ideal) x g (ix2 r k) = nrmRow (fun k => x (ix3 0 r k)) (fun k => g (ix2 0 k)) k := by
  pointwise [k0_pay2, nrmRow, eps]

theorem pay6_at (h : FVec Ideal S512x1024 .bf16) (w : FVec Ideal S1024x128 .bf16) (r : Fin 512) (c : Fin 128) :
    k0_pay6 (F := Ideal) h w (ix3 0 r c) = ∑ k : Fin 1024, h (ix2 r k) * w (ix2 k c) := by
  pointwise [k0_pay6]

theorem pay8_at (h : FVec Ideal S512x1024 .bf16) (w : FVec Ideal S1024x1024 .bf16) (r : Fin 512) (c : Fin 1024) :
    k0_pay8 (F := Ideal) (k0_pay7 h w) (ix3 0 r c) = ∑ k : Fin 1024, h (ix2 r k) * w (ix2 k c) := by
  pointwise [k0_pay8, k0_pay7]

theorem pay9_at (h : FVec Ideal S512x1024 .bf16) (w : FVec Ideal S1024x512 .bf16) (r : Fin 512) (c : Fin 512) :
    k0_pay9 (F := Ideal) h w (ix3 0 r c) = ∑ k : Fin 1024, h (ix2 r k) * w (ix2 k c) := by
  pointwise [k0_pay9]

theorem pay10_at (h : FVec Ideal S512x1024 .bf16) (w : FVec Ideal S1024x512 .bf16) (r : Fin 512) (c : Fin 512) :
    k0_pay10 (F := Ideal) h w (ix3 0 r c) = ∑ k : Fin 1024, h (ix2 r k) * w (ix2 k c) := by
  pointwise [k0_pay10]

/-- The product of a block's queries: row `r`, column `c`. -/
theorem pay4_at (x : FVec Ideal S1x512x1024 .f32) (g : FVec Ideal S1x1024 .f32) (w : FVec Ideal S1024x512 .bf16) (bd : FVec Ideal S512x512 .bf16) (qg : FVec Ideal S1x512 .f32) (r : Fin 512) (c : Fin 512) :
    k0_pay4 (F := Ideal) (k0_pay3 x g w bd qg) (ix3 0 r c)
      = (∑ k : Fin 1024, k0_pay2 (F := Ideal) x g (ix2 r k) * w (ix2 k c))
        * Ideal.rsqrt ((∑ j : Fin 512, (∑ k : Fin 1024, k0_pay2 (F := Ideal) x g (ix2 r k) * w (ix2 k j)) * (∑ k : Fin 1024, k0_pay2 (F := Ideal) x g (ix2 r k) * w (ix2 k j)) * bd (ix2 j c)) * Ideal.ofBits .f32 0x3C800000#32 + eps)
        * qg (ix2 0 c) := by
  pointwise [k0_pay4, k0_pay3, eps]

theorem pay5_at (h : FVec Ideal S512x1024 .bf16) (w : FVec Ideal S1024x128 .bf16) (bd : FVec Ideal S128x128 .bf16) (kg : FVec Ideal S1x128 .f32) (r : Fin 512) (c : Fin 128) :
    k0_pay5 (F := Ideal) h w bd kg (ix3 0 r c)
      = (∑ k : Fin 1024, h (ix2 r k) * w (ix2 k c))
        * Ideal.rsqrt ((∑ j : Fin 128, (∑ k : Fin 1024, h (ix2 r k) * w (ix2 k j)) * (∑ k : Fin 1024, h (ix2 r k) * w (ix2 k j)) * bd (ix2 j c)) * Ideal.ofBits .f32 0x3C800000#32 + eps)
        * kg (ix2 0 c) := by
  pointwise [k0_pay5, eps]

theorem pay11_at (h : FVec Ideal S512x1024 .bf16) (w : FVec Ideal S16x1024 .bf16) (b : FVec Ideal S16x1 .f32) (g : Fin 16) (r : Fin 512) :
    k0_pay11 (F := Ideal) h w b (ix2 g r) = (∑ k : Fin 1024, w (ix2 g k) * h (ix2 r k)) + b (ix2 g 0) := by
  pointwise [k0_pay11]

/-- The logarithm of the logistic function as the body writes it. -/
def lsig (x : EReal) : EReal := min x 0 - Ideal.log (1 + Ideal.exp (0 - FloatOps.absf (F := Ideal) (φ := .f32) x))

theorem pay12_at (h : FVec Ideal S512x1024 .bf16) (w : FVec Ideal S16x1024 .bf16) (b : FVec Ideal S16x1 .f32) (g : Fin 16) (r : Fin 512) :
    k0_pay12 (F := Ideal) h w b (ix2 g r) = lsig (k0_pay11 (F := Ideal) h w b (ix2 g r)) := by
  pointwise [k0_pay12, lsig]

/-- The rows of the forget gates. -/
theorem pay13_at (u v : FVec Ideal S16x512 .f32) (g : Fin 16) (r : Fin 512) :
    k0_pay1 (F := Ideal) (k0_pay13 u v) (ix3 0 g r) = if (g.val / 4) % 2 = 1 then v (ix2 g r) else u (ix2 g r) := by
  pointwise [k0_pay1, k0_pay13]
  fin_cases g <;> rfl

end Cert.InprojIdeal.Block

end
-- ==== Proof.InSpec.lean ====
/- The input projection at an index, from its arguments: what both the kernel and the reference are shown to leave. -/
module

public import proofs.«01_k».proof.Proof.InBlock

@[expose] public section

set_option maxRecDepth 16384

noncomputable section

open Idealize.ShloMosaic Idealize.ShloMosaic.TcCoe Idealize.SL.Sem

namespace Cert.In

open Cert.InprojIdeal

variable (X : FVec Ideal S8x8192x1024 .f32) (G : FVec Ideal S1024 .f32) (W : FVec Ideal S1024x2832 .f32)

/-- The normalised row times column `j` of the weights. -/
def z (b : Fin 8) (s : Fin 8192) (j : Fin 2832) : EReal :=
  ∑ k : Fin 1024, Block.nrmRow (fun k => X (ix3 b s k)) (fun k => G (ix1 k)) k * W (ix2 k j)

/-- A product divided by the root mean square of its head's 64 columns, the head's first column being `o`. -/
def norm (b : Fin 8) (s : Fin 8192) (o : ℕ) (ho : o + 64 ≤ 2832) (j : Fin 2832) : EReal :=
  z X G W b s j * Ideal.rsqrt (Ideal.div (∑ e : Fin 64, z X G W b s ⟨o + e, by omega⟩ * z X G W b s ⟨o + e, by omega⟩) (Ideal.ofBits .f32 0x42800000#32) + Block.eps)

/-- The queries. -/
def aq (Q : FVec Ideal S64 .f32) (b : Fin 8) (s : Fin 8192) (c : Fin 512) : EReal :=
  norm X G W b s (64 * (c / 64)) (by omega) ⟨c, by omega⟩ * Q (ix1 ⟨c % 64, by omega⟩) * Ideal.ofBits .f32 0x3E000000#32

/-- The keys. -/
def ak (K : FVec Ideal S64 .f32) (b : Fin 8) (s : Fin 8192) (c : Fin 128) : EReal :=
  norm X G W b s (512 + 64 * (c / 64)) (by omega) ⟨512 + c, by omega⟩ * K (ix1 ⟨c % 64, by omega⟩)

/-- A gate before the logistic function. -/
def pre (B : FVec Ideal S16 .f32) (b : Fin 8) (g : Fin 16) (s : Fin 8192) : EReal := z X G W b s ⟨2816 + g, by omega⟩ + B (ix1 g)

/-- The gates: of the forget gates the logarithm of the logistic function. -/
def gates (B : FVec Ideal S16 .f32) (b : Fin 8) (g : Fin 16) (s : Fin 8192) : EReal :=
  if (g.val / 4) % 2 = 1 then Block.lsig (pre X G W B b g s) else pre X G W B b g s

/-! ## The kernel's product with the 0-1 matrix of the heads is the sum over the head -/

theorem sum_head {n : ℕ} (f : Fin n → EReal) (o : ℕ) (ho : 64 * o + 64 ≤ n) (d : Fin n → EReal) (hd : ∀ j, d j = if j.val / 64 = o then 1 else 0) :
    ∑ j, f j * d j = ∑ e : Fin 64, f ⟨64 * o + e, by omega⟩ := by
  simp only [hd, mul_ite, mul_one, mul_zero]
  rw [← Finset.sum_filter]
  refine Finset.sum_nbij' (fun j => ⟨j.val % 64, by omega⟩) (fun e => ⟨64 * o + e.val, by omega⟩) (by simp) ?_ ?_ ?_ ?_
  · intro e _
    simp only [Finset.mem_filter, Finset.mem_univ, true_and]
    omega
  · intro j hj
    simp only [Finset.mem_filter, Finset.mem_univ, true_and] at hj
    apply Fin.ext; simp only []; omega
  · intro e _
    apply Fin.ext; simp only []; omega
  · intro j hj
    simp only [Finset.mem_filter, Finset.mem_univ, true_and] at hj
    congr 1; apply Fin.ext; simp only []; omega

theorem div64 (x : EReal) : x * Ideal.ofBits .f32 0x3C800000#32 = Ideal.div x (Ideal.ofBits .f32 0x42800000#32) := by
  have h1 : Ideal.ofBits .f32 0x3C800000#32 = ((1 / 64 : ℝ) : EReal) := by
    simp [Ideal.ofBits, Ideal.ieee, -EReal.coe_mul]; norm_num
  have h2 : Ideal.ofBits .f32 0x42800000#32 = ((64 : ℝ) : EReal) := by
    simp [Ideal.ofBits, Ideal.ieee, -EReal.coe_mul]; norm_num
  rw [h1, h2, Ideal.div_coe (by norm_num)]

end Cert.In

end
-- ==== Proof.InRef.lean ====
/- The input projection's reference, read at an index. -/
module

public import proofs.«01_k».proof.Proof.Gen.InprojRefIdeal.Read
public import proofs.«01_k».proof.Proof.InSpec
public import Idealize.ShloMosaic.Lib.Pointwise

@[expose] public section

set_option maxRecDepth 16384

noncomputable section

open Idealize.ShloMosaic Idealize.ShloMosaic.TcCoe Idealize.SL.Sem

namespace Cert.InprojRefIdeal.At

open Cert.InprojRefIdeal Cert.InprojRefIdeal.Gen Cert.InprojRefIdeal.Read

variable (X : FVec Ideal S8x8192x1024 .f32) (G : FVec Ideal S1024 .f32) (W : FVec Ideal S1024x2832 .f32)
  (Q K : FVec Ideal S64 .f32) (B : FVec Ideal S16 .f32)

theorem h_at (b : Fin 8) (s : Fin 8192) (k : Fin 1024) :
    val_main_v12 (F := Ideal) X G (ix3 b s k) = InprojIdeal.Block.nrmRow (fun k => X (ix3 b s k)) (fun k => G (ix1 k)) k := by
  pointwise [val_main_v12, val_main_v11, val_main_v10, val_main_v9, val_main_v8, val_main_v7, val_main_v6, val_main_v5, val_main_v4, val_main_v3, val_main_v2, val_main_v1, val_main_v0, val_main_cst, val_main_cst_0, val_main_cst_1, InprojIdeal.Block.nrmRow, InprojIdeal.Block.eps]

theorem z_at (b : Fin 8) (s : Fin 8192) (j : Fin 2832) : val_main_v13 (F := Ideal) X G W (ix3 b s j) = In.z X G W b s j := by
  pointwise [val_main_v13]
  exact Finset.sum_congr rfl fun k _ => by rw [h_at]

theorem av_at (b : Fin 8) (s : Fin 8192) (j : Fin 128) : val_main_v66 (F := Ideal) X G W (ix3 b s j) = In.z X G W b s ⟨640 + j, by omega⟩ := by
  rw [← z_at]
  pointwise [val_main_v66, val_main_v16]

theorem mqk_at (b : Fin 8) (s : Fin 8192) (j : Fin 1024) : val_main_v68 (F := Ideal) X G W (ix3 b s j) = In.z X G W b s ⟨768 + j, by omega⟩ := by
  rw [← z_at]
  pointwise [val_main_v68, val_main_v67, val_main_v17, val_main_v18]
  split
  · rfl
  · congr 1; idx_ext <;> omega

theorem mv_at (b : Fin 8) (s : Fin 8192) (j : Fin 512) : val_main_v69 (F := Ideal) X G W (ix3 b s j) = In.z X G W b s ⟨1792 + j, by omega⟩ := by
  rw [← z_at]
  pointwise [val_main_v69, val_main_v19]

theorem mo_at (b : Fin 8) (s : Fin 8192) (j : Fin 512) : val_main_v70 (F := Ideal) X G W (ix3 b s j) = In.z X G W b s ⟨2304 + j, by omega⟩ := by
  rw [← z_at]
  pointwise [val_main_v70, val_main_v20]

theorem aq_at (b : Fin 8) (s : Fin 8192) (j : Fin 512) : val_main_v63 (F := Ideal) X G W Q (ix3 b s j) = In.aq X G W Q b s j := by
  unfold In.aq In.norm
  simp only [← z_at]
  pointwise [val_main_v63, val_main_v62, val_main_v61, val_main_v60, val_main_cst_8, val_main_v35, val_main_v34, val_main_v33, val_main_v32, val_main_v31, val_main_v30, val_main_v29, val_main_v28, val_main_v27, val_main_v26, val_main_v25, val_main_v24, val_main_v23, val_main_v22, val_main_v14, val_main_cst_2, val_main_cst_3, val_main_cst_4, InprojIdeal.Block.eps]
  simp only [Nat.mul_comm 64]

theorem ak_at (b : Fin 8) (s : Fin 8192) (j : Fin 128) : val_main_v65 (F := Ideal) X G W K (ix3 b s j) = In.ak X G W K b s j := by
  unfold In.ak In.norm
  simp only [← z_at]
  pointwise [val_main_v65, val_main_v64, val_main_v49, val_main_v48, val_main_v47, val_main_v46, val_main_v45, val_main_v44, val_main_v43, val_main_v42, val_main_v41, val_main_v40, val_main_v39, val_main_v38, val_main_v37, val_main_v36, val_main_v15, val_main_cst_5, val_main_cst_6, val_main_cst_7, InprojIdeal.Block.eps]
  simp only [Nat.mul_comm 64, Nat.add_assoc]

theorem pre_at (b : Fin 8) (s : Fin 8192) (g : Fin 16) : val_main_v52 (F := Ideal) X G W B (ix3 b s g) = In.pre X G W B b g s := by
  unfold In.pre
  rw [← z_at]
  pointwise [val_main_v52, val_main_v51, val_main_v50, val_main_v21]

/-- The logarithm of one and an exponential is not minus infinity. -/
theorem log1p_ne_bot (y : EReal) : Ideal.log1p (Ideal.exp y) ≠ ⊥ := by
  have hc (r : ℝ) (h : ¬ r ≤ 0) : Ideal.log (r : EReal) ≠ ⊥ := by
    change (if r ≤ 0 then ⊥ else (Real.log r : EReal)) ≠ ⊥
    rw [if_neg h]
    exact EReal.coe_ne_bot _
  unfold Ideal.log1p
  induction y with
  | bot =>
    change Ideal.log (1 + 0) ≠ ⊥
    rw [add_zero, ← EReal.coe_one]
    exact hc 1 (by norm_num)
  | top =>
    change Ideal.log (((1 : ℝ) : EReal) + ⊤) ≠ ⊥
    rw [EReal.coe_add_top]
    exact top_ne_bot
  | coe a =>
    rw [Ideal.exp_coe, ← EReal.coe_one, ← EReal.coe_add]
    exact hc _ (not_le.2 (by positivity))

/-- The log-sigmoid as the reference computes it, minus the softplus of minus its argument. -/
theorem lsig_eq (x : EReal) :
    (-if -x ≠ -x then -x else max (-x) 0 + Ideal.log1p (Ideal.exp (-FloatOps.absf (F := Ideal) (φ := .f32) (-x)))) = InprojIdeal.Block.lsig x := by
  have habs : FloatOps.absf (F := Ideal) (φ := .f32) (-x) = FloatOps.absf (F := Ideal) (φ := .f32) x := by
    change max (-x) (-(-x)) = max x (-x)
    rw [neg_neg, max_comm]
  have hm : -(max (-x) 0) = min x 0 := by
    rcases le_total x 0 with h | h
    · rw [min_eq_left h, max_eq_left (by simpa using EReal.neg_le_neg_iff.2 h), neg_neg]
    · rw [min_eq_right h, max_eq_right (by simpa using EReal.neg_le_neg_iff.2 h), neg_zero]
  rw [if_neg (by simp), EReal.neg_add (Or.inl (ne_of_gt (lt_of_lt_of_le EReal.bot_lt_zero (le_max_right _ _)))) (Or.inr (log1p_ne_bot _)), hm, habs]
  unfold InprojIdeal.Block.lsig
  rw [zero_sub]
  rfl

theorem v53_at (b : Fin 8) (s : Fin 8192) (g : Fin 4) : val_main_v53 (F := Ideal) X G W B (ix3 b s g) = In.pre X G W B b ⟨g, by omega⟩ s := by
  rw [← pre_at]
  pointwise [val_main_v53]

theorem v55_at (b : Fin 8) (s : Fin 8192) (g : Fin 4) : val_main_v55 (F := Ideal) X G W B (ix3 b s g) = In.pre X G W B b ⟨8 + g, by omega⟩ s := by
  rw [← pre_at]
  pointwise [val_main_v55]

theorem v57_at (b : Fin 8) (s : Fin 8192) (g : Fin 4) : val_main_v57 (F := Ideal) X G W B (ix3 b s g) = InprojIdeal.Block.lsig (In.pre X G W B b ⟨4 + g, by omega⟩ s) := by
  rw [← pre_at, ← lsig_eq]
  pointwise [val_main_v57, val_main_call0_v1, val_main_call0_v0, val_main_call0_call0_v0, val_main_call0_call0_v1, val_main_call0_call0_v2, val_main_call0_call0_v3, val_main_call0_call0_v4, val_main_call0_call0_v5, val_main_call0_call0_v6, val_main_call0_call0_v7, val_main_call0_call0_v8, val_main_call0_call0_v9, val_main_call0_call0_v10, val_main_call0_call0_v11, val_main_call0_call0_cst, val_main_v54]

theorem v58_at (b : Fin 8) (s : Fin 8192) (g : Fin 4) : val_main_v58 (F := Ideal) X G W B (ix3 b s g) = InprojIdeal.Block.lsig (In.pre X G W B b ⟨12 + g, by omega⟩ s) := by
  rw [← pre_at, ← lsig_eq]
  pointwise [val_main_v58, val_main_call1_v1, val_main_call1_v0, val_main_call1_call0_v0, val_main_call1_call0_v1, val_main_call1_call0_v2, val_main_call1_call0_v3, val_main_call1_call0_v4, val_main_call1_call0_v5, val_main_call1_call0_v6, val_main_call1_call0_v7, val_main_call1_call0_v8, val_main_call1_call0_v9, val_main_call1_call0_v10, val_main_call1_call0_v11, val_main_call1_call0_cst, val_main_v56]

theorem gates_at (b : Fin 8) (g : Fin 16) (s : Fin 8192) : val_main_v71 (F := Ideal) X G W B (ix3 b g s) = In.gates X G W B b g s := by
  pointwise [val_main_v71, val_main_v59]
  simp only [v53_at, v55_at, v57_at, v58_at]
  fin_cases g <;> rfl

theorem ix3_eta {a b c : ℕ} (i : (k : Fin 3) → Fin ((⟨3, ![a, b, c]⟩ : Shape).size k)) : i = ix3 ⟨i 0, (i 0).isLt⟩ ⟨i 1, (i 1).isLt⟩ ⟨i 2, (i 2).isLt⟩ := by
  idx_ext

theorem aq_arr : val_main_v63 (F := Ideal) X G W Q = fun i => In.aq X G W Q ⟨i 0, (i 0).isLt⟩ ⟨i 1, (i 1).isLt⟩ ⟨i 2, (i 2).isLt⟩ :=
  funext fun i => (congrArg _ (ix3_eta i)).trans (aq_at X G W Q _ _ _)

theorem ak_arr : val_main_v65 (F := Ideal) X G W K = fun i => In.ak X G W K ⟨i 0, (i 0).isLt⟩ ⟨i 1, (i 1).isLt⟩ ⟨i 2, (i 2).isLt⟩ :=
  funext fun i => (congrArg _ (ix3_eta i)).trans (ak_at X G W K _ _ _)

theorem av_arr : val_main_v66 (F := Ideal) X G W = fun i => In.z X G W ⟨i 0, (i 0).isLt⟩ ⟨i 1, (i 1).isLt⟩ ⟨640 + (i 2).val, by have : (i 2).val < 128 := (i 2).isLt; omega⟩ :=
  funext fun i => (congrArg _ (ix3_eta i)).trans (av_at X G W _ _ _)

theorem mqk_arr : val_main_v68 (F := Ideal) X G W = fun i => In.z X G W ⟨i 0, (i 0).isLt⟩ ⟨i 1, (i 1).isLt⟩ ⟨768 + (i 2).val, by have : (i 2).val < 1024 := (i 2).isLt; omega⟩ :=
  funext fun i => (congrArg _ (ix3_eta i)).trans (mqk_at X G W _ _ _)

theorem mv_arr : val_main_v69 (F := Ideal) X G W = fun i => In.z X G W ⟨i 0, (i 0).isLt⟩ ⟨i 1, (i 1).isLt⟩ ⟨1792 + (i 2).val, by have : (i 2).val < 512 := (i 2).isLt; omega⟩ :=
  funext fun i => (congrArg _ (ix3_eta i)).trans (mv_at X G W _ _ _)

theorem mo_arr : val_main_v70 (F := Ideal) X G W = fun i => In.z X G W ⟨i 0, (i 0).isLt⟩ ⟨i 1, (i 1).isLt⟩ ⟨2304 + (i 2).val, by have : (i 2).val < 512 := (i 2).isLt; omega⟩ :=
  funext fun i => (congrArg _ (ix3_eta i)).trans (mo_at X G W _ _ _)

theorem gates_arr : val_main_v71 (F := Ideal) X G W B = fun i => In.gates X G W B ⟨i 0, (i 0).isLt⟩ ⟨i 1, (i 1).isLt⟩ ⟨i 2, (i 2).isLt⟩ :=
  funext fun i => (congrArg _ (ix3_eta i)).trans (gates_at X G W B _ _ _)

end Cert.InprojRefIdeal.At

end
-- ==== Proof.InReads.lean ====
/- The blocks the input projection reads at each grid point, from its arguments. -/
module

public import proofs.«01_k».proof.Proof.InBlock

@[expose] public section

set_option maxRecDepth 16384

noncomputable section

open Idealize.ShloMosaic Idealize.ShloMosaic.TcCoe Idealize.SL.Sem
open Idealize.ShloMosaic.Pipeline (Dat)

namespace Cert.InprojIdeal.Value

open Cert.InprojIdeal Cert.InprojIdeal.Gen

variable (m : (ℓ : Loc nD τ sig) → Buf (Elt Ideal) ℓ)

/-- The windows' index maps, at every grid point. -/
theorem idx : ∀ t : Fin cfg0.N, win0_0.index t = ![t.val / 16, t.val % 16, 0] ∧ win0_1.index t = ![0, 0]
    ∧ win0_2.index t = ![0, 0] ∧ win0_3.index t = ![0, 0] ∧ win0_4.index t = ![0, 0] ∧ win0_5.index t = ![0, 0]
    ∧ win0_6.index t = ![0, 0] ∧ win0_7.index t = ![0, 0] ∧ win0_8.index t = ![0, 0]
    ∧ win0_9.index t = ![t.val / 16, t.val % 16, 0] ∧ win0_10.index t = ![t.val / 16, t.val % 16, 0]
    ∧ win0_11.index t = ![t.val / 16, t.val % 16, 0] ∧ win0_12.index t = ![t.val / 16, t.val % 16, 0]
    ∧ win0_13.index t = ![t.val / 16, t.val % 16, 0] ∧ win0_14.index t = ![t.val / 16, t.val % 16, 0]
    ∧ win0_15.index t = ![t.val / 16, 0, t.val % 16] :=
  (by decide +kernel : ∀ t : Fin grid0.N, _)

theorem t_n (t : Fin cfg0.N) : t.val % 16 < 16 := Nat.mod_lt _ (by decide)
theorem t_b (t : Fin cfg0.N) : t.val / 16 < 8 := by
  have : t.val < 128 := t.isLt
  omega

/-- The host's integer division by 64, rounding down. -/
def fdiv (x : BitVec 32) : BitVec 32 :=
  Scalar.select
    (IntOp.andi
      (IntOp.cmpi .ne (if x = 0 then (0 : BitVec 32) else if x.msb = true then -1 else 1)
        (if (64#32) = 0 then (0 : BitVec 32) else if BitVec.msb (64#32) = true then -1 else 1))
      (IntOp.cmpi .ne (IntOp.remsi .host x 64#32) 0#32))
    (IntOp.subi (IntOp.divsi .host x 64#32) 1#32) (IntOp.divsi .host x 64#32)

theorem fdiv_eq : ∀ i : Fin 512, fdiv (BitVec.ofNat 32 i) = BitVec.ofNat 32 (i / 64) := by decide +kernel

/-- Two columns of one head. -/
theorem same_head (i j : Fin 512) :
    FloatOps.uitofp (F := Ideal) .bf16 (IntOp.cmpi .eq (fdiv (BitVec.ofNat 32 i)) (fdiv (BitVec.ofNat 32 j))) = if i.val / 64 = j.val / 64 then (1 : EReal) else 0 := by
  rw [fdiv_eq, fdiv_eq]
  have h : ∀ a b : Fin 8, FloatOps.uitofp (F := Ideal) .bf16 (IntOp.cmpi .eq (BitVec.ofNat 32 a) (BitVec.ofNat 32 b)) = if a.val = b.val then (1 : EReal) else 0 := by
    intro a b
    have h1 : IntOp.cmpi .eq (BitVec.ofNat 32 a) (BitVec.ofNat 32 b) = if a.val = b.val then 1#1 else 0#1 := by revert a b; decide +kernel
    rw [h1]
    split_ifs <;> simp [FloatOps.uitofp]
  exact h ⟨i / 64, by omega⟩ ⟨j / 64, by omega⟩

/-! ## The operands the host computes -/

theorem v15_at (c : Dev nD) (k : Fin 1024) : V m c main_v15 (ix2 0 k) = (m ((c.tc : Thread nD τ).loc main_arg1)) (ix1 k) := by
  unfold V
  simp only [hostOps0, hostOps0_1, hostOps0_2, hostOps0_3, hostOps0_4, List.flatten_cons, List.flatten_nil, List.append_nil, List.cons_append, List.nil_append]
  after_results
  pointwise
theorem v1_at (c : Dev nD) (k : Fin 1024) (j : Fin 2816) : V m c main_v1 (ix2 k j) = (m ((c.tc : Thread nD τ).loc main_arg2)) (ix2 k ⟨j, by omega⟩) := by
  unfold V
  simp only [hostOps0, hostOps0_1, hostOps0_2, hostOps0_3, hostOps0_4, List.flatten_cons, List.flatten_nil, List.append_nil, List.cons_append, List.nil_append]
  after_results
  pointwise
theorem v4_at (c : Dev nD) (k : Fin 1024) (g : Fin 16) : V m c main_v4 (ix2 g k) = (m ((c.tc : Thread nD τ).loc main_arg2)) (ix2 k ⟨2816 + g, by omega⟩) := by
  unfold V
  simp only [hostOps0, hostOps0_1, hostOps0_2, hostOps0_3, hostOps0_4, List.flatten_cons, List.flatten_nil, List.append_nil, List.cons_append, List.nil_append]
  after_results
  pointwise
theorem v16_at (c : Dev nD) (g : Fin 16) : V m c main_v16 (ix2 g 0) = (m ((c.tc : Thread nD τ).loc main_arg5)) (ix1 g) := by
  unfold V
  simp only [hostOps0, hostOps0_1, hostOps0_2, hostOps0_3, hostOps0_4, List.flatten_cons, List.flatten_nil, List.append_nil, List.cons_append, List.nil_append]
  after_results
  pointwise
theorem v14_at (c : Dev nD) (k : Fin 128) : V m c main_v14 (ix2 0 k) = (m ((c.tc : Thread nD τ).loc main_arg4)) (ix1 ⟨k % 64, by omega⟩) := by
  unfold V
  simp only [hostOps0, hostOps0_1, hostOps0_2, hostOps0_3, hostOps0_4, List.flatten_cons, List.flatten_nil, List.append_nil, List.cons_append, List.nil_append]
  after_results
  pointwise
theorem v10_at (c : Dev nD) (k : Fin 512) : V m c main_v10 (ix2 0 k) = FloatOps.mulf (F := Ideal) (φ := .f32) ((m ((c.tc : Thread nD τ).loc main_arg3)) (ix1 ⟨k % 64, by omega⟩)) (Ideal.ofBits .f32 0x3E000000#32) := by
  unfold V
  simp only [hostOps0, hostOps0_1, hostOps0_2, hostOps0_3, hostOps0_4, List.flatten_cons, List.flatten_nil, List.append_nil, List.cons_append, List.nil_append]
  after_results
  pointwise
theorem v26_at (c : Dev nD) (i j : Fin 512) : V m c main_v26 (ix2 i j) = if i.val / 64 = j.val / 64 then (1 : EReal) else 0 := by
  unfold V
  simp only [hostOps0, hostOps0_1, hostOps0_2, hostOps0_3, hostOps0_4, List.flatten_cons, List.flatten_nil, List.append_nil, List.cons_append, List.nil_append]
  after_results
  simp -implicitDefEqProofs only [StableHlo.TRef.ofBuf_toBuf, StableHlo.TRef.toBuf, StableHlo.TRef.ofBuf, cast_eq]
  pointwise
  exact same_head i j
theorem v27_at (c : Dev nD) (i j : Fin 128) : V m c main_v27 (ix2 i j) = if i.val / 64 = j.val / 64 then (1 : EReal) else 0 := by
  unfold V
  simp only [hostOps0, hostOps0_1, hostOps0_2, hostOps0_3, hostOps0_4, List.flatten_cons, List.flatten_nil, List.append_nil, List.cons_append, List.nil_append]
  after_results
  simp -implicitDefEqProofs only [StableHlo.TRef.ofBuf_toBuf, StableHlo.TRef.toBuf, StableHlo.TRef.ofBuf, cast_eq]
  pointwise
  exact same_head ⟨i, by omega⟩ ⟨j, by omega⟩

/-! ## The blocks -/

theorem blkX (c : Dev nD) (t : Fin cfg0.N) (r : Fin 512) (k : Fin 1024) :
    iblk m c 0 t (ix3 0 r k) = (m ((c.tc : Thread nD τ).loc main_arg0)) (ix3 ⟨t.val / 16, t_b t⟩ ⟨512 * (t.val % 16) + r, by have := t_n t; omega⟩ k) := by
  blk_ext! [iblk, V, idx t]
theorem blkG (c : Dev nD) (t : Fin cfg0.N) (k : Fin 1024) : iblk m c 1 t (ix2 0 k) = (m ((c.tc : Thread nD τ).loc main_arg1)) (ix1 k) := by
  refine Eq.trans ?_ (v15_at m c k); blk_ext [iblk, idx t]
theorem blkW (c : Dev nD) (t : Fin cfg0.N) (k : Fin 1024) (j : Fin 2816) : iblk m c 2 t (ix2 k j) = (m ((c.tc : Thread nD τ).loc main_arg2)) (ix2 k ⟨j, by omega⟩) := by
  refine Eq.trans ?_ (v1_at m c k j); blk_ext [iblk, idx t]
theorem blkWg (c : Dev nD) (t : Fin cfg0.N) (k : Fin 1024) (g : Fin 16) : iblk m c 3 t (ix2 g k) = (m ((c.tc : Thread nD τ).loc main_arg2)) (ix2 k ⟨2816 + g, by omega⟩) := by
  refine Eq.trans ?_ (v4_at m c k g); blk_ext [iblk, idx t]
theorem blkB (c : Dev nD) (t : Fin cfg0.N) (g : Fin 16) : iblk m c 4 t (ix2 g 0) = (m ((c.tc : Thread nD τ).loc main_arg5)) (ix1 g) := by
  refine Eq.trans ?_ (v16_at m c g); blk_ext [iblk, idx t]
theorem blkQg (c : Dev nD) (t : Fin cfg0.N) (k : Fin 512) : iblk m c 5 t (ix2 0 k) = FloatOps.mulf (F := Ideal) (φ := .f32) ((m ((c.tc : Thread nD τ).loc main_arg3)) (ix1 ⟨k % 64, by omega⟩)) (Ideal.ofBits .f32 0x3E000000#32) := by
  refine Eq.trans ?_ (v10_at m c k); blk_ext [iblk, idx t]
theorem blkKg (c : Dev nD) (t : Fin cfg0.N) (k : Fin 128) : iblk m c 6 t (ix2 0 k) = (m ((c.tc : Thread nD τ).loc main_arg4)) (ix1 ⟨k % 64, by omega⟩) := by
  refine Eq.trans ?_ (v14_at m c k); blk_ext [iblk, idx t]
theorem blkBdq (c : Dev nD) (t : Fin cfg0.N) (i j : Fin 512) : iblk m c 7 t (ix2 i j) = if i.val / 64 = j.val / 64 then (1 : EReal) else 0 := by
  refine Eq.trans ?_ (v26_at m c i j); blk_ext [iblk, idx t]
theorem blkBdk (c : Dev nD) (t : Fin cfg0.N) (i j : Fin 128) : iblk m c 8 t (ix2 i j) = if i.val / 64 = j.val / 64 then (1 : EReal) else 0 := by
  refine Eq.trans ?_ (v27_at m c i j); blk_ext [iblk, idx t]

end Cert.InprojIdeal.Value

end
-- ==== Proof.InValue.lean ====
/- The input projection's seven results, at every index, as functions of its arguments. -/
module

public import proofs.«01_k».proof.Proof.InReads
public import proofs.«01_k».proof.Proof.InSpec

@[expose] public section

set_option maxRecDepth 16384

noncomputable section

open Idealize.ShloMosaic Idealize.ShloMosaic.TcCoe Idealize.SL.Sem
open Idealize.ShloMosaic.Pipeline (Dat)

namespace Cert.InprojIdeal.Value

open Cert.InprojIdeal Cert.InprojIdeal.Gen

variable (m : (ℓ : Loc nD τ sig) → Buf (Elt Ideal) ℓ)

theorem h_blk (c : Dev nD) (t : Fin cfg0.N) (r : Fin 512) (k : Fin 1024) :
    k0_pay2 (F := Ideal) (iblk m c 0 t) (iblk m c 1 t) (ix2 r k)
      = Block.nrmRow (fun k => (m ((c.tc : Thread nD τ).loc main_arg0)) (ix3 ⟨t.val / 16, t_b t⟩ ⟨512 * (t.val % 16) + r, by have := t_n t; omega⟩ k)) (fun k => (m ((c.tc : Thread nD τ).loc main_arg1)) (ix1 k)) k := by
  refine (Block.pay2_at _ _ r k).trans ?_
  simp only [blkX, blkG]

/-- A row of the block times a column that is column `j` of the weights. -/
theorem z_blk (c : Dev nD) (t : Fin cfg0.N) (r : Fin 512) (f : Fin 1024 → EReal) (j : Fin 2832) (hf : ∀ k, f k = (m ((c.tc : Thread nD τ).loc main_arg2)) (ix2 k j)) :
    ∑ k : Fin 1024, k0_pay2 (F := Ideal) (iblk m c 0 t) (iblk m c 1 t) (ix2 r k) * f k
      = In.z (m ((c.tc : Thread nD τ).loc main_arg0)) (m ((c.tc : Thread nD τ).loc main_arg1)) (m ((c.tc : Thread nD τ).loc main_arg2)) ⟨t.val / 16, t_b t⟩ ⟨512 * (t.val % 16) + r, by have := t_n t; omega⟩ j := by
  unfold In.z
  refine Finset.sum_congr rfl fun k _ => ?_
  rw [h_blk, hf]

theorem ld2 (c : Dev nD) (t : Fin cfg0.N) (k : Fin 1024) (j : Fin 512) : View.ld (iblk m c 2 t) r0_2 (ix2 k j) = (m ((c.tc : Thread nD τ).loc main_arg2)) (ix2 k ⟨0 + j, by omega⟩) := by
  refine Eq.trans (b := iblk m c 2 t (ix2 k ⟨0 + j, by omega⟩)) (by pointwise) ?_
  rw [blkW]
theorem ld6 (c : Dev nD) (t : Fin cfg0.N) (k : Fin 1024) (j : Fin 128) : View.ld (iblk m c 2 t) r0_6 (ix2 k j) = (m ((c.tc : Thread nD τ).loc main_arg2)) (ix2 k ⟨512 + j, by omega⟩) := by
  refine Eq.trans (b := iblk m c 2 t (ix2 k ⟨512 + j, by omega⟩)) (by pointwise) ?_
  rw [blkW]
theorem ld10 (c : Dev nD) (t : Fin cfg0.N) (k : Fin 1024) (j : Fin 128) : View.ld (iblk m c 2 t) r0_10 (ix2 k j) = (m ((c.tc : Thread nD τ).loc main_arg2)) (ix2 k ⟨640 + j, by omega⟩) := by
  refine Eq.trans (b := iblk m c 2 t (ix2 k ⟨640 + j, by omega⟩)) (by pointwise) ?_
  rw [blkW]
theorem ld11 (c : Dev nD) (t : Fin cfg0.N) (k : Fin 1024) (j : Fin 1024) : View.ld (iblk m c 2 t) r0_11 (ix2 k j) = (m ((c.tc : Thread nD τ).loc main_arg2)) (ix2 k ⟨768 + j, by omega⟩) := by
  refine Eq.trans (b := iblk m c 2 t (ix2 k ⟨768 + j, by omega⟩)) (by pointwise) ?_
  rw [blkW]
theorem ld12 (c : Dev nD) (t : Fin cfg0.N) (k : Fin 1024) (j : Fin 512) : View.ld (iblk m c 2 t) r0_12 (ix2 k j) = (m ((c.tc : Thread nD τ).loc main_arg2)) (ix2 k ⟨1792 + j, by omega⟩) := by
  refine Eq.trans (b := iblk m c 2 t (ix2 k ⟨1792 + j, by omega⟩)) (by pointwise) ?_
  rw [blkW]
theorem ld13 (c : Dev nD) (t : Fin cfg0.N) (k : Fin 1024) (j : Fin 512) : View.ld (iblk m c 2 t) r0_13 (ix2 k j) = (m ((c.tc : Thread nD τ).loc main_arg2)) (ix2 k ⟨2304 + j, by omega⟩) := by
  refine Eq.trans (b := iblk m c 2 t (ix2 k ⟨2304 + j, by omega⟩)) (by pointwise) ?_
  rw [blkW]

theorem avArr (c : Dev nD) : (dats m 0 c).arrAt 11 cfg0.N = fun i => In.z (m ((c.tc : Thread nD τ).loc main_arg0)) (m ((c.tc : Thread nD τ).loc main_arg1)) (m ((c.tc : Thread nD τ).loc main_arg2)) ⟨i 0, (i 0).isLt⟩ ⟨i 1, (i 1).isLt⟩ ⟨640 + (i 2).val, by have : (i 2).val < 128 := (i 2).isLt; omega⟩ := by
  refine (dats m 0 c).arrAt_eq_of_covers 11 _ (by decide +kernel) fun t _ y => ?_
  blk_simp
  rw [after0_11]
  unfold_out out0_11
  frame_out
  have b1 : (y 1).val < 512 := (y 1).isLt
  have b2 : (y 2).val < 128 := (y 2).isLt
  have hy : y = ix3 0 ⟨(y 1).val, b1⟩ ⟨(y 2).val, b2⟩ := by idx_ext
  refine Eq.trans (congrArg _ hy) ?_
  refine (Block.pay6_at _ _ _ _).trans ?_
  refine (z_blk m c t _ _ _ fun k => ld10 m c t k _).trans ?_
  congr 1 <;> apply Fin.ext <;> simp [idx t] <;> omega

theorem mqkArr (c : Dev nD) : (dats m 0 c).arrAt 12 cfg0.N = fun i => In.z (m ((c.tc : Thread nD τ).loc main_arg0)) (m ((c.tc : Thread nD τ).loc main_arg1)) (m ((c.tc : Thread nD τ).loc main_arg2)) ⟨i 0, (i 0).isLt⟩ ⟨i 1, (i 1).isLt⟩ ⟨768 + (i 2).val, by have : (i 2).val < 1024 := (i 2).isLt; omega⟩ := by
  refine (dats m 0 c).arrAt_eq_of_covers 12 _ (by decide +kernel) fun t _ y => ?_
  blk_simp
  rw [after0_12]
  unfold_out out0_12
  frame_out
  have b1 : (y 1).val < 512 := (y 1).isLt
  have b2 : (y 2).val < 1024 := (y 2).isLt
  have hy : y = ix3 0 ⟨(y 1).val, b1⟩ ⟨(y 2).val, b2⟩ := by idx_ext
  refine Eq.trans (congrArg _ hy) ?_
  refine (Block.pay8_at _ _ _ _).trans ?_
  refine (z_blk m c t _ _ _ fun k => ld11 m c t k _).trans ?_
  congr 1 <;> apply Fin.ext <;> simp [idx t] <;> omega

theorem mvArr (c : Dev nD) : (dats m 0 c).arrAt 13 cfg0.N = fun i => In.z (m ((c.tc : Thread nD τ).loc main_arg0)) (m ((c.tc : Thread nD τ).loc main_arg1)) (m ((c.tc : Thread nD τ).loc main_arg2)) ⟨i 0, (i 0).isLt⟩ ⟨i 1, (i 1).isLt⟩ ⟨1792 + (i 2).val, by have : (i 2).val < 512 := (i 2).isLt; omega⟩ := by
  refine (dats m 0 c).arrAt_eq_of_covers 13 _ (by decide +kernel) fun t _ y => ?_
  blk_simp
  rw [after0_13]
  unfold_out out0_13
  frame_out
  have b1 : (y 1).val < 512 := (y 1).isLt
  have b2 : (y 2).val < 512 := (y 2).isLt
  have hy : y = ix3 0 ⟨(y 1).val, b1⟩ ⟨(y 2).val, b2⟩ := by idx_ext
  refine Eq.trans (congrArg _ hy) ?_
  refine (Block.pay9_at _ _ _ _).trans ?_
  refine (z_blk m c t _ _ _ fun k => ld12 m c t k _).trans ?_
  congr 1 <;> apply Fin.ext <;> simp [idx t] <;> omega

theorem moArr (c : Dev nD) : (dats m 0 c).arrAt 14 cfg0.N = fun i => In.z (m ((c.tc : Thread nD τ).loc main_arg0)) (m ((c.tc : Thread nD τ).loc main_arg1)) (m ((c.tc : Thread nD τ).loc main_arg2)) ⟨i 0, (i 0).isLt⟩ ⟨i 1, (i 1).isLt⟩ ⟨2304 + (i 2).val, by have : (i 2).val < 512 := (i 2).isLt; omega⟩ := by
  refine (dats m 0 c).arrAt_eq_of_covers 14 _ (by decide +kernel) fun t _ y => ?_
  blk_simp
  rw [after0_14]
  unfold_out out0_14
  frame_out
  have b1 : (y 1).val < 512 := (y 1).isLt
  have b2 : (y 2).val < 512 := (y 2).isLt
  have hy : y = ix3 0 ⟨(y 1).val, b1⟩ ⟨(y 2).val, b2⟩ := by idx_ext
  refine Eq.trans (congrArg _ hy) ?_
  refine (Block.pay10_at _ _ _ _).trans ?_
  refine (z_blk m c t _ _ _ fun k => ld13 m c t k _).trans ?_
  congr 1 <;> apply Fin.ext <;> simp [idx t] <;> omega

theorem q_blk (c : Dev nD) (t : Fin cfg0.N) (r : Fin 512) (j : Fin 512) :
    k0_pay4 (F := Ideal) (k0_pay3 (iblk m c 0 t) (iblk m c 1 t) (View.ld (iblk m c 2 t) r0_2) (iblk m c 7 t) (iblk m c 5 t)) (ix3 0 r j)
      = In.aq (m ((c.tc : Thread nD τ).loc main_arg0)) (m ((c.tc : Thread nD τ).loc main_arg1)) (m ((c.tc : Thread nD τ).loc main_arg2)) (m ((c.tc : Thread nD τ).loc main_arg3)) ⟨t.val / 16, t_b t⟩ ⟨512 * (t.val % 16) + r, by have := t_n t; omega⟩ j := by
  refine (Block.pay4_at _ _ _ _ _ r j).trans ?_
  have hz : ∀ l : Fin 512, ∑ k : Fin 1024, k0_pay2 (F := Ideal) (iblk m c 0 t) (iblk m c 1 t) (ix2 r k) * View.ld (iblk m c 2 t) r0_2 (ix2 k l)
      = In.z (m ((c.tc : Thread nD τ).loc main_arg0)) (m ((c.tc : Thread nD τ).loc main_arg1)) (m ((c.tc : Thread nD τ).loc main_arg2)) ⟨t.val / 16, t_b t⟩ ⟨512 * (t.val % 16) + r, by have := t_n t; omega⟩ ⟨l, by omega⟩ := fun l =>
    (z_blk m c t r _ _ fun k => ld2 m c t k l).trans (by congr 1; apply Fin.ext; simp)
  simp only [hz]
  rw [In.sum_head _ (j / 64) (by omega) _ fun l => blkBdq m c t l j, In.div64, blkQg]
  unfold In.aq In.norm
  exact (mul_assoc _ _ _).symm

theorem k_blk (c : Dev nD) (t : Fin cfg0.N) (r : Fin 512) (j : Fin 128) :
    k0_pay5 (F := Ideal) (k0_pay2 (iblk m c 0 t) (iblk m c 1 t)) (View.ld (iblk m c 2 t) r0_6) (iblk m c 8 t) (iblk m c 6 t) (ix3 0 r j)
      = In.ak (m ((c.tc : Thread nD τ).loc main_arg0)) (m ((c.tc : Thread nD τ).loc main_arg1)) (m ((c.tc : Thread nD τ).loc main_arg2)) (m ((c.tc : Thread nD τ).loc main_arg4)) ⟨t.val / 16, t_b t⟩ ⟨512 * (t.val % 16) + r, by have := t_n t; omega⟩ j := by
  refine (Block.pay5_at _ _ _ _ r j).trans ?_
  have hz : ∀ l : Fin 128, ∑ k : Fin 1024, k0_pay2 (F := Ideal) (iblk m c 0 t) (iblk m c 1 t) (ix2 r k) * View.ld (iblk m c 2 t) r0_6 (ix2 k l)
      = In.z (m ((c.tc : Thread nD τ).loc main_arg0)) (m ((c.tc : Thread nD τ).loc main_arg1)) (m ((c.tc : Thread nD τ).loc main_arg2)) ⟨t.val / 16, t_b t⟩ ⟨512 * (t.val % 16) + r, by have := t_n t; omega⟩ ⟨512 + l, by omega⟩ := fun l =>
    z_blk m c t r _ _ fun k => ld6 m c t k l
  simp only [hz]
  rw [In.sum_head _ (j / 64) (by omega) _ fun l => blkBdk m c t l j, In.div64, blkKg]
  unfold In.ak In.norm
  simp only [Nat.add_assoc]

theorem g_blk (c : Dev nD) (t : Fin cfg0.N) (g : Fin 16) (r : Fin 512) :
    k0_pay1 (F := Ideal) (k0_pay13 (k0_pay11 (k0_pay2 (iblk m c 0 t) (iblk m c 1 t)) (iblk m c 3 t) (iblk m c 4 t)) (k0_pay12 (k0_pay2 (iblk m c 0 t) (iblk m c 1 t)) (iblk m c 3 t) (iblk m c 4 t))) (ix3 0 g r)
      = In.gates (m ((c.tc : Thread nD τ).loc main_arg0)) (m ((c.tc : Thread nD τ).loc main_arg1)) (m ((c.tc : Thread nD τ).loc main_arg2)) (m ((c.tc : Thread nD τ).loc main_arg5)) ⟨t.val / 16, t_b t⟩ g ⟨512 * (t.val % 16) + r, by have := t_n t; omega⟩ := by
  have hp : k0_pay11 (F := Ideal) (k0_pay2 (iblk m c 0 t) (iblk m c 1 t)) (iblk m c 3 t) (iblk m c 4 t) (ix2 g r)
      = In.pre (m ((c.tc : Thread nD τ).loc main_arg0)) (m ((c.tc : Thread nD τ).loc main_arg1)) (m ((c.tc : Thread nD τ).loc main_arg2)) (m ((c.tc : Thread nD τ).loc main_arg5)) ⟨t.val / 16, t_b t⟩ g ⟨512 * (t.val % 16) + r, by have := t_n t; omega⟩ := by
    refine (Block.pay11_at _ _ _ g r).trans ?_
    exact congrArg₂ (· + ·) ((Finset.sum_congr rfl fun k _ => mul_comm _ _).trans (z_blk m c t r _ _ fun k => blkWg m c t k g)) (blkB m c t g)
  refine (Block.pay13_at _ _ g r).trans ?_
  rw [Block.pay12_at, hp]
  rfl

theorem aqArr (c : Dev nD) : (dats m 0 c).arrAt 9 cfg0.N = fun i => In.aq (m ((c.tc : Thread nD τ).loc main_arg0)) (m ((c.tc : Thread nD τ).loc main_arg1)) (m ((c.tc : Thread nD τ).loc main_arg2)) (m ((c.tc : Thread nD τ).loc main_arg3)) ⟨i 0, (i 0).isLt⟩ ⟨i 1, (i 1).isLt⟩ ⟨i 2, (i 2).isLt⟩ := by
  refine (dats m 0 c).arrAt_eq_of_covers 9 _ (by decide +kernel) fun t _ y => ?_
  blk_simp
  rw [after0_9]
  unfold_out out0_9
  frame_out
  have b1 : (y 1).val < 512 := (y 1).isLt
  have b2 : (y 2).val < 512 := (y 2).isLt
  have hy : y = ix3 0 ⟨(y 1).val, b1⟩ ⟨(y 2).val, b2⟩ := by idx_ext
  refine Eq.trans (congrArg _ hy) ?_
  refine (q_blk m c t _ _).trans ?_
  congr 1 <;> apply Fin.ext <;> simp [idx t] <;> omega

theorem akArr (c : Dev nD) : (dats m 0 c).arrAt 10 cfg0.N = fun i => In.ak (m ((c.tc : Thread nD τ).loc main_arg0)) (m ((c.tc : Thread nD τ).loc main_arg1)) (m ((c.tc : Thread nD τ).loc main_arg2)) (m ((c.tc : Thread nD τ).loc main_arg4)) ⟨i 0, (i 0).isLt⟩ ⟨i 1, (i 1).isLt⟩ ⟨i 2, (i 2).isLt⟩ := by
  refine (dats m 0 c).arrAt_eq_of_covers 10 _ (by decide +kernel) fun t _ y => ?_
  blk_simp
  rw [after0_10]
  unfold_out out0_10
  frame_out
  have b1 : (y 1).val < 512 := (y 1).isLt
  have b2 : (y 2).val < 128 := (y 2).isLt
  have hy : y = ix3 0 ⟨(y 1).val, b1⟩ ⟨(y 2).val, b2⟩ := by idx_ext
  refine Eq.trans (congrArg _ hy) ?_
  refine (k_blk m c t _ _).trans ?_
  congr 1 <;> apply Fin.ext <;> simp [idx t] <;> omega

theorem gatesArr (c : Dev nD) : (dats m 0 c).arrAt 15 cfg0.N = fun i => In.gates (m ((c.tc : Thread nD τ).loc main_arg0)) (m ((c.tc : Thread nD τ).loc main_arg1)) (m ((c.tc : Thread nD τ).loc main_arg2)) (m ((c.tc : Thread nD τ).loc main_arg5)) ⟨i 0, (i 0).isLt⟩ ⟨i 1, (i 1).isLt⟩ ⟨i 2, (i 2).isLt⟩ := by
  refine (dats m 0 c).arrAt_eq_of_covers 15 _ (by decide +kernel) fun t _ y => ?_
  blk_simp
  rw [after0_15]
  unfold_out out0_15
  frame_out
  have b1 : (y 1).val < 16 := (y 1).isLt
  have b2 : (y 2).val < 512 := (y 2).isLt
  have hy : y = ix3 0 ⟨(y 1).val, b1⟩ ⟨(y 2).val, b2⟩ := by idx_ext
  refine Eq.trans (congrArg _ hy) ?_
  refine (g_blk m c t _ _).trans ?_
  congr 1 <;> apply Fin.ext <;> simp [idx t] <;> omega

end Cert.InprojIdeal.Value

end
-- ==== Proof.InClaims.lean ====
/- The claims of the input projection: its frames and the equality of its seven results with the reference's. -/
module

public import proofs.«01_k».proof.Defs
public import proofs.«01_k».proof.Proof.Gen.Inproj.Frame
public import proofs.«01_k».proof.Proof.Gen.InprojRefIdeal.Run
public import proofs.«01_k».proof.Proof.InRef
public import proofs.«01_k».proof.Proof.InValue
public import Idealize.ShloMosaic.Lib.Quiescent

@[expose] public section

set_option maxRecDepth 16384

noncomputable section

open Idealize.ShloMosaic Idealize.ShloMosaic.TcCoe Idealize.SL.Sem

namespace Cert.InClaims

attribute [local instance] Cert.Inproj.Gen.facts Cert.InprojIdeal.Gen.facts Cert.InprojRefIdeal.Gen.facts

theorem frame_p : Cert.quiescent_Inproj := fun m ρ _ => Cert.Inproj.Gen.frame m ρ

theorem frame_pi : Cert.quiescent_InprojIdeal := fun m ρ _ => Cert.InprojIdeal.Gen.frame m ρ

theorem frame_ri : Cert.quiescent_InprojRefIdeal := fun m ρ _ =>
  (θ_run Cert.InprojRefIdeal.defs _ _).mono
    (fun r h => ⟨fun c => (h c).2.2.2.2.2.2.2, Idealize.ShloMosaic.sem_eq_zero_of_no_sems (by decide) r.2⟩)
    (Cert.InprojRefIdeal.Value.run (F := Ideal) m ρ)

theorem preserves : Cert.preserves_Inproj_InprojIdeal := trivial

set_option maxHeartbeats 4000000 in
theorem algebraic : Cert.algebraic_InprojIdeal_InprojRefIdeal := by
  unfold Cert.algebraic_InprojIdeal_InprojRefIdeal
  intro m ρ m' ρ' _ hagree
  refine ⟨_, _, _, _, _, _, _, Cert.InprojIdeal.Value.run_blocks m ρ, ?_⟩
  refine (θ_run Cert.InprojRefIdeal.defs _ _).mono (fun _ h c => ?_) (Cert.InprojRefIdeal.Value.run (F := Ideal) m' ρ')
  obtain ⟨e0, e1, e2, e3, e4, e5⟩ := hagree c
  obtain ⟨h0, h1, h2, h3, h4, h5, h6, hargs⟩ := h c
  refine ⟨h0.trans ?_, h1.trans ?_, h2.trans ?_, h3.trans ?_, h4.trans ?_, h5.trans ?_, h6.trans ?_, hargs⟩
  · rw [Cert.InprojRefIdeal.Read.val_main_v63_eq, e0, e1, e2, e3, Cert.InprojIdeal.Value.aqArr]
    exact Cert.InprojRefIdeal.At.aq_arr _ _ _ _
  · rw [Cert.InprojRefIdeal.Read.val_main_v65_eq, e0, e1, e2, e4, Cert.InprojIdeal.Value.akArr]
    exact Cert.InprojRefIdeal.At.ak_arr _ _ _ _
  · rw [Cert.InprojRefIdeal.Read.val_main_v66_eq, e0, e1, e2, Cert.InprojIdeal.Value.avArr]
    exact Cert.InprojRefIdeal.At.av_arr _ _ _
  · rw [Cert.InprojRefIdeal.Read.val_main_v68_eq, e0, e1, e2, Cert.InprojIdeal.Value.mqkArr]
    exact Cert.InprojRefIdeal.At.mqk_arr _ _ _
  · rw [Cert.InprojRefIdeal.Read.val_main_v69_eq, e0, e1, e2, Cert.InprojIdeal.Value.mvArr]
    exact Cert.InprojRefIdeal.At.mv_arr _ _ _
  · rw [Cert.InprojRefIdeal.Read.val_main_v70_eq, e0, e1, e2, Cert.InprojIdeal.Value.moArr]
    exact Cert.InprojRefIdeal.At.mo_arr _ _ _
  · rw [Cert.InprojRefIdeal.Read.val_main_v71_eq, e0, e1, e2, e5, Cert.InprojIdeal.Value.gatesArr]
    exact Cert.InprojRefIdeal.At.gates_arr _ _ _ _

end Cert.InClaims

end
-- ==== Proof.MixBlock.lean ====
/- What the body of the mix computes, read at an index of the block. -/
module

public import proofs.«01_k».proof.Proof.Gen.MixIdeal.Skeleton
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Mix

/-- The small constant added to a mean of squares. -/
def eps : EReal := Ideal.ofBits .f32 0x358637BD#32

/-- The logistic function. -/
def lgs (x : EReal) : EReal := Ideal.div 1 (1 + Ideal.exp (0 - x))

/-- A row divided by its root mean square (`N` the number of its entries). -/
def nrm {n : ℕ} (N : EReal) (x : Fin n → EReal) (k : Fin n) : EReal := x k * Ideal.rsqrt (Ideal.div (∑ j, x j * x j) N + eps)

/-- The number 128, as the programs write it. -/
def n128 : EReal := Ideal.ofBits .f32 0x43000000#32

/-- The number 1024, as the programs write it. -/
def n1024 : EReal := Ideal.ofBits .f32 0x44800000#32

/-- The scale of the memory's scores. -/
def scale : EReal := Ideal.ofBits .f32 0x3DB504F3#32

/-- The scores of a query against the memory's keys, the scale on the query. -/
def scores (q g : Fin 128 → EReal) (K : Fin 256 → Fin 128 → EReal) (j : Fin 256) : EReal := ∑ e, nrm n128 q e * g e * scale * K j e

/-- The largest entry of a row. -/
def top {n : ℕ} (s : Fin n → EReal) : EReal := Finset.univ.fold max (Ideal.ofBits .f32 0xFF800000#32) s

/-- The softmax of `s` times the values, divided after the product. -/
def mean (s v : Fin 256 → EReal) : EReal := Ideal.div (∑ j, Ideal.exp (s j - top s) * v j) (∑ j, Ideal.exp (s j - top s))

/-- The softmax of a row. -/
def soft (s : Fin 16 → EReal) (e : Fin 16) : EReal := Ideal.div (Ideal.exp (s e - top s)) (∑ j, Ideal.exp (s j - top s))

end Cert.Mix

namespace Cert.MixIdeal.Block

open Cert.MixIdeal Cert.MixIdeal.Gen Cert.Mix

theorem pay7_at (a b : FVec Ideal S1x256x512 .f32) (o : FVec Ideal S1x256x512 .bf16) (g : FVec Ideal S1x128 .f32) (r : Fin 256) (c : Fin 128) :
    k0_pay7 (F := Ideal) a b o g (ix2 r c)
      = lgs (o (ix3 0 r ⟨c, by omega⟩)) * (nrm n128 (fun e : Fin 128 => a (ix3 0 r ⟨e, by omega⟩) + b (ix3 0 r ⟨e, by omega⟩)) c * g (ix2 0 c)) := by
  pointwise [k0_pay7, k0_pay5, k0_pay6, nrm, lgs, eps, n128, n1024, scale, scores, top, mean, soft]

theorem pay10_at (a b : FVec Ideal S1x256x512 .f32) (o : FVec Ideal S1x256x512 .bf16) (g : FVec Ideal S1x128 .f32) (r : Fin 256) (c : Fin 128) :
    k0_pay10 (F := Ideal) (k0_pay5 a b) (k0_pay8 o) k0_pay9 g (ix2 r c)
      = lgs (o (ix3 0 r ⟨128 + c, by omega⟩)) * (nrm n128 (fun e : Fin 128 => a (ix3 0 r ⟨128 + e, by omega⟩) + b (ix3 0 r ⟨128 + e, by omega⟩)) c * g (ix2 0 c)) := by
  pointwise [k0_pay10, k0_pay8, k0_pay9, k0_pay5, k0_pay6, nrm, lgs, eps, n128, n1024, scale, scores, top, mean, soft]

/-- The columns of the four heads of the mLSTM side by side. -/
def four (p0 p1 p2 p3 : Fin 128 → EReal) (c : Fin 512) : EReal :=
  if h : c.val < 128 then p0 ⟨c, h⟩ else if h : c.val - 128 < 128 then p1 ⟨c - 128, h⟩
  else if h : c.val - 128 - 128 < 128 then p2 ⟨c - 128 - 128, h⟩ else p3 ⟨c - 128 - 128 - 128, by omega⟩

theorem pay14_at (x : FVec Ideal S1x256x1024 .f32) (a b : FVec Ideal S1x256x512 .f32) (o : FVec Ideal S1x256x512 .bf16) (h0 h1 : FVec Ideal S256x128 .bf16)
    (g2 g3 : FVec Ideal S1x128 .f32) (att : FVec Ideal S1x256x512 .bf16) (w0 w1 : FVec Ideal S512x1024 .bf16) (r : Fin 256) (d : Fin 1024) :
    k0_pay14 (F := Ideal) (k0_pay4 x) (k0_pay5 a b) (k0_pay6 o) h0 h1 (k0_pay11 (k0_pay6 o)) (k0_pay12 (k0_pay5 a b)) (k0_pay13 g2) g3 att w0 w1 (ix2 r d)
      = x (ix3 0 r d) + (∑ k : Fin 512, att (ix3 0 r k) * w0 (ix2 k d))
        + ∑ k : Fin 512, four (fun c => h0 (ix2 r c)) (fun c => h1 (ix2 r c))
            (fun c => lgs (o (ix3 0 r ⟨256 + c, by omega⟩)) * (nrm n128 (fun e : Fin 128 => a (ix3 0 r ⟨256 + e, by omega⟩) + b (ix3 0 r ⟨256 + e, by omega⟩)) c * g2 (ix2 0 c)))
            (fun c => lgs (o (ix3 0 r ⟨384 + c, by omega⟩)) * (nrm n128 (fun e : Fin 128 => a (ix3 0 r ⟨384 + e, by omega⟩) + b (ix3 0 r ⟨384 + e, by omega⟩)) c * g3 (ix2 0 c))) k
          * w1 (ix2 k d) := by
  pointwise [k0_pay14, k0_pay4, k0_pay5, k0_pay6, k0_pay11, k0_pay12, k0_pay13, nrm, lgs, eps, n128, four]

theorem pay16_at (y : FVec Ideal S256x1024 .f32) (g : FVec Ideal S1x1024 .f32) (w : FVec Ideal S1024x512 .bf16) (r : Fin 256) (c : Fin 512) :
    k0_pay16 (F := Ideal) y (k0_pay15 g) w (ix2 r c) = ∑ d, nrm n1024 (fun d => y (ix2 r d)) d * g (ix2 0 d) * w (ix2 d c) := by
  pointwise [k0_pay16, k0_pay15, nrm, lgs, eps, n128, n1024, scale, scores, top, mean, soft]

theorem pay20_at (y : FVec Ideal S256x1024 .f32) (g : FVec Ideal S1x1024 .f32) (w : FVec Ideal S1024x512 .bf16) (k v : FVec Ideal S1x256x512 .bf16) (qg : FVec Ideal S1x128 .f32)
    (r : Fin 256) (c : Fin 128) :
    k0_pay20 (F := Ideal) (k0_pay18 v) (k0_pay19 y (k0_pay15 g) w k qg) (ix2 r c)
      = mean (scores (fun e => k0_pay16 (F := Ideal) y (k0_pay15 g) w (ix2 r ⟨e, by omega⟩)) (fun e => qg (ix2 0 e)) (fun j e => k (ix3 0 j ⟨e, by omega⟩)))
          (fun j => v (ix3 0 j ⟨c, by omega⟩)) := by
  pointwise [k0_pay20, k0_pay18, k0_pay19, k0_pay17, nrm, lgs, eps, n128, n1024, scale, scores, top, mean, soft]

theorem pay21_at (q : FVec Ideal S256x512 .f32) (k v : FVec Ideal S1x256x512 .bf16) (qg : FVec Ideal S1x128 .f32) (r : Fin 256) (c : Fin 128) :
    k0_pay21 (F := Ideal) q (k0_pay17 k) (k0_pay18 v) qg (ix2 r c)
      = mean (scores (fun e => q (ix2 r ⟨128 + e, by omega⟩)) (fun e => qg (ix2 0 e)) (fun j e => k (ix3 0 j ⟨128 + e, by omega⟩)))
          (fun j => v (ix3 0 j ⟨128 + c, by omega⟩)) := by
  pointwise [k0_pay21, k0_pay18, k0_pay17, nrm, lgs, eps, n128, n1024, scale, scores, top, mean, soft]

theorem pay23_at (q : FVec Ideal S256x512 .f32) (k v : FVec Ideal S1x256x512 .bf16) (qg : FVec Ideal S1x128 .f32) (r : Fin 256) (c : Fin 128) :
    k0_pay23 (F := Ideal) (k0_pay17 k) (k0_pay18 v) (k0_pay22 q) qg (ix2 r c)
      = mean (scores (fun e => q (ix2 r ⟨256 + e, by omega⟩)) (fun e => qg (ix2 0 e)) (fun j e => k (ix3 0 j ⟨256 + e, by omega⟩)))
          (fun j => v (ix3 0 j ⟨256 + c, by omega⟩)) := by
  pointwise [k0_pay23, k0_pay22, k0_pay18, k0_pay17, nrm, lgs, eps, n128, n1024, scale, scores, top, mean, soft]

theorem pay26_at (y : FVec Ideal S256x1024 .f32) (q : FVec Ideal S256x512 .f32) (k v : FVec Ideal S1x256x512 .bf16) (h0 h1 h2 : FVec Ideal S256x128 .bf16)
    (qg : FVec Ideal S1x128 .f32) (w : FVec Ideal S512x1024 .bf16) (r : Fin 256) (d : Fin 1024) :
    k0_pay26 (F := Ideal) y (k0_pay17 k) (k0_pay18 v) h0 h1 h2 (k0_pay24 q) (k0_pay25 qg) w (ix2 r d)
      = y (ix2 r d) + ∑ c, four (fun c => h0 (ix2 r c)) (fun c => h1 (ix2 r c)) (fun c => h2 (ix2 r c))
          (fun c => mean (scores (fun e => q (ix2 r ⟨384 + e, by omega⟩)) (fun e => qg (ix2 0 e)) (fun j e => k (ix3 0 j ⟨384 + e, by omega⟩)))
            (fun j => v (ix3 0 j ⟨384 + c, by omega⟩))) c * w (ix2 c d) := by
  pointwise [k0_pay26, k0_pay24, k0_pay25, k0_pay18, k0_pay17, nrm, eps, n128, scale, scores, top, mean, four]

theorem pay28_at (y : FVec Ideal S256x1024 .f32) (k v : FVec Ideal S256x512 .bf16) (h0 h1 h2 : FVec Ideal S256x128 .bf16) (u u' : FVec Ideal S256x128 .f32)
    (w : FVec Ideal S512x1024 .bf16) (g : FVec Ideal S1x1024 .f32) (r : Fin 256) (d : Fin 1024) :
    k0_pay28 (F := Ideal) y k v h0 h1 h2 u u' w g (ix2 r d) = nrm n1024 (fun d => k0_pay26 (F := Ideal) y k v h0 h1 h2 u u' w (ix2 r d)) d * g (ix2 0 d) := by
  pointwise [k0_pay28, nrm, lgs, eps, n128, n1024, scale, scores, top, mean, soft]

theorem pay32_at (h : FVec Ideal S256x1024 .f32) (w : FVec Ideal S1024x16 .f32) (b : FVec Ideal S1x16 .f32) (r : Fin 256) (e : Fin 16) :
    k0_pay32 (F := Ideal) h (truncf .bf16 h bitsLt_bf16_f32) h w b (ix2 r e)
      = soft (fun e => (∑ d : Fin 1024, h (ix2 r d) * w (ix2 d e)) + (∑ d : Fin 1024, (h (ix2 r d) - h (ix2 r d)) * w (ix2 d e))
          + (∑ d : Fin 1024, h (ix2 r d) * (w (ix2 d e) - w (ix2 d e))) + b (ix2 0 e)) e := by
  pointwise [k0_pay32, k0_pay31, nrm, lgs, eps, n128, n1024, scale, scores, top, mean, soft]

theorem pay1_at (h : FVec Ideal S256x1024 .f32) (w : FVec Ideal S16x1024 .f32) (b : FVec Ideal S16x1 .f32) (e : Fin 16) (r : Fin 256) :
    k0_pay1 (F := Ideal) (k0_pay33 h (truncf .bf16 h bitsLt_bf16_f32) h w b) (k0_pay34 h (truncf .bf16 h bitsLt_bf16_f32) h w b) (ix3 0 e r)
      = soft (fun e => (∑ d : Fin 1024, w (ix2 e d) * h (ix2 r d)) + (∑ d : Fin 1024, w (ix2 e d) * (h (ix2 r d) - h (ix2 r d)))
          + (∑ d : Fin 1024, (w (ix2 e d) - w (ix2 e d)) * h (ix2 r d)) + b (ix2 e 0)) e := by
  pointwise [k0_pay1, k0_pay33, k0_pay34, k0_pay31, nrm, lgs, eps, n128, n1024, scale, scores, top, mean, soft]

end Cert.MixIdeal.Block

end
-- ==== Proof.MkvBlock.lean ====
/- The body of the kernel of the memory's keys and values, at an index; and what the call is, from its arguments. -/
module

public import proofs.«01_k».proof.Proof.Gen.MemkvIdeal.Value
public import proofs.«01_k».proof.Proof.MixBlock

@[expose] public section

set_option maxRecDepth 16384

noncomputable section

open Idealize.ShloMosaic Idealize.ShloMosaic.TcCoe Idealize.SL.Sem

namespace Cert.Mkv

open Cert.MemkvIdeal

variable (X : FVec Ideal S8x256x1024 .f32) (G : FVec Ideal S1024 .f32) (W : FVec Ideal S1024x1024 .f32) (K : FVec Ideal S128 .f32)

/-- The normalised memory row times column `c` of the weights. -/
def kv (b : Fin 8) (j : Fin 256) (c : Fin 1024) : EReal := ∑ d, Mix.nrm Mix.n1024 (fun d => X (ix3 b j d)) d * G (ix1 d) * W (ix2 d c)

/-- The keys: normalised over their head's 128 columns. -/
def key (b : Fin 8) (j : Fin 256) (c : Fin 512) : EReal :=
  Mix.nrm Mix.n128 (fun e : Fin 128 => kv X G W b j ⟨128 * (c / 128) + e, by omega⟩) ⟨c % 128, by omega⟩ * K (ix1 ⟨c % 128, by omega⟩)

/-- The keys as an array. -/
def kArr : FVec Ideal S8x256x512 .bf16 := fun i => key X G W K ⟨i 0, (i 0).isLt⟩ ⟨i 1, (i 1).isLt⟩ ⟨i 2, (i 2).isLt⟩
/-- The values as an array. -/
def vArr : FVec Ideal S8x256x512 .bf16 := fun i => kv X G W ⟨i 0, (i 0).isLt⟩ ⟨i 1, (i 1).isLt⟩ ⟨512 + (i 2).val, by have : (i 2).val < 512 := (i 2).isLt; omega⟩

theorem key_head (b : Fin 8) (j : Fin 256) (h : ℕ) (hh : h < 4) (e : Fin 128) :
    key X G W K b j ⟨128 * h + e, by omega⟩ = Mix.nrm Mix.n128 (fun e : Fin 128 => kv X G W b j ⟨128 * h + e, by omega⟩) e * K (ix1 e) := by
  have h1 : (128 * h + e.val) / 128 = h := by omega
  have h2 : (128 * h + e.val) % 128 = e.val := by omega
  unfold key
  simp only [h1, h2]

end Cert.Mkv

namespace Cert.MemkvIdeal.Block

open Cert.MemkvIdeal Cert.MemkvIdeal.Gen Cert.Mix

theorem pay3_at (x : FVec Ideal S1x256x1024 .f32) (g : FVec Ideal S1x1024 .f32) (w : FVec Ideal S1024x1024 .bf16) (r : Fin 256) (c : Fin 1024) :
    k0_pay3 (F := Ideal) x g w (ix2 r c) = ∑ d, nrm n1024 (fun d => x (ix3 0 r d)) d * g (ix2 0 d) * w (ix2 d c) := by
  pointwise [k0_pay3, nrm, n1024, eps]

theorem pay2_at (q : FVec Ideal S256x1024 .f32) (r : Fin 256) (c : Fin 512) : k0_pay2 (F := Ideal) q (ix3 0 r c) = q (ix2 r ⟨512 + c, by omega⟩) := by
  pointwise [k0_pay2]

theorem pay4_at (x : FVec Ideal S1x256x1024 .f32) (g : FVec Ideal S1x1024 .f32) (w : FVec Ideal S1024x1024 .bf16) (kg : FVec Ideal S1x128 .f32) (r : Fin 256) (c : Fin 128) :
    k0_pay4 (F := Ideal) x g w kg (ix3 0 r c) = nrm n128 (fun e : Fin 128 => k0_pay3 (F := Ideal) x g w (ix2 r ⟨e, by omega⟩)) c * kg (ix2 0 c) := by
  pointwise [k0_pay4, nrm, n128, eps]

theorem pay5_at (q : FVec Ideal S256x1024 .f32) (kg : FVec Ideal S1x128 .f32) (r : Fin 256) (c : Fin 128) :
    k0_pay5 (F := Ideal) q kg (ix3 0 r c) = nrm n128 (fun e : Fin 128 => q (ix2 r ⟨128 + e, by omega⟩)) c * kg (ix2 0 c) := by
  pointwise [k0_pay5, nrm, n128, eps]

theorem pay6_at (q : FVec Ideal S256x1024 .f32) (kg : FVec Ideal S1x128 .f32) (r : Fin 256) (c : Fin 128) :
    k0_pay6 (F := Ideal) q kg (ix3 0 r c) = nrm n128 (fun e : Fin 128 => q (ix2 r ⟨256 + e, by omega⟩)) c * kg (ix2 0 c) := by
  pointwise [k0_pay6, nrm, n128, eps]

theorem pay1_at (q : FVec Ideal S256x1024 .f32) (kg : FVec Ideal S1x128 .f32) (r : Fin 256) (c : Fin 128) :
    k0_pay1 (F := Ideal) (k0_pay7 q) kg (ix3 0 r c) = nrm n128 (fun e : Fin 128 => q (ix2 r ⟨384 + e, by omega⟩)) c * kg (ix2 0 c) := by
  pointwise [k0_pay1, k0_pay7, nrm, n128, eps]

end Cert.MemkvIdeal.Block

namespace Cert.MemkvIdeal.Value

open Idealize.ShloMosaic.Pipeline (Dat)
open Cert.MemkvIdeal Cert.MemkvIdeal.Gen

variable (m : (ℓ : Loc nD τ sig) → Buf (Elt Ideal) ℓ)

/-- The windows' index maps, at every grid point. -/
theorem idx : ∀ t : Fin cfg0.N, win0_0.index t = ![t.val, 0, 0] ∧ win0_1.index t = ![0, 0] ∧ win0_2.index t = ![0, 0] ∧ win0_3.index t = ![0, 0]
    ∧ win0_4.index t = ![t.val, 0, 0] ∧ win0_5.index t = ![t.val, 0, 0] :=
  (by decide +kernel : ∀ t : Fin grid0.N, _)

theorem t_b (t : Fin cfg0.N) : t.val < 8 := t.isLt

theorem blk0 (c : Dev nD) (t : Fin cfg0.N) (r : Fin 256) (k : Fin 1024) : iblk m c 0 t (ix3 0 r k) = (m ((c.tc : Thread nD τ).loc main_arg0)) (ix3 ⟨t.val, t_b t⟩ r k) := by
  blk_ext! [iblk, V, idx t]
theorem blk1 (c : Dev nD) (t : Fin cfg0.N) (k : Fin 1024) : iblk m c 1 t (ix2 0 k) = (m ((c.tc : Thread nD τ).loc main_arg1)) (ix1 k) := by
  blk_ext! [iblk, V, idx t]
theorem blk2 (c : Dev nD) (t : Fin cfg0.N) (k d : Fin 1024) : iblk m c 2 t (ix2 k d) = (m ((c.tc : Thread nD τ).loc main_arg2)) (ix2 k d) := by
  blk_ext! [iblk, V, idx t]
theorem blk3 (c : Dev nD) (t : Fin cfg0.N) (k : Fin 128) : iblk m c 3 t (ix2 0 k) = (m ((c.tc : Thread nD τ).loc main_arg3)) (ix1 k) := by
  blk_ext! [iblk, V, idx t]

theorem kv_blk (c : Dev nD) (t : Fin cfg0.N) (r : Fin 256) (j : Fin 1024) : k0_pay3 (F := Ideal) (iblk m c 0 t) (iblk m c 1 t) (iblk m c 2 t) (ix2 r j)
    = Mkv.kv (m ((c.tc : Thread nD τ).loc main_arg0)) (m ((c.tc : Thread nD τ).loc main_arg1)) (m ((c.tc : Thread nD τ).loc main_arg2)) ⟨t.val, t_b t⟩ r j := by
  refine (Block.pay3_at _ _ _ r j).trans ?_
  exact Finset.sum_congr rfl fun d _ => congrArg₂ (· * ·) (congrArg₂ (· * ·) (congrArg (fun f => Mix.nrm Mix.n1024 f d) (funext fun d => blk0 m c t r d)) (blk1 m c t d)) (blk2 m c t d j)

theorem v_final (c : Dev nD) : (dats m 0 c).arrAt 5 cfg0.N = Mkv.vArr (m ((c.tc : Thread nD τ).loc main_arg0)) (m ((c.tc : Thread nD τ).loc main_arg1)) (m ((c.tc : Thread nD τ).loc main_arg2)) := by
  refine (dats m 0 c).arrAt_eq_of_covers 5 _ (by decide +kernel) fun t _ y => ?_
  blk_simp
  rw [after0_5]
  unfold_out out0_5
  frame_out
  have b1 : (y 1).val < 256 := (y 1).isLt
  have b2 : (y 2).val < 512 := (y 2).isLt
  have hy : y = ix3 0 ⟨(y 1).val, b1⟩ ⟨(y 2).val, b2⟩ := by idx_ext
  refine Eq.trans (congrArg _ hy) ?_
  refine (Block.pay2_at _ _ _).trans ?_
  refine (kv_blk m c t _ _).trans ?_
  unfold Mkv.vArr
  congr 1 <;> apply Fin.ext <;> simp [idx t] <;> omega

theorem head_blk (c : Dev nD) (t : Fin cfg0.N) (h : ℕ) (hh : h < 4) (r : Fin 256) (e : Fin 128) :
    Mix.nrm Mix.n128 (fun e : Fin 128 => k0_pay3 (F := Ideal) (iblk m c 0 t) (iblk m c 1 t) (iblk m c 2 t) (ix2 r ⟨128 * h + e, by omega⟩)) e * iblk m c 3 t (ix2 0 e)
    = Mkv.key (m ((c.tc : Thread nD τ).loc main_arg0)) (m ((c.tc : Thread nD τ).loc main_arg1)) (m ((c.tc : Thread nD τ).loc main_arg2)) (m ((c.tc : Thread nD τ).loc main_arg3)) ⟨t.val, t_b t⟩ r ⟨128 * h + e, by omega⟩ :=
  (congrArg₂ (· * ·) (congrArg (fun f => Mix.nrm Mix.n128 f e) (funext fun e => kv_blk m c t _ _)) (blk3 m c t _)).trans (Mkv.key_head _ _ _ _ ⟨t.val, t_b t⟩ r h hh e).symm

theorem k_final (c : Dev nD) : (dats m 0 c).arrAt 4 cfg0.N = Mkv.kArr (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 4 _ (by decide +kernel) fun t _ y => ?_
  blk_simp
  rw [after0_4]
  unfold_out out0_4
  frame_out
  have b1 : (y 1).val < 256 := (y 1).isLt
  have b2 : (y 2).val < 512 := (y 2).isLt
  refine Eq.trans (b := Mkv.key (m ((c.tc : Thread nD τ).loc main_arg0)) (m ((c.tc : Thread nD τ).loc main_arg1)) (m ((c.tc : Thread nD τ).loc main_arg2)) (m ((c.tc : Thread nD τ).loc main_arg3)) ⟨t.val, t_b t⟩ ⟨(y 1).val, b1⟩ ⟨(y 2).val, b2⟩) ?_ ?_
  · refine View.canon_eq_of_allAt _ _ _ (View.cover_of_tiledBy _ ![1, 256, 128] (by sl_kernel_rfl) y) ?_
    refine View.allAt_cons_unit _ _ _ _ _ (fun x hx => ?_) (View.allAt_cons_unit _ _ _ _ _ (fun x hx => ?_) (View.allAt_cons_unit _ _ _ _ _ (fun x hx => ?_) (View.allAt_cons_unit _ _ _ _ _ (fun x hx => ?_) ?_)))
    · have h1 : (y 1).val = (x 1).val := by simpa using hx 1
      have h2 : (y 2).val = 384 + (x 2).val := by simpa using hx 2
      have c1 : (x 1).val < 256 := (x 1).isLt
      have c2 : (x 2).val < 128 := (x 2).isLt
      have hxe : x = ix3 0 ⟨(x 1).val, c1⟩ ⟨(x 2).val, c2⟩ := by idx_ext
      refine Eq.trans (congrArg _ hxe) ?_
      refine (Block.pay1_at _ _ _ _).trans ?_
      refine Eq.trans ?_ ((head_blk m c t 3 (by norm_num) ⟨(x 1).val, c1⟩ ⟨(x 2).val, c2⟩).trans ?_)
      · simp
      · congr 1 <;> apply Fin.ext <;> simp <;> omega
    · have h1 : (y 1).val = (x 1).val := by simpa using hx 1
      have h2 : (y 2).val = 256 + (x 2).val := by simpa using hx 2
      have c1 : (x 1).val < 256 := (x 1).isLt
      have c2 : (x 2).val < 128 := (x 2).isLt
      have hxe : x = ix3 0 ⟨(x 1).val, c1⟩ ⟨(x 2).val, c2⟩ := by idx_ext
      refine Eq.trans (congrArg _ hxe) ?_
      refine (Block.pay6_at _ _ _ _).trans ?_
      refine Eq.trans ?_ ((head_blk m c t 2 (by norm_num) ⟨(x 1).val, c1⟩ ⟨(x 2).val, c2⟩).trans ?_)
      · simp
      · congr 1 <;> apply Fin.ext <;> simp <;> omega
    · have h1 : (y 1).val = (x 1).val := by simpa using hx 1
      have h2 : (y 2).val = 128 + (x 2).val := by simpa using hx 2
      have c1 : (x 1).val < 256 := (x 1).isLt
      have c2 : (x 2).val < 128 := (x 2).isLt
      have hxe : x = ix3 0 ⟨(x 1).val, c1⟩ ⟨(x 2).val, c2⟩ := by idx_ext
      refine Eq.trans (congrArg _ hxe) ?_
      refine (Block.pay5_at _ _ _ _).trans ?_
      refine Eq.trans ?_ ((head_blk m c t 1 (by norm_num) ⟨(x 1).val, c1⟩ ⟨(x 2).val, c2⟩).trans ?_)
      · simp
      · congr 1 <;> apply Fin.ext <;> simp <;> omega
    · have h1 : (y 1).val = (x 1).val := by simpa using hx 1
      have h2 : (y 2).val = (x 2).val := by simpa using hx 2
      have c1 : (x 1).val < 256 := (x 1).isLt
      have c2 : (x 2).val < 128 := (x 2).isLt
      have hxe : x = ix3 0 ⟨(x 1).val, c1⟩ ⟨(x 2).val, c2⟩ := by idx_ext
      refine Eq.trans (congrArg _ hxe) ?_
      refine (Block.pay4_at _ _ _ _ _ _).trans ?_
      refine Eq.trans ?_ ((head_blk m c t 0 (by norm_num) ⟨(x 1).val, c1⟩ ⟨(x 2).val, c2⟩).trans ?_)
      · simp
      · congr 1 <;> apply Fin.ext <;> simp <;> omega
    · intro p hp; exact absurd hp List.not_mem_nil
  · unfold Mkv.kArr
    congr 1 <;> apply Fin.ext <;> simp [idx t] <;> omega

end Cert.MemkvIdeal.Value

end
-- ==== Proof.MkvRef.lean ====
/- The reference of the memory's keys and values, at an index. -/
module

public import proofs.«01_k».proof.Proof.Gen.MemkvRefIdeal.Read
public import proofs.«01_k».proof.Proof.MkvBlock
public import Idealize.ShloMosaic.Lib.Pointwise

@[expose] public section

set_option maxRecDepth 16384

noncomputable section

open Idealize.ShloMosaic Idealize.ShloMosaic.TcCoe Idealize.SL.Sem

namespace Cert.MemkvRefIdeal.At

open Cert.MemkvRefIdeal Cert.MemkvRefIdeal.Gen Cert.MemkvRefIdeal.Read

variable (X : FVec Ideal S8x256x1024 .f32) (G : FVec Ideal S1024 .f32) (W : FVec Ideal S1024x1024 .f32) (K : FVec Ideal S128 .f32)

theorem kv_at (b : Fin 8) (j : Fin 256) (c : Fin 1024) : val_main_v13 (F := Ideal) X G W (ix3 b j c) = Mkv.kv X G W b j c := by
  unfold Mkv.kv Mix.nrm Mix.n1024 Mix.eps
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1]

theorem v_at (b : Fin 8) (j : Fin 256) (c : Fin 512) : val_main_v32 (F := Ideal) X G W (ix3 b j c) = Mkv.kv X G W b j ⟨512 + c, by omega⟩ := by
  simp only [← kv_at]
  pointwise [val_main_v32, val_main_v15]

theorem k_at (b : Fin 8) (j : Fin 256) (c : Fin 512) : val_main_v31 (F := Ideal) X G W K (ix3 b j c) = Mkv.key X G W K b j c := by
  unfold Mkv.key Mix.nrm Mix.n128 Mix.eps
  simp only [← kv_at]
  pointwise [val_main_v31, val_main_v30, val_main_v29, val_main_v28, val_main_v27, val_main_v26, val_main_v25, val_main_v24, val_main_v23, val_main_v22, val_main_v21, val_main_v20, val_main_v19, val_main_v18, val_main_v17, val_main_v16, val_main_v14, val_main_cst_2, val_main_cst_3, val_main_cst_4]
  simp only [Nat.mul_comm 128, Nat.div_add_mod']

theorem v_arr : val_main_v32 (F := Ideal) X G W = Mkv.vArr X G W :=
  funext fun i => (congrArg _ (by idx_ext : i = ix3 ⟨i 0, (i 0).isLt⟩ ⟨i 1, (i 1).isLt⟩ ⟨i 2, (i 2).isLt⟩)).trans (v_at X G W _ _ _)
theorem k_arr : val_main_v31 (F := Ideal) X G W K = Mkv.kArr X G W K :=
  funext fun i => (congrArg _ (by idx_ext : i = ix3 ⟨i 0, (i 0).isLt⟩ ⟨i 1, (i 1).isLt⟩ ⟨i 2, (i 2).isLt⟩)).trans (k_at X G W K _ _ _)

end Cert.MemkvRefIdeal.At

end
-- ==== Proof.MkvClaims.lean ====
/- The claims about the call of the memory's keys and values. -/
module

public import proofs.«01_k».proof.Defs
public import proofs.«01_k».proof.Proof.Gen.Memkv.Frame
public import proofs.«01_k».proof.Proof.Gen.MemkvIdeal.Frame
public import proofs.«01_k».proof.Proof.Gen.MemkvRefIdeal.Run
public import proofs.«01_k».proof.Proof.MkvRef
public import Idealize.ShloMosaic.Lib.Quiescent

@[expose] public section

set_option maxRecDepth 16384

noncomputable section

open Idealize.ShloMosaic Idealize.ShloMosaic.TcCoe Idealize.SL.Sem

namespace Cert.MkvClaims

attribute [local instance] Cert.Memkv.Gen.facts Cert.MemkvIdeal.Gen.facts Cert.MemkvRefIdeal.Gen.facts

/-- The kernel runs, leaves its arguments and ends quiet. -/
theorem frame_p : Cert.quiescent_Memkv := fun m ρ _ => Cert.Memkv.Gen.frame m ρ
theorem frame_pi : Cert.quiescent_MemkvIdeal := fun m ρ _ => Cert.MemkvIdeal.Gen.frame m ρ

/-- The reference runs, leaves its arguments and ends quiet. -/
theorem frame_ri : Cert.quiescent_MemkvRefIdeal := fun m ρ _ =>
  (θ_run Cert.MemkvRefIdeal.defs _ _).mono (fun r h => ⟨fun c => (h c).2.2, Idealize.ShloMosaic.sem_eq_zero_of_no_sems (by decide) r.2⟩)
    (Cert.MemkvRefIdeal.Value.run (F := Ideal) m ρ)

/-- No constant is named. -/
theorem preserves : Cert.preserves_Memkv_MemkvIdeal := trivial

set_option maxHeartbeats 1000000 in
/-- THE VALUE: the keys and the values of kernel and reference are equal. -/
theorem algebraic : Cert.algebraic_MemkvIdeal_MemkvRefIdeal := by
  unfold Cert.algebraic_MemkvIdeal_MemkvRefIdeal
  intro m ρ m' ρ' _ hagree
  refine ⟨_, _, Cert.MemkvIdeal.Value.run_blocks m ρ, ?_⟩
  refine (θ_run Cert.MemkvRefIdeal.defs _ _).mono (fun _ h c => ?_) (Cert.MemkvRefIdeal.Value.run (F := Ideal) m' ρ')
  obtain ⟨e0, e1, e2, e3⟩ := hagree c
  obtain ⟨h0, h1, hargs⟩ := h c
  refine ⟨h0.trans ?_, h1.trans ?_, hargs⟩
  · rw [Cert.MemkvRefIdeal.Read.val_main_v31_eq, e0, e1, e2, e3, Cert.MemkvIdeal.Value.k_final]
    exact Cert.MemkvRefIdeal.At.k_arr _ _ _ _
  · rw [Cert.MemkvRefIdeal.Read.val_main_v32_eq, e0, e1, e2, Cert.MemkvIdeal.Value.v_final]
    exact Cert.MemkvRefIdeal.At.v_arr _ _ _

end Cert.MkvClaims

end
-- ==== Proof.MixSpec.lean ====
/- The mix call at an index, from its arguments: what both the kernel and the reference are shown to leave. -/
module

public import proofs.«01_k».proof.Proof.MixBlock
public import proofs.«01_k».proof.Proof.Softmax
public import proofs.«01_k».proof.Proof.Consts

@[expose] public section

set_option maxRecDepth 16384

noncomputable section

open Idealize.ShloMosaic Idealize.ShloMosaic.TcCoe Idealize.SL.Sem

namespace Cert.Mix

open Cert.MixIdeal

/-- The call's sixteen arguments. -/
structure Args where
  x : FVec Ideal S8x8192x1024 .f32
  att : FVec Ideal S8x8192x512 .f32
  hf : FVec Ideal S8x8192x512 .f32
  hb : FVec Ideal S8x8192x512 .f32
  mo : FVec Ideal S8x8192x512 .f32
  og : FVec Ideal S512 .f32
  wo : FVec Ideal S1024x1024 .f32
  gm : FVec Ideal S1024 .f32
  wq : FVec Ideal S1024x512 .f32
  qg : FVec Ideal S128 .f32
  k : FVec Ideal S8x256x512 .f32
  v : FVec Ideal S8x256x512 .f32
  wm : FVec Ideal S512x1024 .f32
  gf : FVec Ideal S1024 .f32
  wr : FVec Ideal S1024x16 .f32
  br : FVec Ideal S16 .f32

variable (a : Args) (b : Fin 8) (s : Fin 8192)

/-- The mLSTM's output, normalised over its head's 128 columns and gated. -/
def ml (c : Fin 512) : EReal :=
  lgs (a.mo (ix3 b s c)) * (nrm n128 (fun e : Fin 128 => a.hf (ix3 b s ⟨128 * (c / 128) + e, by omega⟩) + a.hb (ix3 b s ⟨128 * (c / 128) + e, by omega⟩)) ⟨c % 128, by omega⟩
    * a.og (ix1 c))

/-- The residual after the output projection. -/
def y1 (d : Fin 1024) : EReal :=
  a.x (ix3 b s d) + (∑ k : Fin 512, a.att (ix3 b s k) * a.wo (ix2 ⟨k, by omega⟩ d)) + ∑ k : Fin 512, ml a b s k * a.wo (ix2 ⟨512 + k, by omega⟩ d)

/-- The memory attention's queries before their norm. -/
def qm (c : Fin 512) : EReal := ∑ d, nrm n1024 (y1 a b s) d * a.gm (ix1 d) * a.wq (ix2 d c)

/-- The scores of the head whose first column is `o`. -/
def sc (o : ℕ) (ho : o + 128 ≤ 512) : Fin 256 → EReal :=
  scores (fun e => qm a b s ⟨o + e, by omega⟩) (fun e => a.qg (ix1 e)) (fun j e => a.k (ix3 b j ⟨o + e, by omega⟩))

/-- The memory attention's output. -/
def out (c : Fin 512) : EReal := mean (sc a b s (128 * (c / 128)) (by omega)) (fun j => a.v (ix3 b j c))

/-- The residual after the memory attention. -/
def y2 (d : Fin 1024) : EReal := y1 a b s d + ∑ c, out a b s c * a.wm (ix2 c d)

/-- The experts' input. -/
def h3 (d : Fin 1024) : EReal := nrm n1024 (y2 a b s) d * a.gf (ix1 d)

/-- The router's logits. -/
def lg (e : Fin 16) : EReal := (∑ d, h3 a b s d * a.wr (ix2 d e)) + a.br (ix1 e)

/-- The router's affinities. -/
def aff (e : Fin 16) : EReal := soft (lg a b s) e

/-- The experts' input, the affinities and zeros side by side. -/
def hn (c : Fin 1152) : EReal :=
  if h : c.val < 1024 then h3 a b s ⟨c, h⟩ else if h : c.val - 1024 < 16 then aff a b s ⟨c - 1024, h⟩ else Ideal.ofBits .f32 0x00000000#32

/-! ## Heads -/

theorem four_eq (f : Fin 512 → EReal) (p0 p1 p2 p3 : Fin 128 → EReal) (h0 : ∀ e : Fin 128, p0 e = f ⟨e, by omega⟩)
    (h1 : ∀ e : Fin 128, p1 e = f ⟨128 + e, by omega⟩) (h2 : ∀ e : Fin 128, p2 e = f ⟨256 + e, by omega⟩)
    (h3 : ∀ e : Fin 128, p3 e = f ⟨384 + e, by omega⟩) (c : Fin 512) : MixIdeal.Block.four p0 p1 p2 p3 c = f c := by
  unfold MixIdeal.Block.four
  split_ifs
  · rw [h0]
  · rw [h1]; congr 1; apply Fin.ext; simp; omega
  · rw [h2]; congr 1; apply Fin.ext; simp; omega
  · rw [h3]; congr 1; apply Fin.ext; simp; omega

theorem ml_head (h : ℕ) (hh : h < 4) (e : Fin 128) :
    ml a b s ⟨128 * h + e, by omega⟩
      = lgs (a.mo (ix3 b s ⟨128 * h + e, by omega⟩)) * (nrm n128 (fun e : Fin 128 => a.hf (ix3 b s ⟨128 * h + e, by omega⟩) + a.hb (ix3 b s ⟨128 * h + e, by omega⟩)) e
          * a.og (ix1 ⟨128 * h + e, by omega⟩)) := by
  have h1 : (128 * h + e.val) / 128 = h := by omega
  have h2 : (128 * h + e.val) % 128 = e.val := by omega
  unfold ml
  simp only [h1, h2]

theorem sc_congr (o o' : ℕ) (h : o = o') (ho : o + 128 ≤ 512) (ho' : o' + 128 ≤ 512) : sc a b s o ho = sc a b s o' ho' := by subst h; rfl

theorem out_head (h : ℕ) (hh : h < 4) (e : Fin 128) :
    out a b s ⟨128 * h + e, by omega⟩ = mean (sc a b s (128 * h) (by omega)) (fun j => a.v (ix3 b j ⟨128 * h + e, by omega⟩)) := by
  have h1 : (128 * h + e.val) / 128 = h := by omega
  unfold out
  rw [sc_congr a b s _ (128 * h) (by simp only [h1]) _ (by omega)]

/-! ## A normalised row is finite, whatever the row -/

theorem c128 : n128 = ((128 : ℝ) : EReal) := by
  unfold n128; simp [Ideal.ofBits, Ideal.ieee, -EReal.coe_mul]; norm_num
theorem c1024 : n1024 = ((1024 : ℝ) : EReal) := by
  unfold n1024; simp [Ideal.ofBits, Ideal.ieee, -EReal.coe_mul]; norm_num
theorem eps_pos : ∃ r : ℝ, 0 < r ∧ eps = (r : EReal) := by
  unfold eps
  refine ⟨_, ?_, by simp [Ideal.ofBits, Ideal.ieee, -EReal.coe_mul]; rfl⟩
  positivity
theorem scale_pos : ∃ r : ℝ, 0 ≤ r ∧ scale = (r : EReal) := by
  unfold scale
  refine ⟨_, ?_, by simp [Ideal.ofBits, Ideal.ieee, -EReal.coe_mul]; rfl⟩
  positivity

theorem sq_nonneg (x : EReal) : 0 ≤ x * x := by
  induction x using EReal.rec with
  | bot => simp
  | top => simp
  | coe r => rw [← EReal.coe_mul]; exact_mod_cast mul_self_nonneg r

theorem sum_top {n : ℕ} (f : Fin n → EReal) (h0 : ∀ j, 0 ≤ f j) (j : Fin n) (hj : f j = ⊤) : ∑ j, f j = ⊤ := by
  refine top_le_iff.1 ?_
  rw [← hj]
  exact Finset.single_le_sum (fun i _ => h0 i) (Finset.mem_univ j)

theorem nrm_fin {n : ℕ} (N : ℝ) (hN : 0 < N) (x : Fin n → EReal) (k : Fin n) : Softmax.Fin' (nrm (N : EReal) x k) := by
  obtain ⟨ε, hε, he⟩ := eps_pos
  unfold nrm
  rw [he]
  by_cases h : ∀ j, Softmax.Fin' (x j)
  · choose r hr using h
    have hs : ∃ S : ℝ, 0 ≤ S ∧ ∑ j, x j * x j = (S : EReal) := by
      refine ⟨∑ j, r j * r j, Finset.sum_nonneg fun j _ => mul_self_nonneg _, ?_⟩
      simp only [hr]
      induction (Finset.univ : Finset (Fin n)) using Finset.induction_on with
      | empty => simp
      | insert a S ha ih => rw [Finset.sum_insert ha, Finset.sum_insert ha, EReal.coe_add, ih, EReal.coe_mul]
    obtain ⟨S, hS, hs⟩ := hs
    have hp : 0 < S * (1 / N) + ε := by positivity
    rw [hs, Ideal.div_coe hN.ne', ← EReal.coe_mul, ← EReal.coe_add, Ideal.rsqrt_coe, if_neg hp.not_gt, if_neg hp.ne', hr]
    exact (Softmax.Fin'.coe _).mul (Softmax.Fin'.coe _)
  · push Not at h
    obtain ⟨j, hj⟩ := h
    have hx : x j * x j = ⊤ := by
      generalize x j = z at hj
      induction z using EReal.rec with
      | bot => simp
      | top => simp
      | coe r => exact absurd ⟨r, rfl⟩ hj
    rw [sum_top (fun j => x j * x j) (fun j => sq_nonneg _) j hx, Ideal.div_coe hN.ne', EReal.top_mul_coe_of_pos (by positivity), EReal.top_add_coe, Ideal.rsqrt_top, mul_zero]
    exact ⟨0, rfl⟩

/-! ## The softmax without a sink -/

theorem negInf : Ideal.ofBits .f32 0xFF800000#32 = ⊥ := by simp [Ideal.ofBits, Ideal.ieee]

theorem top_fin {n : ℕ} (s : Fin n → EReal) (j : Fin n) (hs : ∀ j, Softmax.Fin' (s j)) : Softmax.Fin' (top s) := by
  unfold top
  rw [negInf]
  have h1 : Finset.univ.fold max ⊥ s < ⊤ := (Finset.fold_max_lt _).2 ⟨bot_lt_top, fun j _ => lt_top_iff_ne_top.2 (hs j).ne_top⟩
  have h2 : ⊥ < Finset.univ.fold max ⊥ s := by
    refine (Finset.lt_fold_max _).2 (.inr ⟨j, Finset.mem_univ _, ?_⟩)
    obtain ⟨r, hr⟩ := hs j
    rw [hr]; exact EReal.bot_lt_coe r
  exact ⟨_, (EReal.coe_toReal h1.ne h2.ne').symm⟩

/-- The weighted sum divided by the denominator is the sum weighted by the divided exponentials: the values may be anything. -/
theorem mean_eq (s v : Fin 256 → EReal) (hs : ∀ j, Softmax.Fin' (s j)) :
    mean s v = ∑ j, v j * Ideal.div (Ideal.exp (s j - top s)) (∑ j, Ideal.exp (s j - top s)) := by
  obtain ⟨r, hr⟩ := top_fin s 0 hs
  unfold mean
  rw [hr]
  choose q hq using hs
  have hp : ∀ j, Ideal.exp (s j - (r : EReal)) = ((Real.exp (q j - r) : ℝ) : EReal) := fun j => by rw [hq, ← EReal.coe_sub, Ideal.exp_coe]
  simp only [hp]
  have hd : ∃ d : ℝ, 0 < d ∧ ∑ j, ((Real.exp (q j - r) : ℝ) : EReal) = (d : EReal) := by
    refine ⟨∑ j, Real.exp (q j - r), Finset.sum_pos (fun j _ => Real.exp_pos _) ⟨0, Finset.mem_univ _⟩, ?_⟩
    induction (Finset.univ : Finset (Fin 256)) using Finset.induction_on with
    | empty => simp
    | insert a S ha ih => rw [Finset.sum_insert ha, Finset.sum_insert ha, EReal.coe_add, ih]
  obtain ⟨d, hd0, hd⟩ := hd
  rw [hd, Ideal.div_coe hd0.ne', Softmax.sum_mul_const _ _ _ (by positivity)]
  refine Finset.sum_congr rfl fun j _ => ?_
  rw [Ideal.div_coe hd0.ne']
  ac_nf

/-! ## The kernel's forms under the precondition -/

/-- The arguments that have to be finite. -/
structure Finite : Prop where
  qg : ∀ i, Softmax.Fin' (a.qg i)
  k : ∀ i, Softmax.Fin' (a.k i)
  gf : ∀ i, Softmax.Fin' (a.gf i)
  wr : ∀ i, Softmax.Fin' (a.wr i)

variable {a}

theorem sc_fin (h : Finite a) (o : ℕ) (ho : o + 128 ≤ 512) (j : Fin 256) : Softmax.Fin' (sc a b s o ho j) := by
  obtain ⟨c, _, hc⟩ := scale_pos
  unfold sc scores
  rw [hc, c128]
  exact Softmax.Fin'.sum _ fun e => (((nrm_fin 128 (by norm_num) _ _).mul (h.qg _)).mul (Softmax.Fin'.coe c)).mul (h.k _)

theorem h3_fin (h : Finite a) (d : Fin 1024) : Softmax.Fin' (h3 a b s d) := by
  unfold h3
  rw [c1024]
  exact (nrm_fin 1024 (by norm_num) _ _).mul (h.gf _)

theorem sub_self' {x : EReal} (h : Softmax.Fin' x) : x - x = 0 := by
  obtain ⟨r, rfl⟩ := h
  rw [← EReal.coe_sub]; simp

/-- The logits of the split product. -/
theorem lg_split (h : Finite a) (e : Fin 16) :
    (∑ d : Fin 1024, h3 a b s d * a.wr (ix2 d e)) + (∑ d : Fin 1024, (h3 a b s d - h3 a b s d) * a.wr (ix2 d e))
      + (∑ d : Fin 1024, h3 a b s d * (a.wr (ix2 d e) - a.wr (ix2 d e))) + a.br (ix1 e) = lg a b s e := by
  simp only [fun d => sub_self' (h3_fin b s h d), fun d => sub_self' (h.wr (ix2 d e)), zero_mul, mul_zero, Finset.sum_const_zero, add_zero]
  rfl

theorem lg_split' (h : Finite a) (e : Fin 16) :
    (∑ d : Fin 1024, a.wr (ix2 d e) * h3 a b s d) + (∑ d : Fin 1024, a.wr (ix2 d e) * (h3 a b s d - h3 a b s d))
      + (∑ d : Fin 1024, (a.wr (ix2 d e) - a.wr (ix2 d e)) * h3 a b s d) + a.br (ix1 e) = lg a b s e := by
  rw [← lg_split b s h e]
  simp only [mul_comm]

end Cert.Mix

end
-- ==== Proof.MixReads.lean ====
module

public import proofs.«01_k».proof.Proof.Gen.MixIdeal.Value
public import Idealize.ShloMosaic.Lib.Pipeline.ValueKit
public import Idealize.ShloMosaic.Lib.Pointwise

@[expose] public section

/-! What the mix kernel reads at a grid point: the blocks of the eighteen windows, as entries of the call's arguments. -/

noncomputable section

namespace Cert.MixIdeal.Value

open Idealize.ShloMosaic Idealize.ShloMosaic.TcCoe Idealize.SL.Sem
open Idealize.ShloMosaic.Pipeline (Dat)
open Cert.MixIdeal Cert.MixIdeal.Gen

variable (m : (ℓ : Loc nD τ sig) → Buf (Elt Ideal) ℓ)

/-- The windows' index maps, at every grid point. -/
theorem idx : ∀ t : Fin cfg0.N, win0_0.index t = ![t.val / 32, t.val % 32, 0]
    ∧ win0_1.index t = ![t.val / 32, t.val % 32, 0]
    ∧ win0_2.index t = ![t.val / 32, t.val % 32, 0]
    ∧ win0_3.index t = ![t.val / 32, t.val % 32, 0]
    ∧ win0_4.index t = ![t.val / 32, t.val % 32, 0]
    ∧ win0_5.index t = ![0, 0]
    ∧ win0_6.index t = ![0, 0]
    ∧ win0_7.index t = ![0, 0]
    ∧ win0_8.index t = ![0, 0]
    ∧ win0_9.index t = ![0, 0]
    ∧ win0_10.index t = ![t.val / 32, 0, 0]
    ∧ win0_11.index t = ![t.val / 32, 0, 0]
    ∧ win0_12.index t = ![0, 0]
    ∧ win0_13.index t = ![0, 0]
    ∧ win0_14.index t = ![0, 0]
    ∧ win0_15.index t = ![0, 0]
    ∧ win0_16.index t = ![0, 0]
    ∧ win0_17.index t = ![0, 0]
    ∧ win0_18.index t = ![t.val / 32, t.val % 32, 0]
    ∧ win0_19.index t = ![t.val / 32, t.val % 32, 0]
    ∧ win0_20.index t = ![t.val / 32, 0, t.val % 32] :=
  (by decide +kernel : ∀ t : Fin grid0.N, _)

theorem t_n (t : Fin cfg0.N) : t.val % 32 < 32 := Nat.mod_lt _ (by decide)
theorem t_b (t : Fin cfg0.N) : t.val / 32 < 8 := by
  have : t.val < 256 := t.isLt
  omega

/-- The batch of a grid point. -/
def bt (t : Fin cfg0.N) : Fin 8 := ⟨t.val / 32, t_b t⟩
/-- The token of a row of a grid point. -/
def tok (t : Fin cfg0.N) (r : Fin 256) : Fin 8192 := ⟨256 * (t.val % 32) + r, by have := t_n t; omega⟩

theorem blk0 (c : Dev nD) (t : Fin cfg0.N) (r : Fin 256) (k : Fin 1024) : iblk m c 0 t (ix3 0 r k) = (m ((c.tc : Thread nD τ).loc main_arg0)) (ix3 (bt t) (tok t r) k) := by
  blk_ext! [iblk, V, idx t, bt, tok]
theorem blk1 (c : Dev nD) (t : Fin cfg0.N) (r : Fin 256) (k : Fin 512) : iblk m c 1 t (ix3 0 r k) = (m ((c.tc : Thread nD τ).loc main_arg1)) (ix3 (bt t) (tok t r) k) := by
  blk_ext! [iblk, V, idx t, bt, tok]
theorem blk2 (c : Dev nD) (t : Fin cfg0.N) (r : Fin 256) (k : Fin 512) : iblk m c 2 t (ix3 0 r k) = (m ((c.tc : Thread nD τ).loc main_arg2)) (ix3 (bt t) (tok t r) k) := by
  blk_ext! [iblk, V, idx t, bt, tok]
theorem blk3 (c : Dev nD) (t : Fin cfg0.N) (r : Fin 256) (k : Fin 512) : iblk m c 3 t (ix3 0 r k) = (m ((c.tc : Thread nD τ).loc main_arg3)) (ix3 (bt t) (tok t r) k) := by
  blk_ext! [iblk, V, idx t, bt, tok]
theorem blk4 (c : Dev nD) (t : Fin cfg0.N) (r : Fin 256) (k : Fin 512) : iblk m c 4 t (ix3 0 r k) = (m ((c.tc : Thread nD τ).loc main_arg4)) (ix3 (bt t) (tok t r) k) := by
  blk_ext! [iblk, V, idx t, bt, tok]
theorem blk5 (c : Dev nD) (t : Fin cfg0.N) (k : Fin 512) : iblk m c 5 t (ix2 0 k) = (m ((c.tc : Thread nD τ).loc main_arg5)) (ix1 k) := by
  blk_ext! [iblk, V, idx t, bt, tok]
theorem blk6 (c : Dev nD) (t : Fin cfg0.N) (k d : Fin 1024) : iblk m c 6 t (ix2 k d) = (m ((c.tc : Thread nD τ).loc main_arg6)) (ix2 k d) := by
  blk_ext! [iblk, V, idx t, bt, tok]
theorem blk7 (c : Dev nD) (t : Fin cfg0.N) (k : Fin 1024) : iblk m c 7 t (ix2 0 k) = (m ((c.tc : Thread nD τ).loc main_arg7)) (ix1 k) := by
  blk_ext! [iblk, V, idx t, bt, tok]
theorem blk8 (c : Dev nD) (t : Fin cfg0.N) (k : Fin 1024) (d : Fin 512) : iblk m c 8 t (ix2 k d) = (m ((c.tc : Thread nD τ).loc main_arg8)) (ix2 k d) := by
  blk_ext! [iblk, V, idx t, bt, tok]
theorem blk9 (c : Dev nD) (t : Fin cfg0.N) (k : Fin 128) : iblk m c 9 t (ix2 0 k) = (m ((c.tc : Thread nD τ).loc main_arg9)) (ix1 k) := by
  blk_ext! [iblk, V, idx t, bt, tok]
theorem blk10 (c : Dev nD) (t : Fin cfg0.N) (j : Fin 256) (k : Fin 512) : iblk m c 10 t (ix3 0 j k) = (m ((c.tc : Thread nD τ).loc main_arg10)) (ix3 (bt t) j k) := by
  blk_ext! [iblk, V, idx t, bt, tok]
theorem blk11 (c : Dev nD) (t : Fin cfg0.N) (j : Fin 256) (k : Fin 512) : iblk m c 11 t (ix3 0 j k) = (m ((c.tc : Thread nD τ).loc main_arg11)) (ix3 (bt t) j k) := by
  blk_ext! [iblk, V, idx t, bt, tok]
theorem blk12 (c : Dev nD) (t : Fin cfg0.N) (k : Fin 512) (d : Fin 1024) : iblk m c 12 t (ix2 k d) = (m ((c.tc : Thread nD τ).loc main_arg12)) (ix2 k d) := by
  blk_ext! [iblk, V, idx t, bt, tok]
theorem blk13 (c : Dev nD) (t : Fin cfg0.N) (k : Fin 1024) : iblk m c 13 t (ix2 0 k) = (m ((c.tc : Thread nD τ).loc main_arg13)) (ix1 k) := by
  blk_ext! [iblk, V, idx t, bt, tok]
theorem blk14 (c : Dev nD) (t : Fin cfg0.N) (k : Fin 1024) (e : Fin 16) : iblk m c 14 t (ix2 k e) = (m ((c.tc : Thread nD τ).loc main_arg14)) (ix2 k e) := by
  blk_ext! [iblk, V, idx t, bt, tok]
theorem blk15 (c : Dev nD) (t : Fin cfg0.N) (e : Fin 16) (k : Fin 1024) : iblk m c 15 t (ix2 e k) = (m ((c.tc : Thread nD τ).loc main_arg14)) (ix2 k e) := by
  blk_ext! [iblk, V, idx t, bt, tok]
theorem blk16 (c : Dev nD) (t : Fin cfg0.N) (e : Fin 16) : iblk m c 16 t (ix2 0 e) = (m ((c.tc : Thread nD τ).loc main_arg15)) (ix1 e) := by
  blk_ext! [iblk, V, idx t, bt, tok]
theorem blk17 (c : Dev nD) (t : Fin cfg0.N) (e : Fin 16) : iblk m c 17 t (ix2 e 0) = (m ((c.tc : Thread nD τ).loc main_arg15)) (ix1 e) := by
  blk_ext! [iblk, V, idx t, bt, tok]

end Cert.MixIdeal.Value

end
-- ==== Proof.MixPoint.lean ====
/- The values of the mix kernel's body at a grid point, as the row's specification at the arguments in memory. -/
module

public import proofs.«01_k».proof.Proof.MixSpec
public import proofs.«01_k».proof.Proof.MixReads

@[expose] public section

set_option maxRecDepth 16384

noncomputable section

namespace Cert.MixIdeal.Value

open Idealize.ShloMosaic Idealize.ShloMosaic.TcCoe Idealize.SL.Sem
open Idealize.ShloMosaic.Pipeline (Dat)
open Cert.MixIdeal Cert.MixIdeal.Gen

variable (m : (ℓ : Loc nD τ sig) → Buf (Elt Ideal) ℓ)

/-- The call's arguments in memory. -/
def args (c : Dev nD) : Mix.Args :=
  ⟨m ((c.tc : Thread nD τ).loc main_arg0), m ((c.tc : Thread nD τ).loc main_arg1), m ((c.tc : Thread nD τ).loc main_arg2), m ((c.tc : Thread nD τ).loc main_arg3), m ((c.tc : Thread nD τ).loc main_arg4), m ((c.tc : Thread nD τ).loc main_arg5), m ((c.tc : Thread nD τ).loc main_arg6), m ((c.tc : Thread nD τ).loc main_arg7), m ((c.tc : Thread nD τ).loc main_arg8), m ((c.tc : Thread nD τ).loc main_arg9), m ((c.tc : Thread nD τ).loc main_arg10), m ((c.tc : Thread nD τ).loc main_arg11), m ((c.tc : Thread nD τ).loc main_arg12), m ((c.tc : Thread nD τ).loc main_arg13), m ((c.tc : Thread nD τ).loc main_arg14), m ((c.tc : Thread nD τ).loc main_arg15)⟩

theorem ld5_0 (c : Dev nD) (t : Fin cfg0.N) (k : Fin 128) : View.ld (iblk m c 5 t) (Rect.unit ![0, 0] ![1, 128] inb_S1x512_S1x128_0_0) (ix2 0 k) = (args m c).og (ix1 ⟨k, by omega⟩) := by
  refine Eq.trans ?_ (blk5 m c t ⟨k, by omega⟩)
  pointwise
theorem ld5_128 (c : Dev nD) (t : Fin cfg0.N) (k : Fin 128) : View.ld (iblk m c 5 t) (Rect.unit ![0, 128] ![1, 128] inb_S1x512_S1x128_0_128) (ix2 0 k) = (args m c).og (ix1 ⟨128 + k, by omega⟩) := by
  refine Eq.trans ?_ (blk5 m c t ⟨128 + k, by omega⟩)
  pointwise
theorem ld5_256 (c : Dev nD) (t : Fin cfg0.N) (k : Fin 128) : View.ld (iblk m c 5 t) (Rect.unit ![0, 256] ![1, 128] inb_S1x512_S1x128_0_256) (ix2 0 k) = (args m c).og (ix1 ⟨256 + k, by omega⟩) := by
  refine Eq.trans ?_ (blk5 m c t ⟨256 + k, by omega⟩)
  pointwise
theorem ld5_384 (c : Dev nD) (t : Fin cfg0.N) (k : Fin 128) : View.ld (iblk m c 5 t) (Rect.unit ![0, 384] ![1, 128] inb_S1x512_S1x128_0_384) (ix2 0 k) = (args m c).og (ix1 ⟨384 + k, by omega⟩) := by
  refine Eq.trans ?_ (blk5 m c t ⟨384 + k, by omega⟩)
  pointwise
theorem ld6_0 (c : Dev nD) (t : Fin cfg0.N) (k : Fin 512) (d : Fin 1024) : View.ld (iblk m c 6 t) (Rect.unit ![0, 0] ![512, 1024] inb_S1024x1024_S512x1024_0_0) (ix2 k d) = (args m c).wo (ix2 ⟨k, by omega⟩ d) := by
  refine Eq.trans ?_ (blk6 m c t ⟨k, by omega⟩ d)
  pointwise
theorem ld6_512 (c : Dev nD) (t : Fin cfg0.N) (k : Fin 512) (d : Fin 1024) : View.ld (iblk m c 6 t) (Rect.unit ![512, 0] ![512, 1024] inb_S1024x1024_S512x1024_512_0) (ix2 k d) = (args m c).wo (ix2 ⟨512 + k, by omega⟩ d) := by
  refine Eq.trans ?_ (blk6 m c t ⟨512 + k, by omega⟩ d)
  pointwise

/-! ## The body's values at a grid point -/

/-- The block's residual after the output projection. -/
def Y1 (c : Dev nD) (t : Fin cfg0.N) : FVec Ideal S256x1024 .f32 :=
  k0_pay14 (F := Ideal) (k0_pay4 (iblk m c 0 t)) (k0_pay5 (iblk m c 2 t) (iblk m c 3 t)) (k0_pay6 (iblk m c 4 t)) (k0_pay7 (iblk m c 2 t) (iblk m c 3 t) (iblk m c 4 t) (View.ld (iblk m c 5 t) (Rect.unit ![0, 0] ![1, 128] inb_S1x512_S1x128_0_0)))
    (k0_pay10 (k0_pay5 (iblk m c 2 t) (iblk m c 3 t)) (k0_pay8 (iblk m c 4 t)) k0_pay9 (View.ld (iblk m c 5 t) (Rect.unit ![0, 128] ![1, 128] inb_S1x512_S1x128_0_128)))
    (k0_pay11 (k0_pay6 (iblk m c 4 t))) (k0_pay12 (k0_pay5 (iblk m c 2 t) (iblk m c 3 t))) (k0_pay13 (View.ld (iblk m c 5 t) (Rect.unit ![0, 256] ![1, 128] inb_S1x512_S1x128_0_256))) (View.ld (iblk m c 5 t) (Rect.unit ![0, 384] ![1, 128] inb_S1x512_S1x128_0_384)) (iblk m c 1 t) (View.ld (iblk m c 6 t) (Rect.unit ![0, 0] ![512, 1024] inb_S1024x1024_S512x1024_0_0)) (View.ld (iblk m c 6 t) (Rect.unit ![512, 0] ![512, 1024] inb_S1024x1024_S512x1024_512_0))

/-- The block's memory queries before their norm. -/
def Q (c : Dev nD) (t : Fin cfg0.N) : FVec Ideal S256x512 .f32 := k0_pay16 (F := Ideal) (Y1 m c t) (k0_pay15 (iblk m c 7 t)) (iblk m c 8 t)

/-- The memory attention's first head. -/
def O0 (c : Dev nD) (t : Fin cfg0.N) : FVec Ideal S256x128 .bf16 := k0_pay20 (F := Ideal) (k0_pay18 (iblk m c 11 t)) (k0_pay19 (Y1 m c t) (k0_pay15 (iblk m c 7 t)) (iblk m c 8 t) (iblk m c 10 t) (iblk m c 9 t))
/-- Its second head. -/
def O1 (c : Dev nD) (t : Fin cfg0.N) : FVec Ideal S256x128 .bf16 := k0_pay21 (F := Ideal) (Q m c t) (k0_pay17 (iblk m c 10 t)) (k0_pay18 (iblk m c 11 t)) (iblk m c 9 t)
/-- Its third head. -/
def O2 (c : Dev nD) (t : Fin cfg0.N) : FVec Ideal S256x128 .bf16 := k0_pay23 (F := Ideal) (k0_pay17 (iblk m c 10 t)) (k0_pay18 (iblk m c 11 t)) (k0_pay22 (Q m c t)) (iblk m c 9 t)

/-- The block's residual after the memory attention. -/
def Y2 (c : Dev nD) (t : Fin cfg0.N) : FVec Ideal S256x1024 .f32 :=
  k0_pay26 (F := Ideal) (Y1 m c t) (k0_pay17 (iblk m c 10 t)) (k0_pay18 (iblk m c 11 t)) (O0 m c t) (O1 m c t) (O2 m c t) (k0_pay24 (Q m c t)) (k0_pay25 (iblk m c 9 t)) (iblk m c 12 t)

/-- The block's input of the experts. -/
def H3 (c : Dev nD) (t : Fin cfg0.N) : FVec Ideal S256x1024 .f32 :=
  k0_pay28 (F := Ideal) (Y1 m c t) (k0_pay17 (iblk m c 10 t)) (k0_pay18 (iblk m c 11 t)) (O0 m c t) (O1 m c t) (O2 m c t) (k0_pay24 (Q m c t)) (k0_pay25 (iblk m c 9 t)) (iblk m c 12 t) (iblk m c 13 t)

theorem Y1_at (c : Dev nD) (t : Fin cfg0.N) (r : Fin 256) (d : Fin 1024) : Y1 m c t (ix2 r d) = Mix.y1 (args m c) (bt t) (tok t r) d := by
  refine (Block.pay14_at _ _ _ _ _ _ _ _ _ _ _ r d).trans ?_
  unfold Mix.y1
  refine congrArg₂ (· + ·) (congrArg₂ (· + ·) (blk0 m c t r d) (Finset.sum_congr rfl fun k _ => congrArg₂ (· * ·) (blk1 m c t r k) (ld6_0 m c t k d)))
    (Finset.sum_congr rfl fun k _ => congrArg₂ (· * ·) (Mix.four_eq (Mix.ml (args m c) (bt t) (tok t r)) _ _ _ _ (fun e => ?_) (fun e => ?_) (fun e => ?_) (fun e => ?_) k) (ld6_512 m c t k d))
  · refine (Block.pay7_at _ _ _ _ r e).trans ?_
    have h := Mix.ml_head (args m c) (bt t) (tok t r) 0 (by omega) e
    simp only [Nat.mul_zero, Nat.zero_add] at h
    rw [h]
    exact congrArg₂ (· * ·) (congrArg Mix.lgs (blk4 m c t r _)) (congrArg₂ (· * ·) (congrArg (fun f => Mix.nrm Mix.n128 f e) (funext fun e => congrArg₂ (· + ·) (blk2 m c t r _) (blk3 m c t r _))) (ld5_0 m c t e))
  · refine (Block.pay10_at _ _ _ _ r e).trans ?_
    refine Eq.trans ?_ (Mix.ml_head (args m c) (bt t) (tok t r) 1 (by omega) e).symm
    exact congrArg₂ (· * ·) (congrArg Mix.lgs (blk4 m c t r _)) (congrArg₂ (· * ·) (congrArg (fun f => Mix.nrm Mix.n128 f e) (funext fun e => congrArg₂ (· + ·) (blk2 m c t r _) (blk3 m c t r _))) (ld5_128 m c t e))
  · refine Eq.trans ?_ (Mix.ml_head (args m c) (bt t) (tok t r) 2 (by omega) e).symm
    exact congrArg₂ (· * ·) (congrArg Mix.lgs (blk4 m c t r _)) (congrArg₂ (· * ·) (congrArg (fun f => Mix.nrm Mix.n128 f e) (funext fun e => congrArg₂ (· + ·) (blk2 m c t r _) (blk3 m c t r _))) (ld5_256 m c t e))
  · refine Eq.trans ?_ (Mix.ml_head (args m c) (bt t) (tok t r) 3 (by omega) e).symm
    exact congrArg₂ (· * ·) (congrArg Mix.lgs (blk4 m c t r _)) (congrArg₂ (· * ·) (congrArg (fun f => Mix.nrm Mix.n128 f e) (funext fun e => congrArg₂ (· + ·) (blk2 m c t r _) (blk3 m c t r _))) (ld5_384 m c t e))

theorem Y1_row (c : Dev nD) (t : Fin cfg0.N) (r : Fin 256) : (fun d => Y1 m c t (ix2 r d)) = Mix.y1 (args m c) (bt t) (tok t r) := funext fun d => Y1_at m c t r d

theorem Q_at (c : Dev nD) (t : Fin cfg0.N) (r : Fin 256) (j : Fin 512) : Q m c t (ix2 r j) = Mix.qm (args m c) (bt t) (tok t r) j := by
  refine (Block.pay16_at _ _ _ r j).trans ?_
  unfold Mix.qm
  rw [Y1_row]
  exact Finset.sum_congr rfl fun d _ => congrArg₂ (· * ·) (congrArg₂ (· * ·) rfl (blk7 m c t d)) (blk8 m c t d j)

theorem O0_at (c : Dev nD) (t : Fin cfg0.N) (r : Fin 256) (e : Fin 128) : O0 m c t (ix2 r e) = Mix.out (args m c) (bt t) (tok t r) ⟨e, by omega⟩ := by
  refine (Block.pay20_at _ _ _ _ _ _ r e).trans ?_
  have h := Mix.out_head (args m c) (bt t) (tok t r) 0 (by omega) e
  simp only [Nat.mul_zero, Nat.zero_add] at h
  rw [h]
  unfold Mix.sc
  simp only [Nat.zero_add]
  exact congrArg₂ Mix.mean (congr (congrArg₂ Mix.scores (funext fun e => Q_at m c t r _) (funext fun e => blk9 m c t e)) (funext fun j => funext fun e => blk10 m c t j _)) (funext fun j => blk11 m c t j _)

theorem O1_at (c : Dev nD) (t : Fin cfg0.N) (r : Fin 256) (e : Fin 128) : O1 m c t (ix2 r e) = Mix.out (args m c) (bt t) (tok t r) ⟨128 + e, by omega⟩ := by
  refine (Block.pay21_at _ _ _ _ r e).trans ?_
  refine Eq.trans ?_ (Mix.out_head (args m c) (bt t) (tok t r) 1 (by omega) e).symm
  exact congrArg₂ Mix.mean (congr (congrArg₂ Mix.scores (funext fun e => Q_at m c t r _) (funext fun e => blk9 m c t e)) (funext fun j => funext fun e => blk10 m c t j _)) (funext fun j => blk11 m c t j _)

theorem O2_at (c : Dev nD) (t : Fin cfg0.N) (r : Fin 256) (e : Fin 128) : O2 m c t (ix2 r e) = Mix.out (args m c) (bt t) (tok t r) ⟨256 + e, by omega⟩ := by
  refine (Block.pay23_at _ _ _ _ r e).trans ?_
  refine Eq.trans ?_ (Mix.out_head (args m c) (bt t) (tok t r) 2 (by omega) e).symm
  exact congrArg₂ Mix.mean (congr (congrArg₂ Mix.scores (funext fun e => Q_at m c t r _) (funext fun e => blk9 m c t e)) (funext fun j => funext fun e => blk10 m c t j _)) (funext fun j => blk11 m c t j _)

theorem Y2_at (c : Dev nD) (t : Fin cfg0.N) (r : Fin 256) (d : Fin 1024) : Y2 m c t (ix2 r d) = Mix.y2 (args m c) (bt t) (tok t r) d := by
  refine (Block.pay26_at _ _ _ _ _ _ _ _ _ r d).trans ?_
  unfold Mix.y2
  refine congrArg₂ (· + ·) (Y1_at m c t r d) (Finset.sum_congr rfl fun k _ => congrArg₂ (· * ·) (Mix.four_eq (Mix.out (args m c) (bt t) (tok t r)) _ _ _ _ (O0_at m c t r) (O1_at m c t r) (O2_at m c t r) (fun e => ?_) k) (blk12 m c t k d))
  refine Eq.trans ?_ (Mix.out_head (args m c) (bt t) (tok t r) 3 (by omega) e).symm
  exact congrArg₂ Mix.mean (congr (congrArg₂ Mix.scores (funext fun e => Q_at m c t r _) (funext fun e => blk9 m c t e)) (funext fun j => funext fun e => blk10 m c t j _)) (funext fun j => blk11 m c t j _)

theorem Y2_row (c : Dev nD) (t : Fin cfg0.N) (r : Fin 256) : (fun d => Y2 m c t (ix2 r d)) = Mix.y2 (args m c) (bt t) (tok t r) := funext fun d => Y2_at m c t r d

theorem H3_at (c : Dev nD) (t : Fin cfg0.N) (r : Fin 256) (d : Fin 1024) : H3 m c t (ix2 r d) = Mix.h3 (args m c) (bt t) (tok t r) d := by
  refine (Block.pay28_at _ _ _ _ _ _ _ _ _ _ r d).trans ?_
  exact congrArg₂ (· * ·) (congrArg (fun f => Mix.nrm Mix.n1024 f d) (Y2_row m c t r)) (blk13 m c t d)

theorem A_at (c : Dev nD) (h : Mix.Finite (args m c)) (t : Fin cfg0.N) (r : Fin 256) (e : Fin 16) :
    k0_pay32 (F := Ideal) (H3 m c t) (truncf .bf16 (H3 m c t) bitsLt_bf16_f32) (H3 m c t) (iblk m c 14 t) (iblk m c 16 t) (ix2 r e) = Mix.aff (args m c) (bt t) (tok t r) e := by
  refine (Block.pay32_at _ _ _ r e).trans ?_
  refine congrArg (fun f => Mix.soft f e) (funext fun e => ?_)
  refine Eq.trans ?_ (Mix.lg_split (bt t) (tok t r) h e)
  simp only [H3_at, blk14, blk16]
  rfl

theorem At_at (c : Dev nD) (h : Mix.Finite (args m c)) (t : Fin cfg0.N) (r : Fin 256) (e : Fin 16) :
    k0_pay1 (F := Ideal) (k0_pay33 (H3 m c t) (truncf .bf16 (H3 m c t) bitsLt_bf16_f32) (H3 m c t) (iblk m c 15 t) (iblk m c 17 t)) (k0_pay34 (H3 m c t) (truncf .bf16 (H3 m c t) bitsLt_bf16_f32) (H3 m c t) (iblk m c 15 t) (iblk m c 17 t)) (ix3 0 e r)
      = Mix.aff (args m c) (bt t) (tok t r) e := by
  refine (Block.pay1_at _ _ _ e r).trans ?_
  refine congrArg (fun f => Mix.soft f e) (funext fun e => ?_)
  refine Eq.trans ?_ (Mix.lg_split' (bt t) (tok t r) h e)
  simp only [H3_at, blk15, blk17]
  rfl

end Cert.MixIdeal.Value

end
-- ==== Proof.MixValue.lean ====
/- What the mix kernel leaves in its three result arrays. -/
module

public import proofs.«01_k».proof.Proof.MixPoint

@[expose] public section

set_option maxRecDepth 16384

noncomputable section

namespace Cert.MixIdeal.Value

open Idealize.ShloMosaic Idealize.ShloMosaic.TcCoe Idealize.SL.Sem
open Idealize.ShloMosaic.Pipeline (Dat)
open Cert.MixIdeal Cert.MixIdeal.Gen

variable (m : (ℓ : Loc nD τ sig) → Buf (Elt Ideal) ℓ)

/-- The residual. -/
def yArr (a : Mix.Args) : FVec Ideal S8x8192x1024 .f32 := fun i => Mix.y2 a ⟨i 0, (i 0).isLt⟩ ⟨i 1, (i 1).isLt⟩ ⟨i 2, (i 2).isLt⟩
/-- The experts' input, the affinities and zeros. -/
def hArr (a : Mix.Args) : FVec Ideal S8x8192x1152 .f32 := fun i => Mix.hn a ⟨i 0, (i 0).isLt⟩ ⟨i 1, (i 1).isLt⟩ ⟨i 2, (i 2).isLt⟩
/-- The affinities, the experts before the tokens. -/
def aArr (a : Mix.Args) : FVec Ideal S8x16x8192 .f32 := fun i => Mix.aff a ⟨i 0, (i 0).isLt⟩ ⟨i 2, (i 2).isLt⟩ ⟨i 1, (i 1).isLt⟩

theorem pay3_at (p : FVec Ideal S256x16 .f32) (r : Fin 256) (c : Fin 128) :
    k0_pay3 (F := Ideal) p (ix3 0 r c) = if h : c.val < 16 then p (ix2 r ⟨c, h⟩) else Ideal.ofBits .f32 0x00000000#32 := by
  pointwise [k0_pay3]

theorem y_final (c : Dev nD) : (dats m 0 c).arrAt 18 cfg0.N = yArr (args m c) := by
  refine (dats m 0 c).arrAt_eq_of_covers 18 _ (by decide +kernel) fun t _ y => ?_
  blk_simp
  rw [after0_18]
  unfold outsAt0
  frame_out
  have b1 : (y 1).val < 256 := (y 1).isLt
  have b2 : (y 2).val < 1024 := (y 2).isLt
  have hy : y = ix3 0 ⟨(y 1).val, b1⟩ ⟨(y 2).val, b2⟩ := by idx_ext
  refine Eq.trans (congrArg _ hy) ?_
  refine Eq.trans (b := Y2 m c t (ix2 ⟨(y 1).val, b1⟩ ⟨(y 2).val, b2⟩)) (by unfold k0_pay27; pointwise; rfl) ?_
  refine (Y2_at m c t _ _).trans ?_
  unfold yArr bt tok
  congr 1 <;> apply Fin.ext <;> simp [idx t] <;> omega

theorem a_final (c : Dev nD) (h : Mix.Finite (args m c)) : (dats m 0 c).arrAt 20 cfg0.N = aArr (args m c) := by
  refine (dats m 0 c).arrAt_eq_of_covers 20 _ (by decide +kernel) fun t _ y => ?_
  blk_simp
  rw [after0_20]
  unfold outsAt0
  frame_out
  have b1 : (y 1).val < 16 := (y 1).isLt
  have b2 : (y 2).val < 256 := (y 2).isLt
  have hy : y = ix3 0 ⟨(y 1).val, b1⟩ ⟨(y 2).val, b2⟩ := by idx_ext
  refine Eq.trans (congrArg _ hy) ?_
  refine (At_at m c h t _ _).trans ?_
  unfold aArr bt tok
  congr 1 <;> apply Fin.ext <;> simp [idx t] <;> omega

theorem h_final (c : Dev nD) (h : Mix.Finite (args m c)) : (dats m 0 c).arrAt 19 cfg0.N = hArr (args m c) := by
  refine (dats m 0 c).arrAt_eq_of_covers 19 _ (by decide +kernel) fun t _ y => ?_
  blk_simp
  rw [after0_19]
  unfold outsAt0
  frame_out
  have b1 : (y 1).val < 256 := (y 1).isLt
  have b2 : (y 2).val < 1152 := (y 2).isLt
  have hy : y = ix3 0 ⟨(y 1).val, b1⟩ ⟨(y 2).val, b2⟩ := by idx_ext
  refine Eq.trans (b := Mix.hn (args m c) (bt t) (tok t ⟨(y 1).val, b1⟩) ⟨(y 2).val, b2⟩) ?_ ?_
  · refine View.canon_eq_of_allAt _ _ _ (View.cover_of_tiledBy _ ![1, 256, 128] (by sl_kernel_rfl) y) ?_
    refine View.allAt_cons_unit _ _ _ _ _ (fun x hx => ?_) (View.allAt_cons_unit _ _ _ _ _ (fun x hx => ?_) ?_)
    · have x1 : (x 1).val < 256 := (x 1).isLt
      have x2 : (x 2).val < 128 := (x 2).isLt
      have h1 : (y 1).val = (x 1).val := by simpa using hx 1
      have h2 : (y 2).val = 1024 + (x 2).val := by simpa using hx 2
      have hxe : x = ix3 0 ⟨(x 1).val, x1⟩ ⟨(x 2).val, x2⟩ := by idx_ext
      refine Eq.trans (congrArg _ hxe) ?_
      unfold Mix.hn
      rw [dif_neg (by simp only [h2]; omega)]
      refine (pay3_at _ _ _).trans ?_
      have h3 : (y 2).val - 1024 = (x 2).val := by omega
      by_cases hc : (x 2).val < 16
      · rw [dif_pos hc, dif_pos (by simp only [h3]; exact hc)]
        refine (A_at m c h t _ _).trans ?_
        simp only [h1, h3]
      · rw [dif_neg hc, dif_neg (by simp only [h3]; exact hc)]
    · have x1 : (x 1).val < 256 := (x 1).isLt
      have x2 : (x 2).val < 1024 := (x 2).isLt
      have h1 : (y 1).val = (x 1).val := by simpa using hx 1
      have h2 : (y 2).val = (x 2).val := by simpa using hx 2
      have hxe : x = ix3 0 ⟨(x 1).val, x1⟩ ⟨(x 2).val, x2⟩ := by idx_ext
      refine Eq.trans (congrArg _ hxe) ?_
      unfold Mix.hn
      rw [dif_pos (by simp only [h2]; omega)]
      refine Eq.trans (b := H3 m c t (ix2 ⟨(x 1).val, x1⟩ ⟨(x 2).val, x2⟩)) (by unfold k0_pay2; pointwise; rfl) ?_
      refine (H3_at m c t _ _).trans ?_
      simp only [h1, h2]
    · intro p hp; exact absurd hp List.not_mem_nil
  · unfold hArr bt tok
    congr 1 <;> apply Fin.ext <;> simp [idx t] <;> omega

end Cert.MixIdeal.Value

end
-- ==== Proof.MixRef.lean ====
/- The mix call's reference up to the memory attention's scores, read at an index. -/
module

public import proofs.«01_k».proof.Proof.Gen.MixRefIdeal.Read
public import proofs.«01_k».proof.Proof.MixSpec
public import Idealize.ShloMosaic.Lib.Pointwise

@[expose] public section

set_option maxRecDepth 16384

noncomputable section

open Idealize.ShloMosaic Idealize.ShloMosaic.TcCoe Idealize.SL.Sem

namespace Cert.MixRefIdeal.At

open Cert.MixRefIdeal Cert.MixRefIdeal.Gen Cert.MixRefIdeal.Read

variable (a : Mix.Args)

theorem ml_at (b : Fin 8) (s : Fin 8192) (c : Fin 512) : val_main_v23 (F := Ideal) a.hf a.hb a.mo a.og (ix3 b s c) = Mix.ml a b s c := by
  unfold Mix.ml Mix.lgs Mix.nrm Mix.n128 Mix.eps
  pointwise [val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3]
  simp only [zero_sub, Nat.mul_comm 128, Nat.div_add_mod', Fin.eta]

theorem y1_at (b : Fin 8) (s : Fin 8192) (d : Fin 1024) : val_main_v26 (F := Ideal) a.x a.att a.hf a.hb a.mo a.og a.wo (ix3 b s d) = Mix.y1 a b s d := by
  unfold Mix.y1
  simp only [← ml_at]
  pointwise [val_main_v26, val_main_v25, val_main_v24]
  exact (add_assoc _ _ _).symm

theorem qm_at (b : Fin 8) (s : Fin 8192) (c : Fin 512) : val_main_v40 (F := Ideal) a.x a.att a.hf a.hb a.mo a.og a.wo a.gm a.wq (ix3 b s c) = Mix.qm a b s c := by
  unfold Mix.qm Mix.nrm Mix.n1024 Mix.eps
  simp only [← y1_at]
  pointwise [val_main_v40, val_main_v39, val_main_v38, val_main_v37, val_main_v36, val_main_v35, val_main_v34, val_main_v33, val_main_v32, val_main_v31, val_main_v30, val_main_v29, val_main_v28, val_main_v27, val_main_cst_4, val_main_cst_5, val_main_cst_6]

/-- The reference's score: the scale outside the sum. -/
def rsc (b : Fin 8) (s : Fin 8192) (h : Fin 4) (j : Fin 256) : EReal :=
  (∑ e : Fin 128, Mix.nrm Mix.n128 (fun e : Fin 128 => Mix.qm a b s ⟨128 * h + e, by omega⟩) e * a.qg (ix1 e) * a.k (ix3 b j ⟨128 * h + e, by omega⟩)) * Mix.scale

theorem sc_at (b : Fin 8) (s : Fin 8192) (h : Fin 4) (j : Fin 256) : val_main_v59 (F := Ideal) a.x a.att a.hf a.hb a.mo a.og a.wo a.gm a.wq a.qg a.k (ix4 b h s j) = rsc a b s h j := by
  unfold rsc Mix.nrm Mix.n128 Mix.eps Mix.scale
  simp only [← qm_at]
  pointwise [val_main_v55, val_main_v54, val_main_v53, val_main_v52, val_main_v51, val_main_v50, val_main_v49, val_main_v48, val_main_v47, val_main_v46, val_main_v45, val_main_v44, val_main_v43, val_main_v42, val_main_v41, val_main_cst_7, val_main_cst_8, val_main_cst_9, val_main_v57, val_main_v58, val_main_v59, val_main_cst_10]
  simp only [Nat.mul_comm 128]

theorem rsc_eq (b : Fin 8) (s : Fin 8192) (h : Fin 4) : rsc a b s h = Mix.sc a b s (128 * h) (by omega) := by
  funext j
  obtain ⟨c, hc, he⟩ := Mix.scale_pos
  unfold rsc Mix.sc Mix.scores
  rw [he, Softmax.sum_mul_const _ _ _ hc]
  exact Finset.sum_congr rfl fun e _ => mul_right_comm _ _ _

end Cert.MixRefIdeal.At

end
-- ==== Proof.MixRefSoft.lean ====
/- The memory attention's softmax in the mix call's reference, read at an index. -/
module

public import proofs.«01_k».proof.Proof.Gen.MixRefIdeal.Read
public import proofs.«01_k».proof.Proof.MixRef
public import Idealize.ShloMosaic.Lib.Pointwise

@[expose] public section

set_option maxRecDepth 16384

noncomputable section

open Idealize.ShloMosaic Idealize.ShloMosaic.TcCoe Idealize.SL.Sem

namespace Cert.MixRefIdeal.At

open Cert.MixRefIdeal Cert.MixRefIdeal.Gen Cert.MixRefIdeal.Read

variable (a : Mix.Args)

theorem fold_at (b : Fin 8) (s : Fin 8192) (h : Fin 4) : val_main_v60 (F := Ideal) a.x a.att a.hf a.hb a.mo a.og a.wo a.gm a.wq a.qg a.k (ix3 b h s) = Mix.top (rsc a b s h) := by
  unfold val_main_v60 Mix.top
  have e : ∀ j : Fin 256, val_main_v59 (F := Ideal) a.x a.att a.hf a.hb a.mo a.og a.wo a.gm a.wq a.qg a.k (ix4 b h s j) = rsc a b s h j := sc_at a b s h
  generalize val_main_v59 (F := Ideal) a.x a.att a.hf a.hb a.mo a.og a.wo a.gm a.wq a.qg a.k = y at e
  refine (Host.reduce_eq_fold_single (fun a b : EReal => max a b) y (val_main_cst_11 (F := Ideal)) reducesTo_S8x4x8192x256_S8x4x8192_d3 (by decide) h_S_ (ix3 b h s)).trans ?_
  refine congrArg (Finset.univ.fold max (Ideal.ofBits .f32 0xFF800000#32)) (funext fun j => ?_)
  refine Eq.trans ?_ (e j)
  exact congrArg y (funext fun a => Fin.ext (by match a with | ⟨0, _⟩ => rfl | ⟨1, _⟩ => rfl | ⟨2, _⟩ => rfl | ⟨3, _⟩ => rfl))

theorem v61_at (b : Fin 8) (s : Fin 8192) (h : Fin 4) : val_main_v61 (F := Ideal) (ix3 b h s) = Ideal.ofBits .f32 0xFF800000#32 := by
  rw [val_main_v61_apply, val_main_cst_12_apply]; rfl

theorem v62_at (b : Fin 8) (s : Fin 8192) (h : Fin 4) :
    val_main_v62 (F := Ideal) a.x a.att a.hf a.hb a.mo a.og a.wo a.gm a.wq a.qg a.k (ix3 b h s) = max (val_main_v61 (F := Ideal) (ix3 b h s)) (val_main_v60 (F := Ideal) a.x a.att a.hf a.hb a.mo a.og a.wo a.gm a.wq a.qg a.k (ix3 b h s)) := by
  rw [val_main_v62_apply]; rfl

theorem top_at (b : Fin 8) (s : Fin 8192) (h : Fin 4) : val_main_v62 (F := Ideal) a.x a.att a.hf a.hb a.mo a.og a.wo a.gm a.wq a.qg a.k (ix3 b h s) = Mix.top (rsc a b s h) := by
  rw [v62_at, v61_at, fold_at, Mix.negInf, max_bot_left]

theorem exp_at (b : Fin 8) (s : Fin 8192) (h : Fin 4) (j : Fin 256) : val_main_v66 (F := Ideal) a.x a.att a.hf a.hb a.mo a.og a.wo a.gm a.wq a.qg a.k (ix4 b h s j) = Ideal.exp (rsc a b s h j - Mix.top (rsc a b s h)) := by
  rw [← top_at, ← sc_at]
  pointwise [val_main_v66, val_main_v65, val_main_v64, val_main_v63]

theorem sum_at (b : Fin 8) (s : Fin 8192) (h : Fin 4) : val_main_v67 (F := Ideal) a.x a.att a.hf a.hb a.mo a.og a.wo a.gm a.wq a.qg a.k (ix3 b h s) = ∑ j, Ideal.exp (rsc a b s h j - Mix.top (rsc a b s h)) := by
  simp only [← exp_at]
  pointwise [val_main_v67, val_main_cst_13]

theorem p_at (b : Fin 8) (s : Fin 8192) (h : Fin 4) (j : Fin 256) : val_main_v70 (F := Ideal) a.x a.att a.hf a.hb a.mo a.og a.wo a.gm a.wq a.qg a.k (ix4 b h s j)
    = Ideal.div (Ideal.exp (rsc a b s h j - Mix.top (rsc a b s h))) (∑ j, Ideal.exp (rsc a b s h j - Mix.top (rsc a b s h))) := by
  rw [← sum_at, ← exp_at]
  pointwise [val_main_v70, val_main_v69, val_main_v68]

end Cert.MixRefIdeal.At

end
-- ==== Proof.MixRefOut.lean ====
/- The mix call's reference from the memory attention's scores on, read at an index. -/
module

public import proofs.«01_k».proof.Proof.Gen.MixRefIdeal.Read
public import proofs.«01_k».proof.Proof.MixRefSoft
public import Idealize.ShloMosaic.Lib.Pointwise

@[expose] public section

set_option maxRecDepth 16384

noncomputable section

open Idealize.ShloMosaic Idealize.ShloMosaic.TcCoe Idealize.SL.Sem

namespace Cert.MixRefIdeal.At

open Cert.MixRefIdeal Cert.MixRefIdeal.Gen Cert.MixRefIdeal.Read

variable (a : Mix.Args)

theorem out_at (b : Fin 8) (s : Fin 8192) (c : Fin 512) : val_main_v73 (F := Ideal) a.x a.att a.hf a.hb a.mo a.og a.wo a.gm a.wq a.qg a.k a.v (ix3 b s c)
    = ∑ j, a.v (ix3 b j c) * val_main_v70 (F := Ideal) a.x a.att a.hf a.hb a.mo a.og a.wo a.gm a.wq a.qg a.k (ix4 b ⟨c / 128, by omega⟩ s j) := by
  pointwise [val_main_v73, val_main_v72, val_main_v71, val_main_v56]

theorem y2_at (b : Fin 8) (s : Fin 8192) (d : Fin 1024) : val_main_v75 (F := Ideal) a.x a.att a.hf a.hb a.mo a.og a.wo a.gm a.wq a.qg a.k a.v a.wm (ix3 b s d)
    = Mix.y1 a b s d + ∑ c, val_main_v73 (F := Ideal) a.x a.att a.hf a.hb a.mo a.og a.wo a.gm a.wq a.qg a.k a.v (ix3 b s c) * a.wm (ix2 c d) := by
  simp only [← y1_at]
  pointwise [val_main_v75, val_main_v74]

theorem h3_at (b : Fin 8) (s : Fin 8192) (d : Fin 1024) : val_main_v88 (F := Ideal) a.x a.att a.hf a.hb a.mo a.og a.wo a.gm a.wq a.qg a.k a.v a.wm a.gf (ix3 b s d)
    = Mix.nrm Mix.n1024 (fun d => val_main_v75 (F := Ideal) a.x a.att a.hf a.hb a.mo a.og a.wo a.gm a.wq a.qg a.k a.v a.wm (ix3 b s d)) d * a.gf (ix1 d) := by
  unfold Mix.nrm Mix.n1024 Mix.eps
  pointwise [val_main_v88, val_main_v87, val_main_v86, val_main_v85, val_main_v84, val_main_v83, val_main_v82, val_main_v81, val_main_v80, val_main_v79, val_main_v78, val_main_v77, val_main_v76, val_main_cst_14, val_main_cst_15, val_main_cst_16]

theorem lg_at (b : Fin 8) (s : Fin 8192) (e : Fin 16) : val_main_v92 (F := Ideal) a.x a.att a.hf a.hb a.mo a.og a.wo a.gm a.wq a.qg a.k a.v a.wm a.gf a.wr a.br (ix3 b s e)
    = (∑ d, val_main_v88 (F := Ideal) a.x a.att a.hf a.hb a.mo a.og a.wo a.gm a.wq a.qg a.k a.v a.wm a.gf (ix3 b s d) * a.wr (ix2 d e)) + a.br (ix1 e) := by
  pointwise [val_main_v92, val_main_v91, val_main_v90, val_main_v89]

theorem aff_at (b : Fin 8) (s : Fin 8192) (e : Fin 16) : val_main_v103 (F := Ideal) a.x a.att a.hf a.hb a.mo a.og a.wo a.gm a.wq a.qg a.k a.v a.wm a.gf a.wr a.br (ix3 b s e)
    = Mix.soft (fun e => val_main_v92 (F := Ideal) a.x a.att a.hf a.hb a.mo a.og a.wo a.gm a.wq a.qg a.k a.v a.wm a.gf a.wr a.br (ix3 b s e)) e := by
  unfold Mix.soft Mix.top
  pointwise [val_main_v103, val_main_v102, val_main_v101, val_main_v100, val_main_v99, val_main_v98, val_main_v97, val_main_v96, val_main_v95, val_main_v94, val_main_v93, val_main_cst_17, val_main_cst_18, val_main_cst_19]
  simp only [Mix.negInf, max_bot_left]

/-! ## The three results -/

variable {a}

theorem out_eq (h : Mix.Finite a) (b : Fin 8) (s : Fin 8192) (c : Fin 512) : val_main_v73 (F := Ideal) a.x a.att a.hf a.hb a.mo a.og a.wo a.gm a.wq a.qg a.k a.v (ix3 b s c) = Mix.out a b s c := by
  rw [out_at]
  simp only [p_at]
  rw [rsc_eq]
  exact (Mix.mean_eq _ _ (Mix.sc_fin b s h _ _)).symm

theorem y2_eq (h : Mix.Finite a) (b : Fin 8) (s : Fin 8192) (d : Fin 1024) : val_main_v75 (F := Ideal) a.x a.att a.hf a.hb a.mo a.og a.wo a.gm a.wq a.qg a.k a.v a.wm (ix3 b s d) = Mix.y2 a b s d := by
  rw [y2_at]
  simp only [out_eq h]
  rfl

theorem h3_eq (h : Mix.Finite a) (b : Fin 8) (s : Fin 8192) (d : Fin 1024) : val_main_v88 (F := Ideal) a.x a.att a.hf a.hb a.mo a.og a.wo a.gm a.wq a.qg a.k a.v a.wm a.gf (ix3 b s d) = Mix.h3 a b s d := by
  rw [h3_at]
  simp only [y2_eq h]
  rfl

theorem aff_eq (h : Mix.Finite a) (b : Fin 8) (s : Fin 8192) (e : Fin 16) : val_main_v103 (F := Ideal) a.x a.att a.hf a.hb a.mo a.og a.wo a.gm a.wq a.qg a.k a.v a.wm a.gf a.wr a.br (ix3 b s e) = Mix.aff a b s e := by
  rw [aff_at]
  simp only [lg_at, h3_eq h]
  rfl

theorem hn_eq (h : Mix.Finite a) (b : Fin 8) (s : Fin 8192) (c : Fin 1152) : val_main_v105 (F := Ideal) a.x a.att a.hf a.hb a.mo a.og a.wo a.gm a.wq a.qg a.k a.v a.wm a.gf a.wr a.br (ix3 b s c) = Mix.hn a b s c := by
  unfold Mix.hn
  simp only [← h3_eq h, ← aff_eq h]
  pointwise [val_main_v105, val_main_v104, val_main_cst_20]

theorem afft_eq (h : Mix.Finite a) (b : Fin 8) (e : Fin 16) (s : Fin 8192) : val_main_v106 (F := Ideal) a.x a.att a.hf a.hb a.mo a.og a.wo a.gm a.wq a.qg a.k a.v a.wm a.gf a.wr a.br (ix3 b e s) = Mix.aff a b s e := by
  rw [← aff_eq h]
  pointwise [val_main_v106]

end Cert.MixRefIdeal.At

end
-- ==== Proof.MixPre.lean ====
/- What the mix's precondition says: the memory queries' gain, the memory keys, the experts' gain and the router's weights are finite. -/
module

public import proofs.«01_k».proof.Pre_mix_finite
public import proofs.«01_k».proof.Proof.AttnPre

@[expose] public section

noncomputable section

open Idealize.ShloMosaic

namespace Cert.MixPre

/-- The shape relations the precondition's operations take. -/
theorem facts : Cert.Pre_mix_finite.Facts where
  bcast_S_S128 := by decide
  reducesTo_S128_S_d0 := by decide
  h_S_ := by decide
  bcast_S_S8x256x512 := by decide
  reducesTo_S8x256x512_S_d0_1_2 := by decide
  bcast_S_S1024 := by decide
  reducesTo_S1024_S_d0 := by decide
  bcast_S_S1024x16 := by decide
  reducesTo_S1024x16_S_d0_1 := by decide

instance : Subsingleton (Shape.Idx Cert.Pre_mix_finite.S_) := ⟨fun a b => funext fun d => d.elim0⟩

open Cert.Pre_mix_finite in
attribute [local instance] facts in
/-- The precondition's four parts. -/
theorem fin (x : FVec Ideal S8x8192x1024 .f32) (x1 x2 x3 x4 : FVec Ideal S8x8192x512 .f32) (x5 : FVec Ideal S512 .f32) (x6 : FVec Ideal S1024x1024 .f32)
    (x7 : FVec Ideal S1024 .f32) (x8 : FVec Ideal S1024x512 .f32) (x9 : FVec Ideal S128 .f32) (x10 x11 : FVec Ideal S8x256x512 .f32) (x12 : FVec Ideal S512x1024 .f32)
    (x13 : FVec Ideal S1024 .f32) (x14 : FVec Ideal S1024x16 .f32) (x15 : FVec Ideal S16 .f32)
    (h : Cert.Pre_mix_finite.fn (F := Ideal) x x1 x2 x3 x4 x5 x6 x7 x8 x9 x10 x11 x12 x13 x14 x15 = fun _ => 1#1) :
    (∀ i, Softmax.Fin' (x9 i)) ∧ (∀ i, Softmax.Fin' (x10 i)) ∧ (∀ i, Softmax.Fin' (x13 i)) ∧ (∀ i, Softmax.Fin' (x14 i)) := by
  dsimp only [Cert.Pre_mix_finite.fn, Cert.Pre_mix_finite.fn_part1] at h
  have h0 := congrFun h (fun d => d.elim0)
  obtain ⟨h1, hW⟩ := IntOp.andi_eq_one.1 h0
  obtain ⟨h2, hG⟩ := IntOp.andi_eq_one.1 h1
  obtain ⟨hQ, hK⟩ := IntOp.andi_eq_one.1 h2
  exact ⟨fun i => AttnPre.fin_of_olt _ (Host.reduce_andi_all _ _ _ _ _ hQ i), fun i => AttnPre.fin_of_olt _ (Host.reduce_andi_all _ _ _ _ _ hK i),
    fun i => AttnPre.fin_of_olt _ (Host.reduce_andi_all _ _ _ _ _ hG i), fun i => AttnPre.fin_of_olt _ (Host.reduce_andi_all _ _ _ _ _ hW i)⟩

end Cert.MixPre

end
-- ==== Proof.MixClaims.lean ====
/- The claims about the mix call. -/
module

public import proofs.«01_k».proof.Defs
public import proofs.«01_k».proof.Proof.Gen.Mix.Frame
public import proofs.«01_k».proof.Proof.Gen.MixIdeal.Frame
public import proofs.«01_k».proof.Proof.Gen.MixRefIdeal.Run
public import proofs.«01_k».proof.Proof.MixValue
public import proofs.«01_k».proof.Proof.MixRefOut
public import proofs.«01_k».proof.Proof.MixPre
public import Idealize.ShloMosaic.Lib.Quiescent

@[expose] public section

noncomputable section

open Idealize.ShloMosaic Idealize.SL.Sem

namespace Cert.MixClaims

/-! ## The reference's results as whole arrays -/

section
open Cert.MixRefIdeal Cert.MixRefIdeal.Read
variable {a : Mix.Args}

theorem y_arr (h : Mix.Finite a) : val_main_v75 (F := Ideal) a.x a.att a.hf a.hb a.mo a.og a.wo a.gm a.wq a.qg a.k a.v a.wm = MixIdeal.Value.yArr a :=
  funext fun i => (congrArg _ (by idx_ext : i = ix3 ⟨i 0, (i 0).isLt⟩ ⟨i 1, (i 1).isLt⟩ ⟨i 2, (i 2).isLt⟩)).trans (At.y2_eq h _ _ _)
theorem h_arr (h : Mix.Finite a) : val_main_v105 (F := Ideal) a.x a.att a.hf a.hb a.mo a.og a.wo a.gm a.wq a.qg a.k a.v a.wm a.gf a.wr a.br = MixIdeal.Value.hArr a :=
  funext fun i => (congrArg _ (by idx_ext : i = ix3 ⟨i 0, (i 0).isLt⟩ ⟨i 1, (i 1).isLt⟩ ⟨i 2, (i 2).isLt⟩)).trans (At.hn_eq h _ _ _)
theorem a_arr (h : Mix.Finite a) : val_main_v106 (F := Ideal) a.x a.att a.hf a.hb a.mo a.og a.wo a.gm a.wq a.qg a.k a.v a.wm a.gf a.wr a.br = MixIdeal.Value.aArr a :=
  funext fun i => (congrArg _ (by idx_ext : i = ix3 ⟨i 0, (i 0).isLt⟩ ⟨i 1, (i 1).isLt⟩ ⟨i 2, (i 2).isLt⟩)).trans (At.afft_eq h _ _ _)
end

attribute [local instance] Cert.Mix.Gen.facts Cert.MixIdeal.Gen.facts Cert.MixRefIdeal.Gen.facts Cert.MixPre.facts

/-- The mix kernel runs, leaves its arguments and ends quiet. -/
theorem frame_p : quiescent_Mix := fun m ρ _ => Cert.Mix.Gen.frame m ρ
theorem frame_pi : quiescent_MixIdeal := fun m ρ _ => Cert.MixIdeal.Gen.frame m ρ
theorem frame_pi' : quiescent_MixIdeal_pre_mix_finite := fun m ρ _ => Cert.MixIdeal.Gen.frame m ρ

/-- The reference runs, leaves its arguments and ends quiet. -/
theorem frame_ri : quiescent_MixRefIdeal := fun m ρ _ =>
  (θ_run Cert.MixRefIdeal.defs _ _).mono (fun r h => ⟨fun c => (h c).2.2.2, Idealize.ShloMosaic.sem_eq_zero_of_no_sems (by decide) r.2⟩)
    (Cert.MixRefIdeal.Value.run (F := Ideal) m ρ)
theorem frame_ri' : quiescent_MixRefIdeal_pre_mix_finite := fun m ρ _ => frame_ri m ρ trivial

/-- No constant is named. -/
theorem preserves : preserves_Mix_MixIdeal := trivial

set_option maxHeartbeats 1000000 in
/-- THE VALUE: kernel and reference end with equal results, all three of them. -/
theorem algebraic : algebraic_MixIdeal_MixRefIdeal_pre_mix_finite := by
  intro m ρ m' ρ' hpre hagree
  refine ⟨_, _, _, Cert.MixIdeal.Value.run_blocks m ρ, ?_⟩
  refine (θ_run Cert.MixRefIdeal.defs _ _).mono (fun _ h c => ?_) (Cert.MixRefIdeal.Value.run (F := Ideal) m' ρ')
  obtain ⟨e0, e1, e2, e3, e4, e5, e6, e7, e8, e9, e10, e11, e12, e13, e14, e15⟩ := hagree c
  have hf : Mix.Finite (MixIdeal.Value.args m c) := by
    obtain ⟨h9, h10, h13, h14⟩ := Cert.MixPre.fin _ _ _ _ _ _ _ _ _ _ _ _ _ _ _ _ (hpre c)
    exact ⟨h9, h10, h13, h14⟩
  have ha : (⟨m' ((c.tc : Thread Cert.MixRefIdeal.nD Cert.MixRefIdeal.τ).loc Cert.MixRefIdeal.main_arg0), m' ((c.tc : Thread Cert.MixRefIdeal.nD Cert.MixRefIdeal.τ).loc Cert.MixRefIdeal.main_arg1), m' ((c.tc : Thread Cert.MixRefIdeal.nD Cert.MixRefIdeal.τ).loc Cert.MixRefIdeal.main_arg2), m' ((c.tc : Thread Cert.MixRefIdeal.nD Cert.MixRefIdeal.τ).loc Cert.MixRefIdeal.main_arg3), m' ((c.tc : Thread Cert.MixRefIdeal.nD Cert.MixRefIdeal.τ).loc Cert.MixRefIdeal.main_arg4), m' ((c.tc : Thread Cert.MixRefIdeal.nD Cert.MixRefIdeal.τ).loc Cert.MixRefIdeal.main_arg5), m' ((c.tc : Thread Cert.MixRefIdeal.nD Cert.MixRefIdeal.τ).loc Cert.MixRefIdeal.main_arg6), m' ((c.tc : Thread Cert.MixRefIdeal.nD Cert.MixRefIdeal.τ).loc Cert.MixRefIdeal.main_arg7), m' ((c.tc : Thread Cert.MixRefIdeal.nD Cert.MixRefIdeal.τ).loc Cert.MixRefIdeal.main_arg8), m' ((c.tc : Thread Cert.MixRefIdeal.nD Cert.MixRefIdeal.τ).loc Cert.MixRefIdeal.main_arg9), m' ((c.tc : Thread Cert.MixRefIdeal.nD Cert.MixRefIdeal.τ).loc Cert.MixRefIdeal.main_arg10), m' ((c.tc : Thread Cert.MixRefIdeal.nD Cert.MixRefIdeal.τ).loc Cert.MixRefIdeal.main_arg11), m' ((c.tc : Thread Cert.MixRefIdeal.nD Cert.MixRefIdeal.τ).loc Cert.MixRefIdeal.main_arg12), m' ((c.tc : Thread Cert.MixRefIdeal.nD Cert.MixRefIdeal.τ).loc Cert.MixRefIdeal.main_arg13), m' ((c.tc : Thread Cert.MixRefIdeal.nD Cert.MixRefIdeal.τ).loc Cert.MixRefIdeal.main_arg14), m' ((c.tc : Thread Cert.MixRefIdeal.nD Cert.MixRefIdeal.τ).loc Cert.MixRefIdeal.main_arg15)⟩ : Mix.Args) = MixIdeal.Value.args m c := by
    unfold MixIdeal.Value.args
    rw [e0, e1, e2, e3, e4, e5, e6, e7, e8, e9, e10, e11, e12, e13, e14, e15]
  obtain ⟨h0, h1, h2, hargs⟩ := h c
  refine ⟨h0.trans ?_, h1.trans ?_, h2.trans ?_, hargs⟩
  · rw [Cert.MixIdeal.Value.y_final]
    rw [← ha] at hf ⊢
    refine Eq.trans (Cert.MixRefIdeal.Read.val_main_v75_eq (StableHlo.launchContents m' c)) ?_
    refine Eq.trans ?_ (y_arr hf)
    with_reducible rfl
  · rw [Cert.MixIdeal.Value.h_final m c hf]
    rw [← ha] at hf ⊢
    refine Eq.trans (Cert.MixRefIdeal.Read.val_main_v105_eq (StableHlo.launchContents m' c)) ?_
    refine Eq.trans ?_ (h_arr hf)
    with_reducible rfl
  · rw [Cert.MixIdeal.Value.a_final m c hf]
    rw [← ha] at hf ⊢
    refine Eq.trans (Cert.MixRefIdeal.Read.val_main_v106_eq (StableHlo.launchContents m' c)) ?_
    refine Eq.trans ?_ (a_arr hf)
    with_reducible rfl

end Cert.MixClaims

end
-- ==== Proof.FfnPre.lean ====
/- What the experts' precondition says: every index names a token, and no expert's list for a sequence names a token twice. -/
module

public import proofs.«01_k».proof.Pre_idx_ok
public import proofs.«01_k».proof.Proof.AttnPre
public import Idealize.ShloMosaic.Lib.WordCmp

@[expose] public section

noncomputable section

open Idealize.ShloMosaic Idealize.ShloMosaic.WordCmp

namespace Cert.FfnPre

/-- The shape relations the precondition's operations take. -/
theorem facts : Cert.Pre_idx_ok.Facts where
  bcast_S8x16x1024_S8x16x1024x1_0_1_2 := by decide
  bcast_S8x16x1024_S8x16x1x1024_0_1_3 := by decide
  bcast_S8x16x1024x1_S8x16x1024x1024_0_1_2_3 := by decide
  bcast_S8x16x1x1024_S8x16x1024x1024_0_1_2_3 := by decide
  bcast_S1024_S1024x1_0 := by decide
  bcast_S1024_S1x1024_1 := by decide
  bcast_S1024x1_S1024x1024_0_1 := by decide
  bcast_S1x1024_S1024x1024_0_1 := by decide
  bcast_S1024x1024_S1x1x1024x1024_2_3 := by decide
  bcast_S1x1x1024x1024_S8x16x1024x1024_0_1_2_3 := by decide
  bcast_S_S8x16x1024 := by decide
  reducesTo_S8x16x1024_S_d0_1_2 := by decide
  h_S_ := by decide
  reducesTo_S8x16x1024x1024_S_d0_1_2_3 := by decide

instance : Subsingleton (Shape.Idx Cert.Pre_idx_ok.S_) := ⟨fun a b => funext fun d => d.elim0⟩

/-- The index of a list's entry. -/
def at3 (b : Fin 8) (e : Fin 16) (k : Fin 1024) : Cert.Pre_idx_ok.S8x16x1024.Idx := fun a => match a with
  | ⟨0, _⟩ => b | ⟨1, _⟩ => e | ⟨2, _⟩ => k

/-- The index of a pair of a list's entries. -/
def at4 (b : Fin 8) (e : Fin 16) (k k' : Fin 1024) : Cert.Pre_idx_ok.S8x16x1024x1024.Idx := fun a => match a with
  | ⟨0, _⟩ => b | ⟨1, _⟩ => e | ⟨2, _⟩ => k | ⟨3, _⟩ => k'

theorem ori_one {a b : BitVec 1} (h : IntOp.ori a b = 1#1) : a = 1#1 ∨ b = 1#1 := by
  revert a b; decide

theorem small {x : BitVec 32} (h1 : IntOp.cmpi .sge x 0#32 = 1#1) (h2 : IntOp.cmpi .slt x 8192#32 = 1#1) : x.toNat < 8192 := by
  rw [cmpi_sge_eq, ofBool_eq_one_iff, decide_eq_true_eq] at h1
  rw [cmpi_slt_eq, ofBool_eq_one_iff, decide_eq_true_eq] at h2
  have e0 : (0#32 : BitVec 32).toInt = 0 := by decide
  have e1 : (8192#32 : BitVec 32).toInt = 8192 := by decide
  rw [e0] at h1; rw [e1] at h2
  have := BitVec.toInt_eq_toNat_cond x
  have hl := x.isLt
  split at this <;> omega

variable {F : FTy → Type} [FloatOps F]

open Cert.Pre_idx_ok in
attribute [local instance] facts in
/-- The precondition's two parts. -/
theorem ok (x : IVec S8x16x1024 32) (x1 : FVec F S8x8192x1152 .f32) (x2 : FVec F S8x8192x1024 .f32) (x3 x4 x5 : FVec F S16x1024x1024 .f32)
    (h : Cert.Pre_idx_ok.fn (F := F) x x1 x2 x3 x4 x5 = fun _ => 1#1) :
    (∀ i, (x i).toNat < 8192) ∧ (∀ b e k k', x (at3 b e k) = x (at3 b e k') → k = k') := by
  dsimp only [Cert.Pre_idx_ok.fn, Cert.Pre_idx_ok.fn_part1] at h
  have h0 := congrFun h (fun d => d.elim0)
  obtain ⟨h1, hA⟩ := IntOp.andi_eq_one.1 h0
  obtain ⟨hG, hL⟩ := IntOp.andi_eq_one.1 h1
  refine ⟨fun i => small (Host.reduce_andi_all _ _ _ _ _ hG i) (Host.reduce_andi_all _ _ _ _ _ hL i), fun b e k k' hx => ?_⟩
  have hp := Host.reduce_andi_all _ _ _ _ _ hA (at4 b e k k')
  have e1 : ∀ (h1 h2), broadcastInDim S8x16x1024x1024 ![0, 1, 2, 3] h1 (broadcastInDim S8x16x1024x1 ![0, 1, 2] h2 x) (at4 b e k k') = x (at3 b e k) := fun h1 h2 => by
    unfold broadcastInDim
    refine congrArg x (funext fun a => Fin.ext ?_)
    fin_cases a <;> rfl
  have e2 : ∀ (h1 h2), broadcastInDim S8x16x1024x1024 ![0, 1, 2, 3] h1 (broadcastInDim S8x16x1x1024 ![0, 1, 3] h2 x) (at4 b e k k') = x (at3 b e k') := fun h1 h2 => by
    unfold broadcastInDim
    refine congrArg x (funext fun a => Fin.ext ?_)
    fin_cases a <;> rfl
  rcases ori_one hp with hn | he
  · exfalso
    rw [cmpi, cmpi_ne_eq, ofBool_eq_one_iff, decide_eq_true_eq] at hn
    exact hn ((e1 _ _).trans (hx.trans (e2 _ _).symm))
  · have he' : IntOp.cmpi .eq (BitVec.ofNat 32 k.val) (BitVec.ofNat 32 k'.val) = 1#1 := he
    rw [cmpi_eq_eq, ofBool_eq_one_iff, decide_eq_true_eq] at he'
    have := congrArg BitVec.toNat he'
    rw [BitVec.toNat_ofNat, BitVec.toNat_ofNat, Nat.mod_eq_of_lt (by omega), Nat.mod_eq_of_lt (by omega)] at this
    exact Fin.ext this

end Cert.FfnPre

end
-- ==== Proof.FfnIdealRows.lean ====
/- The experts' idealized call: the rows its copies move, and a buffer held row by row. -/
module

public import proofs.«01_k».proof.Proof.Gen.FfnIdeal.Frame
public import Idealize.ShloMosaic.Lib.Batch
public import Idealize.ShloMosaic.Lib.Ring
public import Idealize.ShloMosaic.Lib.Tactic

@[expose] public section

set_option maxRecDepth 16384

noncomputable section

namespace Cert.FfnIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.FfnIdeal.Gen

variable {F : FTy → Type} [FloatOps F]

local notation "𝕄" => MT nD τ sig Unit (Elt F) ℕ (Pipeline.UD sig nD τ) ℕ

theorem trips1 : k0_t1_loop.trips = 1024 := by decide +kernel
theorem trips2 : k0_t2_loop.trips = 1024 := by decide +kernel
theorem trips4 : k0_t4_loop.trips = 1024 := by decide +kernel
theorem trips5 : k0_t5_loop.trips = 1024 := by decide +kernel

theorem efl {P : sProp 𝕄} : Idealize.SL.BI.Entails P P := (show P ⊢ P from .rfl)

/-! ## A buffer and a family of its rows -/

theorem sep_image_sdiff {M : Type} [URA M] {I J : Type} [DecidableEq I] [DecidableEq J] {s : Finset I} {t : Finset J} {f : J → I}
    (inj : Set.InjOn f t) (sub : ∀ j ∈ t, f j ∈ s) {Φ : I → sProp M} :
    BI.bigSep s Φ = iprop(BI.bigSep t (fun j => Φ (f j)) ∗ BI.bigSep (s \ t.image f) Φ) := by
  rw [BI.bigSep_sdiff_split (t := t.image f) fun x mem => by obtain ⟨j, among, rfl⟩ := Finset.mem_image.mp mem; exact sub j among,
    BI.bigSep_image_of_injOn inj]
  rfl

section Split

variable {ℓ : Loc nD τ sig} {n : ℕ} {T : ℕ} (I : Fin n → Finset (Idx ℓ))
  (hd : ∀ b b', b ≠ b' → Disjoint (I b) (I b')) (hc : Finset.univ.biUnion I = Finset.univ)
  (ρ : Fin T → Fin n) (hρ : Function.Injective ρ)

include hd hc hρ in
/-- A whole buffer is the rows that `ρ` names and the others. -/
theorem rows_split (f : Buf (Elt F) ℓ) :
    (ℓ ↦{fullShare} f : sProp 𝕄)
      ⊢ iprop(bigSep Finset.univ (fun k : Fin T => iprop(∃ g, ℓ ↦[I (ρ k)]{fullShare} g))
          ∗ bigSep (Finset.univ \ Finset.univ.image ρ) (fun r => iprop(∃ g, ℓ ↦[I r]{fullShare} g))) := by
  refine BIBase.Entails.trans ?_ (Entails.of_eq (sep_image_sdiff (s := Finset.univ) (t := Finset.univ) (f := ρ) (hρ.injOn) (fun _ _ => Finset.mem_univ _)
    (Φ := fun r => (iprop(∃ g, ℓ ↦[I r]{fullShare} g) : sProp 𝕄))))
  rw [Ring.pointsTo_blocks I hd hc f]
  refine BI.bigSep_mono fun b _ => ?_
  show (ℓ ↦[I b]{fullShare} f : sProp 𝕄) ⊢ iprop(∃ g, ℓ ↦[I b]{fullShare} g)
  iintro H; iexists f; iexact H

include hd hc hρ in
/-- The rows that `ρ` names and the others are the whole buffer, at some contents. -/
theorem rows_join (f₀ : Buf (Elt F) ℓ) :
    (iprop(bigSep Finset.univ (fun k : Fin T => iprop(∃ g, ℓ ↦[I (ρ k)]{fullShare} g))
          ∗ bigSep (Finset.univ \ Finset.univ.image ρ) (fun r => iprop(∃ g, ℓ ↦[I r]{fullShare} g))) : sProp 𝕄)
      ⊢ iprop(∃ g, ℓ ↦{fullShare} g) := by
  refine BIBase.Entails.trans (Entails.of_eq (sep_image_sdiff (s := Finset.univ) (t := Finset.univ) (f := ρ) (hρ.injOn) (fun _ _ => Finset.mem_univ _)
    (Φ := fun r => (iprop(∃ g, ℓ ↦[I r]{fullShare} g) : sProp 𝕄))).symm) ?_
  exact Ring.pointsTo_blocks_join_exists I hd hc f₀

end Split

/-- The elements of row `r`. -/
def rowS (n d : ℕ) (r : Fin n) : Finset (Shape.Idx ⟨2, ![n, d]⟩) := Finset.univ.filter fun y => (y 0).val = r.val
theorem rowS_disjoint (n d : ℕ) : ∀ b b' : Fin n, b ≠ b' → Disjoint (rowS n d b) (rowS n d b') := fun b b' hne => by
  rw [Finset.disjoint_left]; intro y hy hy'
  simp only [rowS, Finset.mem_filter, Finset.mem_univ, true_and] at hy hy'
  exact hne (Fin.ext (by omega))
theorem rowS_cover (n d : ℕ) : Finset.univ.biUnion (rowS n d) = Finset.univ := by
  ext y; simp only [Finset.mem_biUnion, Finset.mem_univ, true_and, iff_true]
  exact ⟨y 0, by simp only [rowS, Finset.mem_filter, Finset.mem_univ, true_and]⟩
/-- A slice of one row has the row's elements. -/
theorem unit_row (n d : ℕ) (r : Fin n) (off : Fin 2 → ℕ) (h : off = ![r.val, 0])
    (inb : ∀ a, off a + (⟨2, ![1, d]⟩ : Shape).size a ≤ (⟨2, ![n, d]⟩ : Shape).size a) :
    (Rect.unit (s := ⟨2, ![n, d]⟩) off (⟨2, ![1, d]⟩ : Shape).size inb).set = rowS n d r := by
  subst h
  ext y
  rw [Rect.mem_set_unit]
  simp only [rowS, Finset.mem_filter, Finset.mem_univ, true_and]
  have h1 : (y 1).val < d := (y 1).isLt
  constructor
  · intro H; have a0 : r.val ≤ (y 0).val ∧ (y 0).val < r.val + 1 := H 0; omega
  · intro H a; fin_cases a
    · show r.val ≤ (y 0).val ∧ (y 0).val < r.val + 1; omega
    · show 0 ≤ (y 1).val ∧ (y 1).val < 0 + d; omega

/-! ## The rows as the body names them -/

/-- Row `k` of the gathered tokens and of the gathered results, and of the results on the way back. -/
def m9 (k : Fin k0_t1_loop.trips) : Memref sig .tc .vmem S1x1152 .f32 :=
  (Memref.whole cc0_scratch0).slice (Rect.unit (s := S1024x1152) (k0_off2 k) S1x1152.size (k0_off2_inb k)) (fun _ => rfl)
def m10 (k : Fin k0_t1_loop.trips) : Memref sig .tc .vmem S1x1024 .f32 :=
  (Memref.whole cc0_scratch1).slice (Rect.unit (s := S1024x1024) (k0_off5 k) S1x1024.size (k0_off5_inb k)) (fun _ => rfl)
def m10' (k : Fin k0_t4_loop.trips) : Memref sig .tc .vmem S1x1024 .f32 :=
  (Memref.whole cc0_scratch1).slice (Rect.unit (s := S1024x1024) (k0_off18 k) S1x1024.size (k0_off18_inb k)) (fun _ => rfl)
/-- The token's row and the result's row that the word `v` names. -/
def m3 (i : grid0.Coords) (v : BitVec 32) (h : k0_chk1 i v) : Memref sig .tc .hbm S1x1152 .f32 :=
  (Memref.whole main_v0).slice (Rect.unit (s := S65536x1152) (k0_off3 i v) S1x1152.size (k0_off3_inb i v h)) (fun _ => rfl)
def m8 (i : grid0.Coords) (v : BitVec 32) (h : k0_chk2 i v) : Memref sig .tc .hbm S1x1024 .f32 :=
  (Memref.whole main_v6).slice (Rect.unit (s := S65536x1024) (k0_off6 i v) S1x1024.size (k0_off6_inb i v h)) (fun _ => rfl)
def m8' (i : grid0.Coords) (v : BitVec 32) (h : k0_chk5 i v) : Memref sig .tc .hbm S1x1024 .f32 :=
  (Memref.whole main_v6).slice (Rect.unit (s := S65536x1024) (k0_off17 i v) S1x1024.size (k0_off17_inb i v h)) (fun _ => rfl)

theorem m9_credit (k : Fin k0_t1_loop.trips) : (m9 k).view.dmaCredit = 144 := by rfl
theorem m10_credit (k : Fin k0_t1_loop.trips) : (m10 k).view.dmaCredit = 128 := by rfl
theorem m8_credit (i : grid0.Coords) (v : BitVec 32) (h : k0_chk5 i v) : (m8' i v h).view.dmaCredit = 128 := by rfl

theorem m9_set (k : Fin k0_t1_loop.trips) : (m9 k).view.set = rowS 1024 1152 ⟨k.val, trips1 ▸ k.isLt⟩ := by
  unfold m9; exact (View.set_slice_whole _ _).trans (unit_row 1024 1152 _ _ (k0_off2_eq k) _)
theorem m10_set (k : Fin k0_t1_loop.trips) : (m10 k).view.set = rowS 1024 1024 ⟨k.val, trips1 ▸ k.isLt⟩ := by
  unfold m10; exact (View.set_slice_whole _ _).trans (unit_row 1024 1024 _ _ (k0_off5_eq k) _)
theorem m10'_set (k : Fin k0_t4_loop.trips) : (m10' k).view.set = rowS 1024 1024 ⟨k.val, trips4 ▸ k.isLt⟩ := by
  unfold m10'; exact (View.set_slice_whole _ _).trans (unit_row 1024 1024 _ _ (k0_off18_eq k) _)

/-- The row that the word `v` names at the point `i`. -/
theorem row_lt (i : grid0.Coords) (v : BitVec 32) (h : v.toNat < 8192) : (i 1).val * 8192 + v.toNat < 65536 := by
  have : (i 1).val < 8 := (i 1).isLt
  omega
theorem row_toNat (i : grid0.Coords) (v : BitVec 32) (h : v.toNat < 8192) :
    (Scalar.addi (Scalar.muli (BitVec.ofNat 32 (i 1).val) 8192#32) v).toNat = (i 1).val * 8192 + v.toNat := by
  have : (i 1).val < 8 := (i 1).isLt
  show ((BitVec.ofNat 32 (i 1).val * 8192#32) + v).toNat = _
  rw [BitVec.toNat_add, BitVec.toNat_mul, BitVec.toNat_ofNat]
  rw [show (8192#32).toNat = 8192 from rfl]
  omega
theorem off3_row (i : grid0.Coords) (v : BitVec 32) (h : v.toNat < 8192) : k0_off3 i v = ![(i 1).val * 8192 + v.toNat, 0] := by
  show ![(Scalar.addi (Scalar.muli (BitVec.ofNat 32 (i 1).val) 8192#32) v).toNat, (0#32).toNat] = _
  rw [row_toNat i v h]; rfl
theorem off6_row (i : grid0.Coords) (v : BitVec 32) (h : v.toNat < 8192) : k0_off6 i v = ![(i 1).val * 8192 + v.toNat, 0] := off3_row i v h
theorem off17_row (i : grid0.Coords) (v : BitVec 32) (h : v.toNat < 8192) : k0_off17 i v = ![(i 1).val * 8192 + v.toNat, 0] := off3_row i v h

theorem inb_of (d n : ℕ) (off : Fin 2 → ℕ) (h : off = ![n, 0]) (hn : n < 65536) :
    ∀ a, off a + (⟨2, ![1, d]⟩ : Shape).size a ≤ (⟨2, ![65536, d]⟩ : Shape).size a := by
  subst h; intro a; fin_cases a
  · show n + 1 ≤ 65536; omega
  · show 0 + d ≤ d; omega
theorem chk1_of (i : grid0.Coords) (v : BitVec 32) (h : v.toNat < 8192) : k0_chk1 i v := inb_of 1152 _ _ (off3_row i v h) (row_lt i v h)
theorem chk2_of (i : grid0.Coords) (v : BitVec 32) (h : v.toNat < 8192) : k0_chk2 i v := inb_of 1024 _ _ (off3_row i v h) (row_lt i v h)
theorem chk3_of (i : grid0.Coords) (v : BitVec 32) (h : v.toNat < 8192) : k0_chk3 i v := inb_of 1152 _ _ (off3_row i v h) (row_lt i v h)
theorem chk4_of (i : grid0.Coords) (v : BitVec 32) (h : v.toNat < 8192) : k0_chk4 i v := inb_of 1024 _ _ (off3_row i v h) (row_lt i v h)
theorem chk5_of (i : grid0.Coords) (v : BitVec 32) (h : v.toNat < 8192) : k0_chk5 i v := inb_of 1024 _ _ (off3_row i v h) (row_lt i v h)
theorem chk6_of (i : grid0.Coords) (v : BitVec 32) (h : v.toNat < 8192) : k0_chk6 i v := inb_of 1024 _ _ (off3_row i v h) (row_lt i v h)

theorem m3_set (i : grid0.Coords) (v : BitVec 32) (h : v.toNat < 8192) :
    (m3 i v (chk1_of i v h)).view.set = rowS 65536 1152 ⟨(i 1).val * 8192 + v.toNat, row_lt i v h⟩ := by
  unfold m3; exact (View.set_slice_whole _ _).trans (unit_row 65536 1152 _ _ (off3_row i v h) _)
theorem m8_set (i : grid0.Coords) (v : BitVec 32) (h : v.toNat < 8192) :
    (m8 i v (chk2_of i v h)).view.set = rowS 65536 1024 ⟨(i 1).val * 8192 + v.toNat, row_lt i v h⟩ := by
  unfold m8; exact (View.set_slice_whole _ _).trans (unit_row 65536 1024 _ _ (off6_row i v h) _)
theorem m8'_set (i : grid0.Coords) (v : BitVec 32) (h : v.toNat < 8192) :
    (m8' i v (chk5_of i v h)).view.set = rowS 65536 1024 ⟨(i 1).val * 8192 + v.toNat, row_lt i v h⟩ := by
  unfold m8'; exact (View.set_slice_whole _ _).trans (unit_row 65536 1024 _ _ (off17_row i v h) _)

/-! ## The scratch buffers and the arrays, row by row -/

section Joins
variable (c : Dev nD)

/-- A buffer of 1024 rows is its rows. -/
theorem scr_split {ℓ : Loc nD τ sig} (T : ℕ) (hT : T = 1024) (I : Fin 1024 → Finset (Idx ℓ)) (hd : ∀ b b', b ≠ b' → Disjoint (I b) (I b'))
    (hc : Finset.univ.biUnion I = Finset.univ) (f : Buf (Elt F) ℓ) :
    (ℓ ↦{fullShare} f : sProp 𝕄) ⊢ bigSep Finset.univ (fun k : Fin T => iprop(∃ g, ℓ ↦[I ⟨k.val, hT ▸ k.isLt⟩]{fullShare} g)) := by
  subst hT
  rw [Ring.pointsTo_blocks I hd hc f]
  refine BI.bigSep_mono fun b _ => ?_
  show (ℓ ↦[I b]{fullShare} f : sProp 𝕄) ⊢ iprop(∃ g, ℓ ↦[I b]{fullShare} g)
  iintro H; iexists f; iexact H
theorem scr_join {ℓ : Loc nD τ sig} (T : ℕ) (hT : T = 1024) (I : Fin 1024 → Finset (Idx ℓ)) (hd : ∀ b b', b ≠ b' → Disjoint (I b) (I b'))
    (hc : Finset.univ.biUnion I = Finset.univ) (f : Buf (Elt F) ℓ) :
    (bigSep Finset.univ (fun k : Fin T => iprop(∃ g, ℓ ↦[I ⟨k.val, hT ▸ k.isLt⟩]{fullShare} g)) : sProp 𝕄) ⊢ iprop(∃ g, ℓ ↦{fullShare} g) := by
  subst hT
  exact Ring.pointsTo_blocks_join_exists I hd hc f

end Joins

/-! ## What the body holds -/

section Own
variable (c : Dev nD)

abbrev own9 (k : Fin k0_t1_loop.trips) : sProp 𝕄 := iprop(∃ g, (m9 k).view.loc (c : Thread nD τ) ↦[(m9 k).view.set]{fullShare} g)
abbrev own10 (k : Fin k0_t1_loop.trips) : sProp 𝕄 := iprop(∃ g, (m10 k).view.loc (c : Thread nD τ) ↦[(m10 k).view.set]{fullShare} g)
abbrev own10' (k : Fin k0_t4_loop.trips) : sProp 𝕄 := iprop(∃ g, (m10' k).view.loc (c : Thread nD τ) ↦[(m10' k).view.set]{fullShare} g)

variable (i : grid0.Coords) (x0 : S1x1x1024.Idx → BitVec 32) (hx : ∀ y, (x0 y).toNat < 8192)

/-- The `k`-th word. -/
def wix (k : ℕ) (hk : k < 1024) : S1x1x1024.Idx := fun a => ⟨(![0, 0, k] : Fin 3 → ℕ) a, by
  fin_cases a
  · show 0 < 1; omega
  · show 0 < 1; omega
  · show k < 1024; omega⟩
abbrev wd (k : ℕ) (hk : k < 1024) : BitVec 32 := x0 (wix k hk)

abbrev own3 (k : Fin k0_t1_loop.trips) : sProp 𝕄 :=
  iprop(∃ g, (m3 i (wd x0 k.val (trips1 ▸ k.isLt)) (chk1_of i _ (hx _))).view.loc (c : Thread nD τ) ↦[(m3 i (wd x0 k.val (trips1 ▸ k.isLt)) (chk1_of i _ (hx _))).view.set]{fullShare} g)
abbrev own8 (k : Fin k0_t1_loop.trips) : sProp 𝕄 :=
  iprop(∃ g, (m8 i (wd x0 k.val (trips1 ▸ k.isLt)) (chk2_of i _ (hx _))).view.loc (c : Thread nD τ) ↦[(m8 i (wd x0 k.val (trips1 ▸ k.isLt)) (chk2_of i _ (hx _))).view.set]{fullShare} g)
abbrev own8' (k : Fin k0_t4_loop.trips) : sProp 𝕄 :=
  iprop(∃ g, (m8' i (wd x0 k.val (trips4 ▸ k.isLt)) (chk5_of i _ (hx _))).view.loc (c : Thread nD τ) ↦[(m8' i (wd x0 k.val (trips4 ▸ k.isLt)) (chk5_of i _ (hx _))).view.set]{fullShare} g)

/-- What each transfer hands back. -/
def D0 (k : Fin k0_t1_loop.trips) : sProp 𝕄 := iprop(own9 c k ∗ own3 c i x0 hx k)
def D1 (k : Fin k0_t1_loop.trips) : sProp 𝕄 := iprop(own10 c k ∗ own8 c i x0 hx k)
def D2 (k : Fin k0_t4_loop.trips) : sProp 𝕄 := iprop(own8' c i x0 hx k ∗ own10' c k)
instance D0_st (k : Fin k0_t1_loop.trips) : BI.Storable (upEmb : UEmb _ 𝕄) (D0 (F := F) c i x0 hx k) := by unfold D0; infer_instance
instance D1_st (k : Fin k0_t1_loop.trips) : BI.Storable (upEmb : UEmb _ 𝕄) (D1 (F := F) c i x0 hx k) := by unfold D1; infer_instance
instance D2_st (k : Fin k0_t4_loop.trips) : BI.Storable (upEmb : UEmb _ 𝕄) (D2 (F := F) c i x0 hx k) := by unfold D2; infer_instance

abbrev B0 (j u : ℕ) : sProp 𝕄 :=
  Transfers.Batch (countersEmb (U := Pipeline.UD sig nD τ)) (c : Thread nD τ) (.dma 8) () 144 (D0 (F := F) c i x0 hx) j u
abbrev B1 (j u : ℕ) : sProp 𝕄 :=
  Transfers.Batch (countersEmb (U := Pipeline.UD sig nD τ)) (c : Thread nD τ) (.dma 9) () 128 (D1 (F := F) c i x0 hx) j u
abbrev B2 (j u : ℕ) : sProp 𝕄 :=
  Transfers.Batch (countersEmb (U := Pipeline.UD sig nD τ)) (c : Thread nD τ) (.dma 10) () 128 (D2 (F := F) c i x0 hx) j u

/-! ### Split and joined -/

abbrev whole (b : Ref sig .tc) : sProp 𝕄 := iprop(∃ f : Buf (Elt F) ((c : Thread nD τ).loc b), ((c : Thread nD τ).loc b) ↦{fullShare} f)

theorem split9 (f : Buf (Elt F) ((c : Thread nD τ).loc cc0_scratch0)) :
    (((c : Thread nD τ).loc cc0_scratch0) ↦{fullShare} f : sProp 𝕄) ⊢ bigSep Finset.univ (own9 c) := by
  refine BIBase.Entails.trans (scr_split (ℓ := (c : Thread nD τ).loc cc0_scratch0) _ trips1 (rowS 1024 1152) (rowS_disjoint 1024 1152) (rowS_cover 1024 1152) f) (BI.bigSep_mono fun k _ => ?_)
  unfold own9; rw [m9_set]; exact efl
theorem split10 (f : Buf (Elt F) ((c : Thread nD τ).loc cc0_scratch1)) :
    (((c : Thread nD τ).loc cc0_scratch1) ↦{fullShare} f : sProp 𝕄) ⊢ bigSep Finset.univ (own10 c) := by
  refine BIBase.Entails.trans (scr_split (ℓ := (c : Thread nD τ).loc cc0_scratch1) _ trips1 (rowS 1024 1024) (rowS_disjoint 1024 1024) (rowS_cover 1024 1024) f) (BI.bigSep_mono fun k _ => ?_)
  unfold own10; rw [m10_set]; exact efl
theorem split10' (f : Buf (Elt F) ((c : Thread nD τ).loc cc0_scratch1)) :
    (((c : Thread nD τ).loc cc0_scratch1) ↦{fullShare} f : sProp 𝕄) ⊢ bigSep Finset.univ (own10' c) := by
  refine BIBase.Entails.trans (scr_split (ℓ := (c : Thread nD τ).loc cc0_scratch1) _ trips4 (rowS 1024 1024) (rowS_disjoint 1024 1024) (rowS_cover 1024 1024) f) (BI.bigSep_mono fun k _ => ?_)
  unfold own10'; rw [m10'_set]; exact efl
theorem join9 [∀ e, Nonempty (Elt F e)] : (bigSep Finset.univ (own9 c) : sProp 𝕄) ⊢ whole (F := F) c cc0_scratch0 := by
  refine BIBase.Entails.trans (BI.bigSep_mono fun k _ => ?_) (scr_join (ℓ := (c : Thread nD τ).loc cc0_scratch0) _ trips1 (rowS 1024 1152) (rowS_disjoint 1024 1152) (rowS_cover 1024 1152) (Memref.whole cc0_scratch0 : Memref sig .tc .vmem S1024x1152 .f32).view.junk)
  unfold own9; rw [m9_set]; exact efl
theorem join10 [∀ e, Nonempty (Elt F e)] : (bigSep Finset.univ (own10 c) : sProp 𝕄) ⊢ whole (F := F) c cc0_scratch1 := by
  refine BIBase.Entails.trans (BI.bigSep_mono fun k _ => ?_) (scr_join (ℓ := (c : Thread nD τ).loc cc0_scratch1) _ trips1 (rowS 1024 1024) (rowS_disjoint 1024 1024) (rowS_cover 1024 1024) (Memref.whole cc0_scratch1 : Memref sig .tc .vmem S1024x1024 .f32).view.junk)
  unfold own10; rw [m10_set]; exact efl
theorem join10' [∀ e, Nonempty (Elt F e)] : (bigSep Finset.univ (own10' c) : sProp 𝕄) ⊢ whole (F := F) c cc0_scratch1 := by
  refine BIBase.Entails.trans (BI.bigSep_mono fun k _ => ?_) (scr_join (ℓ := (c : Thread nD τ).loc cc0_scratch1) _ trips4 (rowS 1024 1024) (rowS_disjoint 1024 1024) (rowS_cover 1024 1024) (Memref.whole cc0_scratch1 : Memref sig .tc .vmem S1024x1024 .f32).view.junk)
  unfold own10'; rw [m10'_set]; exact efl

variable (hinj : ∀ k k' (hk : k < 1024) (hk' : k' < 1024), wd x0 k hk = wd x0 k' hk' → k = k')

/-- The row the `k`-th word names. -/
def rho (T : ℕ) (hT : T = 1024) (k : Fin T) : Fin 65536 :=
  ⟨(i 1).val * 8192 + (wd x0 k.val (hT ▸ k.isLt)).toNat, row_lt i _ (hx _)⟩
include hinj in
theorem rho_inj (T : ℕ) (hT : T = 1024) : Function.Injective (rho i x0 hx T hT) := fun k k' h => by
  have h' : (i 1).val * 8192 + (wd x0 k.val (hT ▸ k.isLt)).toNat = (i 1).val * 8192 + (wd x0 k'.val (hT ▸ k'.isLt)).toNat := congrArg Fin.val h
  exact Fin.ext (hinj _ _ _ _ (BitVec.eq_of_toNat_eq (by omega)))

/-- The rows no word names. -/
abbrev rest3 : sProp 𝕄 := bigSep (Finset.univ \ Finset.univ.image (rho i x0 hx _ trips1))
  (fun r => iprop(∃ g, ((c : Thread nD τ).loc main_v0) ↦[rowS 65536 1152 r]{fullShare} g))
abbrev rest8 : sProp 𝕄 := bigSep (Finset.univ \ Finset.univ.image (rho i x0 hx _ trips1))
  (fun r => iprop(∃ g, ((c : Thread nD τ).loc main_v6) ↦[rowS 65536 1024 r]{fullShare} g))
abbrev rest8' : sProp 𝕄 := bigSep (Finset.univ \ Finset.univ.image (rho i x0 hx _ trips4))
  (fun r => iprop(∃ g, ((c : Thread nD τ).loc main_v6) ↦[rowS 65536 1024 r]{fullShare} g))

include hinj in
theorem split3 (f : Buf (Elt F) ((c : Thread nD τ).loc main_v0)) :
    (((c : Thread nD τ).loc main_v0) ↦{fullShare} f : sProp 𝕄) ⊢ iprop(bigSep Finset.univ (own3 c i x0 hx) ∗ rest3 c i x0 hx) := by
  refine BIBase.Entails.trans (rows_split (ℓ := (c : Thread nD τ).loc main_v0) (rowS 65536 1152) (rowS_disjoint 65536 1152) (rowS_cover 65536 1152) (rho i x0 hx _ trips1) (rho_inj i x0 hx hinj _ _) f) (BI.sep_mono (BI.bigSep_mono fun k _ => ?_) efl)
  unfold own3; rw [m3_set i _ (hx _)]; exact efl
include hinj in
theorem split8 (f : Buf (Elt F) ((c : Thread nD τ).loc main_v6)) :
    (((c : Thread nD τ).loc main_v6) ↦{fullShare} f : sProp 𝕄) ⊢ iprop(bigSep Finset.univ (own8 c i x0 hx) ∗ rest8 c i x0 hx) := by
  refine BIBase.Entails.trans (rows_split (ℓ := (c : Thread nD τ).loc main_v6) (rowS 65536 1024) (rowS_disjoint 65536 1024) (rowS_cover 65536 1024) (rho i x0 hx _ trips1) (rho_inj i x0 hx hinj _ _) f) (BI.sep_mono (BI.bigSep_mono fun k _ => ?_) efl)
  unfold own8; rw [m8_set i _ (hx _)]; exact efl
include hinj in
theorem split8' (f : Buf (Elt F) ((c : Thread nD τ).loc main_v6)) :
    (((c : Thread nD τ).loc main_v6) ↦{fullShare} f : sProp 𝕄) ⊢ iprop(bigSep Finset.univ (own8' c i x0 hx) ∗ rest8' c i x0 hx) := by
  refine BIBase.Entails.trans (rows_split (ℓ := (c : Thread nD τ).loc main_v6) (rowS 65536 1024) (rowS_disjoint 65536 1024) (rowS_cover 65536 1024) (rho i x0 hx _ trips4) (rho_inj i x0 hx hinj _ _) f) (BI.sep_mono (BI.bigSep_mono fun k _ => ?_) efl)
  unfold own8'; rw [m8'_set i _ (hx _)]; exact efl
include hinj in
theorem join3 [∀ e, Nonempty (Elt F e)] : (iprop(bigSep Finset.univ (own3 c i x0 hx) ∗ rest3 c i x0 hx) : sProp 𝕄) ⊢ whole (F := F) c main_v0 := by
  refine BIBase.Entails.trans (BI.sep_mono (BI.bigSep_mono fun k _ => ?_) efl) (rows_join (ℓ := (c : Thread nD τ).loc main_v0) (rowS 65536 1152) (rowS_disjoint 65536 1152) (rowS_cover 65536 1152) (rho i x0 hx _ trips1) (rho_inj i x0 hx hinj _ _) (Memref.whole main_v0 : Memref sig .tc .hbm S65536x1152 .f32).view.junk)
  unfold own3; rw [m3_set i _ (hx _)]; exact efl
include hinj in
theorem join8 [∀ e, Nonempty (Elt F e)] : (iprop(bigSep Finset.univ (own8 c i x0 hx) ∗ rest8 c i x0 hx) : sProp 𝕄) ⊢ whole (F := F) c main_v6 := by
  refine BIBase.Entails.trans (BI.sep_mono (BI.bigSep_mono fun k _ => ?_) efl) (rows_join (ℓ := (c : Thread nD τ).loc main_v6) (rowS 65536 1024) (rowS_disjoint 65536 1024) (rowS_cover 65536 1024) (rho i x0 hx _ trips1) (rho_inj i x0 hx hinj _ _) (Memref.whole main_v6 : Memref sig .tc .hbm S65536x1024 .f32).view.junk)
  unfold own8; rw [m8_set i _ (hx _)]; exact efl
include hinj in
theorem join8' [∀ e, Nonempty (Elt F e)] : (iprop(bigSep Finset.univ (own8' c i x0 hx) ∗ rest8' c i x0 hx) : sProp 𝕄) ⊢ whole (F := F) c main_v6 := by
  refine BIBase.Entails.trans (BI.sep_mono (BI.bigSep_mono fun k _ => ?_) efl) (rows_join (ℓ := (c : Thread nD τ).loc main_v6) (rowS 65536 1024) (rowS_disjoint 65536 1024) (rowS_cover 65536 1024) (rho i x0 hx _ trips4) (rho_inj i x0 hx hinj _ _) (Memref.whole main_v6 : Memref sig .tc .hbm S65536x1024 .f32).view.junk)
  unfold own8'; rw [m8'_set i _ (hx _)]; exact efl

end Own

/-- A word read is the block's. -/
theorem word_eq (arg2 : Memref sig .tc .smem S1x1x1024 .i32) (harg2 : arg2.IsWhole) (x0 : S1x1x1024.Idx → BitVec 32) (k : ℕ) (hk : k < 1024)
    (off : Fin 3 → ℕ) (hoff : off = ![0, 0, k]) (inb : ∀ a, off a + S1x1x1.size a ≤ S1x1x1024.size a) (hp : 0 < S1x1x1.numel) :
    View.readAt (Elt F) arg2.view (Rect.unit (s := S1x1x1024) off S1x1x1.size inb).toLoadRect (harg2.unread x0) (Shape.Idx.first hp) = wd x0 k hk := by
  subst hoff
  rw [View.readAt_apply, harg2.read_unread]
  refine congrArg x0 (funext fun a => Fin.ext ?_)
  fin_cases a <;> rfl

end Cert.FfnIdeal.Hand
-- ==== Proof.FfnIdealBody.lean ====
/- The experts' idealized call: the body run at a point of the grid. -/
module

public import proofs.«01_k».proof.Proof.FfnIdealRows

@[expose] public section

set_option maxRecDepth 16384

noncomputable section

namespace Cert.FfnIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.FfnIdeal.Gen

variable {F : FTy → Type} [FloatOps F]

local notation "𝕄" => MT nD τ sig Unit (Elt F) ℕ (Pipeline.UD sig nD τ) ℕ

section Run
variable (c : Dev nD) (i : grid0.Coords) (x0 : S1x1x1024.Idx → BitVec 32) (hx : ∀ y, (x0 y).toNat < 8192)
variable (arg2 : Memref sig .tc .smem S1x1x1024 .i32) (harg2 : arg2.IsWhole)

/-- The words' block, held. -/
abbrev wordsAt : sProp 𝕄 := arg2.view.loc (c : Thread nD τ) ↦[arg2.view.set]{fullShare} harg2.unread x0

/-- Before trip `k` of the loop that starts the two gathers. -/
def issueAt (k : ℕ) (_ : PUnit) : sProp 𝕄 :=
  iprop(B0 c i x0 hx k 0 ∗ B1 c i x0 hx k 0 ∗ wordsAt c x0 arg2 harg2
    ∗ bigSep (Ring.rangeSet k0_t1_loop.trips k k0_t1_loop.trips) (own9 c) ∗ bigSep (Ring.rangeSet k0_t1_loop.trips k k0_t1_loop.trips) (own3 c i x0 hx)
    ∗ bigSep (Ring.rangeSet k0_t1_loop.trips k k0_t1_loop.trips) (own10 c) ∗ bigSep (Ring.rangeSet k0_t1_loop.trips k k0_t1_loop.trips) (own8 c i x0 hx))

/-- Before trip `k` of the loop that waits for them: short of the end the two batches, at the end everything back. -/
def drainAt (k : ℕ) (_ : PUnit) : sProp 𝕄 :=
  iprop(⌜k ≤ k0_t2_loop.trips⌝ ∗ (∃ W, owes (c : Thread nD τ) 0 W) ∗ wordsAt c x0 arg2 harg2
    ∗ (if k < k0_t2_loop.trips then iprop(B0 c i x0 hx k0_t1_loop.trips (k * 144) ∗ B1 c i x0 hx k0_t1_loop.trips (k * 128))
       else iprop(semVal ((c : Thread nD τ), SemLoc.dma 8) 0 ∗ semVal ((c : Thread nD τ), SemLoc.dma 9) 0
          ∗ bigSep Finset.univ (D0 (F := F) c i x0 hx) ∗ bigSep Finset.univ (D1 (F := F) c i x0 hx))))

/-- Before a trip of the loop that computes: everything it touches, the gathered rows at some contents. -/
def workAt (arg5 arg6 arg7 : Memref sig .tc .vmem S1x1024x1024 .bf16) (x1 x2 x3 : S1x1024x1024.Idx → Elt F .bf16) (k : ℕ) (_ : PUnit) : sProp 𝕄 :=
  iprop(owns (c : Thread nD τ) arg5 fullShare x1 ∗ owns (c : Thread nD τ) arg6 fullShare x2 ∗ owns (c : Thread nD τ) arg7 fullShare x3
    ∗ (∃ f, (Memref.whole cc0_scratch0 : Memref sig .tc .vmem S1024x1152 .f32).view.loc (c : Thread nD τ) ↦{fullShare} f)
    ∗ (∃ f, (Memref.whole cc0_scratch1 : Memref sig .tc .vmem S1024x1024 .f32).view.loc (c : Thread nD τ) ↦{fullShare} f))

/-- Before trip `k` of the loop that starts the scatter. -/
def backAt (k : ℕ) (_ : PUnit) : sProp 𝕄 :=
  iprop(B2 c i x0 hx k 0 ∗ wordsAt c x0 arg2 harg2
    ∗ bigSep (Ring.rangeSet k0_t4_loop.trips k k0_t4_loop.trips) (own8' c i x0 hx) ∗ bigSep (Ring.rangeSet k0_t4_loop.trips k k0_t4_loop.trips) (own10' c))

/-- Before trip `k` of the loop that waits for it. -/
def doneAt (k : ℕ) (_ : PUnit) : sProp 𝕄 :=
  iprop(⌜k ≤ k0_t5_loop.trips⌝ ∗ (∃ W, owes (c : Thread nD τ) 0 W) ∗ wordsAt c x0 arg2 harg2
    ∗ (if k < k0_t5_loop.trips then B2 c i x0 hx k0_t4_loop.trips (k * 128)
       else iprop(semVal ((c : Thread nD τ), SemLoc.dma 10) 0 ∗ bigSep Finset.univ (D2 (F := F) c i x0 hx))))

include hx in
theorem kernelRun [∀ e, Nonempty (Elt F e)] (hinj : ∀ k k' (hk : k < 1024) (hk' : k' < 1024), wd x0 k hk = wd x0 k' hk' → k = k')
    (arg5 : Memref sig .tc .vmem S1x1024x1024 .bf16) (harg5 : arg5.IsWhole) (arg6 : Memref sig .tc .vmem S1x1024x1024 .bf16) (harg6 : arg6.IsWhole)
    (arg7 : Memref sig .tc .vmem S1x1024x1024 .bf16) (harg7 : arg7.IsWhole)
    (x1 x2 x3 : S1x1024x1024.Idx → Elt F .bf16) (W : Waits sig Unit) (K : PUnit → sProp 𝕄) :
    iprop(owns (c : Thread nD τ) arg2 fullShare x0 ∗ owns (c : Thread nD τ) arg5 fullShare x1 ∗ owns (c : Thread nD τ) arg6 fullShare x2 ∗ owns (c : Thread nD τ) arg7 fullShare x3
        ∗ whole (F := F) c cc0_scratch0 ∗ whole (F := F) c cc0_scratch1 ∗ whole (F := F) c main_v0 ∗ whole (F := F) c main_v6
        ∗ semVal ((c : Thread nD τ), SemLoc.dma 8) 0 ∗ semVal ((c : Thread nD τ), SemLoc.dma 9) 0 ∗ semVal ((c : Thread nD τ), SemLoc.dma 10) 0
        ∗ owes (c : Thread nD τ) 0 W
        ∗ (iprop(owns (c : Thread nD τ) arg2 fullShare x0 ∗ owns (c : Thread nD τ) arg5 fullShare x1 ∗ owns (c : Thread nD τ) arg6 fullShare x2 ∗ owns (c : Thread nD τ) arg7 fullShare x3
            ∗ whole (F := F) c cc0_scratch0 ∗ whole (F := F) c cc0_scratch1 ∗ whole (F := F) c main_v0 ∗ whole (F := F) c main_v6
            ∗ semVal ((c : Thread nD τ), SemLoc.dma 8) 0 ∗ semVal ((c : Thread nD τ), SemLoc.dma 9) 0 ∗ semVal ((c : Thread nD τ), SemLoc.dma 10) 0
            ∗ (∃ W', owes (c : Thread nD τ) 0 W')) -∗ K ⟨⟩))
      ⊢ wp frame (wpE (defs₀ (F := F)) Variants.none c none) Set.univ
          (cc0_expert_ffn i arg2 harg2 (Memref.whole main_v0) (Memref.isWhole_whole _) (Memref.whole main_v6) (Memref.isWhole_whole _) arg5 harg5 arg6 harg6 arg7 harg7
            (Memref.whole main_v6) (Memref.isWhole_whole _) (Memref.whole cc0_scratch0) (Memref.isWhole_whole _) (Memref.whole cc0_scratch1) (Memref.isWhole_whole _) cc0_scratch2) K := by
  have t1 := trips1
  have t2 := trips2
  have t4 := trips4
  have t5 := trips5
  unfold whole
  iintro ⟨H2o, H5, H6, H7, ⟨%fs0, HS0⟩, ⟨%fs1, HS1⟩, ⟨%f0, HV0⟩, ⟨%f6, HV6⟩, Hs0, Hs1, Hs2, HO, HK⟩
  ihave H2 := (show owns (c : Thread nD τ) arg2 fullShare x0 ⊢ wordsAt c x0 arg2 harg2 from by
    unfold owns; iintro ⟨%f2, %hf2, H2⟩; obtain rfl := harg2.eq_unread hf2; iexact H2) $$ H2o
  ihave H9 := (split9 c fs0) $$ HS0
  ihave H10 := (split10 c fs1) $$ HS1
  ihave H3 := (split3 c i x0 hx hinj f0) $$ HV0
  icases H3 with ⟨H3, HR3⟩
  ihave H8 := (split8 c i x0 hx hinj f6) $$ HV6
  icases H8 with ⟨H8, HR8⟩
  imod (Transfers.batch_alloc' (Lvl := ℕ) (countersEmb (U := Pipeline.UD sig nD τ)) (c : Thread nD τ) () 144 (D0 (F := F) c i x0 hx) (sm := .dma 8) (E := Set.univ)) $$ Hs0 with HB0
  imod (Transfers.batch_alloc' (Lvl := ℕ) (countersEmb (U := Pipeline.UD sig nD τ)) (c : Thread nD τ) () 128 (D1 (F := F) c i x0 hx) (sm := .dma 9) (E := Set.univ)) $$ Hs1 with HB1
  sl_unfold [cc0_expert_ffn]
  sl_exec
  sl_for (issueAt c i x0 hx arg2 harg2) $$ [HB0 HB1 H2 H9 H3 H10 H8]
  · intro k acc
    have hk : k.val < k0_t1_loop.trips := k.isLt
    unfold issueAt
    rw [Ring.bigSep_rangeSet_head (Φ := own9 (F := F) c) (by omega) (by omega), Ring.bigSep_rangeSet_head (Φ := own3 (F := F) c i x0 hx) (by omega) (by omega),
      Ring.bigSep_rangeSet_head (Φ := own10 (F := F) c) (by omega) (by omega), Ring.bigSep_rangeSet_head (Φ := own8 (F := F) c i x0 hx) (by omega) (by omega)]
    unfold own9 own3 own10 own8
    iintro ⟨HB0, HB1, H2, ⟨⟨%g9, H9⟩, H9s⟩, ⟨⟨%g3, H3⟩, H3s⟩, ⟨⟨%g10, H10⟩, H10s⟩, ⟨⟨%g8, H8⟩, H8s⟩⟩
    sl_exec
    have e1 : kernelRun.sl.r (F := F) x0 arg2 harg2 k = wd x0 k.val (trips1 ▸ k.isLt) := by
      unfold kernelRun.sl.r
      exact word_eq arg2 harg2 x0 _ _ _ (k0_off1_eq k) _ _
    rw [e1]
    have c1 := chk1_of i _ (hx (wix k.val (trips1 ▸ k.isLt)))
    sl_exec
    have e2 : kernelRun.sl.r_1 (F := F) x0 arg2 harg2 k = wd x0 k.val (trips1 ▸ k.isLt) := by
      unfold kernelRun.sl.r_1
      exact word_eq arg2 harg2 x0 _ _ _ (k0_off4_eq k) _ _
    rw [e2]
    have c2 := chk2_of i _ (hx (wix k.val (trips1 ▸ k.isLt)))
    sl_exec
    sl_step
    isplitl [HB0]; · iexact HB0
    isplitl [HB1]; · iexact HB1
    isplitl [H2]; · iexact H2
    isplitl [H9s]; · iexact H9s
    isplitl [H3s]; · iexact H3s
    isplitl [H10s]; · iexact H10s
    iexact H8s
  · unfold issueAt
    rw [Ring.rangeSet_univ]
    isplitl [HB0]; · iexact HB0
    isplitl [HB1]; · iexact HB1
    isplitl [H2]; · iexact H2
    isplitl [H9]; · iexact H9
    isplitl [H3]; · iexact H3
    isplitl [H10]; · iexact H10
    iexact H8
  iintro %acc HI
  unfold issueAt
  icases HI with ⟨HB0, HB1, H2, -, -, -, -⟩
  sl_exec
  sl_for (drainAt c i x0 hx arg2 harg2) $$ [HB0 HB1 H2 HO]
  · intro k acc
    have hk : k.val < k0_t2_loop.trips := k.isLt
    unfold drainAt
    simp only [if_pos hk]
    rcases Nat.lt_or_ge (k.val + 1) k0_t2_loop.trips with h1 | h1
    · simp only [if_pos h1]
      iintro ⟨-, ⟨%W, HO⟩, H2, HB0, HB1⟩
      sl_exec
      have e1 : kernelRun.sl.r_2 (F := F) x0 arg2 harg2 k = wd x0 k.val (trips2 ▸ k.isLt) := by
        unfold kernelRun.sl.r_2
        exact word_eq arg2 harg2 x0 _ _ _ (k0_off7_eq k) _ _
      rw [e1]
      have c1 := chk3_of i _ (hx (wix k.val (trips2 ▸ k.isLt)))
      sl_exec
      have e2 : kernelRun.sl.r_3 (F := F) x0 arg2 harg2 k = wd x0 k.val (trips2 ▸ k.isLt) := by
        unfold kernelRun.sl.r_3
        exact word_eq arg2 harg2 x0 _ _ _ (k0_off10_eq k) _ _
      rw [e2]
      have c2 := chk4_of i _ (hx (wix k.val (trips2 ▸ k.isLt)))
      sl_exec
      sl_step
      isplitr; · ipureintro; omega
      isplitl [HO]; · iexists _; iexact HO
      isplitl [H2]; · iexact H2
      rw [show (k.val + 1) * 144 = k.val * 144 + 144 by omega, show (k.val + 1) * 128 = k.val * 128 + 128 by omega]
      isplitl [HB0]; · iexact HB0
      iexact HB1
    · simp only [if_neg (Nat.not_lt.mpr h1)]
      iintro ⟨-, ⟨%W, HO⟩, H2, HB0, HB1⟩
      sl_exec
      have e1 : kernelRun.sl.r_4 (F := F) x0 arg2 harg2 k = wd x0 k.val (trips2 ▸ k.isLt) := by
        unfold kernelRun.sl.r_4
        exact word_eq arg2 harg2 x0 _ _ _ (k0_off7_eq k) _ _
      rw [e1]
      have c1 := chk3_of i _ (hx (wix k.val (trips2 ▸ k.isLt)))
      sl_exec
      have e2 : kernelRun.sl.r_5 (F := F) x0 arg2 harg2 k = wd x0 k.val (trips2 ▸ k.isLt) := by
        unfold kernelRun.sl.r_5
        exact word_eq arg2 harg2 x0 _ _ _ (k0_off10_eq k) _ _
      rw [e2]
      have c2 := chk4_of i _ (hx (wix k.val (trips2 ▸ k.isLt)))
      sl_exec
      sl_step
      isplitr; · ipureintro; omega
      isplitl [HO]; · iexists _; iexact HO
      isplitl [H2]; · iexact H2
      isplitl [HB0]; · iexact HB0
      isplitl [HB1]; · iexact HB1
      isplitl [HB0_all]; · iexact HB0_all
      iexact HB1_all
  · unfold drainAt
    rw [if_pos (by omega)]
    isplitr; · ipureintro; omega
    isplitl [HO]; · iexists _; iexact HO
    isplitl [H2]; · iexact H2
    isplitl [HB0]; · iexact HB0
    iexact HB1
  iintro %acc HI
  unfold drainAt
  rw [if_neg (Nat.lt_irrefl _)]
  icases HI with ⟨-, ⟨%W1, HO⟩, H2, Hs0, Hs1, HD0, HD1⟩
  ihave HD0' := (show (bigSep Finset.univ (D0 (F := F) c i x0 hx) : sProp 𝕄) ⊢ iprop(bigSep Finset.univ (own9 c) ∗ bigSep Finset.univ (own3 c i x0 hx))
    from Entails.of_eq (BI.bigSep_sep _ _ _)) $$ HD0
  icases HD0' with ⟨H9, H3⟩
  ihave HD1' := (show (bigSep Finset.univ (D1 (F := F) c i x0 hx) : sProp 𝕄) ⊢ iprop(bigSep Finset.univ (own10 c) ∗ bigSep Finset.univ (own8 c i x0 hx))
    from Entails.of_eq (BI.bigSep_sep _ _ _)) $$ HD1
  icases HD1' with ⟨H10, H8⟩
  ihave HV0 := (join3 c i x0 hx hinj) $$ [H3 HR3]
  · isplitl [H3] <;> iassumption
  ihave HV6 := (join8 c i x0 hx hinj) $$ [H8 HR8]
  · isplitl [H8] <;> iassumption
  ihave HS0 := (join9 (F := F) c) $$ H9
  ihave HS1 := (join10 (F := F) c) $$ H10
  sl_exec
  sl_for (workAt c arg5 arg6 arg7 x1 x2 x3) $$ [H5 H6 H7 HS0 HS1]
  · intro k acc
    unfold workAt owns
    iintro ⟨⟨%f5, %hf5, H5⟩, ⟨%f6, %hf6, H6⟩, ⟨%f7, %hf7, H7⟩, ⟨%g0, HS0⟩, ⟨%g1, HS1⟩⟩
    sl_exec
    sl_step
    isplitl [H5]; · iexists _; isplitr; · ipureintro; exact hf5
                    iexact H5
    isplitl [H6]; · iexists _; isplitr; · ipureintro; exact hf6
                    iexact H6
    isplitl [H7]; · iexists _; isplitr; · ipureintro; exact hf7
                    iexact H7
    isplitl [HS0]; · iexists _; iexact HS0
    iexists _; iexact HS1
  · unfold workAt whole
    icases HS0 with ⟨%g0, HS0⟩
    icases HS1 with ⟨%g1, HS1⟩
    isplitl [H5]; · iexact H5
    isplitl [H6]; · iexact H6
    isplitl [H7]; · iexact H7
    isplitl [HS0]; · iexists _; iexact HS0
    iexists _; iexact HS1
  iintro %acc HI
  unfold workAt whole
  icases HI with ⟨H5, H6, H7, HS0, ⟨%g1, HS1⟩⟩
  icases HV6 with ⟨%f6', HV6⟩
  ihave H10 := (split10' c g1) $$ HS1
  ihave H8 := (split8' c i x0 hx hinj f6') $$ HV6
  icases H8 with ⟨H8, HR8⟩
  imod (Transfers.batch_alloc' (Lvl := ℕ) (countersEmb (U := Pipeline.UD sig nD τ)) (c : Thread nD τ) () 128 (D2 (F := F) c i x0 hx) (sm := .dma 10) (E := Set.univ)) $$ Hs2 with HB2
  sl_exec
  sl_for (backAt c i x0 hx arg2 harg2) $$ [HB2 H2 H8 H10]
  · intro k acc
    have hk : k.val < k0_t4_loop.trips := k.isLt
    unfold backAt
    rw [Ring.bigSep_rangeSet_head (Φ := own8' (F := F) c i x0 hx) (by omega) (by omega), Ring.bigSep_rangeSet_head (Φ := own10' (F := F) c) (by omega) (by omega)]
    unfold own8' own10'
    iintro ⟨HB2, H2, ⟨⟨%g8, H8⟩, H8s⟩, ⟨⟨%g10, H10⟩, H10s⟩⟩
    sl_exec
    have e1 : kernelRun.sl.r_6 (F := F) x0 arg2 harg2 k = wd x0 k.val (trips4 ▸ k.isLt) := by
      unfold kernelRun.sl.r_6
      exact word_eq arg2 harg2 x0 _ _ _ (k0_off16_eq k) _ _
    rw [e1]
    have c1 := chk5_of i _ (hx (wix k.val (trips4 ▸ k.isLt)))
    sl_exec
    sl_step
    isplitl [HB2]; · iexact HB2
    isplitl [H2]; · iexact H2
    isplitl [H8s]; · iexact H8s
    iexact H10s
  · unfold backAt
    rw [Ring.rangeSet_univ]
    isplitl [HB2]; · iexact HB2
    isplitl [H2]; · iexact H2
    isplitl [H8]; · iexact H8
    iexact H10
  iintro %acc HI
  unfold backAt
  icases HI with ⟨HB2, H2, -, -⟩
  sl_exec
  sl_for (doneAt c i x0 hx arg2 harg2) $$ [HB2 H2 HO]
  · intro k acc
    have hk : k.val < k0_t5_loop.trips := k.isLt
    unfold doneAt
    simp only [if_pos hk]
    rcases Nat.lt_or_ge (k.val + 1) k0_t5_loop.trips with h1 | h1
    · simp only [if_pos h1]
      iintro ⟨-, ⟨%W, HO⟩, H2, HB2⟩
      sl_exec
      have e1 : kernelRun.sl.r_7 (F := F) x0 arg2 harg2 k = wd x0 k.val (trips5 ▸ k.isLt) := by
        unfold kernelRun.sl.r_7
        exact word_eq arg2 harg2 x0 _ _ _ (k0_off19_eq k) _ _
      rw [e1]
      have c1 := chk6_of i _ (hx (wix k.val (trips5 ▸ k.isLt)))
      sl_exec
      sl_step
      isplitr; · ipureintro; omega
      isplitl [HO]; · iexists _; iexact HO
      isplitl [H2]; · iexact H2
      rw [show (k.val + 1) * 128 = k.val * 128 + 128 by omega]
      iexact HB2
    · simp only [if_neg (Nat.not_lt.mpr h1)]
      iintro ⟨-, ⟨%W, HO⟩, H2, HB2⟩
      sl_exec
      have e1 : kernelRun.sl.r_8 (F := F) x0 arg2 harg2 k = wd x0 k.val (trips5 ▸ k.isLt) := by
        unfold kernelRun.sl.r_8
        exact word_eq arg2 harg2 x0 _ _ _ (k0_off19_eq k) _ _
      rw [e1]
      have c1 := chk6_of i _ (hx (wix k.val (trips5 ▸ k.isLt)))
      sl_exec
      sl_step
      isplitr; · ipureintro; omega
      isplitl [HO]; · iexists _; iexact HO
      isplitl [H2]; · iexact H2
      isplitl [HB2]; · iexact HB2
      iexact HB2_all
  · unfold doneAt
    rw [if_pos (by omega)]
    isplitr; · ipureintro; omega
    isplitl [HO]; · iexists _; iexact HO
    isplitl [H2]; · iexact H2
    iexact HB2
  iintro %acc HI
  unfold doneAt
  rw [if_neg (Nat.lt_irrefl _)]
  icases HI with ⟨-, ⟨%W2, HO⟩, H2, Hs2, HD2⟩
  ihave HD2' := (show (bigSep Finset.univ (D2 (F := F) c i x0 hx) : sProp 𝕄) ⊢ iprop(bigSep Finset.univ (own8' c i x0 hx) ∗ bigSep Finset.univ (own10' c))
    from Entails.of_eq (BI.bigSep_sep _ _ _)) $$ HD2
  icases HD2' with ⟨H8, H10⟩
  ihave HV6 := (join8' c i x0 hx hinj) $$ [H8 HR8]
  · isplitl [H8] <;> iassumption
  ihave HS1 := (join10' (F := F) c) $$ H10
  sl_exec
  sl_step
  iapply HK
  unfold whole
  isplitl [H2]
  · unfold owns; iexists _
    isplitr; · ipureintro; exact harg2.read_unread _
    iexact H2
  isplitl [H5]; · iexact H5
  isplitl [H6]; · iexact H6
  isplitl [H7]; · iexact H7
  isplitl [HS0]; · iexact HS0
  isplitl [HS1]; · iexact HS1
  isplitl [HV0]; · iexact HV0
  isplitl [HV6]; · iexact HV6
  isplitl [Hs0]; · iexact Hs0
  isplitl [Hs1]; · iexact Hs1
  isplitl [Hs2]; · iexact Hs2
  iexists _; iexact HO

end Run

end Cert.FfnIdeal.Hand
-- ==== Proof.FfnIdealWords.lean ====
/- The experts' idealized call: the words a point of the grid reads are a list of the first argument's. -/
module

public import proofs.«01_k».proof.Proof.FfnIdealBody
public import proofs.«01_k».proof.Proof.FfnPre
public import proofs.«01_k».proof.Proof.Gen.FfnIdeal.Frame
public import Idealize.ShloMosaic.Lib.Pipeline.ValueKit
public import Idealize.ShloMosaic.Lib.Pointwise

@[expose] public section

noncomputable section

namespace Cert.FfnIdeal.Hand

open Idealize.ShloMosaic Idealize.ShloMosaic.TcCoe Idealize.SL.Sem
open Cert.FfnIdeal.Gen

variable {F : FTy → Type} [FloatOps F]
variable (m : (ℓ : Loc nD τ sig) → Buf (Elt F) ℓ)

theorem idx0 : ∀ t : Fin cfg0.N, win0_0.index t = ![16 * (t.val % 8) + t.val / 8, 0, 0] := (by decide +kernel : ∀ t : Fin grid0.N, _)

theorem t_lt (t : Fin cfg0.N) : t.val < 128 := t.isLt

/-- The batch and the expert of a point. -/
def bt (t : Fin cfg0.N) : Fin 8 := ⟨t.val % 8, Nat.mod_lt _ (by decide)⟩
def ex (t : Fin cfg0.N) : Fin 16 := ⟨t.val / 8, by have := t_lt t; omega⟩

theorem wix_eq (y : S1x1x1024.Idx) : y = wix (y 2).val (y 2).isLt := funext fun a => Fin.ext (by
  fin_cases a
  · have : (y 0).val < 1 := (y 0).isLt
    show (y 0).val = 0; omega
  · have : (y 1).val < 1 := (y 1).isLt
    show (y 1).val = 0; omega
  · rfl)

theorem V5 (c : Dev nD) : V m c main_v5 = shapeCast S128x1x1024 (m ((c.tc : Thread nD τ).loc main_arg0)) shapeCasts_S8x16x1024_S128x1x1024 := by
  rfl

theorem words (c : Dev nD) (t : Fin cfg0.N) (k : ℕ) (hk : k < 1024) :
    iblk m c 0 t (wix k hk) = m ((c.tc : Thread nD τ).loc main_arg0) (FfnPre.at3 (bt t) (ex t) ⟨k, hk⟩) := by
  blk_ext! [iblk, V, idx0 t, bt, ex, wix, FfnPre.at3]

end Cert.FfnIdeal.Hand

end
-- ==== Proof.FfnIdealFrame.lean ====
/- The experts' idealized call: every point's body run put together into the call's run, and its frame. -/
module

public import proofs.«01_k».proof.Proof.FfnIdealWords
public import Idealize.ShloMosaic.Lib.Pipeline.FrameBody

@[expose] public section

set_option maxRecDepth 16384

noncomputable section

namespace Cert.FfnIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FfnIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The arrays the body itself reads and writes: the tokens' rows and the results' rows. -/
def R0 : Finset (Ref sig .tc) := {main_v0, main_v6}
/-- It lends nothing else. -/
def H0 : Finset (Ref sig .tc) := ∅

theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

theorem frame_ofD (dats : (p : Fin 1) → (c : Dev nD) → Dat τ (Elt F) Unit ℕ (Pipeline.UD sig nD τ) ℕ (cfgs p) c)
    (h : θ_run defs (onTc (τ := τ) (main (F := F))) (s₀ m ρ) (fun r => Pipeline.FramePostR cfgs dats 0 R0 (V m) r ∧ r.2.sem = fun _ => 0)) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨((h.1 c).2 main_arg0 (Finset.mem_sdiff.mpr ⟨Pipeline.mem_restRefs_of main_arg0 (by decide) (by decide), by decide⟩)).trans (V_main_arg0 m c),
      ((h.1 c).2 main_arg1 (Finset.mem_sdiff.mpr ⟨Pipeline.mem_restRefs_of main_arg1 (by decide) (by decide), by decide⟩)).trans (V_main_arg1 m c),
      ((h.1 c).2 main_arg2 (Finset.mem_sdiff.mpr ⟨Pipeline.mem_restRefs_of main_arg2 (by decide) (by decide), by decide⟩)).trans (V_main_arg2 m c),
      ((h.1 c).2 main_arg3 (Finset.mem_sdiff.mpr ⟨Pipeline.mem_restRefs_of main_arg3 (by decide) (by decide), by decide⟩)).trans (V_main_arg3 m c),
      ((h.1 c).2 main_arg4 (Finset.mem_sdiff.mpr ⟨Pipeline.mem_restRefs_of main_arg4 (by decide) (by decide), by decide⟩)).trans (V_main_arg4 m c),
      ((h.1 c).2 main_arg5 (Finset.mem_sdiff.mpr ⟨Pipeline.mem_restRefs_of main_arg5 (by decide) (by decide), by decide⟩)).trans (V_main_arg5 m c)⟩, h.2⟩) h

/-- The body's three counters. -/
abbrev osem0 : Fin 3 → SemLoc sig := fun j => (![SemLoc.dma 8, SemLoc.dma 9, SemLoc.dma 10] : Fin 3 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 8) 0 ∗ semVal ((c : Thread nD τ), SemLoc.dma 9) 0
          ∗ semVal ((c : Thread nD τ), SemLoc.dma 10) 0) := by
  rw [Pipeline.ownSems0_eq_of_list c osem0 [0, 1, 2] (by decide) (by decide)]; rfl
theorem H0_sub : H0 ⊆ Pipeline.restRefs sig spec0 := by decide
theorem R0_sub : R0 ⊆ Pipeline.restRefs sig spec0 \ H0 := by decide
theorem ownedPts0_eq (c : Dev nD) :
    (Pipeline.owned R0 c : sProp 𝕄) = iprop(whole (F := F) c main_v0 ∗ whole (F := F) c main_v6) := by
  unfold Pipeline.owned; rw [BI.bigSep_eq_bigSepL_of_eq [main_v0, main_v6] (by decide) (by decide)]; rfl

theorem PhiDR0_eq (c : Dev nD) :
    (Pipeline.ΦDR osem0 spec0 H0 R0 (V m) c : sProp 𝕄)
      = iprop(iprop(whole (F := F) c cc0_scratch0 ∗ whole (F := F) c cc0_scratch1)
          ∗ (∃ r, prngReg c r)
          ∗ iprop(semVal ((c : Thread nD τ), SemLoc.dma 8) 0 ∗ semVal ((c : Thread nD τ), SemLoc.dma 9) 0
                  ∗ semVal ((c : Thread nD τ), SemLoc.dma 10) 0)
          ∗ (bigSep H0 (fun b => ((c : Thread nD τ).loc b) ↦{fullShare} V m c b) : sProp 𝕄)
          ∗ iprop(whole (F := F) c main_v0 ∗ whole (F := F) c main_v6)) := by
  rw [Pipeline.ΦDR_eq, scopedRest0_eq, ownSems00_eq, ownedPts0_eq]; try rfl

/-- The data of the one pipeline: the windows' blocks stay as read, the body's arrays and counters are the invariant. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
  Φ _ := Pipeline.ΦDR osem0 spec0 H0 R0 (V m) c
  q _ := fullShare
  owed _ := 0

theorem A_eq (c : Dev nD) (w : Fin cfg0.W) : (dats m 0 c).A w = V m c (Pipeline.arrRef spec0 w) := by
  dsimp only [dats]

theorem before0 (c : Dev nD) (t : Fin cfg0.N) (d) : (dats m 0 c).before 0 t d = iblk m c 0 t :=
  ((dats m 0 c).before_in_eq_fetched 0 rfl (fun _ => rfl) (fun _ _ _ => rfl) (fun t => rfl) t d).trans rfl
theorem before1 (c : Dev nD) (t : Fin cfg0.N) (d) : (dats m 0 c).before 1 t d = iblk m c 1 t :=
  ((dats m 0 c).before_in_eq_fetched 1 rfl (fun _ => rfl) (fun _ _ _ => rfl) (fun t => rfl) t d).trans rfl
theorem before2 (c : Dev nD) (t : Fin cfg0.N) (d) : (dats m 0 c).before 2 t d = iblk m c 2 t :=
  ((dats m 0 c).before_in_eq_fetched 2 rfl (fun _ => rfl) (fun _ _ _ => rfl) (fun t => rfl) t d).trans rfl
theorem before3 (c : Dev nD) (t : Fin cfg0.N) (d) : (dats m 0 c).before 3 t d = iblk m c 3 t :=
  ((dats m 0 c).before_in_eq_fetched 3 rfl (fun _ => rfl) (fun _ _ _ => rfl) (fun t => rfl) t d).trans rfl

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

variable [∀ e, Nonempty (Elt F e)]
variable (hsmall : ∀ (c : Dev nD) i, (m ((c.tc : Thread nD τ).loc main_arg0) i : BitVec 32).toNat < 8192)
variable (hapart : ∀ (c : Dev nD) b e k k', m ((c.tc : Thread nD τ).loc main_arg0) (FfnPre.at3 b e k) = m ((c.tc : Thread nD τ).loc main_arg0) (FfnPre.at3 b e k') → k = k')

include hsmall in
theorem words_lt (c : Dev nD) (t : Fin cfg0.N) (y : S1x1x1024.Idx) : (iblk m c 0 t y : BitVec 32).toNat < 8192 := by
  rw [wix_eq y]
  exact (congrArg BitVec.toNat (words m c t _ _)).trans_lt (hsmall c _)

include hapart in
theorem words_inj (c : Dev nD) (t : Fin cfg0.N) (k k' : ℕ) (hk : k < 1024) (hk' : k' < 1024) (h : wd (iblk m c 0 t) k hk = wd (iblk m c 0 t) k' hk') : k = k' :=
  Fin.ext_iff.mp (hapart c _ _ ⟨k, hk⟩ ⟨k', hk'⟩ ((words m c t k hk).symm.trans (h.trans (words m c t k' hk'))))

include hsmall hapart in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl]
  rw [show (dats m 0 c).Φ t.castSucc = Pipeline.ΦDR osem0 spec0 H0 R0 (V m) c from rfl, PhiDR0_eq]
  unfold Dat.owesAt Pipeline.owesWithin
  rw [show (dats m 0 c).owed t.castSucc = 0 from rfl, show (dats m 0 c).owed t.succ = 0 from rfl]
  rw [show (dats m 0 c).after 0 t = iblk m c 0 t from rfl, show (dats m 0 c).after 1 t = iblk m c 1 t from rfl,
    show (dats m 0 c).after 2 t = iblk m c 2 t from rfl, show (dats m 0 c).after 3 t = iblk m c 3 t from rfl]
  iintro ⟨⟨⟨HS0, HS1⟩, Hg, ⟨Hq0, Hq1, Hq2⟩, He, ⟨HV0, HV6⟩⟩, ⟨%W, -, HW⟩, ⟨%d0, H0⟩, ⟨%d1, H1⟩, ⟨%d2, H2⟩, ⟨%d3, H3⟩⟩
  iapply (kernelRun c (grid0.coords t) (iblk m c 0 t) (words_lt m hsmall c t) _ _ (words_inj m hapart c t) _ _ _ _ _ _ (iblk m c 1 t) (iblk m c 2 t) (iblk m c 3 t) W _)
  isplitl [H0]; · iexact H0
  isplitl [H1]; · iexact H1
  isplitl [H2]; · iexact H2
  isplitl [H3]; · iexact H3
  isplitl [HS0]; · iexact HS0
  isplitl [HS1]; · iexact HS1
  isplitl [HV0]; · iexact HV0
  isplitl [HV6]; · iexact HV6
  isplitl [Hq0]; · iexact Hq0
  isplitl [Hq1]; · iexact Hq1
  isplitl [Hq2]; · iexact Hq2
  isplitl [HW]; · iexact HW
  iintro ⟨H0, H1, H2, H3, HS0, HS1, HV0, HV6, Hq0, Hq1, Hq2, ⟨%W', HW'⟩⟩
  isplitl [HS0 HS1 HV0 HV6 Hg Hq0 Hq1 Hq2 He]
  · isplitl [HS0 HS1]
    · isplitl [HS0]; · iexact HS0
      iexact HS1
    isplitl [Hg]; · iexact Hg
    isplitl [Hq0 Hq1 Hq2]
    · isplitl [Hq0]; · iexact Hq0
      isplitl [Hq1]; · iexact Hq1
      iexact Hq2
    isplitl [He]; · iexact He
    isplitl [HV0]; · iexact HV0
    iexact HV6
  isplitl [HW']
  · iexists W'; isplitr; · ipureintro; exact fun _ _ => Or.inl trivial
    iexact HW'
  isplitl [H0]; · iexact H0
  isplitl [H1]; · iexact H1
  isplitl [H2]; · iexact H2
  iexact H3

theorem defs₀_row (t : Fin cfg0.N) :
    defs₀ (F := F) .tc cfg0.body (cfg0.bodyArgs t (cfg0.slots t)) = bodyAt0 t := by
  unfold defs₀; rw [Defs.onTc_tc]

include hsmall hapart in
theorem body_obligation (c : Dev nD) : BodyObligation (dats (F := F) m 0 c) (defs₀ (F := F)) Variants.none () Set.univ := fun t => by
  rw [bigSep_W0, bigSep_W0, defs₀_row]
  exact triple_restated (sound_body m hsmall hapart c t) rfl .rfl fun _ => .rfl

include hsmall hapart in
set_option backward.isDefEq.respectTransparency.types false in
theorem run_main : θ_run defs (onTc (τ := τ) (main (F := F))) (s₀ m ρ) (fun r => Pipeline.FramePostR cfgs (dats m) 0 R0 (V m) r ∧ r.2.sem = fun _ => 0) :=
  Pipeline.θ_run_frame_dmaR (Q' := _) cfgs (dats m) (0 : Fin 1) launch0 osem0 defs₀ Variants.none ownSemFacts0 H0 R0 H0_sub R0_sub m ρ main
    (hbody := fun c => (body_obligation m hsmall hapart c).loose) (hshare := fun c => (dats m 0 c).share_full fun _ => rfl)
    (howed := fun _ _ => rfl) (V := V m) (hmain := hmainD m Variants.none) (hA := A_eq m)
    (hin := fun _ => .rfl) (hout := fun _ => .rfl)

include hsmall hapart in
/-- The experts' call runs, its arguments end unchanged and every counter ends at zero. -/
theorem frameRun : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  frame_ofD m ρ (dats m) (run_main m ρ hsmall hapart)

end Cert.FfnIdeal.Hand

end
-- ==== Proof.FfnValRows.lean ====
/- The experts' idealized call: the rows its copies move, with their contents. -/
module

public import proofs.«01_k».proof.Proof.FfnIdealRows
public import Idealize.ShloMosaic.Lib.Pointwise

@[expose] public section

set_option maxRecDepth 16384

noncomputable section

namespace Cert.FfnIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.FfnIdeal.Gen Cert.FfnIdeal.Hand

variable {F : FTy → Type} [FloatOps F]

local notation "𝕄" => MT nD τ sig Unit (Elt F) ℕ (Pipeline.UD sig nD τ) ℕ

abbrev r1 (k : Fin k0_t1_loop.trips) : k.val < 1024 := trips1 ▸ k.isLt
abbrev r4 (k : Fin k0_t4_loop.trips) : k.val < 1024 := trips4 ▸ k.isLt

/-! ## An element of a row -/

theorem m9_emb (k : Fin k0_t1_loop.trips) (j : Fin 1152) : (m9 k).view.emb (ix2 0 j) = (ix2 ⟨k.val, r1 k⟩ j : S1024x1152.Idx) := by
  funext a; refine Fin.ext ?_
  have h := congrFun (k0_off2_eq k) a
  fin_cases a
  · show k0_off2 k 0 + 1 * 0 = k.val
    exact (congrArg (· + 1 * 0) h)
  · show k0_off2 k 1 + 1 * j.val = j.val
    refine (congrArg (· + 1 * j.val) h).trans ?_
    show 0 + 1 * j.val = j.val; omega
theorem m10_emb (k : Fin k0_t1_loop.trips) (j : Fin 1024) : (m10 k).view.emb (ix2 0 j) = (ix2 ⟨k.val, r1 k⟩ j : S1024x1024.Idx) := by
  funext a; refine Fin.ext ?_
  have h := congrFun (k0_off5_eq k) a
  fin_cases a
  · show k0_off5 k 0 + 1 * 0 = k.val
    exact (congrArg (· + 1 * 0) h)
  · show k0_off5 k 1 + 1 * j.val = j.val
    refine (congrArg (· + 1 * j.val) h).trans ?_
    show 0 + 1 * j.val = j.val; omega
theorem m10'_emb (k : Fin k0_t4_loop.trips) (j : Fin 1024) : (m10' k).view.emb (ix2 0 j) = (ix2 ⟨k.val, r4 k⟩ j : S1024x1024.Idx) := by
  funext a; refine Fin.ext ?_
  have h := congrFun (k0_off18_eq k) a
  fin_cases a
  · show k0_off18 k 0 + 1 * 0 = k.val
    exact (congrArg (· + 1 * 0) h)
  · show k0_off18 k 1 + 1 * j.val = j.val
    refine (congrArg (· + 1 * j.val) h).trans ?_
    show 0 + 1 * j.val = j.val; omega
theorem m3_emb (i : grid0.Coords) (v : BitVec 32) (h : v.toNat < 8192) (j : Fin 1152) :
    (m3 i v (chk1_of i v h)).view.emb (ix2 0 j) = (ix2 ⟨(i 1).val * 8192 + v.toNat, row_lt i v h⟩ j : S65536x1152.Idx) := by
  have h0 : k0_off3 i v 0 = (i 1).val * 8192 + v.toNat := congrFun (off3_row i v h) 0
  have h1 : k0_off3 i v 1 = 0 := congrFun (off3_row i v h) 1
  funext a; refine Fin.ext ?_
  fin_cases a
  · show k0_off3 i v 0 + 1 * 0 = (i 1).val * 8192 + v.toNat
    rw [h0, Nat.mul_zero, Nat.add_zero]
  · show k0_off3 i v 1 + 1 * j.val = j.val
    rw [h1, Nat.one_mul, Nat.zero_add]
theorem m8_emb (i : grid0.Coords) (v : BitVec 32) (h : v.toNat < 8192) (j : Fin 1024) :
    (m8 i v (chk2_of i v h)).view.emb (ix2 0 j) = (ix2 ⟨(i 1).val * 8192 + v.toNat, row_lt i v h⟩ j : S65536x1024.Idx) := by
  have h0 : k0_off6 i v 0 = (i 1).val * 8192 + v.toNat := congrFun (off6_row i v h) 0
  have h1 : k0_off6 i v 1 = 0 := congrFun (off6_row i v h) 1
  funext a; refine Fin.ext ?_
  fin_cases a
  · show k0_off6 i v 0 + 1 * 0 = (i 1).val * 8192 + v.toNat
    rw [h0, Nat.mul_zero, Nat.add_zero]
  · show k0_off6 i v 1 + 1 * j.val = j.val
    rw [h1, Nat.one_mul, Nat.zero_add]
theorem m8'_emb (i : grid0.Coords) (v : BitVec 32) (h : v.toNat < 8192) (j : Fin 1024) :
    (m8' i v (chk5_of i v h)).view.emb (ix2 0 j) = (ix2 ⟨(i 1).val * 8192 + v.toNat, row_lt i v h⟩ j : S65536x1024.Idx) := by
  have h0 : k0_off17 i v 0 = (i 1).val * 8192 + v.toNat := congrFun (off17_row i v h) 0
  have h1 : k0_off17 i v 1 = 0 := congrFun (off17_row i v h) 1
  funext a; refine Fin.ext ?_
  fin_cases a
  · show k0_off17 i v 0 + 1 * 0 = (i 1).val * 8192 + v.toNat
    rw [h0, Nat.mul_zero, Nat.add_zero]
  · show k0_off17 i v 1 + 1 * j.val = j.val
    rw [h1, Nat.one_mul, Nat.zero_add]

theorem row_ix2 (n d : ℕ) (r : Fin n) (y : Shape.Idx ⟨2, ![n, d]⟩) (hy : y ∈ rowS n d r) : y = ix2 r (y 1) := by
  simp only [rowS, Finset.mem_filter, Finset.mem_univ, _root_.true_and] at hy
  funext a; refine Fin.ext ?_
  fin_cases a
  · exact hy
  · rfl

/-! ## What the body holds -/

section Own
variable (c : Dev nD)

abbrev Bf (c : Dev nD) (b : Ref sig .tc) := Buf (Elt F) ((c : Thread nD τ).loc b)

/-- A buffer's contents, as a row's. -/
def as9 (f : Bf (F := F) c cc0_scratch0) (k : Fin k0_t1_loop.trips) : Buf (Elt F) ((m9 k).view.loc (c : Thread nD τ)) := f
def as10 (f : Bf (F := F) c cc0_scratch1) (k : Fin k0_t1_loop.trips) : Buf (Elt F) ((m10 k).view.loc (c : Thread nD τ)) := f
def as10' (f : Bf (F := F) c cc0_scratch1) (k : Fin k0_t4_loop.trips) : Buf (Elt F) ((m10' k).view.loc (c : Thread nD τ)) := f

abbrev own9 (f : Bf (F := F) c cc0_scratch0) (k : Fin k0_t1_loop.trips) : sProp 𝕄 := (m9 k).view.loc (c : Thread nD τ) ↦[(m9 k).view.set]{fullShare} as9 c f k
abbrev own10 (f : Bf (F := F) c cc0_scratch1) (k : Fin k0_t1_loop.trips) : sProp 𝕄 := (m10 k).view.loc (c : Thread nD τ) ↦[(m10 k).view.set]{fullShare} as10 c f k
abbrev own10' (f : Bf (F := F) c cc0_scratch1) (k : Fin k0_t4_loop.trips) : sProp 𝕄 := (m10' k).view.loc (c : Thread nD τ) ↦[(m10' k).view.set]{fullShare} as10' c f k

variable (i : grid0.Coords) (x0 : S1x1x1024.Idx → BitVec 32) (hx : ∀ y, (x0 y).toNat < 8192)

abbrev w3 (k : Fin k0_t1_loop.trips) := m3 i (wd x0 k.val (r1 k)) (chk1_of i _ (hx _))
abbrev w8 (k : Fin k0_t1_loop.trips) := m8 i (wd x0 k.val (r1 k)) (chk2_of i _ (hx _))
abbrev w8' (k : Fin k0_t4_loop.trips) := m8' i (wd x0 k.val (r4 k)) (chk5_of i _ (hx _))

def as3 (f : Bf (F := F) c main_v0) (k : Fin k0_t1_loop.trips) : Buf (Elt F) ((w3 i x0 hx k).view.loc (c : Thread nD τ)) := f
def as8 (f : Bf (F := F) c main_v6) (k : Fin k0_t1_loop.trips) : Buf (Elt F) ((w8 i x0 hx k).view.loc (c : Thread nD τ)) := f
def as8' (f : Bf (F := F) c main_v6) (k : Fin k0_t4_loop.trips) : Buf (Elt F) ((w8' i x0 hx k).view.loc (c : Thread nD τ)) := f

abbrev own3 (f : Bf (F := F) c main_v0) (k : Fin k0_t1_loop.trips) : sProp 𝕄 :=
  (w3 i x0 hx k).view.loc (c : Thread nD τ) ↦[(w3 i x0 hx k).view.set]{fullShare} as3 c i x0 hx f k
abbrev own8 (f : Bf (F := F) c main_v6) (k : Fin k0_t1_loop.trips) : sProp 𝕄 :=
  (w8 i x0 hx k).view.loc (c : Thread nD τ) ↦[(w8 i x0 hx k).view.set]{fullShare} as8 c i x0 hx f k
abbrev own8' (f : Bf (F := F) c main_v6) (k : Fin k0_t4_loop.trips) : sProp 𝕄 :=
  (w8' i x0 hx k).view.loc (c : Thread nD τ) ↦[(w8' i x0 hx k).view.set]{fullShare} as8' c i x0 hx f k

variable (f9 : Bf (F := F) c cc0_scratch0) (f10 : Bf (F := F) c cc0_scratch1) (f3 : Bf (F := F) c main_v0) (f8 : Bf (F := F) c main_v6)

/-- What each transfer hands back: its destination's row as written, its source's row as it was. -/
def D0 (k : Fin k0_t1_loop.trips) : sProp 𝕄 :=
  iprop(((m9 k).view.loc (c : Thread nD τ) ↦[(m9 k).view.set]{fullShare} View.write (Elt F) (m9 k).view (as9 c f9 k) (ReadAs.same.apply ((w3 i x0 hx k).view.read (Elt F) (as3 c i x0 hx f3 k))) Finset.univ) ∗ own3 c i x0 hx f3 k)
def D1 (k : Fin k0_t1_loop.trips) : sProp 𝕄 :=
  iprop(((m10 k).view.loc (c : Thread nD τ) ↦[(m10 k).view.set]{fullShare} View.write (Elt F) (m10 k).view (as10 c f10 k) (ReadAs.same.apply ((w8 i x0 hx k).view.read (Elt F) (as8 c i x0 hx f8 k))) Finset.univ) ∗ own8 c i x0 hx f8 k)
def D2 (k : Fin k0_t4_loop.trips) : sProp 𝕄 :=
  iprop(((w8' i x0 hx k).view.loc (c : Thread nD τ) ↦[(w8' i x0 hx k).view.set]{fullShare} View.write (Elt F) (w8' i x0 hx k).view (as8' c i x0 hx f8 k) (ReadAs.same.apply ((m10' k).view.read (Elt F) (as10' c f10 k))) Finset.univ) ∗ own10' c f10 k)
instance D0_st (k : Fin k0_t1_loop.trips) : BI.Storable (upEmb : UEmb _ 𝕄) (D0 (F := F) c i x0 hx f9 f3 k) := by unfold D0; infer_instance
instance D1_st (k : Fin k0_t1_loop.trips) : BI.Storable (upEmb : UEmb _ 𝕄) (D1 (F := F) c i x0 hx f10 f8 k) := by unfold D1; infer_instance
instance D2_st (k : Fin k0_t4_loop.trips) : BI.Storable (upEmb : UEmb _ 𝕄) (D2 (F := F) c i x0 hx f10 f8 k) := by unfold D2; infer_instance

abbrev B0 (j u : ℕ) : sProp 𝕄 :=
  Transfers.Batch (countersEmb (U := Pipeline.UD sig nD τ)) (c : Thread nD τ) (.dma 8) () 144 (D0 (F := F) c i x0 hx f9 f3) j u
abbrev B1 (j u : ℕ) : sProp 𝕄 :=
  Transfers.Batch (countersEmb (U := Pipeline.UD sig nD τ)) (c : Thread nD τ) (.dma 9) () 128 (D1 (F := F) c i x0 hx f10 f8) j u
abbrev B2 (j u : ℕ) : sProp 𝕄 :=
  Transfers.Batch (countersEmb (U := Pipeline.UD sig nD τ)) (c : Thread nD τ) (.dma 10) () 128 (D2 (F := F) c i x0 hx f10 f8) j u

/-- The row the `k`-th word names. -/
abbrev rw0 (k : Fin 1024) : Fin 65536 := rho i x0 hx 1024 rfl k

/-- The gathered rows. -/
def G9 (c : Dev nD) (i : grid0.Coords) (x0 : S1x1x1024.Idx → BitVec 32) (hx : ∀ y, (x0 y).toNat < 8192) (f3 : Bf (F := F) c main_v0) : Bf (F := F) c cc0_scratch0 := fun y : S1024x1152.Idx => f3 (ix2 (rw0 i x0 hx (y 0)) (y 1) : S65536x1152.Idx)
def G10 (c : Dev nD) (i : grid0.Coords) (x0 : S1x1x1024.Idx → BitVec 32) (hx : ∀ y, (x0 y).toNat < 8192) (f8 : Bf (F := F) c main_v6) : Bf (F := F) c cc0_scratch1 := fun y : S1024x1024.Idx => f8 (ix2 (rw0 i x0 hx (y 0)) (y 1) : S65536x1024.Idx)

theorem land0 (k : Fin k0_t1_loop.trips) : (D0 c i x0 hx f9 f3 k : sProp 𝕄) = iprop(own9 c (G9 c i x0 hx f3) k ∗ own3 c i x0 hx f3 k) := by
  unfold D0 own9
  congr 1
  refine pointsTo_congr fun (y : S1024x1152.Idx) hy => ?_
  rw [m9_set] at hy
  have e := (row_ix2 1024 1152 _ y hy).trans (m9_emb k (y 1)).symm
  refine (congrArg (View.write (Elt F) (m9 k).view (as9 c f9 k) _ Finset.univ) e).trans ?_
  refine (View.write_emb_of_mem _ _ (Finset.mem_univ _)).trans ?_
  refine Eq.trans ?_ (congrArg (G9 c i x0 hx f3) ((row_ix2 1024 1152 _ y hy).symm))
  exact congrArg f3 (m3_emb i _ (hx (wix k.val (r1 k))) (y 1))
theorem land1 (k : Fin k0_t1_loop.trips) : (D1 c i x0 hx f10 f8 k : sProp 𝕄) = iprop(own10 c (G10 c i x0 hx f8) k ∗ own8 c i x0 hx f8 k) := by
  unfold D1 own10
  congr 1
  refine pointsTo_congr fun (y : S1024x1024.Idx) hy => ?_
  rw [m10_set] at hy
  have e := (row_ix2 1024 1024 _ y hy).trans (m10_emb k (y 1)).symm
  refine (congrArg (View.write (Elt F) (m10 k).view (as10 c f10 k) _ Finset.univ) e).trans ?_
  refine (View.write_emb_of_mem _ _ (Finset.mem_univ _)).trans ?_
  refine Eq.trans ?_ (congrArg (G10 c i x0 hx f8) ((row_ix2 1024 1024 _ y hy).symm))
  exact congrArg f8 (m8_emb i _ (hx (wix k.val (r1 k))) (y 1))
/-- The results' array after the rows went back, any `g` that has them. -/
theorem land2 (g : Bf (F := F) c main_v6)
    (hg : ∀ (k : Fin 1024) (j : Fin 1024), g (ix2 (rw0 i x0 hx k) j : S65536x1024.Idx) = f10 (ix2 k j : S1024x1024.Idx)) (k : Fin k0_t4_loop.trips) :
    (D2 c i x0 hx f10 f8 k : sProp 𝕄) = iprop(own8' c i x0 hx g k ∗ own10' c f10 k) := by
  unfold D2 own8'
  congr 1
  refine pointsTo_congr fun (y : S65536x1024.Idx) hy => ?_
  rw [m8'_set i _ (hx _)] at hy
  have e := (row_ix2 65536 1024 _ y hy).trans (m8'_emb i _ (hx (wix k.val (r4 k))) (y 1)).symm
  refine (congrArg (View.write (Elt F) (w8' i x0 hx k).view (as8' c i x0 hx f8 k) _ Finset.univ) e).trans ?_
  refine (View.write_emb_of_mem _ _ (Finset.mem_univ _)).trans ?_
  refine Eq.trans ?_ (congrArg g ((row_ix2 65536 1024 _ y hy).symm))
  refine Eq.trans ?_ (hg ⟨k.val, r4 k⟩ (y 1)).symm
  exact congrArg f10 (m10'_emb k (y 1))

/-! ### Split and joined -/

theorem scr_eq {ℓ : Loc nD τ sig} (T : ℕ) (hT : T = 1024) (I : Fin 1024 → Finset (Idx ℓ)) (hd : ∀ b b', b ≠ b' → Disjoint (I b) (I b'))
    (hc : Finset.univ.biUnion I = Finset.univ) (f : Buf (Elt F) ℓ) :
    (ℓ ↦{fullShare} f : sProp 𝕄) = bigSep Finset.univ (fun k : Fin T => (ℓ ↦[I ⟨k.val, hT ▸ k.isLt⟩]{fullShare} f : sProp 𝕄)) := by
  subst hT
  exact Ring.pointsTo_blocks I hd hc f

theorem all9 (f : Bf (F := F) c cc0_scratch0) : (((c : Thread nD τ).loc cc0_scratch0) ↦{fullShare} f : sProp 𝕄) = bigSep Finset.univ (own9 c f) := by
  refine (scr_eq (ℓ := (c : Thread nD τ).loc cc0_scratch0) _ trips1 (rowS 1024 1152) (rowS_disjoint 1024 1152) (rowS_cover 1024 1152) f).trans (BI.bigSep_congr fun k _ => ?_)
  unfold own9; rw [m9_set]; rfl
theorem all10 (f : Bf (F := F) c cc0_scratch1) : (((c : Thread nD τ).loc cc0_scratch1) ↦{fullShare} f : sProp 𝕄) = bigSep Finset.univ (own10 c f) := by
  refine (scr_eq (ℓ := (c : Thread nD τ).loc cc0_scratch1) _ trips1 (rowS 1024 1024) (rowS_disjoint 1024 1024) (rowS_cover 1024 1024) f).trans (BI.bigSep_congr fun k _ => ?_)
  unfold own10; rw [m10_set]; rfl
theorem all10' (f : Bf (F := F) c cc0_scratch1) : (((c : Thread nD τ).loc cc0_scratch1) ↦{fullShare} f : sProp 𝕄) = bigSep Finset.univ (own10' c f) := by
  refine (scr_eq (ℓ := (c : Thread nD τ).loc cc0_scratch1) _ trips4 (rowS 1024 1024) (rowS_disjoint 1024 1024) (rowS_cover 1024 1024) f).trans (BI.bigSep_congr fun k _ => ?_)
  unfold own10'; rw [m10'_set]; rfl

variable (hinj : ∀ k k' (hk : k < 1024) (hk' : k' < 1024), wd x0 k hk = wd x0 k' hk' → k = k')

/-- The rows no word names. -/
abbrev rest3 (f : Bf (F := F) c main_v0) : sProp 𝕄 := bigSep (Finset.univ \ Finset.univ.image (rho i x0 hx _ trips1))
  (fun r => (((c : Thread nD τ).loc main_v0) ↦[rowS 65536 1152 r]{fullShare} f : sProp 𝕄))
abbrev rest8 (f : Bf (F := F) c main_v6) : sProp 𝕄 := bigSep (Finset.univ \ Finset.univ.image (rho i x0 hx _ trips1))
  (fun r => (((c : Thread nD τ).loc main_v6) ↦[rowS 65536 1024 r]{fullShare} f : sProp 𝕄))
abbrev rest8' (f : Bf (F := F) c main_v6) : sProp 𝕄 := bigSep (Finset.univ \ Finset.univ.image (rho i x0 hx _ trips4))
  (fun r => (((c : Thread nD τ).loc main_v6) ↦[rowS 65536 1024 r]{fullShare} f : sProp 𝕄))

include hinj in
theorem all3 (f : Bf (F := F) c main_v0) :
    (((c : Thread nD τ).loc main_v0) ↦{fullShare} f : sProp 𝕄) = iprop(bigSep Finset.univ (own3 c i x0 hx f) ∗ rest3 c i x0 hx f) := by
  refine (Ring.pointsTo_blocks (ℓ := (c : Thread nD τ).loc main_v0) (rowS 65536 1152) (rowS_disjoint 65536 1152) (rowS_cover 65536 1152) f).trans ?_
  refine (sep_image_sdiff (s := Finset.univ) (t := Finset.univ) (f := rho i x0 hx _ trips1) ((rho_inj i x0 hx hinj _ _).injOn) (fun _ _ => Finset.mem_univ _)
    (Φ := fun r => (((c : Thread nD τ).loc main_v0) ↦[rowS 65536 1152 r]{fullShare} f : sProp 𝕄))).trans ?_
  refine congrArg (fun P : sProp 𝕄 => iprop(P ∗ rest3 c i x0 hx f)) (BI.bigSep_congr fun k _ => ?_)
  unfold own3 w3; rw [m3_set i _ (hx _)]; rfl
include hinj in
theorem all8 (f : Bf (F := F) c main_v6) :
    (((c : Thread nD τ).loc main_v6) ↦{fullShare} f : sProp 𝕄) = iprop(bigSep Finset.univ (own8 c i x0 hx f) ∗ rest8 c i x0 hx f) := by
  refine (Ring.pointsTo_blocks (ℓ := (c : Thread nD τ).loc main_v6) (rowS 65536 1024) (rowS_disjoint 65536 1024) (rowS_cover 65536 1024) f).trans ?_
  refine (sep_image_sdiff (s := Finset.univ) (t := Finset.univ) (f := rho i x0 hx _ trips1) ((rho_inj i x0 hx hinj _ _).injOn) (fun _ _ => Finset.mem_univ _)
    (Φ := fun r => (((c : Thread nD τ).loc main_v6) ↦[rowS 65536 1024 r]{fullShare} f : sProp 𝕄))).trans ?_
  refine congrArg (fun P : sProp 𝕄 => iprop(P ∗ rest8 c i x0 hx f)) (BI.bigSep_congr fun k _ => ?_)
  unfold own8 w8; rw [m8_set i _ (hx _)]; rfl
include hinj in
theorem all8' (f : Bf (F := F) c main_v6) :
    (((c : Thread nD τ).loc main_v6) ↦{fullShare} f : sProp 𝕄) = iprop(bigSep Finset.univ (own8' c i x0 hx f) ∗ rest8' c i x0 hx f) := by
  refine (Ring.pointsTo_blocks (ℓ := (c : Thread nD τ).loc main_v6) (rowS 65536 1024) (rowS_disjoint 65536 1024) (rowS_cover 65536 1024) f).trans ?_
  refine (sep_image_sdiff (s := Finset.univ) (t := Finset.univ) (f := rho i x0 hx _ trips4) ((rho_inj i x0 hx hinj _ _).injOn) (fun _ _ => Finset.mem_univ _)
    (Φ := fun r => (((c : Thread nD τ).loc main_v6) ↦[rowS 65536 1024 r]{fullShare} f : sProp 𝕄))).trans ?_
  refine congrArg (fun P : sProp 𝕄 => iprop(P ∗ rest8' c i x0 hx f)) (BI.bigSep_congr fun k _ => ?_)
  unfold own8' w8'; rw [m8'_set i _ (hx _)]; rfl

/-- Off the named rows, contents that agree there. -/
theorem rest8'_congr (f g : Bf (F := F) c main_v6)
    (h : ∀ r : Fin 65536, (∀ k : Fin 1024, rw0 i x0 hx k ≠ r) → ∀ j : Fin 1024, f (ix2 r j : S65536x1024.Idx) = g (ix2 r j : S65536x1024.Idx)) :
    (rest8' c i x0 hx f : sProp 𝕄) = rest8' c i x0 hx g := by
  refine BI.bigSep_congr fun r hr => pointsTo_congr fun (y : S65536x1024.Idx) hy => ?_
  have e := row_ix2 65536 1024 _ y hy
  refine (congrArg f e).trans (Eq.trans (h r (fun k hk => ?_) (y 1)) (congrArg g e).symm)
  refine (Finset.mem_sdiff.mp hr).2 (Finset.mem_image.mpr ⟨⟨k.val, by rw [trips4]; exact k.isLt⟩, Finset.mem_univ _, ?_⟩)
  rw [← hk]; rfl

end Own

end Cert.FfnIdeal.Val
-- ==== Proof.FfnValTile.lean ====
/- The experts' idealized call: the tile of the product, read at a row and a column. -/
module

public import proofs.«01_k».proof.Proof.FfnIdealRows
public import Idealize.ShloMosaic.Lib.Pointwise

@[expose] public section

set_option maxRecDepth 16384

noncomputable section

namespace Cert.FfnIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.FfnIdeal.Gen
open Cert.FfnIdeal.Hand (trips1 trips2 trips4 trips5 wd wix m3 m8 m8' m9 m10 m10' efl whole word_eq chk1_of chk2_of chk3_of chk4_of chk5_of chk6_of)

local notation "𝕄" => MT nD τ sig Unit (Elt Ideal) ℕ (Pipeline.UD sig nD τ) ℕ

/-- A row of tokens times column `f` of a weight block. -/
def lin (X : Fin 1024 → EReal) (w : S1x1024x1024.Idx → Elt Ideal .bf16) (f : Fin 1024) : EReal := ∑ d : Fin 1024, X d * w (ix3 0 d f)
/-- What an expert gives for a row of tokens, at column `j`. -/
def out (X : Fin 1024 → EReal) (w1 w2 w3 : S1x1024x1024.Idx → Elt Ideal .bf16) (j : Fin 1024) : EReal :=
  ∑ f : Fin 1024, lin X w1 f * Ideal.div 1 (1 + Ideal.exp (-lin X w1 f)) * lin X w2 f * w3 (ix3 0 f j)
/-- The same times the token's weight of the expert. -/
def add (e : Fin 16) (f : S1024x1152.Idx → EReal) (w1 w2 w3 : S1x1024x1024.Idx → Elt Ideal .bf16) (r j : Fin 1024) : EReal :=
  out (fun d => f (ix2 r ⟨d, by omega⟩)) w1 w2 w3 j * f (ix2 r ⟨1024 + e, by omega⟩)

/-- The token's weight of the expert, by the printed sum over a row of the weights. -/
def gateP (i : grid0.Coords) (v19 : FVec Ideal S256x128 .f32) : FVec Ideal S256x1 .f32 :=
  let v3 : IVec S1x128 32 := iota .tc S1x128 32 [1] iota_S1x128_d1_w32
  let v4 : IVec S1x128 32 := broadcast S1x128 (BitVec.ofNat 32 (i 0).val)
  let v5 : IVec S1x128 1 := cmpi .eq v3 v4
  let v6 : IVec S1x128 32 := extui 32 v5 natLt_1_32
  let v7 : FVec Ideal S1x128 .f32 := sitofp .f32 v6
  let v20 : FVec Ideal S256x128 .f32 := broadcastTo S256x128 v7 broadcasts_S1x128_S256x128
  let v21 : FVec Ideal S256x128 .f32 := mulf v19 v20
  let v22 : FVec Ideal S256 .f32 := multiReduction .add [1] S256 v21 0x00000000#32 reduces_S256x128_S256 (.inl rfl) rfl
  let v23 : FVec Ideal S256x1 .f32 := shapeCast S256x1 v22 shapeCasts_S256_S256x1
  v23
/-- The printed products of a tile. -/
def outP (v16 : FVec Ideal S256x1024 .f32) (v24 v27 v42 : FVec Ideal S1x1024x1024 .bf16) : FVec Ideal S256x1024 .f32 :=
  let v17 : FVec Ideal S256x1024 .bf16 := truncf .bf16 v16 bitsLt_bf16_f32
  let v25 : FVec Ideal S1024x1024 .bf16 := shapeCast S1024x1024 v24 shapeCasts_S1x1024x1024_S1024x1024
  let cst_21 : FVec Ideal S256x1024 .f32 := constant S256x1024 .f32 0x00000000#32
  let v26 : FVec Ideal S256x1024 .f32 := matmul dot_S256x1024_S1024x1024_S256x1024_1_0_0_1_n_n none v17 v25 cst_21
  let v28 : FVec Ideal S1024x1024 .bf16 := shapeCast S1024x1024 v27 shapeCasts_S1x1024x1024_S1024x1024
  let cst_25 : FVec Ideal S256x1024 .f32 := constant S256x1024 .f32 0x00000000#32
  let v29 : FVec Ideal S256x1024 .f32 := matmul dot_S256x1024_S1024x1024_S256x1024_1_0_0_1_n_n none v17 v28 cst_25
  let cst_26 : Ideal .f32 := Scalar.ofBits .f32 0x00000000#32
  let v30 : FVec Ideal S256x1024 .f32 := broadcast S256x1024 cst_26
  let v31 : FVec Ideal S256x1024 .f32 := subf v30 v26
  let v32 : FVec Ideal S256x1024 .f32 := exp v31
  let cst_27 : Ideal .f32 := Scalar.ofBits .f32 0x3F800000#32
  let v33 : FVec Ideal S256x1024 .f32 := broadcast S256x1024 cst_27
  let v34 : FVec Ideal S256x1024 .f32 := addf v33 v32
  let cst_28 : Ideal .f32 := Scalar.ofBits .f32 0x3F800000#32
  let v35 : FVec Ideal S256x1024 .f32 := broadcast S256x1024 cst_28
  let v36 : FVec Ideal S256x1024 .f32 := divf v35 v34
  let v37 : FVec Ideal S256x1024 .f32 := mulf v26 v36
  let v38 : FVec Ideal S256x1024 .f32 := mulf v37 v29
  let v39 : FVec Ideal S256x1024 .bf16 := truncf .bf16 v38 bitsLt_bf16_f32
  let v43 : FVec Ideal S1024x1024 .bf16 := shapeCast S1024x1024 v42 shapeCasts_S1x1024x1024_S1024x1024
  let cst_33 : FVec Ideal S256x1024 .f32 := constant S256x1024 .f32 0x00000000#32
  let v44 : FVec Ideal S256x1024 .f32 := matmul dot_S256x1024_S1024x1024_S256x1024_1_0_0_1_n_n none v39 v43 cst_33
  v44
/-- What a tile stores. -/
def tileP (i : grid0.Coords) (v16 v41 : FVec Ideal S256x1024 .f32) (v19 : FVec Ideal S256x128 .f32) (v24 v27 v42 : FVec Ideal S1x1024x1024 .bf16) : FVec Ideal S256x1024 .f32 :=
  shapeCast S256x1024 (addf v41 (mulf (outP v16 v24 v27 v42) (broadcastTo S256x1024 (gateP i v19) broadcasts_S256x1_S256x1024))) shapeCasts_S256x1024_S256x1024

/-- The expert's column among the lanes: 1 there, 0 elsewhere. -/
theorem lane_at (e : Fin 16) (k : Fin 128) : BitVec.setWidth 32 (IntOp.cmpi CmpIPredicate.eq (BitVec.ofNat 32 k.val) (BitVec.ofNat 32 e.val)) = if k.val = e.val then 1#32 else 0#32 := by
  have h : BitVec.ofNat 32 k.val = BitVec.ofNat 32 e.val ↔ k.val = e.val := by
    constructor
    · intro h
      have := congrArg BitVec.toNat h
      simp only [BitVec.toNat_ofNat] at this
      omega
    · intro h; rw [h]
  by_cases hk : k.val = e.val
  · rw [if_pos hk, h.mpr hk]; simp [IntOp.cmpi]
  · rw [if_neg hk]
    have : ¬ BitVec.ofNat 32 k.val = BitVec.ofNat 32 e.val := fun x => hk (h.mp x)
    simp only [IntOp.cmpi]
    rw [show (BitVec.ofNat 32 k.val == BitVec.ofNat 32 e.val) = false from beq_eq_false_iff_ne.mpr this]; rfl

theorem one_at : (FloatOps.sitofp (F := Ideal) FTy.f32 (1#32) : EReal) = 1 := by
  show (((1#32 : BitVec 32).toInt : ℝ) : EReal) = 1
  norm_num
theorem zero_at : (FloatOps.sitofp (F := Ideal) FTy.f32 (0#32) : EReal) = 0 := by
  show (((0#32 : BitVec 32).toInt : ℝ) : EReal) = 0
  norm_num

theorem gateP_at (i : grid0.Coords) (v19 : FVec Ideal S256x128 .f32) (r : Fin 256) :
    gateP i v19 (ix2 r 0) = v19 (ix2 r ⟨(i 0).val, (show (i 0).val < 16 from (i 0).isLt).trans (by omega)⟩) := by
  pointwise [gateP]
  have hi : (i 0).val < 16 := (i 0).isLt
  refine (Finset.sum_eq_single ⟨(i 0).val, by omega⟩ (fun k _ hk => ?_) (fun h => absurd (Finset.mem_univ _) h)).trans ?_
  · rw [lane_at ⟨(i 0).val, hi⟩ k, if_neg (fun h => hk (Fin.ext h)), zero_at]; exact mul_zero _
  · rw [lane_at ⟨(i 0).val, hi⟩ ⟨(i 0).val, by omega⟩, if_pos rfl, one_at]; exact mul_one _

theorem outP_at (v16 : FVec Ideal S256x1024 .f32) (v24 v27 v42 : FVec Ideal S1x1024x1024 .bf16) (r : Fin 256) (j : Fin 1024) :
    outP v16 v24 v27 v42 (ix2 r j) = out (fun d => v16 (ix2 r d)) v24 v27 v42 j := by
  pointwise [outP, out, lin]
  simp only [zero_sub]

theorem tileP_at (i : grid0.Coords) (v16 v41 : FVec Ideal S256x1024 .f32) (v19 : FVec Ideal S256x128 .f32) (v24 v27 v42 : FVec Ideal S1x1024x1024 .bf16) (r : Fin 256) (j : Fin 1024) :
    tileP i v16 v41 v19 v24 v27 v42 (ix2 r j) = v41 (ix2 r j) + out (fun d => v16 (ix2 r d)) v24 v27 v42 j * v19 (ix2 r ⟨(i 0).val, (show (i 0).val < 16 from (i 0).isLt).trans (by omega)⟩) := by
  pointwise [tileP, outP_at, gateP_at]

/-- The gathered results before tile `k`: the rows of the tiles before it are done. -/
def mid (e : Fin 16) (f : S1024x1152.Idx → EReal) (w1 w2 w3 : S1x1024x1024.Idx → Elt Ideal .bf16) (g : S1024x1024.Idx → EReal) (k : ℕ) : S1024x1024.Idx → EReal :=
  fun y => if (y 0).val < 256 * k then g y + add e f w1 w2 w3 ⟨(y 0).val, (y 0).isLt⟩ ⟨(y 1).val, (y 1).isLt⟩ else g y

theorem trips3 : k0_t3_loop.trips = 4 := by decide
theorem off13 : ∀ k : Fin k0_t3_loop.trips, k0_off13 k = ![256 * k.val, 0] := by decide +kernel
theorem off14 : ∀ k : Fin k0_t3_loop.trips, k0_off14 k = ![256 * k.val, 1024] := by decide +kernel
theorem off15 : ∀ k : Fin k0_t3_loop.trips, k0_off15 k = ![256 * k.val, 0] := by decide +kernel

variable (k : Fin k0_t3_loop.trips)
theorem lt4 : k.val < 4 := trips3 ▸ k.isLt
/-- Row `r` of tile `k`. -/
def rowOf (r : Fin 256) : Fin 1024 := ⟨256 * k.val + r.val, by have := lt4 k; omega⟩

theorem load13 (f : S1024x1152.Idx → EReal) (h) (r : Fin 256) (d : Fin 1024) :
    View.readAt (Elt Ideal) (Memref.whole cc0_scratch0 : Memref sig .tc .vmem S1024x1152 .f32).view (Rect.unit (s := S1024x1152) (k0_off13 k) S256x1024.size h).toLoadRect f (ix2 r d)
      = f (ix2 (rowOf k r) ⟨d.val, by omega⟩) := by
  refine congrArg f ?_
  funext a; refine Fin.ext ?_
  have h := congrFun (off13 k) a
  fin_cases a
  · show k0_off13 k 0 + 1 * r.val = 256 * k.val + r.val
    refine (congrArg (· + 1 * r.val) h).trans ?_
    show 256 * k.val + 1 * r.val = _; omega
  · show k0_off13 k 1 + 1 * d.val = d.val
    refine (congrArg (· + 1 * d.val) h).trans ?_
    show 0 + 1 * d.val = d.val; omega
theorem load14 (f : S1024x1152.Idx → EReal) (h) (r : Fin 256) (d : Fin 128) :
    View.readAt (Elt Ideal) (Memref.whole cc0_scratch0 : Memref sig .tc .vmem S1024x1152 .f32).view (Rect.unit (s := S1024x1152) (k0_off14 k) S256x128.size h).toLoadRect f (ix2 r d)
      = f (ix2 (rowOf k r) ⟨1024 + d.val, by omega⟩) := by
  refine congrArg f ?_
  funext a; refine Fin.ext ?_
  have h := congrFun (off14 k) a
  fin_cases a
  · show k0_off14 k 0 + 1 * r.val = 256 * k.val + r.val
    refine (congrArg (· + 1 * r.val) h).trans ?_
    show 256 * k.val + 1 * r.val = _; omega
  · show k0_off14 k 1 + 1 * d.val = 1024 + d.val
    refine (congrArg (· + 1 * d.val) h).trans ?_
    show 1024 + 1 * d.val = 1024 + d.val; omega
theorem load15 (f : S1024x1024.Idx → EReal) (h) (r : Fin 256) (d : Fin 1024) :
    View.readAt (Elt Ideal) (Memref.whole cc0_scratch1 : Memref sig .tc .vmem S1024x1024 .f32).view (Rect.unit (s := S1024x1024) (k0_off15 k) S256x1024.size h).toLoadRect f (ix2 r d)
      = f (ix2 (rowOf k r) d) := by
  refine congrArg f ?_
  funext a; refine Fin.ext ?_
  have h := congrFun (off15 k) a
  fin_cases a
  · show k0_off15 k 0 + 1 * r.val = 256 * k.val + r.val
    refine (congrArg (· + 1 * r.val) h).trans ?_
    show 256 * k.val + 1 * r.val = _; omega
  · show k0_off15 k 1 + 1 * d.val = d.val
    refine (congrArg (· + 1 * d.val) h).trans ?_
    show 0 + 1 * d.val = d.val; omega
theorem emb15 (h) (r : Fin 256) (d : Fin 1024) :
    ((Memref.whole cc0_scratch1 : Memref sig .tc .vmem S1024x1024 .f32).view.slice (Rect.unit (s := S1024x1024) (k0_off15 k) S256x1024.size h)).emb (ix2 r d) = (ix2 (rowOf k r) d : S1024x1024.Idx) := by
  funext a; refine Fin.ext ?_
  have h := congrFun (off15 k) a
  fin_cases a
  · show k0_off15 k 0 + 1 * r.val = 256 * k.val + r.val
    refine (congrArg (· + 1 * r.val) h).trans ?_
    show 256 * k.val + 1 * r.val = _; omega
  · show k0_off15 k 1 + 1 * d.val = d.val
    refine (congrArg (· + 1 * d.val) h).trans ?_
    show 0 + 1 * d.val = d.val; omega

/-- The tile's store, read at a row and a column. -/
theorem tile_value (i : grid0.Coords) (f : S1024x1152.Idx → EReal) (g : S1024x1024.Idx → EReal) (h13) (h14) (h15) (w1 w2 w3 : S1x1024x1024.Idx → Elt Ideal .bf16) (r : Fin 256) (j : Fin 1024) :
    tileP i (View.readAt (Elt Ideal) (Memref.whole cc0_scratch0 : Memref sig .tc .vmem S1024x1152 .f32).view (Rect.unit (s := S1024x1152) (k0_off13 k) S256x1024.size h13).toLoadRect f)
        (View.readAt (Elt Ideal) (Memref.whole cc0_scratch1 : Memref sig .tc .vmem S1024x1024 .f32).view (Rect.unit (s := S1024x1024) (k0_off15 k) S256x1024.size h15).toLoadRect g)
        (View.readAt (Elt Ideal) (Memref.whole cc0_scratch0 : Memref sig .tc .vmem S1024x1152 .f32).view (Rect.unit (s := S1024x1152) (k0_off14 k) S256x128.size h14).toLoadRect f) w1 w2 w3 (ix2 r j)
      = g (ix2 (rowOf k r) j) + add ⟨(i 0).val, (i 0).isLt⟩ f w1 w2 w3 (rowOf k r) j := by
  refine (tileP_at i _ _ _ _ _ _ r j).trans ?_
  rw [load15, load14]
  refine congrArg (fun X : Fin 1024 → EReal => g (ix2 (rowOf k r) j) + out X w1 w2 w3 j * f (ix2 (rowOf k r) ⟨1024 + (i 0).val, _⟩)) (funext fun d => load13 k f h13 r d)

/-- A weight block read through its whole view. -/
theorem loadW (a : Memref sig .tc .vmem S1x1024x1024 .bf16) (w) (x : S1x1024x1024.Idx → Elt Ideal .bf16) (hx : View.read (Elt Ideal) a.view w = x)
    (off : Fin 3 → ℕ) (ho : off = ![0, 0, 0]) (h) :
    View.readAt (Elt Ideal) a.view (Rect.unit (s := S1x1024x1024) off S1x1024x1024.size h).toLoadRect w = x := by
  subst ho
  funext y
  refine (View.readAt_apply ..).trans ((congrArg (View.read (Elt Ideal) a.view w) ?_).trans (congrFun hx y))
  funext d; refine Fin.ext ?_
  fin_cases d
  · show 0 + 1 * (y 0).val = (y 0).val; omega
  · show 0 + 1 * (y 1).val = (y 1).val; omega
  · show 0 + 1 * (y 2).val = (y 2).val; omega

/-- The store's view of the gathered results. -/
abbrev sl15 (h) := (Memref.whole cc0_scratch1 : Memref sig .tc .vmem S1024x1024 .f32).view.slice (Rect.unit (s := S1024x1024) (k0_off15 k) S256x1024.size h)
def as15 (h) (g : S1024x1024.Idx → EReal) : (sl15 k h).ty.Contents (Elt Ideal) := g
theorem store_on (h) (g : S1024x1024.Idx → EReal) (v : S256x1024.Idx → EReal) (r : Fin 256) (j : Fin 1024) :
    (sl15 k h).write (Elt Ideal) (as15 k h g) v Finset.univ (ix2 (rowOf k r) j : S1024x1024.Idx) = v (ix2 r j) := by
  refine (congrArg ((sl15 k h).write (Elt Ideal) (as15 k h g) v Finset.univ) (emb15 k h r j).symm).trans ?_
  exact View.write_emb_of_mem _ _ (Finset.mem_univ _)
theorem store_off (h) (g : S1024x1024.Idx → EReal) (v : S256x1024.Idx → EReal) (r j : Fin 1024) (hr : ¬ (256 * k.val ≤ r.val ∧ r.val < 256 * (k.val + 1))) :
    (sl15 k h).write (Elt Ideal) (as15 k h g) v Finset.univ (ix2 r j : S1024x1024.Idx) = g (ix2 r j) := by
  refine View.write_of_not_mem _ _ _ ?_
  intro hm
  obtain ⟨x, -, hx⟩ := Finset.mem_map.mp hm
  obtain ⟨r', j', rfl⟩ : ∃ (r' : Fin 256) (j' : Fin 1024), x = (ix2 r' j' : S256x1024.Idx) := ⟨x 0, x 1, by funext a; fin_cases a <;> rfl⟩
  have h1 := congrArg Fin.val (congrFun ((emb15 k h r' j').symm.trans hx) 0)
  have h2 : 256 * k.val + r'.val = r.val := h1
  have := r'.isLt
  omega

theorem mid_on (e : Fin 16) (f : S1024x1152.Idx → EReal) (w1 w2 w3 : S1x1024x1024.Idx → Elt Ideal .bf16) (g : S1024x1024.Idx → EReal) (n : ℕ) (r j : Fin 1024) (h : r.val < 256 * n) :
    mid e f w1 w2 w3 g n (ix2 r j) = g (ix2 r j) + add e f w1 w2 w3 r j := if_pos h
theorem mid_off (e : Fin 16) (f : S1024x1152.Idx → EReal) (w1 w2 w3 : S1x1024x1024.Idx → Elt Ideal .bf16) (g : S1024x1024.Idx → EReal) (n : ℕ) (r j : Fin 1024) (h : ¬ r.val < 256 * n) :
    mid e f w1 w2 w3 g n (ix2 r j) = g (ix2 r j) := if_neg h

/-- The tile's store takes the gathered results one tile on. -/
theorem store15 (e : Fin 16) (f : S1024x1152.Idx → EReal) (w1 w2 w3 : S1x1024x1024.Idx → Elt Ideal .bf16) (g : S1024x1024.Idx → EReal) (h) (v : S256x1024.Idx → EReal)
    (hv : ∀ r j, v (ix2 r j) = mid e f w1 w2 w3 g k.val (ix2 (rowOf k r) j) + add e f w1 w2 w3 (rowOf k r) j) :
    (sl15 k h).write (Elt Ideal) (as15 k h (mid e f w1 w2 w3 g k.val)) v Finset.univ = as15 k h (mid e f w1 w2 w3 g (k.val + 1)) := by
  have hk := lt4 k
  refine funext fun (y : S1024x1024.Idx) => ?_
  obtain ⟨r, j, rfl⟩ : ∃ (r : Fin 1024) (j : Fin 1024), y = (ix2 r j : S1024x1024.Idx) := ⟨y 0, y 1, by funext a; fin_cases a <;> rfl⟩
  by_cases hr : 256 * k.val ≤ r.val ∧ r.val < 256 * (k.val + 1)
  · obtain ⟨r', rfl⟩ : ∃ r' : Fin 256, r = rowOf k r' := ⟨⟨r.val - 256 * k.val, by omega⟩, Fin.ext (show r.val = 256 * k.val + (r.val - 256 * k.val) by omega)⟩
    refine (store_on k h _ v r' j).trans ((hv r' j).trans ?_)
    rw [mid_off e f w1 w2 w3 g k.val (rowOf k r') j (by omega)]
    exact (mid_on e f w1 w2 w3 g (k.val + 1) (rowOf k r') j hr.2).symm
  · refine (store_off k h _ v r j hr).trans ?_
    by_cases h1 : r.val < 256 * k.val
    · exact (mid_on e f w1 w2 w3 g k.val r j h1).trans (mid_on e f w1 w2 w3 g (k.val + 1) r j (by omega)).symm
    · exact (mid_off e f w1 w2 w3 g k.val r j h1).trans (mid_off e f w1 w2 w3 g (k.val + 1) r j (by omega)).symm

end Cert.FfnIdeal.Val
-- ==== Proof.FfnValBody.lean ====
/- The experts' idealized call: the body run at a point of the grid, with the rows' contents. -/
module

public import proofs.«01_k».proof.Proof.FfnValRows
public import proofs.«01_k».proof.Proof.FfnValTile

@[expose] public section

set_option maxRecDepth 16384

noncomputable section

namespace Cert.FfnIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.FfnIdeal.Gen
open Cert.FfnIdeal.Hand (trips1 trips2 trips4 trips5 wd wix m3 m8 m8' m9 m10 m10' efl whole word_eq chk1_of chk2_of chk3_of chk4_of chk5_of chk6_of)

local notation "𝕄" => MT nD τ sig Unit (Elt Ideal) ℕ (Pipeline.UD sig nD τ) ℕ

section Run
variable (c : Dev nD) (i : grid0.Coords) (x0 : S1x1x1024.Idx → BitVec 32) (hx : ∀ y, (x0 y).toNat < 8192)
variable (arg2 : Memref sig .tc .smem S1x1x1024 .i32) (harg2 : arg2.IsWhole)

variable (f9 : Bf (F := Ideal) c cc0_scratch0) (f10 : Bf (F := Ideal) c cc0_scratch1) (f3 : Bf (F := Ideal) c main_v0) (f8 : Bf (F := Ideal) c main_v6)
variable (x1 x2 x3 : S1x1024x1024.Idx → Elt Ideal .bf16)

/-- The expert of a point. -/
def exi : Fin 16 := ⟨(i 0).val, (i 0).isLt⟩

/-- The gathered results after the tiles. -/
def res10 : Bf (F := Ideal) c cc0_scratch1 := mid (exi i) (G9 c i x0 hx f3) x1 x2 x3 (G10 c i x0 hx f8) 4
open Classical in
/-- The results' array after the point. -/
def nextE (row : Fin 1024 → Fin 65536) (a : S65536x1024.Idx → EReal) (p : Fin 1024 → Fin 1024 → EReal) : S65536x1024.Idx → EReal := fun y =>
  a y + ∑ k : Fin 1024, if row k = ⟨(y 0).val, (y 0).isLt⟩ then p k ⟨(y 1).val, (y 1).isLt⟩ else 0
def next : Bf (F := Ideal) c main_v6 := nextE (rw0 i x0 hx) f8 (add (exi i) (G9 c i x0 hx f3) x1 x2 x3)

/-- The words' block, held. -/
abbrev wordsAt : sProp 𝕄 := arg2.view.loc (c : Thread nD τ) ↦[arg2.view.set]{fullShare} harg2.unread x0

/-- Before trip `k` of the loop that starts the two gathers. -/
def issueAt (k : ℕ) (_ : PUnit) : sProp 𝕄 :=
  iprop(B0 c i x0 hx f9 f3 k 0 ∗ B1 c i x0 hx f10 f8 k 0 ∗ wordsAt c x0 arg2 harg2
    ∗ bigSep (Ring.rangeSet k0_t1_loop.trips k k0_t1_loop.trips) (own9 c f9) ∗ bigSep (Ring.rangeSet k0_t1_loop.trips k k0_t1_loop.trips) (own3 c i x0 hx f3)
    ∗ bigSep (Ring.rangeSet k0_t1_loop.trips k k0_t1_loop.trips) (own10 c f10) ∗ bigSep (Ring.rangeSet k0_t1_loop.trips k k0_t1_loop.trips) (own8 c i x0 hx f8))

/-- Before trip `k` of the loop that waits for them: short of the end the two batches, at the end everything back. -/
def drainAt (k : ℕ) (_ : PUnit) : sProp 𝕄 :=
  iprop(⌜k ≤ k0_t2_loop.trips⌝ ∗ (∃ W, owes (c : Thread nD τ) 0 W) ∗ wordsAt c x0 arg2 harg2
    ∗ (if k < k0_t2_loop.trips then iprop(B0 c i x0 hx f9 f3 k0_t1_loop.trips (k * 144) ∗ B1 c i x0 hx f10 f8 k0_t1_loop.trips (k * 128))
       else iprop(semVal ((c : Thread nD τ), SemLoc.dma 8) 0 ∗ semVal ((c : Thread nD τ), SemLoc.dma 9) 0
          ∗ bigSep Finset.univ (D0 (F := Ideal) c i x0 hx f9 f3) ∗ bigSep Finset.univ (D1 (F := Ideal) c i x0 hx f10 f8))))

/-- Before a trip of the loop that computes: everything it touches, the gathered results done up to the tile. -/
def workAt (arg5 arg6 arg7 : Memref sig .tc .vmem S1x1024x1024 .bf16) (k : ℕ) (_ : PUnit) : sProp 𝕄 :=
  iprop(owns (c : Thread nD τ) arg5 fullShare x1 ∗ owns (c : Thread nD τ) arg6 fullShare x2 ∗ owns (c : Thread nD τ) arg7 fullShare x3
    ∗ ((Memref.whole cc0_scratch0 : Memref sig .tc .vmem S1024x1152 .f32).view.loc (c : Thread nD τ) ↦{fullShare} G9 c i x0 hx f3)
    ∗ ((Memref.whole cc0_scratch1 : Memref sig .tc .vmem S1024x1024 .f32).view.loc (c : Thread nD τ) ↦{fullShare} mid (exi i) (G9 c i x0 hx f3) x1 x2 x3 (G10 c i x0 hx f8) k))

/-- Before trip `k` of the loop that starts the scatter. -/
def backAt (k : ℕ) (_ : PUnit) : sProp 𝕄 :=
  iprop(B2 c i x0 hx f10 f8 k 0 ∗ wordsAt c x0 arg2 harg2
    ∗ bigSep (Ring.rangeSet k0_t4_loop.trips k k0_t4_loop.trips) (own8' c i x0 hx f8) ∗ bigSep (Ring.rangeSet k0_t4_loop.trips k k0_t4_loop.trips) (own10' c f10))

/-- Before trip `k` of the loop that waits for it. -/
def doneAt (k : ℕ) (_ : PUnit) : sProp 𝕄 :=
  iprop(⌜k ≤ k0_t5_loop.trips⌝ ∗ (∃ W, owes (c : Thread nD τ) 0 W) ∗ wordsAt c x0 arg2 harg2
    ∗ (if k < k0_t5_loop.trips then B2 c i x0 hx f10 f8 k0_t4_loop.trips (k * 128)
       else iprop(semVal ((c : Thread nD τ), SemLoc.dma 10) 0 ∗ bigSep Finset.univ (D2 (F := Ideal) c i x0 hx f10 f8))))

theorem mid_zero (e : Fin 16) (f : S1024x1152.Idx → EReal) (g : S1024x1024.Idx → EReal) : mid e f x1 x2 x3 g 0 = g :=
  funext fun y => if_neg (by omega)
theorem mid_four (e : Fin 16) (f : S1024x1152.Idx → EReal) (g : S1024x1024.Idx → EReal) (k j : Fin 1024) : mid e f x1 x2 x3 g 4 (ix2 k j) = g (ix2 k j) + add e f x1 x2 x3 k j :=
  if_pos (show k.val < 256 * 4 by omega)
theorem nextE_on (row : Fin 1024 → Fin 65536) (inj : Function.Injective row) (a : S65536x1024.Idx → EReal) (p : Fin 1024 → Fin 1024 → EReal) (k j : Fin 1024) :
    nextE row a p (ix2 (row k) j) = a (ix2 (row k) j) + p k j := by
  unfold nextE
  refine congrArg (a (ix2 (row k) j) + ·) ?_
  exact (Finset.sum_eq_single k (fun b _ hb => if_neg fun h => hb (inj h)) (fun h => absurd (Finset.mem_univ _) h)).trans (if_pos rfl)
theorem nextE_off (row : Fin 1024 → Fin 65536) (a : S65536x1024.Idx → EReal) (p : Fin 1024 → Fin 1024 → EReal) (r : Fin 65536) (h : ∀ k, row k ≠ r) (j : Fin 1024) :
    a (ix2 r j) = nextE row a p (ix2 r j) := by
  unfold nextE
  refine ((add_zero (a (ix2 r j))).symm).trans (congrArg (a (ix2 r j) + ·) ?_)
  exact (Finset.sum_eq_zero fun k _ => if_neg (h k)).symm

variable (hinj : ∀ k k' (hk : k < 1024) (hk' : k' < 1024), wd x0 k hk = wd x0 k' hk' → k = k')
include hinj in
theorem next_on (k j : Fin 1024) : next c i x0 hx f3 f8 x1 x2 x3 (ix2 (rw0 i x0 hx k) j : S65536x1024.Idx) = res10 c i x0 hx f3 f8 x1 x2 x3 (ix2 k j : S1024x1024.Idx) := by
  unfold next res10
  exact (nextE_on _ (Cert.FfnIdeal.Hand.rho_inj i x0 hx hinj 1024 rfl) _ _ k j).trans (mid_four x1 x2 x3 (exi i) (G9 c i x0 hx f3) (G10 c i x0 hx f8) k j).symm
theorem next_off (r : Fin 65536) (h : ∀ k : Fin 1024, rw0 i x0 hx k ≠ r) (j : Fin 1024) :
    f8 (ix2 r j : S65536x1024.Idx) = next c i x0 hx f3 f8 x1 x2 x3 (ix2 r j : S65536x1024.Idx) :=
  nextE_off _ _ _ r h j

include hx hinj in
set_option maxHeartbeats 1000000 in
theorem kernelRun
    (arg5 : Memref sig .tc .vmem S1x1024x1024 .bf16) (harg5 : arg5.IsWhole) (arg6 : Memref sig .tc .vmem S1x1024x1024 .bf16) (harg6 : arg6.IsWhole)
    (arg7 : Memref sig .tc .vmem S1x1024x1024 .bf16) (harg7 : arg7.IsWhole)
    (W : Waits sig Unit) (K : PUnit → sProp 𝕄) :
    iprop(owns (c : Thread nD τ) arg2 fullShare x0 ∗ owns (c : Thread nD τ) arg5 fullShare x1 ∗ owns (c : Thread nD τ) arg6 fullShare x2 ∗ owns (c : Thread nD τ) arg7 fullShare x3
        ∗ whole (F := Ideal) c cc0_scratch0 ∗ whole (F := Ideal) c cc0_scratch1 ∗ (((c : Thread nD τ).loc main_v0) ↦{fullShare} f3) ∗ (((c : Thread nD τ).loc main_v6) ↦{fullShare} f8)
        ∗ semVal ((c : Thread nD τ), SemLoc.dma 8) 0 ∗ semVal ((c : Thread nD τ), SemLoc.dma 9) 0 ∗ semVal ((c : Thread nD τ), SemLoc.dma 10) 0
        ∗ owes (c : Thread nD τ) 0 W
        ∗ (iprop(owns (c : Thread nD τ) arg2 fullShare x0 ∗ owns (c : Thread nD τ) arg5 fullShare x1 ∗ owns (c : Thread nD τ) arg6 fullShare x2 ∗ owns (c : Thread nD τ) arg7 fullShare x3
            ∗ whole (F := Ideal) c cc0_scratch0 ∗ whole (F := Ideal) c cc0_scratch1 ∗ (((c : Thread nD τ).loc main_v0) ↦{fullShare} f3) ∗ (((c : Thread nD τ).loc main_v6) ↦{fullShare} next c i x0 hx f3 f8 x1 x2 x3)
            ∗ semVal ((c : Thread nD τ), SemLoc.dma 8) 0 ∗ semVal ((c : Thread nD τ), SemLoc.dma 9) 0 ∗ semVal ((c : Thread nD τ), SemLoc.dma 10) 0
            ∗ (∃ W', owes (c : Thread nD τ) 0 W')) -∗ K ⟨⟩))
      ⊢ wp frame (wpE (defs₀ (F := Ideal)) Variants.none c none) Set.univ
          (cc0_expert_ffn i arg2 harg2 (Memref.whole main_v0) (Memref.isWhole_whole _) (Memref.whole main_v6) (Memref.isWhole_whole _) arg5 harg5 arg6 harg6 arg7 harg7
            (Memref.whole main_v6) (Memref.isWhole_whole _) (Memref.whole cc0_scratch0) (Memref.isWhole_whole _) (Memref.whole cc0_scratch1) (Memref.isWhole_whole _) cc0_scratch2) K := by
  have t1 := trips1
  have t2 := trips2
  have t4 := trips4
  have t5 := trips5
  unfold whole
  iintro ⟨H2o, H5, H6, H7, ⟨%f9, HS0⟩, ⟨%f10, HS1⟩, HV0, HV6, Hs0, Hs1, Hs2, HO, HK⟩
  ihave H2 := (show owns (c : Thread nD τ) arg2 fullShare x0 ⊢ wordsAt c x0 arg2 harg2 from by
    unfold owns; iintro ⟨%f2, %hf2, H2⟩; obtain rfl := harg2.eq_unread hf2; iexact H2) $$ H2o
  ihave H9 := (Entails.of_eq (all9 c f9)) $$ HS0
  ihave H10 := (Entails.of_eq (all10 c f10)) $$ HS1
  ihave H3 := (Entails.of_eq (all3 c i x0 hx hinj f3)) $$ HV0
  icases H3 with ⟨H3, HR3⟩
  ihave H8 := (Entails.of_eq (all8 c i x0 hx hinj f8)) $$ HV6
  icases H8 with ⟨H8, HR8⟩
  imod (Transfers.batch_alloc' (Lvl := ℕ) (countersEmb (U := Pipeline.UD sig nD τ)) (c : Thread nD τ) () 144 (D0 (F := Ideal) c i x0 hx f9 f3) (sm := .dma 8) (E := Set.univ)) $$ Hs0 with HB0
  imod (Transfers.batch_alloc' (Lvl := ℕ) (countersEmb (U := Pipeline.UD sig nD τ)) (c : Thread nD τ) () 128 (D1 (F := Ideal) c i x0 hx f10 f8) (sm := .dma 9) (E := Set.univ)) $$ Hs1 with HB1
  sl_unfold [cc0_expert_ffn]
  sl_exec
  sl_for (issueAt c i x0 hx arg2 harg2 f9 f10 f3 f8) $$ [HB0 HB1 H2 H9 H3 H10 H8]
  · intro k acc
    have hk : k.val < k0_t1_loop.trips := k.isLt
    unfold issueAt
    rw [Ring.bigSep_rangeSet_head (Φ := own9 (F := Ideal) c f9) (by omega) (by omega), Ring.bigSep_rangeSet_head (Φ := own3 (F := Ideal) c i x0 hx f3) (by omega) (by omega),
      Ring.bigSep_rangeSet_head (Φ := own10 (F := Ideal) c f10) (by omega) (by omega), Ring.bigSep_rangeSet_head (Φ := own8 (F := Ideal) c i x0 hx f8) (by omega) (by omega)]
    unfold own9 own3 own10 own8
    iintro ⟨HB0, HB1, H2, ⟨H9, H9s⟩, ⟨H3, H3s⟩, ⟨H10, H10s⟩, ⟨H8, H8s⟩⟩
    sl_exec
    first
      | rw [show kernelRun.sl.r x0 arg2 harg2 k = wd x0 k.val (trips1 ▸ k.isLt) from by unfold kernelRun.sl.r; exact word_eq arg2 harg2 x0 _ _ _ (k0_off1_eq k) _ _]
      | rw [show kernelRun.sl.r_1 x0 arg2 harg2 k = wd x0 k.val (trips1 ▸ k.isLt) from by unfold kernelRun.sl.r_1; exact word_eq arg2 harg2 x0 _ _ _ (k0_off1_eq k) _ _]
      | rw [show kernelRun.sl.r_2 x0 arg2 harg2 k = wd x0 k.val (trips1 ▸ k.isLt) from by unfold kernelRun.sl.r_2; exact word_eq arg2 harg2 x0 _ _ _ (k0_off1_eq k) _ _]
      | rw [show kernelRun.sl.r_3 x0 arg2 harg2 k = wd x0 k.val (trips1 ▸ k.isLt) from by unfold kernelRun.sl.r_3; exact word_eq arg2 harg2 x0 _ _ _ (k0_off1_eq k) _ _]
      | rw [show kernelRun.sl.r_4 x0 arg2 harg2 k = wd x0 k.val (trips1 ▸ k.isLt) from by unfold kernelRun.sl.r_4; exact word_eq arg2 harg2 x0 _ _ _ (k0_off1_eq k) _ _]
      | rw [show kernelRun.sl.r_5 x0 arg2 harg2 k = wd x0 k.val (trips1 ▸ k.isLt) from by unfold kernelRun.sl.r_5; exact word_eq arg2 harg2 x0 _ _ _ (k0_off1_eq k) _ _]
      | rw [show kernelRun.sl.r_6 x0 arg2 harg2 k = wd x0 k.val (trips1 ▸ k.isLt) from by unfold kernelRun.sl.r_6; exact word_eq arg2 harg2 x0 _ _ _ (k0_off1_eq k) _ _]
      | rw [show kernelRun.sl.r_7 x0 arg2 harg2 k = wd x0 k.val (trips1 ▸ k.isLt) from by unfold kernelRun.sl.r_7; exact word_eq arg2 harg2 x0 _ _ _ (k0_off1_eq k) _ _]
      | rw [show kernelRun.sl.r_8 x0 arg2 harg2 k = wd x0 k.val (trips1 ▸ k.isLt) from by unfold kernelRun.sl.r_8; exact word_eq arg2 harg2 x0 _ _ _ (k0_off1_eq k) _ _]
    have c1 := chk1_of i _ (hx (wix k.val (trips1 ▸ k.isLt)))
    sl_exec
    iapply (Transfers.wp_dmaBatch (countersEmb (U := Pipeline.UD sig nD τ)) Variants.none (c : Thread nD τ) none (src := w3 i x0 hx ⟨k.val, hk⟩) (dst := m9 ⟨k.val, hk⟩) () 144 rfl subset_rfl
      (D := D0 (F := Ideal) c i x0 hx f9 f3) (j := k.val) (u := 0) hk (Nat.zero_le _) (by unfold D0; exact .rfl)) $$ [H3 H9 HB0]
    · isplitl [H3]; · iexact H3
      isplitl [H9]; · iexact H9
      iexact HB0
    iintro HB0
    sl_exec
    first
      | rw [show kernelRun.sl.r x0 arg2 harg2 k = wd x0 k.val (trips1 ▸ k.isLt) from by unfold kernelRun.sl.r; exact word_eq arg2 harg2 x0 _ _ _ (k0_off4_eq k) _ _]
      | rw [show kernelRun.sl.r_1 x0 arg2 harg2 k = wd x0 k.val (trips1 ▸ k.isLt) from by unfold kernelRun.sl.r_1; exact word_eq arg2 harg2 x0 _ _ _ (k0_off4_eq k) _ _]
      | rw [show kernelRun.sl.r_2 x0 arg2 harg2 k = wd x0 k.val (trips1 ▸ k.isLt) from by unfold kernelRun.sl.r_2; exact word_eq arg2 harg2 x0 _ _ _ (k0_off4_eq k) _ _]
      | rw [show kernelRun.sl.r_3 x0 arg2 harg2 k = wd x0 k.val (trips1 ▸ k.isLt) from by unfold kernelRun.sl.r_3; exact word_eq arg2 harg2 x0 _ _ _ (k0_off4_eq k) _ _]
      | rw [show kernelRun.sl.r_4 x0 arg2 harg2 k = wd x0 k.val (trips1 ▸ k.isLt) from by unfold kernelRun.sl.r_4; exact word_eq arg2 harg2 x0 _ _ _ (k0_off4_eq k) _ _]
      | rw [show kernelRun.sl.r_5 x0 arg2 harg2 k = wd x0 k.val (trips1 ▸ k.isLt) from by unfold kernelRun.sl.r_5; exact word_eq arg2 harg2 x0 _ _ _ (k0_off4_eq k) _ _]
      | rw [show kernelRun.sl.r_6 x0 arg2 harg2 k = wd x0 k.val (trips1 ▸ k.isLt) from by unfold kernelRun.sl.r_6; exact word_eq arg2 harg2 x0 _ _ _ (k0_off4_eq k) _ _]
      | rw [show kernelRun.sl.r_7 x0 arg2 harg2 k = wd x0 k.val (trips1 ▸ k.isLt) from by unfold kernelRun.sl.r_7; exact word_eq arg2 harg2 x0 _ _ _ (k0_off4_eq k) _ _]
      | rw [show kernelRun.sl.r_8 x0 arg2 harg2 k = wd x0 k.val (trips1 ▸ k.isLt) from by unfold kernelRun.sl.r_8; exact word_eq arg2 harg2 x0 _ _ _ (k0_off4_eq k) _ _]
    have c2 := chk2_of i _ (hx (wix k.val (trips1 ▸ k.isLt)))
    sl_exec
    iapply (Transfers.wp_dmaBatch (countersEmb (U := Pipeline.UD sig nD τ)) Variants.none (c : Thread nD τ) none (src := w8 i x0 hx ⟨k.val, hk⟩) (dst := m10 ⟨k.val, hk⟩) () 128 rfl subset_rfl
      (D := D1 (F := Ideal) c i x0 hx f10 f8) (j := k.val) (u := 0) hk (Nat.zero_le _) (by unfold D1; exact .rfl)) $$ [H8 H10 HB1]
    · isplitl [H8]; · iexact H8
      isplitl [H10]; · iexact H10
      iexact HB1
    iintro HB1
    sl_exec
    sl_step
    isplitl [HB0]; · iexact HB0
    isplitl [HB1]; · iexact HB1
    isplitl [H2]; · iexact H2
    isplitl [H9s]; · iexact H9s
    isplitl [H3s]; · iexact H3s
    isplitl [H10s]; · iexact H10s
    iexact H8s
  · unfold issueAt
    rw [Ring.rangeSet_univ]
    isplitl [HB0]; · iexact HB0
    isplitl [HB1]; · iexact HB1
    isplitl [H2]; · iexact H2
    isplitl [H9]; · iexact H9
    isplitl [H3]; · iexact H3
    isplitl [H10]; · iexact H10
    iexact H8
  iintro %acc HI
  unfold issueAt
  icases HI with ⟨HB0, HB1, H2, -, -, -, -⟩
  sl_exec
  sl_for (drainAt c i x0 hx arg2 harg2 f9 f10 f3 f8) $$ [HB0 HB1 H2 HO]
  · intro k acc
    have hk : k.val < k0_t2_loop.trips := k.isLt
    unfold drainAt
    simp only [if_pos hk]
    rcases Nat.lt_or_ge (k.val + 1) k0_t2_loop.trips with h1 | h1
    · simp only [if_pos h1]
      iintro ⟨-, ⟨%W, HO⟩, H2, HB0, HB1⟩
      sl_exec
      first
        | rw [show kernelRun.sl.r x0 arg2 harg2 k = wd x0 k.val (trips2 ▸ k.isLt) from by unfold kernelRun.sl.r; exact word_eq arg2 harg2 x0 _ _ _ (k0_off7_eq k) _ _]
        | rw [show kernelRun.sl.r_1 x0 arg2 harg2 k = wd x0 k.val (trips2 ▸ k.isLt) from by unfold kernelRun.sl.r_1; exact word_eq arg2 harg2 x0 _ _ _ (k0_off7_eq k) _ _]
        | rw [show kernelRun.sl.r_2 x0 arg2 harg2 k = wd x0 k.val (trips2 ▸ k.isLt) from by unfold kernelRun.sl.r_2; exact word_eq arg2 harg2 x0 _ _ _ (k0_off7_eq k) _ _]
        | rw [show kernelRun.sl.r_3 x0 arg2 harg2 k = wd x0 k.val (trips2 ▸ k.isLt) from by unfold kernelRun.sl.r_3; exact word_eq arg2 harg2 x0 _ _ _ (k0_off7_eq k) _ _]
        | rw [show kernelRun.sl.r_4 x0 arg2 harg2 k = wd x0 k.val (trips2 ▸ k.isLt) from by unfold kernelRun.sl.r_4; exact word_eq arg2 harg2 x0 _ _ _ (k0_off7_eq k) _ _]
        | rw [show kernelRun.sl.r_5 x0 arg2 harg2 k = wd x0 k.val (trips2 ▸ k.isLt) from by unfold kernelRun.sl.r_5; exact word_eq arg2 harg2 x0 _ _ _ (k0_off7_eq k) _ _]
        | rw [show kernelRun.sl.r_6 x0 arg2 harg2 k = wd x0 k.val (trips2 ▸ k.isLt) from by unfold kernelRun.sl.r_6; exact word_eq arg2 harg2 x0 _ _ _ (k0_off7_eq k) _ _]
        | rw [show kernelRun.sl.r_7 x0 arg2 harg2 k = wd x0 k.val (trips2 ▸ k.isLt) from by unfold kernelRun.sl.r_7; exact word_eq arg2 harg2 x0 _ _ _ (k0_off7_eq k) _ _]
        | rw [show kernelRun.sl.r_8 x0 arg2 harg2 k = wd x0 k.val (trips2 ▸ k.isLt) from by unfold kernelRun.sl.r_8; exact word_eq arg2 harg2 x0 _ _ _ (k0_off7_eq k) _ _]
      have c1 := chk3_of i _ (hx (wix k.val (trips2 ▸ k.isLt)))
      sl_exec
      first
        | rw [show kernelRun.sl.r x0 arg2 harg2 k = wd x0 k.val (trips2 ▸ k.isLt) from by unfold kernelRun.sl.r; exact word_eq arg2 harg2 x0 _ _ _ (k0_off10_eq k) _ _]
        | rw [show kernelRun.sl.r_1 x0 arg2 harg2 k = wd x0 k.val (trips2 ▸ k.isLt) from by unfold kernelRun.sl.r_1; exact word_eq arg2 harg2 x0 _ _ _ (k0_off10_eq k) _ _]
        | rw [show kernelRun.sl.r_2 x0 arg2 harg2 k = wd x0 k.val (trips2 ▸ k.isLt) from by unfold kernelRun.sl.r_2; exact word_eq arg2 harg2 x0 _ _ _ (k0_off10_eq k) _ _]
        | rw [show kernelRun.sl.r_3 x0 arg2 harg2 k = wd x0 k.val (trips2 ▸ k.isLt) from by unfold kernelRun.sl.r_3; exact word_eq arg2 harg2 x0 _ _ _ (k0_off10_eq k) _ _]
        | rw [show kernelRun.sl.r_4 x0 arg2 harg2 k = wd x0 k.val (trips2 ▸ k.isLt) from by unfold kernelRun.sl.r_4; exact word_eq arg2 harg2 x0 _ _ _ (k0_off10_eq k) _ _]
        | rw [show kernelRun.sl.r_5 x0 arg2 harg2 k = wd x0 k.val (trips2 ▸ k.isLt) from by unfold kernelRun.sl.r_5; exact word_eq arg2 harg2 x0 _ _ _ (k0_off10_eq k) _ _]
        | rw [show kernelRun.sl.r_6 x0 arg2 harg2 k = wd x0 k.val (trips2 ▸ k.isLt) from by unfold kernelRun.sl.r_6; exact word_eq arg2 harg2 x0 _ _ _ (k0_off10_eq k) _ _]
        | rw [show kernelRun.sl.r_7 x0 arg2 harg2 k = wd x0 k.val (trips2 ▸ k.isLt) from by unfold kernelRun.sl.r_7; exact word_eq arg2 harg2 x0 _ _ _ (k0_off10_eq k) _ _]
        | rw [show kernelRun.sl.r_8 x0 arg2 harg2 k = wd x0 k.val (trips2 ▸ k.isLt) from by unfold kernelRun.sl.r_8; exact word_eq arg2 harg2 x0 _ _ _ (k0_off10_eq k) _ _]
      have c2 := chk4_of i _ (hx (wix k.val (trips2 ▸ k.isLt)))
      sl_exec
      sl_step
      isplitr; · ipureintro; omega
      isplitl [HO]; · iexists _; iexact HO
      isplitl [H2]; · iexact H2
      rw [show (k.val + 1) * 144 = k.val * 144 + 144 by omega, show (k.val + 1) * 128 = k.val * 128 + 128 by omega]
      isplitl [HB0]; · iexact HB0
      iexact HB1
    · simp only [if_neg (Nat.not_lt.mpr h1)]
      iintro ⟨-, ⟨%W, HO⟩, H2, HB0, HB1⟩
      sl_exec
      first
        | rw [show kernelRun.sl.r x0 arg2 harg2 k = wd x0 k.val (trips2 ▸ k.isLt) from by unfold kernelRun.sl.r; exact word_eq arg2 harg2 x0 _ _ _ (k0_off7_eq k) _ _]
        | rw [show kernelRun.sl.r_1 x0 arg2 harg2 k = wd x0 k.val (trips2 ▸ k.isLt) from by unfold kernelRun.sl.r_1; exact word_eq arg2 harg2 x0 _ _ _ (k0_off7_eq k) _ _]
        | rw [show kernelRun.sl.r_2 x0 arg2 harg2 k = wd x0 k.val (trips2 ▸ k.isLt) from by unfold kernelRun.sl.r_2; exact word_eq arg2 harg2 x0 _ _ _ (k0_off7_eq k) _ _]
        | rw [show kernelRun.sl.r_3 x0 arg2 harg2 k = wd x0 k.val (trips2 ▸ k.isLt) from by unfold kernelRun.sl.r_3; exact word_eq arg2 harg2 x0 _ _ _ (k0_off7_eq k) _ _]
        | rw [show kernelRun.sl.r_4 x0 arg2 harg2 k = wd x0 k.val (trips2 ▸ k.isLt) from by unfold kernelRun.sl.r_4; exact word_eq arg2 harg2 x0 _ _ _ (k0_off7_eq k) _ _]
        | rw [show kernelRun.sl.r_5 x0 arg2 harg2 k = wd x0 k.val (trips2 ▸ k.isLt) from by unfold kernelRun.sl.r_5; exact word_eq arg2 harg2 x0 _ _ _ (k0_off7_eq k) _ _]
        | rw [show kernelRun.sl.r_6 x0 arg2 harg2 k = wd x0 k.val (trips2 ▸ k.isLt) from by unfold kernelRun.sl.r_6; exact word_eq arg2 harg2 x0 _ _ _ (k0_off7_eq k) _ _]
        | rw [show kernelRun.sl.r_7 x0 arg2 harg2 k = wd x0 k.val (trips2 ▸ k.isLt) from by unfold kernelRun.sl.r_7; exact word_eq arg2 harg2 x0 _ _ _ (k0_off7_eq k) _ _]
        | rw [show kernelRun.sl.r_8 x0 arg2 harg2 k = wd x0 k.val (trips2 ▸ k.isLt) from by unfold kernelRun.sl.r_8; exact word_eq arg2 harg2 x0 _ _ _ (k0_off7_eq k) _ _]
      have c1 := chk3_of i _ (hx (wix k.val (trips2 ▸ k.isLt)))
      sl_exec
      first
        | rw [show kernelRun.sl.r x0 arg2 harg2 k = wd x0 k.val (trips2 ▸ k.isLt) from by unfold kernelRun.sl.r; exact word_eq arg2 harg2 x0 _ _ _ (k0_off10_eq k) _ _]
        | rw [show kernelRun.sl.r_1 x0 arg2 harg2 k = wd x0 k.val (trips2 ▸ k.isLt) from by unfold kernelRun.sl.r_1; exact word_eq arg2 harg2 x0 _ _ _ (k0_off10_eq k) _ _]
        | rw [show kernelRun.sl.r_2 x0 arg2 harg2 k = wd x0 k.val (trips2 ▸ k.isLt) from by unfold kernelRun.sl.r_2; exact word_eq arg2 harg2 x0 _ _ _ (k0_off10_eq k) _ _]
        | rw [show kernelRun.sl.r_3 x0 arg2 harg2 k = wd x0 k.val (trips2 ▸ k.isLt) from by unfold kernelRun.sl.r_3; exact word_eq arg2 harg2 x0 _ _ _ (k0_off10_eq k) _ _]
        | rw [show kernelRun.sl.r_4 x0 arg2 harg2 k = wd x0 k.val (trips2 ▸ k.isLt) from by unfold kernelRun.sl.r_4; exact word_eq arg2 harg2 x0 _ _ _ (k0_off10_eq k) _ _]
        | rw [show kernelRun.sl.r_5 x0 arg2 harg2 k = wd x0 k.val (trips2 ▸ k.isLt) from by unfold kernelRun.sl.r_5; exact word_eq arg2 harg2 x0 _ _ _ (k0_off10_eq k) _ _]
        | rw [show kernelRun.sl.r_6 x0 arg2 harg2 k = wd x0 k.val (trips2 ▸ k.isLt) from by unfold kernelRun.sl.r_6; exact word_eq arg2 harg2 x0 _ _ _ (k0_off10_eq k) _ _]
        | rw [show kernelRun.sl.r_7 x0 arg2 harg2 k = wd x0 k.val (trips2 ▸ k.isLt) from by unfold kernelRun.sl.r_7; exact word_eq arg2 harg2 x0 _ _ _ (k0_off10_eq k) _ _]
        | rw [show kernelRun.sl.r_8 x0 arg2 harg2 k = wd x0 k.val (trips2 ▸ k.isLt) from by unfold kernelRun.sl.r_8; exact word_eq arg2 harg2 x0 _ _ _ (k0_off10_eq k) _ _]
      have c2 := chk4_of i _ (hx (wix k.val (trips2 ▸ k.isLt)))
      sl_exec
      sl_step
      isplitr; · ipureintro; omega
      isplitl [HO]; · iexists _; iexact HO
      isplitl [H2]; · iexact H2
      isplitl [HB0]; · iexact HB0
      isplitl [HB1]; · iexact HB1
      isplitl [HB0_all]; · iexact HB0_all
      iexact HB1_all
  · unfold drainAt
    rw [if_pos (by omega)]
    isplitr; · ipureintro; omega
    isplitl [HO]; · iexists _; iexact HO
    isplitl [H2]; · iexact H2
    isplitl [HB0]; · iexact HB0
    iexact HB1
  iintro %acc HI
  unfold drainAt
  rw [if_neg (Nat.lt_irrefl _)]
  icases HI with ⟨-, ⟨%W1, HO⟩, H2, Hs0, Hs1, HD0, HD1⟩
  ihave HD0' := (show (bigSep Finset.univ (D0 (F := Ideal) c i x0 hx f9 f3) : sProp 𝕄) ⊢ iprop(bigSep Finset.univ (own9 c (G9 c i x0 hx f3)) ∗ bigSep Finset.univ (own3 c i x0 hx f3))
    from Entails.of_eq ((BI.bigSep_congr fun k _ => land0 c i x0 hx f9 f3 k).trans (BI.bigSep_sep _ _ _))) $$ HD0
  icases HD0' with ⟨H9, H3⟩
  ihave HD1' := (show (bigSep Finset.univ (D1 (F := Ideal) c i x0 hx f10 f8) : sProp 𝕄) ⊢ iprop(bigSep Finset.univ (own10 c (G10 c i x0 hx f8)) ∗ bigSep Finset.univ (own8 c i x0 hx f8))
    from Entails.of_eq ((BI.bigSep_congr fun k _ => land1 c i x0 hx f10 f8 k).trans (BI.bigSep_sep _ _ _))) $$ HD1
  icases HD1' with ⟨H10, H8⟩
  ihave HV0 := (Entails.of_eq (all3 c i x0 hx hinj f3).symm) $$ [H3 HR3]
  · isplitl [H3] <;> iassumption
  ihave HV6 := (Entails.of_eq (all8 c i x0 hx hinj f8).symm) $$ [H8 HR8]
  · isplitl [H8] <;> iassumption
  ihave HS0 := (Entails.of_eq (all9 c (G9 c i x0 hx f3)).symm) $$ H9
  ihave HS1 := (Entails.of_eq (all10 c (G10 c i x0 hx f8)).symm) $$ H10
  sl_exec
  sl_for (workAt c i x0 hx f3 f8 x1 x2 x3 arg5 arg6 arg7) $$ [H5 H6 H7 HS0 HS1]
  · intro k acc
    unfold workAt owns
    iintro ⟨⟨%w5, %hf5, H5⟩, ⟨%w6, %hf6, H6⟩, ⟨%w7, %hf7, H7⟩, HS0, HS1⟩
    sl_exec
    sl_step
    isplitl [H5]; · iexists _; isplitr; · ipureintro; exact hf5
                    iexact H5
    isplitl [H6]; · iexists _; isplitr; · ipureintro; exact hf6
                    iexact H6
    isplitl [H7]; · iexists _; isplitr; · ipureintro; exact hf7
                    iexact H7
    isplitl [HS0]; · iexact HS0
    have hv : ∀ r j, kernelRun.sl.v51 c i x0 hx f3 f8 x1 x2 x3 arg5 arg6 arg7 k w5 w6 w7 (ix2 r j)
        = mid (exi i) (G9 c i x0 hx f3) x1 x2 x3 (G10 c i x0 hx f8) k.val (ix2 (rowOf k r) j) + add (exi i) (G9 c i x0 hx f3) x1 x2 x3 (rowOf k r) j := fun r j => by
      refine (show _ = tileP i _ _ _ _ _ _ (ix2 r j) from rfl).trans ?_
      rw [loadW arg5 w5 x1 hf5 _ rfl, loadW arg6 w6 x2 hf6 _ rfl, loadW arg7 w7 x3 hf7 _ rfl]
      exact tile_value k i _ _ _ _ _ x1 x2 x3 r j
    rw [View.writes_singleton]
    iapply (Entails.of_eq (congrArg (fun g => ((Memref.whole cc0_scratch1 : Memref sig .tc .vmem S1024x1024 .f32).view.loc (c : Thread nD τ) ↦{fullShare} g : sProp 𝕄))
      (store15 k (exi i) (G9 c i x0 hx f3) x1 x2 x3 (G10 c i x0 hx f8) _ _ hv))) $$ HS1
  · unfold workAt
    isplitl [H5]; · iexact H5
    isplitl [H6]; · iexact H6
    isplitl [H7]; · iexact H7
    isplitl [HS0]; · iexact HS0
    rw [mid_zero]; iexact HS1
  iintro %acc HI
  unfold workAt
  icases HI with ⟨H5, H6, H7, HS0, HS1⟩
  obtain ⟨g10, hg⟩ : ∃ g : Bf (F := Ideal) c cc0_scratch1, g = res10 c i x0 hx f3 f8 x1 x2 x3 := ⟨_, rfl⟩
  ihave H10 := (show ((Memref.whole cc0_scratch1 : Memref sig .tc .vmem S1024x1024 .f32).view.loc (c : Thread nD τ) ↦{fullShare} mid (exi i) (G9 c i x0 hx f3) x1 x2 x3 (G10 c i x0 hx f8) k0_t3_loop.trips : sProp 𝕄) ⊢ bigSep Finset.univ (own10' c g10)
    from Entails.of_eq (by rw [hg]; exact all10' c (res10 c i x0 hx f3 f8 x1 x2 x3))) $$ HS1
  ihave H8 := (Entails.of_eq (all8' c i x0 hx hinj f8)) $$ HV6
  icases H8 with ⟨H8, HR8⟩
  imod (Transfers.batch_alloc' (Lvl := ℕ) (countersEmb (U := Pipeline.UD sig nD τ)) (c : Thread nD τ) () 128 (D2 (F := Ideal) c i x0 hx g10 f8) (sm := .dma 10) (E := Set.univ)) $$ Hs2 with HB2
  sl_exec
  sl_for (backAt c i x0 hx arg2 harg2 g10 f8) $$ [HB2 H2 H8 H10]
  · intro k acc
    have hk : k.val < k0_t4_loop.trips := k.isLt
    unfold backAt
    rw [Ring.bigSep_rangeSet_head (Φ := own8' (F := Ideal) c i x0 hx f8) (by omega) (by omega), Ring.bigSep_rangeSet_head (Φ := own10' (F := Ideal) c g10) (by omega) (by omega)]
    unfold own8' own10'
    iintro ⟨HB2, H2, ⟨H8, H8s⟩, ⟨H10, H10s⟩⟩
    sl_exec
    first
      | rw [show kernelRun.sl.r x0 arg2 harg2 k = wd x0 k.val (trips4 ▸ k.isLt) from by unfold kernelRun.sl.r; exact word_eq arg2 harg2 x0 _ _ _ (k0_off16_eq k) _ _]
      | rw [show kernelRun.sl.r_1 x0 arg2 harg2 k = wd x0 k.val (trips4 ▸ k.isLt) from by unfold kernelRun.sl.r_1; exact word_eq arg2 harg2 x0 _ _ _ (k0_off16_eq k) _ _]
      | rw [show kernelRun.sl.r_2 x0 arg2 harg2 k = wd x0 k.val (trips4 ▸ k.isLt) from by unfold kernelRun.sl.r_2; exact word_eq arg2 harg2 x0 _ _ _ (k0_off16_eq k) _ _]
      | rw [show kernelRun.sl.r_3 x0 arg2 harg2 k = wd x0 k.val (trips4 ▸ k.isLt) from by unfold kernelRun.sl.r_3; exact word_eq arg2 harg2 x0 _ _ _ (k0_off16_eq k) _ _]
      | rw [show kernelRun.sl.r_4 x0 arg2 harg2 k = wd x0 k.val (trips4 ▸ k.isLt) from by unfold kernelRun.sl.r_4; exact word_eq arg2 harg2 x0 _ _ _ (k0_off16_eq k) _ _]
      | rw [show kernelRun.sl.r_5 x0 arg2 harg2 k = wd x0 k.val (trips4 ▸ k.isLt) from by unfold kernelRun.sl.r_5; exact word_eq arg2 harg2 x0 _ _ _ (k0_off16_eq k) _ _]
      | rw [show kernelRun.sl.r_6 x0 arg2 harg2 k = wd x0 k.val (trips4 ▸ k.isLt) from by unfold kernelRun.sl.r_6; exact word_eq arg2 harg2 x0 _ _ _ (k0_off16_eq k) _ _]
      | rw [show kernelRun.sl.r_7 x0 arg2 harg2 k = wd x0 k.val (trips4 ▸ k.isLt) from by unfold kernelRun.sl.r_7; exact word_eq arg2 harg2 x0 _ _ _ (k0_off16_eq k) _ _]
      | rw [show kernelRun.sl.r_8 x0 arg2 harg2 k = wd x0 k.val (trips4 ▸ k.isLt) from by unfold kernelRun.sl.r_8; exact word_eq arg2 harg2 x0 _ _ _ (k0_off16_eq k) _ _]
    have c1 := chk5_of i _ (hx (wix k.val (trips4 ▸ k.isLt)))
    sl_exec
    iapply (Transfers.wp_dmaBatch (countersEmb (U := Pipeline.UD sig nD τ)) Variants.none (c : Thread nD τ) none (src := m10' ⟨k.val, hk⟩) (dst := w8' i x0 hx ⟨k.val, hk⟩) () 128 rfl subset_rfl
      (D := D2 (F := Ideal) c i x0 hx g10 f8) (j := k.val) (u := 0) hk (Nat.zero_le _) (by unfold D2; exact .rfl)) $$ [H10 H8 HB2]
    · isplitl [H10]; · iexact H10
      isplitl [H8]; · iexact H8
      iexact HB2
    iintro HB2
    sl_exec
    sl_step
    isplitl [HB2]; · iexact HB2
    isplitl [H2]; · iexact H2
    isplitl [H8s]; · iexact H8s
    iexact H10s
  · unfold backAt
    rw [Ring.rangeSet_univ]
    isplitl [HB2]; · iexact HB2
    isplitl [H2]; · iexact H2
    isplitl [H8]; · iexact H8
    iexact H10
  iintro %acc HI
  unfold backAt
  icases HI with ⟨HB2, H2, -, -⟩
  sl_exec
  sl_for (doneAt c i x0 hx arg2 harg2 g10 f8) $$ [HB2 H2 HO]
  · intro k acc
    have hk : k.val < k0_t5_loop.trips := k.isLt
    unfold doneAt
    simp only [if_pos hk]
    rcases Nat.lt_or_ge (k.val + 1) k0_t5_loop.trips with h1 | h1
    · simp only [if_pos h1]
      iintro ⟨-, ⟨%W, HO⟩, H2, HB2⟩
      sl_exec
      first
        | rw [show kernelRun.sl.r x0 arg2 harg2 k = wd x0 k.val (trips5 ▸ k.isLt) from by unfold kernelRun.sl.r; exact word_eq arg2 harg2 x0 _ _ _ (k0_off19_eq k) _ _]
        | rw [show kernelRun.sl.r_1 x0 arg2 harg2 k = wd x0 k.val (trips5 ▸ k.isLt) from by unfold kernelRun.sl.r_1; exact word_eq arg2 harg2 x0 _ _ _ (k0_off19_eq k) _ _]
        | rw [show kernelRun.sl.r_2 x0 arg2 harg2 k = wd x0 k.val (trips5 ▸ k.isLt) from by unfold kernelRun.sl.r_2; exact word_eq arg2 harg2 x0 _ _ _ (k0_off19_eq k) _ _]
        | rw [show kernelRun.sl.r_3 x0 arg2 harg2 k = wd x0 k.val (trips5 ▸ k.isLt) from by unfold kernelRun.sl.r_3; exact word_eq arg2 harg2 x0 _ _ _ (k0_off19_eq k) _ _]
        | rw [show kernelRun.sl.r_4 x0 arg2 harg2 k = wd x0 k.val (trips5 ▸ k.isLt) from by unfold kernelRun.sl.r_4; exact word_eq arg2 harg2 x0 _ _ _ (k0_off19_eq k) _ _]
        | rw [show kernelRun.sl.r_5 x0 arg2 harg2 k = wd x0 k.val (trips5 ▸ k.isLt) from by unfold kernelRun.sl.r_5; exact word_eq arg2 harg2 x0 _ _ _ (k0_off19_eq k) _ _]
        | rw [show kernelRun.sl.r_6 x0 arg2 harg2 k = wd x0 k.val (trips5 ▸ k.isLt) from by unfold kernelRun.sl.r_6; exact word_eq arg2 harg2 x0 _ _ _ (k0_off19_eq k) _ _]
        | rw [show kernelRun.sl.r_7 x0 arg2 harg2 k = wd x0 k.val (trips5 ▸ k.isLt) from by unfold kernelRun.sl.r_7; exact word_eq arg2 harg2 x0 _ _ _ (k0_off19_eq k) _ _]
        | rw [show kernelRun.sl.r_8 x0 arg2 harg2 k = wd x0 k.val (trips5 ▸ k.isLt) from by unfold kernelRun.sl.r_8; exact word_eq arg2 harg2 x0 _ _ _ (k0_off19_eq k) _ _]
      have c1 := chk6_of i _ (hx (wix k.val (trips5 ▸ k.isLt)))
      sl_exec
      sl_step
      isplitr; · ipureintro; omega
      isplitl [HO]; · iexists _; iexact HO
      isplitl [H2]; · iexact H2
      rw [show (k.val + 1) * 128 = k.val * 128 + 128 by omega]
      iexact HB2
    · simp only [if_neg (Nat.not_lt.mpr h1)]
      iintro ⟨-, ⟨%W, HO⟩, H2, HB2⟩
      sl_exec
      first
        | rw [show kernelRun.sl.r x0 arg2 harg2 k = wd x0 k.val (trips5 ▸ k.isLt) from by unfold kernelRun.sl.r; exact word_eq arg2 harg2 x0 _ _ _ (k0_off19_eq k) _ _]
        | rw [show kernelRun.sl.r_1 x0 arg2 harg2 k = wd x0 k.val (trips5 ▸ k.isLt) from by unfold kernelRun.sl.r_1; exact word_eq arg2 harg2 x0 _ _ _ (k0_off19_eq k) _ _]
        | rw [show kernelRun.sl.r_2 x0 arg2 harg2 k = wd x0 k.val (trips5 ▸ k.isLt) from by unfold kernelRun.sl.r_2; exact word_eq arg2 harg2 x0 _ _ _ (k0_off19_eq k) _ _]
        | rw [show kernelRun.sl.r_3 x0 arg2 harg2 k = wd x0 k.val (trips5 ▸ k.isLt) from by unfold kernelRun.sl.r_3; exact word_eq arg2 harg2 x0 _ _ _ (k0_off19_eq k) _ _]
        | rw [show kernelRun.sl.r_4 x0 arg2 harg2 k = wd x0 k.val (trips5 ▸ k.isLt) from by unfold kernelRun.sl.r_4; exact word_eq arg2 harg2 x0 _ _ _ (k0_off19_eq k) _ _]
        | rw [show kernelRun.sl.r_5 x0 arg2 harg2 k = wd x0 k.val (trips5 ▸ k.isLt) from by unfold kernelRun.sl.r_5; exact word_eq arg2 harg2 x0 _ _ _ (k0_off19_eq k) _ _]
        | rw [show kernelRun.sl.r_6 x0 arg2 harg2 k = wd x0 k.val (trips5 ▸ k.isLt) from by unfold kernelRun.sl.r_6; exact word_eq arg2 harg2 x0 _ _ _ (k0_off19_eq k) _ _]
        | rw [show kernelRun.sl.r_7 x0 arg2 harg2 k = wd x0 k.val (trips5 ▸ k.isLt) from by unfold kernelRun.sl.r_7; exact word_eq arg2 harg2 x0 _ _ _ (k0_off19_eq k) _ _]
        | rw [show kernelRun.sl.r_8 x0 arg2 harg2 k = wd x0 k.val (trips5 ▸ k.isLt) from by unfold kernelRun.sl.r_8; exact word_eq arg2 harg2 x0 _ _ _ (k0_off19_eq k) _ _]
      have c1 := chk6_of i _ (hx (wix k.val (trips5 ▸ k.isLt)))
      sl_exec
      sl_step
      isplitr; · ipureintro; omega
      isplitl [HO]; · iexists _; iexact HO
      isplitl [H2]; · iexact H2
      isplitl [HB2]; · iexact HB2
      iexact HB2_all
  · unfold doneAt
    rw [if_pos (by omega)]
    isplitr; · ipureintro; omega
    isplitl [HO]; · iexists _; iexact HO
    isplitl [H2]; · iexact H2
    iexact HB2
  iintro %acc HI
  unfold doneAt
  rw [if_neg (Nat.lt_irrefl _)]
  icases HI with ⟨-, ⟨%W2, HO⟩, H2, Hs2, HD2⟩
  ihave HD2' := (show (bigSep Finset.univ (D2 (F := Ideal) c i x0 hx g10 f8) : sProp 𝕄) ⊢ iprop(bigSep Finset.univ (own8' c i x0 hx (next c i x0 hx f3 f8 x1 x2 x3)) ∗ bigSep Finset.univ (own10' c g10))
    from Entails.of_eq ((BI.bigSep_congr fun k _ => land2 c i x0 hx g10 f8 (next c i x0 hx f3 f8 x1 x2 x3) (by rw [hg]; exact next_on c i x0 hx f3 f8 x1 x2 x3 hinj) k).trans (BI.bigSep_sep _ _ _))) $$ HD2
  icases HD2' with ⟨H8, H10⟩
  ihave HR8' := (Entails.of_eq (rest8'_congr c i x0 hx f8 (next c i x0 hx f3 f8 x1 x2 x3) (next_off c i x0 hx f3 f8 x1 x2 x3))) $$ HR8
  ihave HV6 := (Entails.of_eq (all8' c i x0 hx hinj (next c i x0 hx f3 f8 x1 x2 x3)).symm) $$ [H8 HR8']
  · isplitl [H8] <;> iassumption
  ihave HS1 := (Entails.of_eq (all10' c g10).symm) $$ H10
  sl_exec
  sl_step
  iapply HK
  isplitl [H2]
  · unfold owns; iexists _
    isplitr; · ipureintro; exact harg2.read_unread _
    iexact H2
  isplitl [H5]; · iexact H5
  isplitl [H6]; · iexact H6
  isplitl [H7]; · iexact H7
  isplitl [HS0]; · iexists _; iexact HS0
  isplitl [HS1]; · iexists _; iexact HS1
  isplitl [HV0]; · iexact HV0
  isplitl [HV6]; · iexact HV6
  isplitl [Hs0]; · iexact Hs0
  isplitl [Hs1]; · iexact Hs1
  isplitl [Hs2]; · iexact Hs2
  iexists _; iexact HO

end Run

end Cert.FfnIdeal.Val
-- ==== Proof.FfnValFrame.lean ====
/- The experts' idealized call: every point's run put together, with what the results' array holds at the end. -/
module

public import proofs.«01_k».proof.Proof.FfnValBody
public import proofs.«01_k».proof.Proof.FfnIdealFrame
public import Idealize.ShloMosaic.Lib.Pipeline.Routed

@[expose] public section

set_option maxRecDepth 16384

noncomputable section

namespace Cert.FfnIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FfnIdeal.Gen
open Cert.FfnIdeal.Hand (R0 osem0 ownSemFacts0 ownSems00_eq hmainD words_lt words_inj whole)

local notation "𝕄" => MT nD τ sig Unit (Elt Ideal) ℕ (Pipeline.UD sig nD τ) ℕ

variable (m : (ℓ : Loc nD τ sig) → Buf (Elt Ideal) ℓ) (ρ : Dev nD → PrngReg)
variable (hsmall : ∀ (c : Dev nD) i, (m ((c.tc : Thread nD τ).loc main_arg0) i : BitVec 32).toNat < 8192)
variable (hapart : ∀ (c : Dev nD) b e k k', m ((c.tc : Thread nD τ).loc main_arg0) (FfnPre.at3 b e k) = m ((c.tc : Thread nD τ).loc main_arg0) (FfnPre.at3 b e k') → k = k')

/-- The results' array before point `n`. -/
def acc (c : Dev nD) : ℕ → Bf (F := Ideal) c main_v6
  | 0 => V m c main_v6
  | n + 1 => if h : n < cfg0.N then
      next c (grid0.coords ⟨n, h⟩) (iblk m c 0 ⟨n, h⟩) (words_lt m hsmall c ⟨n, h⟩) (V m c main_v0) (acc c n) (iblk m c 1 ⟨n, h⟩) (iblk m c 2 ⟨n, h⟩) (iblk m c 3 ⟨n, h⟩)
    else acc c n
theorem acc_succ (c : Dev nD) (t : Fin cfg0.N) :
    acc m hsmall c (t.val + 1) = next c (grid0.coords t) (iblk m c 0 t) (words_lt m hsmall c t) (V m c main_v0) (acc m hsmall c t.val) (iblk m c 1 t) (iblk m c 2 t) (iblk m c 3 t) := by
  conv => lhs; unfold acc
  exact dif_pos t.isLt

/-- What stands between the points: the body's arrays with contents, its scratches, its counters, its register. -/
def keep (c : Dev nD) (n : ℕ) : sProp 𝕄 :=
  iprop(((((c : Thread nD τ).loc main_v0) ↦{fullShare} V m c main_v0) ∗ (((c : Thread nD τ).loc main_v6) ↦{fullShare} acc m hsmall c n))
    ∗ iprop(semVal ((c : Thread nD τ), SemLoc.dma 8) 0 ∗ semVal ((c : Thread nD τ), SemLoc.dma 9) 0 ∗ semVal ((c : Thread nD τ), SemLoc.dma 10) 0)
    ∗ iprop(whole (F := Ideal) c cc0_scratch0 ∗ whole (F := Ideal) c cc0_scratch1)
    ∗ (∃ r, prngReg c r))

/-- What the body's arrays hold at the end. -/
def Yend (c : Dev nD) (b : Ref sig .tc) : Buf (Elt Ideal) ((c : Thread nD τ).loc b) :=
  if h : b = main_v6 then h ▸ acc m hsmall c cfg0.N else V m c b
theorem Yend_v6 (c : Dev nD) : Yend m hsmall c main_v6 = acc m hsmall c cfg0.N := dif_pos rfl
theorem Yend_v0 (c : Dev nD) : Yend m hsmall c main_v0 = V m c main_v0 := dif_neg (by decide)

theorem ends_eq (c : Dev nD) (W : (b : Ref sig .tc) → Buf (Elt Ideal) ((c.tc : Thread nD τ).loc b)) :
    (Pipeline.Ends spec0 osem0 R0 c W : sProp 𝕄) = iprop(((((c : Thread nD τ).loc main_v0) ↦{fullShare} W main_v0) ∗ (((c : Thread nD τ).loc main_v6) ↦{fullShare} W main_v6))
    ∗ iprop(semVal ((c : Thread nD τ), SemLoc.dma 8) 0 ∗ semVal ((c : Thread nD τ), SemLoc.dma 9) 0 ∗ semVal ((c : Thread nD τ), SemLoc.dma 10) 0)
    ∗ iprop(whole (F := Ideal) c cc0_scratch0 ∗ whole (F := Ideal) c cc0_scratch1)
    ∗ (∃ r, prngReg c r)) := by
  unfold Pipeline.Ends Pipeline.routed
  rw [scopedRest0_eq, ownSems00_eq, BI.bigSep_eq_bigSepL_of_eq [main_v0, main_v6] (by decide) (by decide)]; rfl

/-- The data of the one pipeline: the windows' blocks stay as read, the body's arrays with their contents are the invariant. -/
def dats (_ : Fin 1) (c : Dev nD) : Dat τ (Elt Ideal) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
  Φ t := keep m hsmall c t.val
  q _ := fullShare
  owed _ := 0

theorem A_eq (c : Dev nD) (w : Fin cfg0.W) : (dats m hsmall 0 c).A w = V m c (Pipeline.arrRef spec0 w) := by
  dsimp only [dats]

theorem before0 (c : Dev nD) (t : Fin cfg0.N) (d) : (dats m hsmall 0 c).before 0 t d = iblk m c 0 t :=
  ((dats m hsmall 0 c).before_in_eq_fetched 0 rfl (fun _ => rfl) (fun _ _ _ => rfl) (fun t => rfl) t d).trans rfl
theorem before1 (c : Dev nD) (t : Fin cfg0.N) (d) : (dats m hsmall 0 c).before 1 t d = iblk m c 1 t :=
  ((dats m hsmall 0 c).before_in_eq_fetched 1 rfl (fun _ => rfl) (fun _ _ _ => rfl) (fun t => rfl) t d).trans rfl
theorem before2 (c : Dev nD) (t : Fin cfg0.N) (d) : (dats m hsmall 0 c).before 2 t d = iblk m c 2 t :=
  ((dats m hsmall 0 c).before_in_eq_fetched 2 rfl (fun _ => rfl) (fun _ _ _ => rfl) (fun t => rfl) t d).trans rfl
theorem before3 (c : Dev nD) (t : Fin cfg0.N) (d) : (dats m hsmall 0 c).before 3 t d = iblk m c 3 t :=
  ((dats m hsmall 0 c).before_in_eq_fetched 3 rfl (fun _ => rfl) (fun _ _ _ => rfl) (fun t => rfl) t d).trans rfl

def bodyPre (c : Dev nD) (t : Fin cfg0.N) : sProp 𝕄 :=
  iprop((dats m hsmall 0 c).Φ t.castSucc ∗ (dats m hsmall 0 c).owesAt () t.castSucc
    ∗ (∃ d, owns (c : Thread nD τ) (st0_0 t) fullShare ((dats m hsmall 0 c).before 0 t d))
    ∗ (∃ d, owns (c : Thread nD τ) (st0_1 t) fullShare ((dats m hsmall 0 c).before 1 t d))
    ∗ (∃ d, owns (c : Thread nD τ) (st0_2 t) fullShare ((dats m hsmall 0 c).before 2 t d))
    ∗ (∃ d, owns (c : Thread nD τ) (st0_3 t) fullShare ((dats m hsmall 0 c).before 3 t d)))
def bodyPost (c : Dev nD) (t : Fin cfg0.N) : sProp 𝕄 :=
  iprop((dats m hsmall 0 c).Φ t.succ ∗ (dats m hsmall 0 c).owesAt () t.succ
    ∗ owns (c : Thread nD τ) (st0_0 t) fullShare ((dats m hsmall 0 c).after 0 t)
    ∗ owns (c : Thread nD τ) (st0_1 t) fullShare ((dats m hsmall 0 c).after 1 t)
    ∗ owns (c : Thread nD τ) (st0_2 t) fullShare ((dats m hsmall 0 c).after 2 t)
    ∗ owns (c : Thread nD τ) (st0_3 t) fullShare ((dats m hsmall 0 c).after 3 t))

include hapart in
theorem sound_body (c : Dev nD) (t : Fin cfg0.N) :
    bodyPre m hsmall c t ⊢ wp frame (wpE (defs₀ (F := Ideal)) Variants.none c none) Set.univ (bodyAt0 t) (fun _ => bodyPost m hsmall c t) := by
  unfold bodyPre bodyPost bodyAt0
  simp only [before0, before1, before2, before3]
  rw [show (dats m hsmall 0 c).Φ t.succ = keep m hsmall c (t.val + 1) from rfl]
  rw [show (dats m hsmall 0 c).Φ t.castSucc = keep m hsmall c t.val from rfl]
  unfold keep Dat.owesAt Pipeline.owesWithin
  rw [acc_succ]
  rw [show (dats m hsmall 0 c).owed t.castSucc = 0 from rfl, show (dats m hsmall 0 c).owed t.succ = 0 from rfl]
  rw [show (dats m hsmall 0 c).after 0 t = iblk m c 0 t from rfl, show (dats m hsmall 0 c).after 1 t = iblk m c 1 t from rfl,
    show (dats m hsmall 0 c).after 2 t = iblk m c 2 t from rfl, show (dats m hsmall 0 c).after 3 t = iblk m c 3 t from rfl]
  iintro ⟨⟨⟨HV0, HV6⟩, ⟨Hq0, Hq1, Hq2⟩, ⟨HS0, HS1⟩, Hg⟩, ⟨%W, -, HW⟩, ⟨%d0, H0⟩, ⟨%d1, H1⟩, ⟨%d2, H2⟩, ⟨%d3, H3⟩⟩
  iapply (kernelRun c (grid0.coords t) (iblk m c 0 t) (words_lt m hsmall c t) _ _ (V m c main_v0) (acc m hsmall c t.val) (iblk m c 1 t) (iblk m c 2 t) (iblk m c 3 t) (words_inj m hapart c t) _ _ _ _ _ _ W _)
  isplitl [H0]; · iexact H0
  isplitl [H1]; · iexact H1
  isplitl [H2]; · iexact H2
  isplitl [H3]; · iexact H3
  isplitl [HS0]; · iexact HS0
  isplitl [HS1]; · iexact HS1
  isplitl [HV0]; · iexact HV0
  isplitl [HV6]; · iexact HV6
  isplitl [Hq0]; · iexact Hq0
  isplitl [Hq1]; · iexact Hq1
  isplitl [Hq2]; · iexact Hq2
  isplitl [HW]; · iexact HW
  iintro ⟨H0, H1, H2, H3, HS0, HS1, HV0, HV6, Hq0, Hq1, Hq2, ⟨%W', HW'⟩⟩
  isplitl [HS0 HS1 HV0 HV6 Hg Hq0 Hq1 Hq2]
  · isplitl [HV0 HV6]
    · isplitl [HV0]; · iexact HV0
      iexact HV6
    isplitl [Hq0 Hq1 Hq2]
    · isplitl [Hq0]; · iexact Hq0
      isplitl [Hq1]; · iexact Hq1
      iexact Hq2
    isplitl [HS0 HS1]
    · isplitl [HS0]; · iexact HS0
      iexact HS1
    iexact Hg
  isplitl [HW']
  · iexists W'; isplitr; · ipureintro; exact fun _ _ => Or.inl trivial
    iexact HW'
  isplitl [H0]; · iexact H0
  isplitl [H1]; · iexact H1
  isplitl [H2]; · iexact H2
  iexact H3

include hapart in
theorem body_obligation (c : Dev nD) : BodyObligation (dats m hsmall 0 c) (defs₀ (F := Ideal)) Variants.none () Set.univ := fun t => by
  rw [bigSep_W0, bigSep_W0, Hand.defs₀_row]
  exact triple_restated (sound_body m hsmall hapart c t) rfl .rfl fun _ => .rfl

include hapart in
set_option backward.isDefEq.respectTransparency.types false in
theorem run_main : θ_run defs (onTc (τ := τ) (main (F := Ideal))) (s₀ m ρ) (fun r => Pipeline.RoutedPost cfgs (dats m hsmall) 0 R0 (V m) (Yend m hsmall) r ∧ r.2.sem = fun _ => 0) :=
  Pipeline.θ_run_frame_routed (Q' := _) cfgs (dats m hsmall) (0 : Fin 1) launch0 ownSemFacts0 defs₀ Variants.none m ρ main
    (hbody := fun c => (body_obligation m hsmall hapart c).loose) (hshare := fun c => (dats m hsmall 0 c).share_full fun _ => rfl)
    (howed := fun _ _ => rfl) (V := V m) (hmain := hmainD m Variants.none) (hA := A_eq m hsmall) (R := R0) (hR := by decide) (Y := Yend m hsmall)
    (hin := fun c => Entails.of_eq (ends_eq c (V m c)))
    (hout := fun c => Entails.of_eq (by rw [ends_eq c (Yend m hsmall c), Yend_v6, Yend_v0]; rfl))

include hapart in
/-- The experts' call ends with the results' array after the last point, its arguments unchanged. -/
theorem run : θ_run defs (onTc (τ := τ) (main (F := Ideal))) ⟨m, fun _ => 0, ρ⟩ (fun r => ∀ c : Dev nD,
      r.2.mem ((c.tc : Thread nD τ).loc main_v6) = acc m hsmall c cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h.1 c).2.1 main_v6 (by decide)).trans (Yend_v6 m hsmall c),
      ((h.1 c).2.2 main_arg0 (Finset.mem_sdiff.mpr ⟨Pipeline.mem_restRefs_of main_arg0 (by decide) (by decide), by decide⟩)).trans (V_main_arg0 m c),
      ((h.1 c).2.2 main_arg1 (Finset.mem_sdiff.mpr ⟨Pipeline.mem_restRefs_of main_arg1 (by decide) (by decide), by decide⟩)).trans (V_main_arg1 m c),
      ((h.1 c).2.2 main_arg2 (Finset.mem_sdiff.mpr ⟨Pipeline.mem_restRefs_of main_arg2 (by decide) (by decide), by decide⟩)).trans (V_main_arg2 m c),
      ((h.1 c).2.2 main_arg3 (Finset.mem_sdiff.mpr ⟨Pipeline.mem_restRefs_of main_arg3 (by decide) (by decide), by decide⟩)).trans (V_main_arg3 m c),
      ((h.1 c).2.2 main_arg4 (Finset.mem_sdiff.mpr ⟨Pipeline.mem_restRefs_of main_arg4 (by decide) (by decide), by decide⟩)).trans (V_main_arg4 m c),
      ((h.1 c).2.2 main_arg5 (Finset.mem_sdiff.mpr ⟨Pipeline.mem_restRefs_of main_arg5 (by decide) (by decide), by decide⟩)).trans (V_main_arg5 m c)⟩) (run_main m ρ hsmall hapart)

end Cert.FfnIdeal.Val

end
-- ==== Proof.FfnValBlk.lean ====
/- The experts' idealized call: the blocks a point of the grid reads, at an index of the arguments. -/
module

public import proofs.«01_k».proof.Proof.FfnValTile
public import proofs.«01_k».proof.Proof.FfnIdealWords

@[expose] public section

set_option maxRecDepth 16384

noncomputable section

namespace Cert.FfnIdeal.Val

open Idealize.ShloMosaic Idealize.ShloMosaic.TcCoe Idealize.SL.Sem
open Cert.FfnIdeal.Gen
open Cert.FfnIdeal.Hand (wd wix rho bt ex t_lt words)

variable (m : (ℓ : Loc nD τ sig) → Buf (Elt Ideal) ℓ)

theorem idx1 : ∀ t : Fin cfg0.N, win0_1.index t = ![t.val / 8, 0, 0] := (by decide +kernel : ∀ t : Fin grid0.N, _)
theorem idx2 : ∀ t : Fin cfg0.N, win0_2.index t = ![t.val / 8, 0, 0] := (by decide +kernel : ∀ t : Fin grid0.N, _)
theorem idx3 : ∀ t : Fin cfg0.N, win0_3.index t = ![t.val / 8, 0, 0] := (by decide +kernel : ∀ t : Fin grid0.N, _)
theorem co0 : ∀ t : Fin cfg0.N, (grid0.coords t 0).val = t.val / 8 := (by decide +kernel : ∀ t : Fin grid0.N, _)
theorem co1 : ∀ t : Fin cfg0.N, (grid0.coords t 1).val = t.val % 8 := (by decide +kernel : ∀ t : Fin grid0.N, _)

theorem blk1 (c : Dev nD) (t : Fin cfg0.N) (d f : Fin 1024) : iblk m c 1 t (ix3 0 d f) = m ((c.tc : Thread nD τ).loc main_arg3) (ix3 (ex t) d f) := by
  blk_ext! [iblk, V, idx1 t, ex]
theorem blk2 (c : Dev nD) (t : Fin cfg0.N) (d f : Fin 1024) : iblk m c 2 t (ix3 0 d f) = m ((c.tc : Thread nD τ).loc main_arg4) (ix3 (ex t) d f) := by
  blk_ext! [iblk, V, idx2 t, ex]
theorem blk3 (c : Dev nD) (t : Fin cfg0.N) (d f : Fin 1024) : iblk m c 3 t (ix3 0 d f) = m ((c.tc : Thread nD τ).loc main_arg5) (ix3 (ex t) d f) := by
  blk_ext! [iblk, V, idx3 t, ex]

theorem V0 (c : Dev nD) : V m c main_v0 = shapeCast S65536x1152 (m ((c.tc : Thread nD τ).loc main_arg1)) shapeCasts_S8x8192x1152_S65536x1152 := rfl
theorem V6 (c : Dev nD) : V m c main_v6 = shapeCast S65536x1024 (m ((c.tc : Thread nD τ).loc main_arg2)) shapeCasts_S8x8192x1024_S65536x1024 := rfl
theorem flat0 (X : FVec Ideal S8x8192x1152 .f32) (b : Fin 8) (r : Fin 8192) (d : Fin 1152) : shapeCast S65536x1152 X shapeCasts_S8x8192x1152_S65536x1152 (ix2 ⟨8192 * b.val + r.val, by omega⟩ d) = X (ix3 b r d) := by
  pointwise
theorem flat6 (X : FVec Ideal S8x8192x1024 .f32) (b : Fin 8) (r : Fin 8192) (d : Fin 1024) : shapeCast S65536x1024 X shapeCasts_S8x8192x1024_S65536x1024 (ix2 ⟨8192 * b.val + r.val, by omega⟩ d) = X (ix3 b r d) := by
  pointwise
theorem V0_at (c : Dev nD) (b : Fin 8) (r : Fin 8192) (d : Fin 1152) : V m c main_v0 (ix2 ⟨8192 * b.val + r.val, by omega⟩ d : S65536x1152.Idx) = m ((c.tc : Thread nD τ).loc main_arg1) (ix3 b r d) :=
  flat0 (m ((c.tc : Thread nD τ).loc main_arg1)) b r d
theorem V6_at (c : Dev nD) (b : Fin 8) (r : Fin 8192) (j : Fin 1024) : V m c main_v6 (ix2 ⟨8192 * b.val + r.val, by omega⟩ j : S65536x1024.Idx) = m ((c.tc : Thread nD τ).loc main_arg2) (ix3 b r j) :=
  flat6 (m ((c.tc : Thread nD τ).loc main_arg2)) b r j

end Cert.FfnIdeal.Val

end
-- ==== Proof.FfnValRef.lean ====
/- The reference of the experts' call, at an index. -/
module

public import proofs.«01_k».proof.Proof.Gen.FfnRefIdeal.Run
public import Idealize.ShloMosaic.Lib.Pointwise
public import Idealize.ShloMosaic.Lib.WordCmp

@[expose] public section

set_option maxRecDepth 16384

noncomputable section

open Idealize.ShloMosaic Idealize.ShloMosaic.TcCoe Idealize.SL.Sem

namespace Cert.FfnRefIdeal.At

open Cert.FfnRefIdeal Cert.FfnRefIdeal.Gen

variable (a0 : IVec S8x16x1024 32) (a1 : FVec Ideal S8x8192x1152 .f32) (a2 : FVec Ideal S8x8192x1024 .f32) (a3 a4 a5 : FVec Ideal S16x1024x1024 .f32)

/-- The pair (batch, row) at every chosen row. -/
def idx2 : IVec S8x16x1024x2 32 := (concatenate S8x16x1024x2 3 [⟨S8x16x1024x1, (broadcastInDim S8x16x1024x1 ![0, 1, 2] bcast_S8x16x1024_S8x16x1024x1_0_1_2 (broadcastInDim S8x16x1024 ![0, 1, 2] bcast_S8x1x1_S8x16x1024_0_1_2 (select (cmpi .slt (broadcastInDim S8x1x1 ![0] bcast_S8_S8x1x1_0 (iotaInDim S8 32 0)) (broadcastInDim S8x1x1 ![] bcast_S_S8x1x1 (constantI S_ 32 0#32))) (addi (broadcastInDim S8x1x1 ![0] bcast_S8_S8x1x1_0 (iotaInDim S8 32 0)) (broadcastInDim S8x1x1 ![] bcast_S_S8x1x1 (constantI S_ 32 8#32))) (broadcastInDim S8x1x1 ![0] bcast_S8_S8x1x1_0 (iotaInDim S8 32 0)))))⟩, ⟨S8x16x1024x1, (broadcastInDim S8x16x1024x1 ![0, 1, 2] bcast_S8x16x1024_S8x16x1024x1_0_1_2 (select (cmpi .slt a0 (broadcastInDim S8x16x1024 ![] bcast_S_S8x16x1024 (constantI S_ 32 0#32))) (addi a0 (broadcastInDim S8x16x1024 ![] bcast_S_S8x16x1024 (constantI S_ 32 8192#32))) a0))⟩] concatenates_S8x16x1024x1_S8x16x1024x1_S8x16x1024x2_d3)
/-- The triple (batch, row, expert) at every chosen row. -/
def idx3 : IVec S8x16x1024x3 32 := ((concatenate S8x16x1024x3 3 [⟨S8x16x1024x1, ((broadcastInDim S8x16x1024x1 ![0, 1, 2] bcast_S8x16x1024_S8x16x1024x1_0_1_2 (broadcastInDim S8x16x1024 ![0, 1, 2] bcast_S8x1x1_S8x16x1024_0_1_2 (select (cmpi .slt (broadcastInDim S8x1x1 ![0] bcast_S8_S8x1x1_0 (iotaInDim S8 32 0)) (broadcastInDim S8x1x1 ![] bcast_S_S8x1x1 (constantI S_ 32 0#32))) (addi (broadcastInDim S8x1x1 ![0] bcast_S8_S8x1x1_0 (iotaInDim S8 32 0)) (broadcastInDim S8x1x1 ![] bcast_S_S8x1x1 (constantI S_ 32 8#32))) (broadcastInDim S8x1x1 ![0] bcast_S8_S8x1x1_0 (iotaInDim S8 32 0))))) : (⟨S8x16x1024x1, .i32⟩ : BufTy).Contents (Elt Ideal))⟩, ⟨S8x16x1024x1, ((broadcastInDim S8x16x1024x1 ![0, 1, 2] bcast_S8x16x1024_S8x16x1024x1_0_1_2 (select (cmpi .slt a0 (broadcastInDim S8x16x1024 ![] bcast_S_S8x16x1024 (constantI S_ 32 0#32))) (addi a0 (broadcastInDim S8x16x1024 ![] bcast_S_S8x16x1024 (constantI S_ 32 8192#32))) a0)) : (⟨S8x16x1024x1, .i32⟩ : BufTy).Contents (Elt Ideal))⟩, ⟨S8x16x1024x1, ((broadcastInDim S8x16x1024x1 ![0, 1, 2] bcast_S8x16x1024_S8x16x1024x1_0_1_2 (broadcastInDim S8x16x1024 ![0, 1, 2] bcast_S1x16x1_S8x16x1024_0_1_2 (select (cmpi .slt (broadcastInDim S1x16x1 ![1] bcast_S16_S1x16x1_1 (iotaInDim S16 32 0)) (broadcastInDim S1x16x1 ![] bcast_S_S1x16x1 (constantI S_ 32 0#32))) (addi (broadcastInDim S1x16x1 ![1] bcast_S16_S1x16x1_1 (iotaInDim S16 32 0)) (broadcastInDim S1x16x1 ![] bcast_S_S1x16x1 (constantI S_ 32 16#32))) (broadcastInDim S1x16x1 ![1] bcast_S16_S1x16x1_1 (iotaInDim S16 32 0))))) : (⟨S8x16x1024x1, .i32⟩ : BufTy).Contents (Elt Ideal))⟩] concatenates_S8x16x1024x1_S8x16x1024x1_S8x16x1024x1_S8x16x1024x3_d3 : (⟨S8x16x1024x3, .i32⟩ : BufTy).Contents (Elt Ideal)))
/-- The chosen rows. -/
def gath : FVec Ideal S8x16x1024x1024 .f32 := (Host.gather gather_S8x8192x1024_S8x16x1024x2_S8x16x1024x1024_3_01_n_n_01_3_111024 (extractStridedSlice S8x8192x1024 ![0, 0, 0] a1 slices_S8x8192x1152_S8x8192x1024_0_0_0) (idx2 a0))
/-- The chosen rows' weights. -/
def gval : FVec Ideal S8x16x1024 .f32 := (Host.gather gather_S8x8192x16_S8x16x1024x3_S8x16x1024_n_012_n_n_012_3_111 (extractStridedSlice S8x8192x16 ![0, 0, 1024] a1 slices_S8x8192x1152_S8x8192x16_0_0_1024) (idx3 a0))
/-- A product of every expert's rows with its weights. -/
def prod (w : FVec Ideal S16x1024x1024 .f32) (x : FVec Ideal S8x16x1024x1024 .f32) : FVec Ideal S8x16x1024x1024 .f32 := (transpose S8x16x1024x1024 [2, 0, 3, 1] (Host.dotGeneral dot_S16x1024x1024_S8x16x1024x1024_S16x1024x8x1024_1_3_2_02_0_1 none w x) transposes_S16x1024x8x1024_S8x16x1024x1024_2_0_3_1)
/-- The hidden layer. -/
def hid : FVec Ideal S8x16x1024x1024 .f32 := (mulf (mulf (prod a3 (gath a0 a1)) (Host.divf (broadcastInDim S8x16x1024x1024 ![] bcast_S_S8x16x1024x1024 (constant S_ .f32 0x3F800000#32)) (addf (broadcastInDim S8x16x1024x1024 ![] bcast_S_S8x16x1024x1024 (constant S_ .f32 0x3F800000#32)) (Host.exp (Host.negf (prod a3 (gath a0 a1))))))) (prod a4 (gath a0 a1)))
/-- What is added, row by row. -/
def upd : FVec Ideal S8x16x1024x1024 .f32 := (mulf (prod a5 (hid a0 a1 a3 a4)) (broadcastInDim S8x16x1024x1024 ![0, 1, 2, 3] bcast_S8x16x1024x1_S8x16x1024x1024_0_1_2_3 (broadcastInDim S8x16x1024x1 ![0, 1, 2] bcast_S8x16x1024_S8x16x1024x1_0_1_2 (gval a0 a1))))
/-- The reference's result. -/
def refV : FVec Ideal S65536x1024 .f32 := shapeCast _ (addf a2 (Host.scatterAdd scatter_S8x8192x1024_S8x16x1024x2_S8x16x1024x1024_3_01_01_3 (broadcastInDim S8x8192x1024 ![] bcast_S_S8x8192x1024 (constant S_ .f32 0x00000000#32)) (idx2 a0) (upd a0 a1 a3 a4 a5))) shapeCasts_S8x8192x1024_S65536x1024

theorem res_eq (m : (ℓ : Loc nD τ sig) → Buf (Elt Ideal) ℓ) (c : Dev nD) :
    Value.res_main_v71 m c = refV (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := rfl

/-- A word that is no negative number is left as it is. -/
theorem sel_pos (x n : BitVec 32) (h : x.toNat < 2147483648) : Scalar.select (IntOp.cmpi .slt x 0#32) (IntOp.addi x n) x = x := by
  have h1 : IntOp.cmpi .slt x 0#32 = 0#1 := by
    rw [WordCmp.cmpi_slt_eq]
    have e0 : (0#32 : BitVec 32).toInt = 0 := by decide
    have := BitVec.toInt_eq_toNat_cond x
    have hn : ¬ x.toInt < (0#32 : BitVec 32).toInt := by
      rw [e0]
      split at this <;> omega
    rw [decide_eq_false hn]; rfl
  rw [h1]; rfl

theorem toInt_nat (x : BitVec 32) (h : x.toNat < 2147483648) : x.toInt = (x.toNat : ℤ) := by
  have := BitVec.toInt_eq_toNat_cond x
  split at this <;> omega
theorem toInt_small (x : BitVec 32) (h : x.toNat < 2147483648) : x.toInt.toNat = x.toNat := by
  rw [toInt_nat x h]; rfl

theorem small (n : ℕ) (h : n < 16) : (BitVec.ofNat 32 n).toNat < 2147483648 := by
  rw [BitVec.toNat_ofNat]; omega

variable (ha : ∀ y, (a0 y).toNat < 8192)

theorem idx2_0 (b : Fin 8) (e : Fin 16) (k : Fin 1024) : idx2 a0 (ix4 b e k 0) = BitVec.ofNat 32 b.val := by
  pointwise [idx2]
  exact sel_pos _ _ (small _ (by omega))
include ha in
theorem idx2_1 (b : Fin 8) (e : Fin 16) (k : Fin 1024) : idx2 a0 (ix4 b e k 1) = a0 (ix3 b e k) := by
  pointwise [idx2]
  exact sel_pos _ _ (by have := ha (ix3 b e k); omega)
theorem idx3_0 (b : Fin 8) (e : Fin 16) (k : Fin 1024) : idx3 a0 (ix4 b e k 0) = BitVec.ofNat 32 b.val := by
  pointwise [idx3]
  exact sel_pos _ _ (small _ (by omega))
include ha in
theorem idx3_1 (b : Fin 8) (e : Fin 16) (k : Fin 1024) : idx3 a0 (ix4 b e k 1) = a0 (ix3 b e k) := by
  pointwise [idx3]
  exact sel_pos _ _ (by have := ha (ix3 b e k); omega)
theorem idx3_2 (b : Fin 8) (e : Fin 16) (k : Fin 1024) : idx3 a0 (ix4 b e k 2) = BitVec.ofNat 32 e.val := by
  pointwise [idx3]
  exact sel_pos _ _ (small _ (by omega))
theorem prod_at (w : FVec Ideal S16x1024x1024 .f32) (x : FVec Ideal S8x16x1024x1024 .f32) (b : Fin 8) (e : Fin 16) (k f : Fin 1024) :
    prod w x (ix4 b e k f) = ∑ d : Fin 1024, w (ix3 e d f) * x (ix4 b e k d) := by
  pointwise [prod]
theorem hid_at (b : Fin 8) (e : Fin 16) (k f : Fin 1024) :
    hid a0 a1 a3 a4 (ix4 b e k f) = prod a3 (gath a0 a1) (ix4 b e k f) * Ideal.div 1 (1 + Ideal.exp (-prod a3 (gath a0 a1) (ix4 b e k f))) * prod a4 (gath a0 a1) (ix4 b e k f) := by
  pointwise [hid]
theorem upd_at (b : Fin 8) (e : Fin 16) (k j : Fin 1024) :
    upd a0 a1 a3 a4 a5 (ix4 b e k j) = prod a5 (hid a0 a1 a3 a4) (ix4 b e k j) * gval a0 a1 (ix3 b e k) := by
  pointwise [upd]

/-- A chosen row's index from the pair that names it. -/
theorem gath_gen (x : FVec Ideal S8x8192x1024 .f32) (I : IVec S8x16x1024x2 32) (b : Fin 8) (e : Fin 16) (k d : Fin 1024)
    (h0 : I (ix4 b e k 0) = BitVec.ofNat 32 b.val) (h1 : (I (ix4 b e k 1)).toNat < 8192) :
    Host.gather gather_S8x8192x1024_S8x16x1024x2_S8x16x1024x1024_3_01_n_n_01_3_111024 x I (ix4 b e k d) = x (ix3 b ⟨(I (ix4 b e k 1)).toNat, h1⟩ d) := by
  have hsi : ∀ q : Fin 2, gather_S8x8192x1024_S8x16x1024x2_S8x16x1024x1024_3_01_n_n_01_3_111024.siIdx (ix4 b e k d) q = ix4 b e k q := fun q => by
    funext a; refine Fin.ext ?_
    match a with
    | ⟨0, _⟩ => rfl
    | ⟨1, _⟩ => rfl
    | ⟨2, _⟩ => rfl
    | ⟨3, _⟩ => rfl
  unfold Host.gather
  refine congrArg x (funext fun a => Fin.ext ?_)
  match a with
  | ⟨0, _⟩ =>
    show min (I (gather_S8x8192x1024_S8x16x1024x2_S8x16x1024x1024_3_01_n_n_01_3_111024.siIdx (ix4 b e k d) (0 : Fin 2))).toInt.toNat (8 - 1) + 0 + 0 = b.val
    rw [hsi, h0, toInt_small _ (by rw [BitVec.toNat_ofNat]; omega), BitVec.toNat_ofNat]; omega
  | ⟨1, _⟩ =>
    show min (I (gather_S8x8192x1024_S8x16x1024x2_S8x16x1024x1024_3_01_n_n_01_3_111024.siIdx (ix4 b e k d) (1 : Fin 2))).toInt.toNat (8192 - 1) + 0 + 0 = (I (ix4 b e k 1)).toNat
    rw [hsi, toInt_small _ (by omega)]; omega
  | ⟨2, _⟩ =>
    show 0 + 0 + d.val = d.val
    omega
/-- A chosen row's weight from the triple that names it. -/
theorem gval_gen (x : FVec Ideal S8x8192x16 .f32) (I : IVec S8x16x1024x3 32) (b : Fin 8) (e : Fin 16) (k : Fin 1024)
    (h0 : I (ix4 b e k 0) = BitVec.ofNat 32 b.val) (h1 : (I (ix4 b e k 1)).toNat < 8192) (h2 : I (ix4 b e k 2) = BitVec.ofNat 32 e.val) :
    Host.gather gather_S8x8192x16_S8x16x1024x3_S8x16x1024_n_012_n_n_012_3_111 x I (ix3 b e k) = x (ix3 b ⟨(I (ix4 b e k 1)).toNat, h1⟩ e) := by
  have hsi : ∀ q : Fin 3, gather_S8x8192x16_S8x16x1024x3_S8x16x1024_n_012_n_n_012_3_111.siIdx (ix3 b e k) q = ix4 b e k q := fun q => by
    funext a; refine Fin.ext ?_
    match a with
    | ⟨0, _⟩ => rfl
    | ⟨1, _⟩ => rfl
    | ⟨2, _⟩ => rfl
    | ⟨3, _⟩ => rfl
  unfold Host.gather
  refine congrArg x (funext fun a => Fin.ext ?_)
  match a with
  | ⟨0, _⟩ =>
    show min (I (gather_S8x8192x16_S8x16x1024x3_S8x16x1024_n_012_n_n_012_3_111.siIdx (ix3 b e k) (0 : Fin 3))).toInt.toNat (8 - 1) + 0 + 0 = b.val
    rw [hsi, h0, toInt_small _ (by rw [BitVec.toNat_ofNat]; omega), BitVec.toNat_ofNat]; omega
  | ⟨1, _⟩ =>
    show min (I (gather_S8x8192x16_S8x16x1024x3_S8x16x1024_n_012_n_n_012_3_111.siIdx (ix3 b e k) (1 : Fin 3))).toInt.toNat (8192 - 1) + 0 + 0 = (I (ix4 b e k 1)).toNat
    rw [hsi, toInt_small _ (by omega)]; omega
  | ⟨2, _⟩ =>
    show min (I (gather_S8x8192x16_S8x16x1024x3_S8x16x1024_n_012_n_n_012_3_111.siIdx (ix3 b e k) (2 : Fin 3))).toInt.toNat (16 - 1) + 0 + 0 = e.val
    rw [hsi, h2, toInt_small _ (by rw [BitVec.toNat_ofNat]; omega), BitVec.toNat_ofNat]; omega
/-- Where a row's sum lands. -/
theorem lands_gen (I : IVec S8x16x1024x2 32) (b : Fin 8) (e : Fin 16) (k d : Fin 1024)
    (h0 : I (ix4 b e k 0) = BitVec.ofNat 32 b.val) (h1 : (I (ix4 b e k 1)).toNat < 8192) :
    scatter_S8x8192x1024_S8x16x1024x2_S8x16x1024x1024_3_01_01_3.resultIdx? (ix4 b e k d) I = some (ix3 b ⟨(I (ix4 b e k 1)).toNat, h1⟩ d) := by
  have hsi : ∀ q : Fin 2, scatter_S8x8192x1024_S8x16x1024x2_S8x16x1024x1024_3_01_01_3.siIdx (ix4 b e k d) q = ix4 b e k q := fun q => by
    funext a; refine Fin.ext ?_
    match a with
    | ⟨0, _⟩ => rfl
    | ⟨1, _⟩ => rfl
    | ⟨2, _⟩ => rfl
    | ⟨3, _⟩ => rfl
  have hval : ∀ a, scatter_S8x8192x1024_S8x16x1024x2_S8x16x1024x1024_3_01_01_3.start (ix4 b e k d) I a + (scatter_S8x8192x1024_S8x16x1024x2_S8x16x1024x1024_3_01_01_3.window (ix4 b e k d) a : ℕ) = (((ix3 b ⟨(I (ix4 b e k 1)).toNat, h1⟩ d : S8x8192x1024.Idx) a).val : ℤ) := fun a => by
    match a with
    | ⟨0, _⟩ =>
      show (I (scatter_S8x8192x1024_S8x16x1024x2_S8x16x1024x1024_3_01_01_3.siIdx (ix4 b e k d) (0 : Fin 2))).toInt + ((0 : ℕ) : ℤ) = (b.val : ℤ)
      rw [hsi, h0, toInt_nat _ (by rw [BitVec.toNat_ofNat]; omega), BitVec.toNat_ofNat]; omega
    | ⟨1, _⟩ =>
      show (I (scatter_S8x8192x1024_S8x16x1024x2_S8x16x1024x1024_3_01_01_3.siIdx (ix4 b e k d) (1 : Fin 2))).toInt + ((0 : ℕ) : ℤ) = ((I (ix4 b e k 1)).toNat : ℤ)
      rw [hsi, toInt_nat _ (by omega)]; omega
    | ⟨2, _⟩ =>
      show (0 : ℤ) + ((d.val : ℕ) : ℤ) = (d.val : ℤ)
      omega
  unfold ScatterDims.resultIdx?
  rw [dif_pos (fun a => by rw [hval]; exact ⟨Int.natCast_nonneg _, Int.ofNat_lt.2 (Fin.isLt _)⟩)]
  refine congrArg some (funext fun a => Fin.ext ?_)
  show (scatter_S8x8192x1024_S8x16x1024x2_S8x16x1024x1024_3_01_01_3.start (ix4 b e k d) I a + (scatter_S8x8192x1024_S8x16x1024x2_S8x16x1024x1024_3_01_01_3.window (ix4 b e k d) a : ℕ)).toNat = _
  rw [hval]; rfl

/-- The row a list's entry names. -/
abbrev row (b : Fin 8) (e : Fin 16) (k : Fin 1024) : Fin 8192 := ⟨(a0 (ix3 b e k)).toNat, ha _⟩

theorem gath_at (b : Fin 8) (e : Fin 16) (k d : Fin 1024) : gath a0 a1 (ix4 b e k d) = a1 (ix3 b (row a0 ha b e k) ⟨d.val, by omega⟩) := by
  have e1 := idx2_1 a0 ha b e k
  unfold gath
  rw [gath_gen _ _ b e k d (idx2_0 a0 b e k) (by rw [e1]; exact ha _)]
  have er : (⟨(idx2 a0 (ix4 b e k 1)).toNat, by rw [e1]; exact ha _⟩ : Fin 8192) = row a0 ha b e k := Fin.ext (congrArg BitVec.toNat e1)
  rw [er]
  pointwise
theorem gval_at (b : Fin 8) (e : Fin 16) (k : Fin 1024) : gval a0 a1 (ix3 b e k) = a1 (ix3 b (row a0 ha b e k) ⟨1024 + e.val, by omega⟩) := by
  have e1 := idx3_1 a0 ha b e k
  unfold gval
  rw [gval_gen _ _ b e k (idx3_0 a0 b e k) (by rw [e1]; exact ha _) (idx3_2 a0 b e k)]
  have er : (⟨(idx3 a0 (ix4 b e k 1)).toNat, by rw [e1]; exact ha _⟩ : Fin 8192) = row a0 ha b e k := Fin.ext (congrArg BitVec.toNat e1)
  rw [er]
  pointwise
theorem lands (b : Fin 8) (e : Fin 16) (k d : Fin 1024) :
    scatter_S8x8192x1024_S8x16x1024x2_S8x16x1024x1024_3_01_01_3.resultIdx? (ix4 b e k d) (idx2 a0) = some (ix3 b (row a0 ha b e k) d) := by
  have e1 := idx2_1 a0 ha b e k
  rw [lands_gen _ b e k d (idx2_0 a0 b e k) (by rw [e1]; exact ha _)]
  exact congrArg (fun r => some (ix3 b r d)) (Fin.ext (congrArg BitVec.toNat e1))

/-- An index of four coordinates is the one its coordinates make. -/
theorem eta4 (q : S8x16x1024x1024.Idx) : q = ix4 (q 0) (q 1) (q 2) (q 3) := by
  funext a
  match a with
  | ⟨0, _⟩ => rfl
  | ⟨1, _⟩ => rfl
  | ⟨2, _⟩ => rfl
  | ⟨3, _⟩ => rfl

/-- What lands on a row, as a sum over the lists' entries that name it. -/
theorem sum_at (U : S8x16x1024x1024.Idx → EReal) (b : Fin 8) (r : Fin 8192) (j : Fin 1024) :
    ∑ q ∈ Finset.univ.filter (fun q => scatter_S8x8192x1024_S8x16x1024x2_S8x16x1024x1024_3_01_01_3.resultIdx? q (idx2 a0) = some (ix3 b r j)), U q
      = ∑ p ∈ Finset.univ.filter (fun p : Fin 16 × Fin 1024 => row a0 ha b p.1 p.2 = r), U (ix4 b p.1 p.2 j) := by
  symm
  refine Finset.sum_bij (fun p _ => ix4 b p.1 p.2 j) ?_ ?_ ?_ (fun _ _ => rfl)
  · intro p hp
    rw [Finset.mem_filter] at hp ⊢
    refine ⟨Finset.mem_univ _, ?_⟩
    rw [lands a0 ha, hp.2]
  · intro p _ p' _ h
    exact Prod.ext (congrFun h 1) (congrFun h 2)
  · intro q hq
    obtain ⟨b', e', k', j', rfl⟩ : ∃ (b' : Fin 8) (e' : Fin 16) (k' j' : Fin 1024), q = ix4 b' e' k' j' := ⟨q 0, q 1, q 2, q 3, eta4 q⟩
    have hq2 := (Finset.mem_filter.1 hq).2
    rw [lands a0 ha] at hq2
    have h3 := Option.some.inj hq2
    have hb : b' = b := congrFun h3 0
    have hr : row a0 ha b' e' k' = r := congrFun h3 1
    have hj : j' = j := congrFun h3 2
    subst hb hj
    exact ⟨(e', k'), Finset.mem_filter.2 ⟨Finset.mem_univ _, hr⟩, rfl⟩

theorem refV_at (b : Fin 8) (r : Fin 8192) (j : Fin 1024) :
    refV a0 a1 a2 a3 a4 a5 (ix2 ⟨8192 * b.val + r.val, by omega⟩ j)
      = a2 (ix3 b r j) + ∑ p ∈ Finset.univ.filter (fun p : Fin 16 × Fin 1024 => row a0 ha b p.1 p.2 = r), upd a0 a1 a3 a4 a5 (ix4 b p.1 p.2 j) := by
  have hx : refV a0 a1 a2 a3 a4 a5 (ix2 ⟨8192 * b.val + r.val, by omega⟩ j) = (addf a2 (Host.scatterAdd scatter_S8x8192x1024_S8x16x1024x2_S8x16x1024x1024_3_01_01_3 (broadcastInDim S8x8192x1024 ![] bcast_S_S8x8192x1024 (constant S_ .f32 0x00000000#32)) (idx2 a0) (upd a0 a1 a3 a4 a5))) (ix3 b r j) := by
    unfold refV
    generalize (addf a2 _) = X
    pointwise
  rw [hx]
  show a2 (ix3 b r j) + ((broadcastInDim S8x8192x1024 ![] bcast_S_S8x8192x1024 (constant (F := Ideal) S_ .f32 0x00000000#32)) (ix3 b r j) + ∑ q ∈ Finset.univ.filter (fun q => scatter_S8x8192x1024_S8x16x1024x2_S8x16x1024x1024_3_01_01_3.resultIdx? q (idx2 a0) = some (ix3 b r j)), upd a0 a1 a3 a4 a5 q) = _
  rw [sum_at a0 ha]
  have hz : (broadcastInDim S8x8192x1024 ![] bcast_S_S8x8192x1024 (constant (F := Ideal) S_ .f32 0x00000000#32)) (ix3 b r j) = (0 : EReal) := by
    pointwise
  rw [hz, zero_add]

end Cert.FfnRefIdeal.At
-- ==== Proof.FfnValSum.lean ====
/- The experts' idealized call: the results' array after the last point is the reference's result. -/
module

public import proofs.«01_k».proof.Proof.FfnValFrame
public import proofs.«01_k».proof.Proof.FfnValBlk
public import proofs.«01_k».proof.Proof.FfnValRef

@[expose] public section

set_option maxRecDepth 16384

noncomputable section

namespace Cert.FfnIdeal.Val

open Idealize.ShloMosaic Idealize.ShloMosaic.TcCoe Idealize.SL.Sem
open Cert.FfnIdeal.Gen
open Cert.FfnIdeal.Hand (wd wix rho bt ex t_lt words words_lt words_inj)

variable (m : (ℓ : Loc nD τ sig) → Buf (Elt Ideal) ℓ)
variable (hsmall : ∀ (c : Dev nD) i, (m ((c.tc : Thread nD τ).loc main_arg0) i : BitVec 32).toNat < 8192)

abbrev A0 (c : Dev nD) : IVec Cert.FfnRefIdeal.S8x16x1024 32 := m ((c.tc : Thread nD τ).loc main_arg0)
abbrev A1 (c : Dev nD) : FVec Ideal Cert.FfnRefIdeal.S8x8192x1152 .f32 := m ((c.tc : Thread nD τ).loc main_arg1)
abbrev A2 (c : Dev nD) : FVec Ideal Cert.FfnRefIdeal.S8x8192x1024 .f32 := m ((c.tc : Thread nD τ).loc main_arg2)
abbrev A3 (c : Dev nD) : FVec Ideal Cert.FfnRefIdeal.S16x1024x1024 .f32 := m ((c.tc : Thread nD τ).loc main_arg3)
abbrev A4 (c : Dev nD) : FVec Ideal Cert.FfnRefIdeal.S16x1024x1024 .f32 := m ((c.tc : Thread nD τ).loc main_arg4)
abbrev A5 (c : Dev nD) : FVec Ideal Cert.FfnRefIdeal.S16x1024x1024 .f32 := m ((c.tc : Thread nD τ).loc main_arg5)

/-- The row a point's `k`-th word names, among all rows. -/
def rowT (c : Dev nD) (t : Fin cfg0.N) (k : Fin 1024) : Fin 65536 := rw0 (grid0.coords t) (iblk m c 0 t) (words_lt m hsmall c t) k
/-- What a point adds there. -/
def addT (c : Dev nD) (t : Fin cfg0.N) (k j : Fin 1024) : EReal :=
  add (exi (grid0.coords t)) (G9 (F := Ideal) c (grid0.coords t) (iblk m c 0 t) (words_lt m hsmall c t) (V m c main_v0)) (iblk m c 1 t) (iblk m c 2 t) (iblk m c 3 t) k j

/-- The row named, as batch and token. -/
theorem rowT_eq (c : Dev nD) (t : Fin cfg0.N) (k : Fin 1024) :
    (rowT m hsmall c t k).val = 8192 * (bt t).val + (Cert.FfnRefIdeal.At.row (A0 m c) (hsmall c) (bt t) (ex t) k).val := by
  show (grid0.coords t 1).val * 8192 + (iblk m c 0 t (wix k.val k.isLt) : BitVec 32).toNat = _
  rw [words, co1]
  have e : FfnPre.at3 (bt t) (ex t) ⟨k.val, k.isLt⟩ = (ix3 (bt t) (ex t) k : Cert.FfnRefIdeal.S8x16x1024.Idx) := by
    funext a
    match a with
    | ⟨0, _⟩ => rfl
    | ⟨1, _⟩ => rfl
    | ⟨2, _⟩ => rfl
  rw [e, Nat.mul_comm]
  rfl

theorem exi_eq (t : Fin cfg0.N) : exi (grid0.coords t) = ex t := Fin.ext (co0 t)

/-- The gathered token. -/
theorem tok (c : Dev nD) (t : Fin cfg0.N) (k : Fin 1024) (d : Fin 1152) :
    (G9 (F := Ideal) c (grid0.coords t) (iblk m c 0 t) (words_lt m hsmall c t) (V m c main_v0) : S1024x1152.Idx → EReal) (ix2 k d)
      = A1 m c (ix3 (bt t) (Cert.FfnRefIdeal.At.row (A0 m c) (hsmall c) (bt t) (ex t) k) d) := by
  show V m c main_v0 (ix2 (rowT m hsmall c t k) d : S65536x1152.Idx) = _
  rw [show rowT m hsmall c t k = ⟨8192 * (bt t).val + (Cert.FfnRefIdeal.At.row (A0 m c) (hsmall c) (bt t) (ex t) k).val, by omega⟩ from Fin.ext (rowT_eq m hsmall c t k)]
  exact V0_at m c _ _ _

theorem addT_eq (c : Dev nD) (t : Fin cfg0.N) (k j : Fin 1024) :
    addT m hsmall c t k j = Cert.FfnRefIdeal.At.upd (A0 m c) (A1 m c) (A3 m c) (A4 m c) (A5 m c) (ix4 (bt t) (ex t) k j) := by
  have hl : ∀ (w : S1x1024x1024.Idx → Elt Ideal .bf16) (W : FVec Ideal Cert.FfnRefIdeal.S16x1024x1024 .f32) (hw : ∀ d f : Fin 1024, w (ix3 0 d f) = W (ix3 (ex t) d f)) (f : Fin 1024),
      lin (fun d => (G9 (F := Ideal) c (grid0.coords t) (iblk m c 0 t) (words_lt m hsmall c t) (V m c main_v0) : S1024x1152.Idx → EReal) (ix2 k ⟨d.val, by omega⟩)) w f
        = Cert.FfnRefIdeal.At.prod W (Cert.FfnRefIdeal.At.gath (A0 m c) (A1 m c)) (ix4 (bt t) (ex t) k f) := fun w W hw f => by
    rw [Cert.FfnRefIdeal.At.prod_at]
    unfold lin
    refine Finset.sum_congr rfl fun d _ => ?_
    rw [Cert.FfnRefIdeal.At.gath_at _ _ (hsmall c), ← hw d f]
    refine (congrArg (· * w (ix3 0 d f)) (tok m hsmall c t k _)).trans ?_
    exact mul_comm _ _
  rw [Cert.FfnRefIdeal.At.upd_at, Cert.FfnRefIdeal.At.prod_at, Cert.FfnRefIdeal.At.gval_at _ _ (hsmall c)]
  unfold addT add
  rw [tok, exi_eq]
  refine congrArg (· * _) ?_
  unfold out
  refine Finset.sum_congr rfl fun f _ => ?_
  rw [Cert.FfnRefIdeal.At.hid_at, hl _ (A3 m c) (blk1 m c t), hl _ (A4 m c) (blk2 m c t)]
  refine (mul_comm _ _).trans ?_
  exact congrArg (· * _) (blk3 m c t f j)

/-- The results' array before a point and at the start, as numbers. -/
def accE (c : Dev nD) (n : ℕ) : S65536x1024.Idx → EReal := acc m hsmall c n
def V6E (c : Dev nD) : S65536x1024.Idx → EReal := V m c main_v6

open Classical in
/-- The results' array before a point, as a sum. -/
theorem acc_sum (c : Dev nD) (y : S65536x1024.Idx) (n : ℕ) (hn : n ≤ cfg0.N) :
    accE m hsmall c n y = V6E m c y + ∑ s ∈ Finset.range n,
      (if h : s < cfg0.N then ∑ k : Fin 1024, (if rowT m hsmall c ⟨s, h⟩ k = ⟨(y 0).val, (y 0).isLt⟩ then addT m hsmall c ⟨s, h⟩ k ⟨(y 1).val, (y 1).isLt⟩ else 0) else 0) := by
  induction n with
  | zero => rw [Finset.sum_range_zero, add_zero]; rfl
  | succ n ih =>
    rw [Finset.sum_range_succ, ← add_assoc, ← ih (by omega), dif_pos (show n < cfg0.N from hn)]
    exact congrFun (acc_succ m hsmall c ⟨n, hn⟩) y

/-- The results' array at the end, as a sum over the points' words that name the row. -/
theorem acc_end (c : Dev nD) (r : Fin 65536) (j : Fin 1024) :
    accE m hsmall c cfg0.N (ix2 r j) = V6E m c (ix2 r j)
      + ∑ p ∈ Finset.univ.filter (fun p : Fin cfg0.N × Fin 1024 => rowT m hsmall c p.1 p.2 = r), addT m hsmall c p.1 p.2 j := by
  classical
  rw [acc_sum m hsmall c _ _ le_rfl, Finset.sum_range, Finset.sum_filter, Fintype.sum_prod_type]
  refine congrArg _ (Finset.sum_congr rfl fun t _ => ?_)
  rw [dif_pos t.isLt]
  refine Finset.sum_congr rfl fun k _ => ?_
  rfl

/-- The point of an expert and a batch. -/
def pt (b : Fin 8) (e : Fin 16) : Fin cfg0.N := ⟨8 * e.val + b.val, by show _ < 128; omega⟩
theorem bt_pt (b : Fin 8) (e : Fin 16) : bt (pt b e) = b := Fin.ext (by show (8 * e.val + b.val) % 8 = b.val; omega)
theorem ex_pt (b : Fin 8) (e : Fin 16) : ex (pt b e) = e := Fin.ext (by show (8 * e.val + b.val) / 8 = e.val; omega)
theorem pt_bt (t : Fin cfg0.N) : pt (bt t) (ex t) = t := Fin.ext (by show 8 * (t.val / 8) + t.val % 8 = t.val; omega)

theorem end_at (c : Dev nD) (b : Fin 8) (r : Fin 8192) (j : Fin 1024) :
    accE m hsmall c cfg0.N (ix2 ⟨8192 * b.val + r.val, by omega⟩ j)
      = Cert.FfnRefIdeal.At.refV (A0 m c) (A1 m c) (A2 m c) (A3 m c) (A4 m c) (A5 m c) (ix2 ⟨8192 * b.val + r.val, by omega⟩ j) := by
  rw [acc_end, Cert.FfnRefIdeal.At.refV_at _ _ _ _ _ _ (hsmall c)]
  refine congrArg₂ (· + ·) (V6_at m c b r j) ?_
  symm
  refine Finset.sum_bij (fun p _ => (pt b p.1, p.2)) ?_ ?_ ?_ ?_
  · intro p hp
    have hp2 := (Finset.mem_filter.1 hp).2
    refine Finset.mem_filter.2 ⟨Finset.mem_univ _, Fin.ext ?_⟩
    rw [rowT_eq, bt_pt, ex_pt, hp2]
  · intro p _ p' _ h
    have h0 := Prod.mk.inj h
    have h1 := congrArg ex h0.1
    rw [ex_pt, ex_pt] at h1
    exact Prod.ext h1 h0.2
  · rintro ⟨t, k⟩ hq
    have h2 := congrArg Fin.val (Finset.mem_filter.1 hq).2
    rw [rowT_eq] at h2
    have h3 : 8192 * (bt t).val + (Cert.FfnRefIdeal.At.row (A0 m c) (hsmall c) (bt t) (ex t) k).val = 8192 * b.val + r.val := h2
    have hb : bt t = b := Fin.ext (by omega)
    have hr : Cert.FfnRefIdeal.At.row (A0 m c) (hsmall c) (bt t) (ex t) k = r := Fin.ext (by omega)
    rw [hb] at hr
    exact ⟨(ex t, k), Finset.mem_filter.2 ⟨Finset.mem_univ _, hr⟩, Prod.ext (by rw [← hb]; exact pt_bt t) rfl⟩
  · intro p _
    rw [addT_eq, bt_pt, ex_pt]

theorem end_eq (c : Dev nD) :
    accE m hsmall c cfg0.N = Cert.FfnRefIdeal.At.refV (A0 m c) (A1 m c) (A2 m c) (A3 m c) (A4 m c) (A5 m c) := by
  funext y
  obtain ⟨b, r, j, rfl⟩ : ∃ (b : Fin 8) (r : Fin 8192) (j : Fin 1024), y = (ix2 ⟨8192 * b.val + r.val, by omega⟩ j : S65536x1024.Idx) := by
    have h0 : (y 0).val < 65536 := (y 0).isLt
    refine ⟨⟨(y 0).val / 8192, by omega⟩, ⟨(y 0).val % 8192, by omega⟩, y 1, ?_⟩
    funext a
    match a with
    | ⟨0, _⟩ => exact Fin.ext (by show (y 0).val = 8192 * ((y 0).val / 8192) + (y 0).val % 8192; omega)
    | ⟨1, _⟩ => rfl
  exact end_at m hsmall c b r j

end Cert.FfnIdeal.Val

end
-- ==== Proof.FfnClaims.lean ====
/- The claims about the experts' call. -/
module

public import proofs.«01_k».proof.Defs
public import proofs.«01_k».proof.Proof.FfnFrame
public import proofs.«01_k».proof.Proof.FfnIdealFrame
public import proofs.«01_k».proof.Proof.FfnValSum
public import proofs.«01_k».proof.Proof.Gen.FfnRefIdeal.Run
public import Idealize.ShloMosaic.Lib.Quiescent

@[expose] public section

noncomputable section

namespace Cert.FfnClaims

open Idealize.ShloMosaic Idealize.ShloMosaic.TcCoe Idealize.SL.Sem

attribute [local instance] FfnPre.facts

theorem frame_p : Cert.quiescent_Ffn (hPre_idx_ok := FfnPre.facts) := fun m ρ hp =>
  Cert.Ffn.Hand.frameRun m ρ (fun c => (FfnPre.ok _ _ _ _ _ _ (hp c)).1) (fun c => (FfnPre.ok _ _ _ _ _ _ (hp c)).2)

theorem frame_pi : Cert.quiescent_FfnIdeal (hPre_idx_ok := FfnPre.facts) := fun m ρ hp =>
  Cert.FfnIdeal.Hand.frameRun m ρ (fun c => (FfnPre.ok _ _ _ _ _ _ (hp c)).1) (fun c => (FfnPre.ok _ _ _ _ _ _ (hp c)).2)

theorem frame_ri : Cert.quiescent_FfnRefIdeal := fun m ρ _ =>
  (θ_run Cert.FfnRefIdeal.defs _ _).mono
    (fun r h => ⟨fun c => (h c).2, Idealize.ShloMosaic.sem_eq_zero_of_no_sems (by decide) r.2⟩)
    (Cert.FfnRefIdeal.Value.run (F := Ideal) m ρ)

theorem frame_ri' : Cert.quiescent_FfnRefIdeal_pre_idx_ok (hPre_idx_ok := FfnPre.facts) := fun m ρ _ =>
  (θ_run Cert.FfnRefIdeal.defs _ _).mono
    (fun r h => ⟨fun c => (h c).2, Idealize.ShloMosaic.sem_eq_zero_of_no_sems (by decide) r.2⟩)
    (Cert.FfnRefIdeal.Value.run (F := Ideal) m ρ)

theorem preserves : Cert.preserves_Ffn_FfnIdeal := trivial

set_option maxHeartbeats 1000000 in
/-- THE VALUE: the results of kernel and reference are equal. -/
theorem algebraic : Cert.algebraic_FfnIdeal_FfnRefIdeal (hPre_idx_ok := FfnPre.facts) := by
  unfold Cert.algebraic_FfnIdeal_FfnRefIdeal
  intro m ρ m' ρ' hp hagree
  have hs : ∀ (c : Dev Cert.FfnIdeal.nD) i, (m ((c.tc : Thread Cert.FfnIdeal.nD Cert.FfnIdeal.τ).loc Cert.FfnIdeal.main_arg0) i : BitVec 32).toNat < 8192 :=
    fun c => (FfnPre.ok _ _ _ _ _ _ (hp c)).1
  refine ⟨_, Cert.FfnIdeal.Val.run m ρ hs (fun c => (FfnPre.ok _ _ _ _ _ _ (hp c)).2), ?_⟩
  refine (θ_run Cert.FfnRefIdeal.defs _ _).mono (fun _ h c => ?_) (Cert.FfnRefIdeal.Value.run (F := Ideal) m' ρ')
  obtain ⟨e0, e1, e2, e3, e4, e5⟩ := hagree c
  obtain ⟨h0, hargs⟩ := h c
  refine ⟨h0.trans ?_, hargs⟩
  refine Eq.trans ?_ (Cert.FfnIdeal.Val.end_eq m hs c).symm
  refine (Cert.FfnRefIdeal.At.res_eq m' c).trans ?_
  rw [e0, e1, e2, e3, e4, e5]

end Cert.FfnClaims

end
-- ==== Proof.MlsClaims.lean ====
/- The claims about the call of the mLSTM. -/
module

public import proofs.«01_k».proof.Defs
public import proofs.«01_k».proof.Proof.Gen.Mlstm.Frame
public import proofs.«01_k».proof.Proof.Gen.MlstmIdeal.Frame

@[expose] public section

set_option maxRecDepth 16384

noncomputable section

open Idealize.ShloMosaic Idealize.ShloMosaic.TcCoe Idealize.SL.Sem

namespace Cert.MlsClaims

attribute [local instance] Cert.Mlstm.Gen.facts Cert.MlstmIdeal.Gen.facts

/-- The kernel runs, leaves its arguments and ends quiet. -/
theorem frame_p : Cert.quiescent_Mlstm := fun m ρ _ => Cert.Mlstm.Gen.frame m ρ
theorem frame_pi : Cert.quiescent_MlstmIdeal := fun m ρ _ => Cert.MlstmIdeal.Gen.frame m ρ

/-- No constant is named. -/
theorem preserves : Cert.preserves_Mlstm_MlstmIdeal := trivial

end Cert.MlsClaims

end
-- ==== Proof.lean ====
/- The claims of this certificate, each proved in a module of its own and joined here. -/
module

public import proofs.«01_k».proof.Defs
public import proofs.«01_k».proof.Proof.AttnClaims
public import proofs.«01_k».proof.Proof.InClaims
public import proofs.«01_k».proof.Proof.MkvClaims
public import proofs.«01_k».proof.Proof.MixClaims
public import proofs.«01_k».proof.Proof.FfnClaims
public import proofs.«01_k».proof.Proof.MlsClaims

@[expose] public section

noncomputable section

namespace Cert.Proof

open Idealize.ShloMosaic Idealize.SL.Sem

theorem claim : Cert.Claim :=
  ⟨Cert.Attn.Gen.facts, Cert.AttnIdeal.Gen.facts, Cert.AttnRefIdeal.Gen.facts, Cert.Inproj.Gen.facts, Cert.InprojIdeal.Gen.facts, Cert.InprojRefIdeal.Gen.facts,
    Cert.Memkv.Gen.facts, Cert.MemkvIdeal.Gen.facts, Cert.MemkvRefIdeal.Gen.facts, Cert.Mix.Gen.facts, Cert.MixIdeal.Gen.facts, Cert.MixRefIdeal.Gen.facts,
    Cert.Ffn.Gen.facts, Cert.FfnIdeal.Gen.facts, Cert.FfnRefIdeal.Gen.facts, Cert.Mlstm.Gen.facts, Cert.MlstmIdeal.Gen.facts, Cert.AttnPre.facts, Cert.MixPre.facts, Cert.FfnPre.facts,
    Cert.AttnClaims.frame_p, Cert.AttnClaims.frame_pi, Cert.AttnClaims.frame_pi', Cert.AttnClaims.frame_ri, Cert.AttnClaims.frame_ri',
    Cert.InClaims.frame_p, Cert.InClaims.frame_pi, Cert.InClaims.frame_ri,
    Cert.MkvClaims.frame_p, Cert.MkvClaims.frame_pi, Cert.MkvClaims.frame_ri,
    Cert.MixClaims.frame_p, Cert.MixClaims.frame_pi, Cert.MixClaims.frame_pi', Cert.MixClaims.frame_ri, Cert.MixClaims.frame_ri',
    Cert.FfnClaims.frame_p, Cert.FfnClaims.frame_pi, Cert.FfnClaims.frame_ri, Cert.FfnClaims.frame_ri',
    Cert.MlsClaims.frame_p, Cert.MlsClaims.frame_pi,
    Cert.AttnClaims.preserves, Cert.AttnClaims.algebraic, Cert.InClaims.preserves, Cert.InClaims.algebraic,
    Cert.MkvClaims.preserves, Cert.MkvClaims.algebraic, Cert.MixClaims.preserves, Cert.MixClaims.algebraic, Cert.FfnClaims.preserves, Cert.FfnClaims.algebraic, Cert.MlsClaims.preserves⟩

end Cert.Proof

end
